-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v481)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v481) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v630) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x64x64 : Shape := ⟨3, ![4, 64, 64]⟩
abbrev S4x63x64 : Shape := ⟨3, ![4, 63, 64]⟩
abbrev S4x64x63 : Shape := ⟨3, ![4, 64, 63]⟩
abbrev S4x12x63x64 : Shape := ⟨4, ![4, 12, 63, 64]⟩
abbrev S4x12x64x63 : Shape := ⟨4, ![4, 12, 64, 63]⟩
abbrev S4x4x64 : Shape := ⟨3, ![4, 4, 64]⟩
abbrev S4x67x64 : Shape := ⟨3, ![4, 67, 64]⟩
abbrev S4x71x64 : Shape := ⟨3, ![4, 71, 64]⟩
abbrev S4x71x3 : Shape := ⟨3, ![4, 71, 3]⟩
abbrev S4x71x67 : Shape := ⟨3, ![4, 71, 67]⟩
abbrev S4x71x4 : Shape := ⟨3, ![4, 71, 4]⟩
abbrev S4x71x71 : Shape := ⟨3, ![4, 71, 71]⟩
abbrev S4x3x63 : Shape := ⟨3, ![4, 3, 63]⟩
abbrev S4x67x63 : Shape := ⟨3, ![4, 67, 63]⟩
abbrev S4x4x63 : Shape := ⟨3, ![4, 4, 63]⟩
abbrev S4x71x63 : Shape := ⟨3, ![4, 71, 63]⟩
abbrev S4x1x64 : Shape := ⟨3, ![4, 1, 64]⟩
abbrev S4x62x64 : Shape := ⟨3, ![4, 62, 64]⟩
abbrev S4x64x1 : Shape := ⟨3, ![4, 64, 1]⟩
abbrev S4x64x62 : Shape := ⟨3, ![4, 64, 62]⟩
abbrev S4x1x63x64 : Shape := ⟨4, ![4, 1, 63, 64]⟩
abbrev S4x1x64x63 : Shape := ⟨4, ![4, 1, 64, 63]⟩
abbrev S4x4032 : Shape := ⟨2, ![4, 4032]⟩
abbrev S4x8064 : Shape := ⟨2, ![4, 8064]⟩
abbrev S4x8064x1 : Shape := ⟨3, ![4, 8064, 1]⟩
abbrev S4x8064x2 : Shape := ⟨3, ![4, 8064, 2]⟩
abbrev S63x64 : Shape := ⟨2, ![63, 64]⟩
abbrev S_ : Shape := ⟨0, ![]⟩
abbrev S1x63x64 : Shape := ⟨3, ![1, 63, 64]⟩
abbrev S64x63 : Shape := ⟨2, ![64, 63]⟩
abbrev S1x64x63 : Shape := ⟨3, ![1, 64, 63]⟩
abbrev S64 : Shape := ⟨1, ![64]⟩
abbrev S64x1 : Shape := ⟨2, ![64, 1]⟩
abbrev S1x64 : Shape := ⟨2, ![1, 64]⟩
abbrev S4032 : Shape := ⟨1, ![4032]⟩
abbrev S4x4032x1 : Shape := ⟨3, ![4, 4032, 1]⟩
abbrev S4x4032x2 : Shape := ⟨3, ![4, 4032, 2]⟩
abbrev S63 : Shape := ⟨1, ![63]⟩
abbrev S63x1 : Shape := ⟨2, ![63, 1]⟩
abbrev S1x63x1 : Shape := ⟨3, ![1, 63, 1]⟩
abbrev S1x63 : Shape := ⟨2, ![1, 63]⟩
abbrev S1x1x63 : Shape := ⟨3, ![1, 1, 63]⟩
abbrev S8064 : Shape := ⟨1, ![8064]⟩
abbrev S1x64x64 : Shape := ⟨3, ![1, 64, 64]⟩
abbrev S64x64 : Shape := ⟨2, ![64, 64]⟩
abbrev S1x8064 : Shape := ⟨2, ![1, 8064]⟩
abbrev S1 : Shape := ⟨1, ![1]⟩
abbrev S4 : Shape := ⟨1, ![4]⟩

abbrev nBuf : Space → Nat
  | .hbm => 629
  | .vmem => 10
  | .smem => 0
  | _ => 0

abbrev hbmTy0_0 (i : Nat) : BufTy := match i % 128 with
  | 0 => ⟨S4x64x64, .f32⟩
  | 1 => ⟨S4x64x64, .f32⟩
  | 2 => ⟨S4x63x64, .f32⟩
  | 3 => ⟨S4x63x64, .f32⟩
  | 4 => ⟨S4x63x64, .f32⟩
  | 5 => ⟨S4x64x63, .f32⟩
  | 6 => ⟨S4x64x63, .f32⟩
  | 7 => ⟨S4x64x63, .f32⟩
  | 8 => ⟨S4x12x63x64, .f32⟩
  | 9 => ⟨S4x12x64x63, .f32⟩
  | 10 => ⟨S4x4032, .f32⟩
  | 11 => ⟨S4x4032, .f32⟩
  | 12 => ⟨S4x8064, .f32⟩
  | 13 => ⟨S4x4032, .f32⟩
  | 14 => ⟨S4x4032, .f32⟩
  | 15 => ⟨S4x8064, .f32⟩
  | 16 => ⟨S4x4032, .f32⟩
  | 17 => ⟨S4x4032, .f32⟩
  | 18 => ⟨S4x8064, .f32⟩
  | 19 => ⟨S4x8064x1, .f32⟩
  | 20 => ⟨S4x8064x1, .f32⟩
  | 21 => ⟨S4x8064x2, .f32⟩
  | 22 => ⟨S4x63x64, .f32⟩
  | 23 => ⟨S4x63x64, .f32⟩
  | 24 => ⟨S63x64, .i32⟩
  | 25 => ⟨S63x64, .f32⟩
  | 26 => ⟨S_, .f32⟩
  | 27 => ⟨S4x63x64, .f32⟩
  | 28 => ⟨S4x63x64, .i1⟩
  | 29 => ⟨S4x63x64, .i1⟩
  | 30 => ⟨S_, .f32⟩
  | 31 => ⟨S4x63x64, .f32⟩
  | 32 => ⟨S4x63x64, .i1⟩
  | 33 => ⟨S4x63x64, .i1⟩
  | 34 => ⟨S4x63x64, .i1⟩
  | 35 => ⟨S4x63x64, .i1⟩
  | 36 => ⟨S4x63x64, .i1⟩
  | 37 => ⟨S4x63x64, .f32⟩
  | 38 => ⟨S_, .f32⟩
  | 39 => ⟨S4x63x64, .f32⟩
  | 40 => ⟨S4x63x64, .i1⟩
  | 41 => ⟨S4x63x64, .i1⟩
  | 42 => ⟨S4x63x64, .f32⟩
  | 43 => ⟨S4x63x64, .f32⟩
  | 44 => ⟨S4x63x64, .f32⟩
  | 45 => ⟨S4x63x64, .f32⟩
  | 46 => ⟨S_, .f32⟩
  | 47 => ⟨S4x63x64, .f32⟩
  | 48 => ⟨S4x63x64, .f32⟩
  | 49 => ⟨S4x63x64, .f32⟩
  | 50 => ⟨S_, .f32⟩
  | 51 => ⟨S63x64, .f32⟩
  | 52 => ⟨S63x64, .f32⟩
  | 53 => ⟨S1x63x64, .f32⟩
  | 54 => ⟨S4x63x64, .f32⟩
  | 55 => ⟨S4x63x64, .f32⟩
  | 56 => ⟨S4x63x64, .f32⟩
  | 57 => ⟨S4x63x64, .f32⟩
  | 58 => ⟨S4x63x64, .f32⟩
  | 59 => ⟨S4x63x64, .f32⟩
  | 60 => ⟨S4x63x64, .i1⟩
  | 61 => ⟨S4x63x64, .i1⟩
  | 62 => ⟨S4x64x63, .f32⟩
  | 63 => ⟨S4x64x63, .f32⟩
  | 64 => ⟨S64x63, .i32⟩
  | 65 => ⟨S64x63, .f32⟩
  | 66 => ⟨S_, .f32⟩
  | 67 => ⟨S4x64x63, .f32⟩
  | 68 => ⟨S4x64x63, .i1⟩
  | 69 => ⟨S4x64x63, .i1⟩
  | 70 => ⟨S_, .f32⟩
  | 71 => ⟨S4x64x63, .f32⟩
  | 72 => ⟨S4x64x63, .i1⟩
  | 73 => ⟨S4x64x63, .i1⟩
  | 74 => ⟨S4x64x63, .i1⟩
  | 75 => ⟨S4x64x63, .i1⟩
  | 76 => ⟨S4x64x63, .i1⟩
  | 77 => ⟨S4x64x63, .f32⟩
  | 78 => ⟨S_, .f32⟩
  | 79 => ⟨S4x64x63, .f32⟩
  | 80 => ⟨S4x64x63, .i1⟩
  | 81 => ⟨S4x64x63, .i1⟩
  | 82 => ⟨S4x64x63, .f32⟩
  | 83 => ⟨S4x64x63, .f32⟩
  | 84 => ⟨S4x64x63, .f32⟩
  | 85 => ⟨S4x64x63, .f32⟩
  | 86 => ⟨S_, .f32⟩
  | 87 => ⟨S4x64x63, .f32⟩
  | 88 => ⟨S4x64x63, .f32⟩
  | 89 => ⟨S4x64x63, .f32⟩
  | 90 => ⟨S_, .f32⟩
  | 91 => ⟨S64x63, .f32⟩
  | 92 => ⟨S64x63, .f32⟩
  | 93 => ⟨S1x64x63, .f32⟩
  | 94 => ⟨S4x64x63, .f32⟩
  | 95 => ⟨S4x64x63, .f32⟩
  | 96 => ⟨S4x64x63, .f32⟩
  | 97 => ⟨S4x64x63, .f32⟩
  | 98 => ⟨S4x64x63, .f32⟩
  | 99 => ⟨S4x64x63, .f32⟩
  | 100 => ⟨S4x64x63, .i1⟩
  | 101 => ⟨S4x64x63, .i1⟩
  | 102 => ⟨S64, .f32⟩
  | 103 => ⟨S64x1, .f32⟩
  | 104 => ⟨S64x63, .f32⟩
  | 105 => ⟨S64, .f32⟩
  | 106 => ⟨S1x64, .f32⟩
  | 107 => ⟨S63x64, .f32⟩
  | 108 => ⟨S4x4032, .f32⟩
  | 109 => ⟨S4032, .f32⟩
  | 110 => ⟨S4x4032, .f32⟩
  | 111 => ⟨S4x4032x1, .f32⟩
  | 112 => ⟨S4x4032x1, .f32⟩
  | 113 => ⟨S4x4032x2, .f32⟩
  | 114 => ⟨S4032, .f32⟩
  | 115 => ⟨S4x4032, .f32⟩
  | 116 => ⟨S4x4032, .f32⟩
  | 117 => ⟨S4x4032x1, .f32⟩
  | 118 => ⟨S4x4032x1, .f32⟩
  | 119 => ⟨S4x4032x2, .f32⟩
  | 120 => ⟨S4x8064x2, .f32⟩
  | 121 => ⟨S4x4032, .i1⟩
  | 122 => ⟨S4x4032, .i1⟩
  | 123 => ⟨S4x8064, .i1⟩
  | 124 => ⟨S4x8064x1, .f32⟩
  | 125 => ⟨S4x8064, .f32⟩
  | 126 => ⟨S4x8064, .f32⟩
  | 127 => ⟨S4x8064, .i32⟩
  | _ => ⟨S4x64x64, .f32⟩

abbrev hbmTy0_1 (i : Nat) : BufTy := match i % 128 with
  | 0 => ⟨S4x8064x1, .f32⟩
  | 1 => ⟨S4x8064, .f32⟩
  | 2 => ⟨S4x8064, .f32⟩
  | 3 => ⟨S4x8064, .i32⟩
  | 4 => ⟨S4x4032, .i32⟩
  | 5 => ⟨S4x63x64, .i32⟩
  | 6 => ⟨S63, .i32⟩
  | 7 => ⟨S63x1, .i32⟩
  | 8 => ⟨S_, .i32⟩
  | 9 => ⟨S63x1, .i32⟩
  | 10 => ⟨S63x1, .i32⟩
  | 11 => ⟨S1x63x1, .i32⟩
  | 12 => ⟨S4x63x64, .i32⟩
  | 13 => ⟨S4x63x64, .i1⟩
  | 14 => ⟨S4x4032, .i32⟩
  | 15 => ⟨S4x64x63, .i32⟩
  | 16 => ⟨S63, .i32⟩
  | 17 => ⟨S1x63, .i32⟩
  | 18 => ⟨S_, .i32⟩
  | 19 => ⟨S1x63, .i32⟩
  | 20 => ⟨S1x63, .i32⟩
  | 21 => ⟨S1x1x63, .i32⟩
  | 22 => ⟨S4x64x63, .i32⟩
  | 23 => ⟨S4x64x63, .i1⟩
  | 24 => ⟨S4x1x63x64, .f32⟩
  | 25 => ⟨S4x63x64, .f32⟩
  | 26 => ⟨S4x4032, .f32⟩
  | 27 => ⟨S4x1x64x63, .f32⟩
  | 28 => ⟨S4x64x63, .f32⟩
  | 29 => ⟨S4x4032, .f32⟩
  | 30 => ⟨S4x8064, .f32⟩
  | 31 => ⟨S4x1x63x64, .f32⟩
  | 32 => ⟨S4x63x64, .f32⟩
  | 33 => ⟨S4x4032, .f32⟩
  | 34 => ⟨S4x1x64x63, .f32⟩
  | 35 => ⟨S4x64x63, .f32⟩
  | 36 => ⟨S4x4032, .f32⟩
  | 37 => ⟨S4x8064, .f32⟩
  | 38 => ⟨S4x1x63x64, .f32⟩
  | 39 => ⟨S4x63x64, .f32⟩
  | 40 => ⟨S4x4032, .f32⟩
  | 41 => ⟨S4x1x64x63, .f32⟩
  | 42 => ⟨S4x64x63, .f32⟩
  | 43 => ⟨S4x4032, .f32⟩
  | 44 => ⟨S4x8064, .f32⟩
  | 45 => ⟨S4x8064x1, .f32⟩
  | 46 => ⟨S4x8064x1, .f32⟩
  | 47 => ⟨S4x8064x2, .f32⟩
  | 48 => ⟨S4x1x63x64, .f32⟩
  | 49 => ⟨S4x63x64, .f32⟩
  | 50 => ⟨S4x4032, .f32⟩
  | 51 => ⟨S4x1x64x63, .f32⟩
  | 52 => ⟨S4x64x63, .f32⟩
  | 53 => ⟨S4x4032, .f32⟩
  | 54 => ⟨S4x8064, .f32⟩
  | 55 => ⟨S4x1x63x64, .f32⟩
  | 56 => ⟨S4x63x64, .f32⟩
  | 57 => ⟨S4x4032, .f32⟩
  | 58 => ⟨S4x1x64x63, .f32⟩
  | 59 => ⟨S4x64x63, .f32⟩
  | 60 => ⟨S4x4032, .f32⟩
  | 61 => ⟨S4x8064, .f32⟩
  | 62 => ⟨S4x1x63x64, .f32⟩
  | 63 => ⟨S4x63x64, .f32⟩
  | 64 => ⟨S4x4032, .f32⟩
  | 65 => ⟨S4x1x64x63, .f32⟩
  | 66 => ⟨S4x64x63, .f32⟩
  | 67 => ⟨S4x4032, .f32⟩
  | 68 => ⟨S4x8064, .f32⟩
  | 69 => ⟨S4x8064x1, .f32⟩
  | 70 => ⟨S4x8064x1, .f32⟩
  | 71 => ⟨S4x8064x2, .f32⟩
  | 72 => ⟨S4x1x63x64, .f32⟩
  | 73 => ⟨S4x63x64, .f32⟩
  | 74 => ⟨S4x4032, .f32⟩
  | 75 => ⟨S4x1x64x63, .f32⟩
  | 76 => ⟨S4x64x63, .f32⟩
  | 77 => ⟨S4x4032, .f32⟩
  | 78 => ⟨S4x8064, .f32⟩
  | 79 => ⟨S4x1x63x64, .f32⟩
  | 80 => ⟨S4x63x64, .f32⟩
  | 81 => ⟨S4x4032, .f32⟩
  | 82 => ⟨S4x1x64x63, .f32⟩
  | 83 => ⟨S4x64x63, .f32⟩
  | 84 => ⟨S4x4032, .f32⟩
  | 85 => ⟨S4x8064, .f32⟩
  | 86 => ⟨S4x1x63x64, .f32⟩
  | 87 => ⟨S4x63x64, .f32⟩
  | 88 => ⟨S4x4032, .f32⟩
  | 89 => ⟨S4x1x64x63, .f32⟩
  | 90 => ⟨S4x64x63, .f32⟩
  | 91 => ⟨S4x4032, .f32⟩
  | 92 => ⟨S4x8064, .f32⟩
  | 93 => ⟨S4x8064x1, .f32⟩
  | 94 => ⟨S4x8064x1, .f32⟩
  | 95 => ⟨S4x8064x2, .f32⟩
  | 96 => ⟨S4x1x63x64, .f32⟩
  | 97 => ⟨S4x63x64, .f32⟩
  | 98 => ⟨S4x4032, .f32⟩
  | 99 => ⟨S4x1x64x63, .f32⟩
  | 100 => ⟨S4x64x63, .f32⟩
  | 101 => ⟨S4x4032, .f32⟩
  | 102 => ⟨S4x8064, .f32⟩
  | 103 => ⟨S4x1x63x64, .f32⟩
  | 104 => ⟨S4x63x64, .f32⟩
  | 105 => ⟨S4x4032, .f32⟩
  | 106 => ⟨S4x1x64x63, .f32⟩
  | 107 => ⟨S4x64x63, .f32⟩
  | 108 => ⟨S4x4032, .f32⟩
  | 109 => ⟨S4x8064, .f32⟩
  | 110 => ⟨S4x1x63x64, .f32⟩
  | 111 => ⟨S4x63x64, .f32⟩
  | 112 => ⟨S4x4032, .f32⟩
  | 113 => ⟨S4x1x64x63, .f32⟩
  | 114 => ⟨S4x64x63, .f32⟩
  | 115 => ⟨S4x4032, .f32⟩
  | 116 => ⟨S4x8064, .f32⟩
  | 117 => ⟨S4x8064x1, .f32⟩
  | 118 => ⟨S4x8064x1, .f32⟩
  | 119 => ⟨S4x8064x2, .f32⟩
  | 120 => ⟨S4x8064x1, .f32⟩
  | 121 => ⟨S4x8064, .f32⟩
  | 122 => ⟨S4x8064x1, .f32⟩
  | 123 => ⟨S4x8064, .f32⟩
  | 124 => ⟨S4x8064, .f32⟩
  | 125 => ⟨S4x8064, .i32⟩
  | 126 => ⟨S4x8064, .f32⟩
  | 127 => ⟨S4x8064, .i32⟩
  | _ => ⟨S4x64x64, .f32⟩

abbrev hbmTy0_2 (i : Nat) : BufTy := match i % 128 with
  | 0 => ⟨S_, .i32⟩
  | 1 => ⟨S_, .i32⟩
  | 2 => ⟨S_, .i32⟩
  | 3 => ⟨S4x8064, .i32⟩
  | 4 => ⟨S4x8064, .i32⟩
  | 5 => ⟨S_, .i32⟩
  | 6 => ⟨S4x8064, .i32⟩
  | 7 => ⟨S4x8064, .i32⟩
  | 8 => ⟨S_, .i32⟩
  | 9 => ⟨S_, .i32⟩
  | 10 => ⟨S_, .i32⟩
  | 11 => ⟨S4x8064, .i32⟩
  | 12 => ⟨S4x8064, .i32⟩
  | 13 => ⟨S_, .i32⟩
  | 14 => ⟨S4x8064, .i32⟩
  | 15 => ⟨S4x8064, .i32⟩
  | 16 => ⟨S4x8064, .f32⟩
  | 17 => ⟨S4x8064, .f32⟩
  | 18 => ⟨S4x8064x1, .f32⟩
  | 19 => ⟨S4x8064, .f32⟩
  | 20 => ⟨S4x8064, .f32⟩
  | 21 => ⟨S4x8064x1, .f32⟩
  | 22 => ⟨S_, .f32⟩
  | 23 => ⟨S4x8064x1, .f32⟩
  | 24 => ⟨S4x8064x1, .f32⟩
  | 25 => ⟨S4x8064x2, .f32⟩
  | 26 => ⟨S4x8064x2, .f32⟩
  | 27 => ⟨S_, .f32⟩
  | 28 => ⟨S4x8064x1, .f32⟩
  | 29 => ⟨S4x8064x1, .f32⟩
  | 30 => ⟨S4x8064x2, .f32⟩
  | 31 => ⟨S4x8064x2, .f32⟩
  | 32 => ⟨S_, .f32⟩
  | 33 => ⟨S4x8064x1, .f32⟩
  | 34 => ⟨S4x8064x1, .f32⟩
  | 35 => ⟨S4x8064x2, .f32⟩
  | 36 => ⟨S4x8064x2, .f32⟩
  | 37 => ⟨S4x8064x2, .f32⟩
  | 38 => ⟨S4x8064x2, .f32⟩
  | 39 => ⟨S4x8064x2, .f32⟩
  | 40 => ⟨S4x8064x2, .f32⟩
  | 41 => ⟨S4x8064x2, .f32⟩
  | 42 => ⟨S_, .f32⟩
  | 43 => ⟨S4x8064x1, .f32⟩
  | 44 => ⟨S4x8064x1, .f32⟩
  | 45 => ⟨S4x8064x2, .f32⟩
  | 46 => ⟨S4x8064x2, .f32⟩
  | 47 => ⟨S4x8064x2, .f32⟩
  | 48 => ⟨S4x8064x2, .f32⟩
  | 49 => ⟨S4x8064x2, .f32⟩
  | 50 => ⟨S4x8064x2, .f32⟩
  | 51 => ⟨S4x8064x2, .f32⟩
  | 52 => ⟨S4x8064x2, .f32⟩
  | 53 => ⟨S4x8064x2, .f32⟩
  | 54 => ⟨S_, .f32⟩
  | 55 => ⟨S4x8064, .f32⟩
  | 56 => ⟨S4x8064x1, .f32⟩
  | 57 => ⟨S4x8064x1, .f32⟩
  | 58 => ⟨S_, .f32⟩
  | 59 => ⟨S4x8064x1, .f32⟩
  | 60 => ⟨S4x8064x1, .f32⟩
  | 61 => ⟨S4x8064x2, .f32⟩
  | 62 => ⟨S4x8064x2, .f32⟩
  | 63 => ⟨S_, .f32⟩
  | 64 => ⟨S4x8064, .f32⟩
  | 65 => ⟨S4x8064, .i1⟩
  | 66 => ⟨S4x8064, .i1⟩
  | 67 => ⟨S4x8064x2, .f32⟩
  | 68 => ⟨S4x8064x2, .f32⟩
  | 69 => ⟨S_, .f32⟩
  | 70 => ⟨S4x8064, .f32⟩
  | 71 => ⟨S_, .f32⟩
  | 72 => ⟨S4x8064, .f32⟩
  | 73 => ⟨S4x8064, .f32⟩
  | 74 => ⟨S4x8064x1, .f32⟩
  | 75 => ⟨S4x8064, .f32⟩
  | 76 => ⟨S4x8064x1, .f32⟩
  | 77 => ⟨S4x8064, .f32⟩
  | 78 => ⟨S4x8064, .f32⟩
  | 79 => ⟨S4x8064, .i32⟩
  | 80 => ⟨S4x8064, .f32⟩
  | 81 => ⟨S4x8064, .i32⟩
  | 82 => ⟨S_, .i32⟩
  | 83 => ⟨S4x8064, .i32⟩
  | 84 => ⟨S4x8064, .i32⟩
  | 85 => ⟨S_, .i32⟩
  | 86 => ⟨S4x8064, .i32⟩
  | 87 => ⟨S4x8064, .i32⟩
  | 88 => ⟨S4x8064, .f32⟩
  | 89 => ⟨S4x8064, .f32⟩
  | 90 => ⟨S4x8064, .f32⟩
  | 91 => ⟨S4x8064, .f32⟩
  | 92 => ⟨S_, .f32⟩
  | 93 => ⟨S4x8064, .f32⟩
  | 94 => ⟨S4x8064, .f32⟩
  | 95 => ⟨S_, .f32⟩
  | 96 => ⟨S4x8064, .f32⟩
  | 97 => ⟨S4x8064, .f32⟩
  | 98 => ⟨S4x8064, .f32⟩
  | 99 => ⟨S_, .f32⟩
  | 100 => ⟨S4x8064, .f32⟩
  | 101 => ⟨S4x8064, .f32⟩
  | 102 => ⟨S4x8064, .f32⟩
  | 103 => ⟨S_, .f32⟩
  | 104 => ⟨S4x8064, .f32⟩
  | 105 => ⟨S4x8064, .f32⟩
  | 106 => ⟨S4x8064, .f32⟩
  | 107 => ⟨S4x8064, .f32⟩
  | 108 => ⟨S_, .i32⟩
  | 109 => ⟨S4x8064, .i32⟩
  | 110 => ⟨S4x8064, .i1⟩
  | 111 => ⟨S_, .i32⟩
  | 112 => ⟨S4x8064, .i32⟩
  | 113 => ⟨S4x8064, .i1⟩
  | 114 => ⟨S4x8064, .i1⟩
  | 115 => ⟨S_, .i32⟩
  | 116 => ⟨S4x8064, .i32⟩
  | 117 => ⟨S4x8064, .i1⟩
  | 118 => ⟨S4x8064, .i1⟩
  | 119 => ⟨S_, .i32⟩
  | 120 => ⟨S4x8064, .i32⟩
  | 121 => ⟨S4x8064, .i1⟩
  | 122 => ⟨S4x8064, .i1⟩
  | 123 => ⟨S4x8064, .i1⟩
  | 124 => ⟨S4x8064, .f32⟩
  | 125 => ⟨S_, .f32⟩
  | 126 => ⟨S_, .f32⟩
  | 127 => ⟨S8064, .f32⟩
  | _ => ⟨S4x64x64, .f32⟩

abbrev hbmTy0_3 (i : Nat) : BufTy := match i % 128 with
  | 0 => ⟨S4x8064, .f32⟩
  | 1 => ⟨S4x8064, .f32⟩
  | 2 => ⟨S_, .i32⟩
  | 3 => ⟨S4x8064, .i32⟩
  | 4 => ⟨S4x8064, .i1⟩
  | 5 => ⟨S_, .i32⟩
  | 6 => ⟨S4x8064, .i32⟩
  | 7 => ⟨S4x8064, .i1⟩
  | 8 => ⟨S4x8064, .i1⟩
  | 9 => ⟨S_, .i32⟩
  | 10 => ⟨S4x8064, .i32⟩
  | 11 => ⟨S4x8064, .i1⟩
  | 12 => ⟨S4x8064, .i1⟩
  | 13 => ⟨S_, .i32⟩
  | 14 => ⟨S4x8064, .i32⟩
  | 15 => ⟨S4x8064, .i1⟩
  | 16 => ⟨S4x8064, .i1⟩
  | 17 => ⟨S4x8064, .i1⟩
  | 18 => ⟨S4x8064, .f32⟩
  | 19 => ⟨S_, .f32⟩
  | 20 => ⟨S_, .f32⟩
  | 21 => ⟨S8064, .f32⟩
  | 22 => ⟨S4x8064, .f32⟩
  | 23 => ⟨S4x8064, .f32⟩
  | 24 => ⟨S_, .i32⟩
  | 25 => ⟨S4x8064, .i32⟩
  | 26 => ⟨S4x8064, .i1⟩
  | 27 => ⟨S_, .i32⟩
  | 28 => ⟨S4x8064, .i32⟩
  | 29 => ⟨S4x8064, .i1⟩
  | 30 => ⟨S4x8064, .i1⟩
  | 31 => ⟨S_, .i32⟩
  | 32 => ⟨S4x8064, .i32⟩
  | 33 => ⟨S4x8064, .i1⟩
  | 34 => ⟨S4x8064, .i1⟩
  | 35 => ⟨S_, .i32⟩
  | 36 => ⟨S4x8064, .i32⟩
  | 37 => ⟨S4x8064, .i1⟩
  | 38 => ⟨S4x8064, .i1⟩
  | 39 => ⟨S4x8064, .i1⟩
  | 40 => ⟨S4x8064, .f32⟩
  | 41 => ⟨S_, .f32⟩
  | 42 => ⟨S_, .f32⟩
  | 43 => ⟨S8064, .f32⟩
  | 44 => ⟨S4x8064, .f32⟩
  | 45 => ⟨S4x8064, .f32⟩
  | 46 => ⟨S_, .i32⟩
  | 47 => ⟨S4x8064, .i32⟩
  | 48 => ⟨S4x8064, .i1⟩
  | 49 => ⟨S_, .i32⟩
  | 50 => ⟨S4x8064, .i32⟩
  | 51 => ⟨S4x8064, .i1⟩
  | 52 => ⟨S4x8064, .i1⟩
  | 53 => ⟨S_, .i32⟩
  | 54 => ⟨S4x8064, .i32⟩
  | 55 => ⟨S4x8064, .i1⟩
  | 56 => ⟨S4x8064, .i1⟩
  | 57 => ⟨S_, .i32⟩
  | 58 => ⟨S4x8064, .i32⟩
  | 59 => ⟨S4x8064, .i1⟩
  | 60 => ⟨S4x8064, .i1⟩
  | 61 => ⟨S4x8064, .i1⟩
  | 62 => ⟨S4x8064, .f32⟩
  | 63 => ⟨S_, .f32⟩
  | 64 => ⟨S_, .f32⟩
  | 65 => ⟨S8064, .f32⟩
  | 66 => ⟨S4x8064, .f32⟩
  | 67 => ⟨S4x8064, .f32⟩
  | 68 => ⟨S4x63x64, .i1⟩
  | 69 => ⟨S4x64x63, .i1⟩
  | 70 => ⟨S4x4032, .f32⟩
  | 71 => ⟨S4x63x64, .f32⟩
  | 72 => ⟨S4x4032, .f32⟩
  | 73 => ⟨S4x63x64, .f32⟩
  | 74 => ⟨S4x4032, .f32⟩
  | 75 => ⟨S4x64x63, .f32⟩
  | 76 => ⟨S4x4032, .f32⟩
  | 77 => ⟨S4x64x63, .f32⟩
  | 78 => ⟨S_, .f32⟩
  | 79 => ⟨S_, .f32⟩
  | 80 => ⟨S63x64, .f32⟩
  | 81 => ⟨S4x63x64, .f32⟩
  | 82 => ⟨S4x63x64, .f32⟩
  | 83 => ⟨S_, .i32⟩
  | 84 => ⟨S_, .f32⟩
  | 85 => ⟨S4x64x64, .f32⟩
  | 86 => ⟨S_, .f32⟩
  | 87 => ⟨S_, .f32⟩
  | 88 => ⟨S63x64, .f32⟩
  | 89 => ⟨S4x63x64, .f32⟩
  | 90 => ⟨S4x63x64, .f32⟩
  | 91 => ⟨S_, .i32⟩
  | 92 => ⟨S_, .f32⟩
  | 93 => ⟨S4x64x64, .f32⟩
  | 94 => ⟨S_, .f32⟩
  | 95 => ⟨S_, .f32⟩
  | 96 => ⟨S64x63, .f32⟩
  | 97 => ⟨S4x64x63, .f32⟩
  | 98 => ⟨S4x64x63, .f32⟩
  | 99 => ⟨S_, .i32⟩
  | 100 => ⟨S_, .f32⟩
  | 101 => ⟨S4x64x64, .f32⟩
  | 102 => ⟨S_, .f32⟩
  | 103 => ⟨S_, .f32⟩
  | 104 => ⟨S64x63, .f32⟩
  | 105 => ⟨S4x64x63, .f32⟩
  | 106 => ⟨S4x64x63, .f32⟩
  | 107 => ⟨S_, .i32⟩
  | 108 => ⟨S_, .f32⟩
  | 109 => ⟨S4x64x64, .f32⟩
  | 110 => ⟨S_, .f32⟩
  | 111 => ⟨S_, .f32⟩
  | 112 => ⟨S64x63, .f32⟩
  | 113 => ⟨S4x64x63, .f32⟩
  | 114 => ⟨S4x64x63, .f32⟩
  | 115 => ⟨S_, .i32⟩
  | 116 => ⟨S_, .f32⟩
  | 117 => ⟨S4x64x64, .f32⟩
  | 118 => ⟨S_, .f32⟩
  | 119 => ⟨S_, .f32⟩
  | 120 => ⟨S63x64, .f32⟩
  | 121 => ⟨S4x63x64, .f32⟩
  | 122 => ⟨S4x63x64, .f32⟩
  | 123 => ⟨S_, .i32⟩
  | 124 => ⟨S_, .f32⟩
  | 125 => ⟨S4x64x64, .f32⟩
  | 126 => ⟨S4x64x64, .f32⟩
  | 127 => ⟨S4x64x64, .f32⟩
  | _ => ⟨S4x64x64, .f32⟩

abbrev hbmTy0_4 (i : Nat) : BufTy := match i % 128 with
  | 0 => ⟨S4x64x64, .f32⟩
  | 1 => ⟨S4x64x64, .f32⟩
  | 2 => ⟨S4x64x64, .f32⟩
  | 3 => ⟨S4x8064x1, .f32⟩
  | 4 => ⟨S4x8064, .f32⟩
  | 5 => ⟨S4x8064x1, .f32⟩
  | 6 => ⟨S4x8064, .f32⟩
  | 7 => ⟨S4x8064, .f32⟩
  | 8 => ⟨S4x8064, .i32⟩
  | 9 => ⟨S4x8064, .f32⟩
  | 10 => ⟨S4x8064, .i32⟩
  | 11 => ⟨S4x8064, .f32⟩
  | 12 => ⟨S4x8064, .f32⟩
  | 13 => ⟨S4x8064x1, .f32⟩
  | 14 => ⟨S4x8064, .f32⟩
  | 15 => ⟨S4x8064, .f32⟩
  | 16 => ⟨S4x8064x1, .f32⟩
  | 17 => ⟨S4x8064x1, .f32⟩
  | 18 => ⟨S4x8064x1, .f32⟩
  | 19 => ⟨S4x8064x1, .f32⟩
  | 20 => ⟨S4x8064x1, .f32⟩
  | 21 => ⟨S_, .f32⟩
  | 22 => ⟨S4x8064x1, .f32⟩
  | 23 => ⟨S4x8064x1, .f32⟩
  | 24 => ⟨S4x8064x1, .f32⟩
  | 25 => ⟨S_, .f32⟩
  | 26 => ⟨S4x8064x1, .f32⟩
  | 27 => ⟨S4x8064x1, .f32⟩
  | 28 => ⟨S4x8064x1, .f32⟩
  | 29 => ⟨S_, .f32⟩
  | 30 => ⟨S4x8064x1, .f32⟩
  | 31 => ⟨S4x8064x1, .f32⟩
  | 32 => ⟨S4x8064x1, .f32⟩
  | 33 => ⟨S4x8064x1, .f32⟩
  | 34 => ⟨S4x8064x1, .f32⟩
  | 35 => ⟨S4x8064x1, .f32⟩
  | 36 => ⟨S_, .f32⟩
  | 37 => ⟨S4x8064x1, .f32⟩
  | 38 => ⟨S4x8064x1, .f32⟩
  | 39 => ⟨S4x8064x1, .f32⟩
  | 40 => ⟨S4x8064x1, .f32⟩
  | 41 => ⟨S4x8064x1, .f32⟩
  | 42 => ⟨S4x8064x1, .f32⟩
  | 43 => ⟨S4x8064x1, .f32⟩
  | 44 => ⟨S4x8064, .f32⟩
  | 45 => ⟨S_, .f32⟩
  | 46 => ⟨S_, .f32⟩
  | 47 => ⟨S8064, .f32⟩
  | 48 => ⟨S4x8064, .f32⟩
  | 49 => ⟨S4x8064, .f32⟩
  | 50 => ⟨S1x64x64, .f32⟩
  | 51 => ⟨S64x64, .f32⟩
  | 52 => ⟨S1x64x64, .f32⟩
  | 53 => ⟨S64x64, .f32⟩
  | 54 => ⟨S64x64, .f32⟩
  | 55 => ⟨S_, .f32⟩
  | 56 => ⟨S_, .f32⟩
  | 57 => ⟨S1x8064, .f32⟩
  | 58 => ⟨S8064, .f32⟩
  | 59 => ⟨S_, .f32⟩
  | 60 => ⟨S_, .f32⟩
  | 61 => ⟨S1x64x64, .f32⟩
  | 62 => ⟨S64x64, .f32⟩
  | 63 => ⟨S1x64x64, .f32⟩
  | 64 => ⟨S64x64, .f32⟩
  | 65 => ⟨S64x64, .f32⟩
  | 66 => ⟨S_, .f32⟩
  | 67 => ⟨S_, .f32⟩
  | 68 => ⟨S1x8064, .f32⟩
  | 69 => ⟨S8064, .f32⟩
  | 70 => ⟨S_, .f32⟩
  | 71 => ⟨S_, .f32⟩
  | 72 => ⟨S1x64x64, .f32⟩
  | 73 => ⟨S64x64, .f32⟩
  | 74 => ⟨S1x64x64, .f32⟩
  | 75 => ⟨S64x64, .f32⟩
  | 76 => ⟨S64x64, .f32⟩
  | 77 => ⟨S_, .f32⟩
  | 78 => ⟨S_, .f32⟩
  | 79 => ⟨S1x8064, .f32⟩
  | 80 => ⟨S8064, .f32⟩
  | 81 => ⟨S_, .f32⟩
  | 82 => ⟨S_, .f32⟩
  | 83 => ⟨S1x64x64, .f32⟩
  | 84 => ⟨S64x64, .f32⟩
  | 85 => ⟨S1x64x64, .f32⟩
  | 86 => ⟨S64x64, .f32⟩
  | 87 => ⟨S64x64, .f32⟩
  | 88 => ⟨S_, .f32⟩
  | 89 => ⟨S_, .f32⟩
  | 90 => ⟨S1x8064, .f32⟩
  | 91 => ⟨S8064, .f32⟩
  | 92 => ⟨S_, .f32⟩
  | 93 => ⟨S_, .f32⟩
  | 94 => ⟨S1, .f32⟩
  | 95 => ⟨S1, .f32⟩
  | 96 => ⟨S1, .f32⟩
  | 97 => ⟨S1, .f32⟩
  | 98 => ⟨S4, .f32⟩
  | 99 => ⟨S_, .f32⟩
  | 100 => ⟨S_, .f32⟩
  | 101 => ⟨S_, .f32⟩
  | 102 => ⟨S_, .f32⟩
  | 103 => ⟨S1, .f32⟩
  | 104 => ⟨S1, .f32⟩
  | 105 => ⟨S1, .f32⟩
  | 106 => ⟨S1, .f32⟩
  | 107 => ⟨S4, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | _ => ⟨S4x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x64x64, .f32⟩

abbrev bufTy : (tb : Table) → Fin (tcTables nBuf tb) → BufTy
  | .hbm, ⟨i, _⟩ => hbmTy i
  | .local _ .vmem, ⟨0, _⟩ => ⟨S4x64x64, .f32⟩
  | .local _ .vmem, ⟨1, _⟩ => ⟨S4x64x64, .f32⟩
  | .local _ .vmem, ⟨2, _⟩ => ⟨S4x63x64, .f32⟩
  | .local _ .vmem, ⟨3, _⟩ => ⟨S4x63x64, .f32⟩
  | .local _ .vmem, ⟨4, _⟩ => ⟨S4x63x64, .f32⟩
  | .local _ .vmem, ⟨5, _⟩ => ⟨S4x64x63, .f32⟩
  | .local _ .vmem, ⟨6, _⟩ => ⟨S4x64x63, .f32⟩
  | .local _ .vmem, ⟨7, _⟩ => ⟨S4x64x63, .f32⟩
  | .local _ .vmem, ⟨8, _⟩ => ⟨S4x12x63x64, .f32⟩
  | .local _ .vmem, ⟨9, _⟩ => ⟨S4x12x64x63, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call1_v0 : Ref sig .tc := ⟨.hbm, 56, rfl⟩
abbrev main_v42 : Ref sig .tc := ⟨.hbm, 57, rfl⟩
abbrev main_call2_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call3_v0 : Ref sig .tc := ⟨.hbm, 96, rfl⟩
abbrev main_v75 : Ref sig .tc := ⟨.hbm, 97, rfl⟩
abbrev main_call4_v0 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_c : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_c_9 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_c_10 : Ref sig .tc := ⟨.hbm, 256, rfl⟩
abbrev main_c_11 : Ref sig .tc := ⟨.hbm, 257, rfl⟩
abbrev main_call5_v0 : Ref sig .tc := ⟨.hbm, 258, rfl⟩
abbrev main_call5_v1 : Ref sig .tc := ⟨.hbm, 259, rfl⟩
abbrev main_call5_v2 : Ref sig .tc := ⟨.hbm, 260, rfl⟩
abbrev main_call5_v3 : Ref sig .tc := ⟨.hbm, 261, rfl⟩
abbrev main_call5_v4 : Ref sig .tc := ⟨.hbm, 262, rfl⟩
abbrev main_v231 : Ref sig .tc := ⟨.hbm, 263, rfl⟩
abbrev main_c_12 : Ref sig .tc := ⟨.hbm, 264, rfl⟩
abbrev main_c_13 : Ref sig .tc := ⟨.hbm, 265, rfl⟩
abbrev main_call6_v0 : Ref sig .tc := ⟨.hbm, 266, rfl⟩
abbrev main_call6_v1 : Ref sig .tc := ⟨.hbm, 267, rfl⟩
abbrev main_call6_v2 : Ref sig .tc := ⟨.hbm, 268, rfl⟩
abbrev main_call6_v3 : Ref sig .tc := ⟨.hbm, 269, rfl⟩
abbrev main_call6_v4 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_cst_14 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_cst_15 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_cst_16 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_cst_17 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_call7_v0 : Ref sig .tc := ⟨.hbm, 309, rfl⟩
abbrev main_call7_cst : Ref sig .tc := ⟨.hbm, 310, rfl⟩
abbrev main_call7_v1 : Ref sig .tc := ⟨.hbm, 311, rfl⟩
abbrev main_call7_v2 : Ref sig .tc := ⟨.hbm, 312, rfl⟩
abbrev main_v266 : Ref sig .tc := ⟨.hbm, 313, rfl⟩
abbrev main_cst_18 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_cst_19 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_cst_20 : Ref sig .tc := ⟨.hbm, 325, rfl⟩
abbrev main_v276 : Ref sig .tc := ⟨.hbm, 326, rfl⟩
abbrev main_cst_21 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_c_22 : Ref sig .tc := ⟨.hbm, 338, rfl⟩
abbrev main_v287 : Ref sig .tc := ⟨.hbm, 339, rfl⟩
abbrev main_v288 : Ref sig .tc := ⟨.hbm, 340, rfl⟩
abbrev main_c_23 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_cst_24 : Ref sig .tc := ⟨.hbm, 348, rfl⟩
abbrev main_v295 : Ref sig .tc := ⟨.hbm, 349, rfl⟩
abbrev main_v296 : Ref sig .tc := ⟨.hbm, 350, rfl⟩
abbrev main_cst_25 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_cst_26 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_cst_27 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_c_28 : Ref sig .tc := ⟨.hbm, 364, rfl⟩
abbrev main_v307 : Ref sig .tc := ⟨.hbm, 365, rfl⟩
abbrev main_v308 : Ref sig .tc := ⟨.hbm, 366, rfl⟩
abbrev main_c_29 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_c_30 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_c_31 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_cst_32 : Ref sig .tc := ⟨.hbm, 381, rfl⟩
abbrev main_call8_v0 : Ref sig .tc := ⟨.hbm, 382, rfl⟩
abbrev main_call8_v1 : Ref sig .tc := ⟨.hbm, 383, rfl⟩
abbrev main_call8_v2 : Ref sig .tc := ⟨.hbm, 384, rfl⟩
abbrev main_v320 : Ref sig .tc := ⟨.hbm, 385, rfl⟩
abbrev main_c_33 : Ref sig .tc := ⟨.hbm, 386, rfl⟩
abbrev main_v321 : Ref sig .tc := ⟨.hbm, 387, rfl⟩
abbrev main_v322 : Ref sig .tc := ⟨.hbm, 388, rfl⟩
abbrev main_c_34 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_c_35 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_c_36 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_cst_37 : Ref sig .tc := ⟨.hbm, 403, rfl⟩
abbrev main_call9_v0 : Ref sig .tc := ⟨.hbm, 404, rfl⟩
abbrev main_call9_v1 : Ref sig .tc := ⟨.hbm, 405, rfl⟩
abbrev main_call9_v2 : Ref sig .tc := ⟨.hbm, 406, rfl⟩
abbrev main_v334 : Ref sig .tc := ⟨.hbm, 407, rfl⟩
abbrev main_c_38 : Ref sig .tc := ⟨.hbm, 408, rfl⟩
abbrev main_v335 : Ref sig .tc := ⟨.hbm, 409, rfl⟩
abbrev main_v336 : Ref sig .tc := ⟨.hbm, 410, rfl⟩
abbrev main_c_39 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_c_40 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_c_41 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_cst_42 : Ref sig .tc := ⟨.hbm, 425, rfl⟩
abbrev main_call10_v0 : Ref sig .tc := ⟨.hbm, 426, rfl⟩
abbrev main_call10_v1 : Ref sig .tc := ⟨.hbm, 427, rfl⟩
abbrev main_call10_v2 : Ref sig .tc := ⟨.hbm, 428, rfl⟩
abbrev main_v348 : Ref sig .tc := ⟨.hbm, 429, rfl⟩
abbrev main_c_43 : Ref sig .tc := ⟨.hbm, 430, rfl⟩
abbrev main_v349 : Ref sig .tc := ⟨.hbm, 431, rfl⟩
abbrev main_v350 : Ref sig .tc := ⟨.hbm, 432, rfl⟩
abbrev main_c_44 : Ref sig .tc := ⟨.hbm, 433, rfl⟩
abbrev main_v351 : Ref sig .tc := ⟨.hbm, 434, rfl⟩
abbrev main_v352 : Ref sig .tc := ⟨.hbm, 435, rfl⟩
abbrev main_v353 : Ref sig .tc := ⟨.hbm, 436, rfl⟩
abbrev main_c_45 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_c_46 : Ref sig .tc := ⟨.hbm, 441, rfl⟩
abbrev main_v357 : Ref sig .tc := ⟨.hbm, 442, rfl⟩
abbrev main_v358 : Ref sig .tc := ⟨.hbm, 443, rfl⟩
abbrev main_v359 : Ref sig .tc := ⟨.hbm, 444, rfl⟩
abbrev main_v360 : Ref sig .tc := ⟨.hbm, 445, rfl⟩
abbrev main_v361 : Ref sig .tc := ⟨.hbm, 446, rfl⟩
abbrev main_cst_47 : Ref sig .tc := ⟨.hbm, 447, rfl⟩
abbrev main_call11_v0 : Ref sig .tc := ⟨.hbm, 448, rfl⟩
abbrev main_call11_v1 : Ref sig .tc := ⟨.hbm, 449, rfl⟩
abbrev main_call11_v2 : Ref sig .tc := ⟨.hbm, 450, rfl⟩
abbrev main_v362 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_v369 : Ref sig .tc := ⟨.hbm, 458, rfl⟩
abbrev main_v370 : Ref sig .tc := ⟨.hbm, 459, rfl⟩
abbrev main_v371 : Ref sig .tc := ⟨.hbm, 460, rfl⟩
abbrev main_v372 : Ref sig .tc := ⟨.hbm, 461, rfl⟩
abbrev main_cst_48 : Ref sig .tc := ⟨.hbm, 462, rfl⟩
abbrev main_call12_v0 : Ref sig .tc := ⟨.hbm, 463, rfl⟩
abbrev main_call12_v1 : Ref sig .tc := ⟨.hbm, 464, rfl⟩
abbrev main_call12_v2 : Ref sig .tc := ⟨.hbm, 465, rfl⟩
abbrev main_v373 : Ref sig .tc := ⟨.hbm, 466, rfl⟩
abbrev main_c_49 : Ref sig .tc := ⟨.hbm, 467, rfl⟩
abbrev main_call13_v0 : Ref sig .tc := ⟨.hbm, 468, rfl⟩
abbrev main_v374 : Ref sig .tc := ⟨.hbm, 469, rfl⟩
abbrev main_cst_50 : Ref sig .tc := ⟨.hbm, 470, rfl⟩
abbrev main_call14_v0 : Ref sig .tc := ⟨.hbm, 471, rfl⟩
abbrev main_call14_v1 : Ref sig .tc := ⟨.hbm, 472, rfl⟩
abbrev main_call14_v2 : Ref sig .tc := ⟨.hbm, 473, rfl⟩
abbrev main_v375 : Ref sig .tc := ⟨.hbm, 474, rfl⟩
abbrev main_c_51 : Ref sig .tc := ⟨.hbm, 475, rfl⟩
abbrev main_call15_v0 : Ref sig .tc := ⟨.hbm, 476, rfl⟩
abbrev main_v376 : Ref sig .tc := ⟨.hbm, 477, rfl⟩
abbrev main_cst_52 : Ref sig .tc := ⟨.hbm, 478, rfl⟩
abbrev main_call16_v0 : Ref sig .tc := ⟨.hbm, 479, rfl⟩
abbrev main_call16_v1 : Ref sig .tc := ⟨.hbm, 480, rfl⟩
abbrev main_call16_v2 : Ref sig .tc := ⟨.hbm, 481, rfl⟩
abbrev main_v377 : Ref sig .tc := ⟨.hbm, 482, rfl⟩
abbrev main_c_53 : Ref sig .tc := ⟨.hbm, 483, rfl⟩
abbrev main_call17_v0 : Ref sig .tc := ⟨.hbm, 484, rfl⟩
abbrev main_v378 : Ref sig .tc := ⟨.hbm, 485, rfl⟩
abbrev main_cst_54 : Ref sig .tc := ⟨.hbm, 486, rfl⟩
abbrev main_call18_v0 : Ref sig .tc := ⟨.hbm, 487, rfl⟩
abbrev main_call18_v1 : Ref sig .tc := ⟨.hbm, 488, rfl⟩
abbrev main_call18_v2 : Ref sig .tc := ⟨.hbm, 489, rfl⟩
abbrev main_v379 : Ref sig .tc := ⟨.hbm, 490, rfl⟩
abbrev main_c_55 : Ref sig .tc := ⟨.hbm, 491, rfl⟩
abbrev main_call19_v0 : Ref sig .tc := ⟨.hbm, 492, rfl⟩
abbrev main_v380 : Ref sig .tc := ⟨.hbm, 493, rfl⟩
abbrev main_cst_56 : Ref sig .tc := ⟨.hbm, 494, rfl⟩
abbrev main_call20_v0 : Ref sig .tc := ⟨.hbm, 495, rfl⟩
abbrev main_call20_v1 : Ref sig .tc := ⟨.hbm, 496, rfl⟩
abbrev main_call20_v2 : Ref sig .tc := ⟨.hbm, 497, rfl⟩
abbrev main_v381 : Ref sig .tc := ⟨.hbm, 498, rfl⟩
abbrev main_c_57 : Ref sig .tc := ⟨.hbm, 499, rfl⟩
abbrev main_call21_v0 : Ref sig .tc := ⟨.hbm, 500, rfl⟩
abbrev main_v382 : Ref sig .tc := ⟨.hbm, 501, rfl⟩
abbrev main_cst_58 : Ref sig .tc := ⟨.hbm, 502, rfl⟩
abbrev main_call22_v0 : Ref sig .tc := ⟨.hbm, 503, rfl⟩
abbrev main_call22_v1 : Ref sig .tc := ⟨.hbm, 504, rfl⟩
abbrev main_call22_v2 : Ref sig .tc := ⟨.hbm, 505, rfl⟩
abbrev main_v383 : Ref sig .tc := ⟨.hbm, 506, rfl⟩
abbrev main_c_59 : Ref sig .tc := ⟨.hbm, 507, rfl⟩
abbrev main_call23_v0 : Ref sig .tc := ⟨.hbm, 508, rfl⟩
abbrev main_v384 : Ref sig .tc := ⟨.hbm, 509, rfl⟩
abbrev main_v385 : Ref sig .tc := ⟨.hbm, 510, rfl⟩
abbrev main_v386 : Ref sig .tc := ⟨.hbm, 511, rfl⟩
abbrev main_v387 : Ref sig .tc := ⟨.hbm, 512, rfl⟩
abbrev main_v388 : Ref sig .tc := ⟨.hbm, 513, rfl⟩
abbrev main_v389 : Ref sig .tc := ⟨.hbm, 514, rfl⟩
abbrev main_v390 : Ref sig .tc := ⟨.hbm, 515, rfl⟩
abbrev main_v391 : Ref sig .tc := ⟨.hbm, 516, rfl⟩
abbrev main_v392 : Ref sig .tc := ⟨.hbm, 517, rfl⟩
abbrev main_v393 : Ref sig .tc := ⟨.hbm, 518, rfl⟩
abbrev main_v394 : Ref sig .tc := ⟨.hbm, 519, rfl⟩
abbrev main_v395 : Ref sig .tc := ⟨.hbm, 520, rfl⟩
abbrev main_v396 : Ref sig .tc := ⟨.hbm, 521, rfl⟩
abbrev main_v397 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_v406 : Ref sig .tc := ⟨.hbm, 531, rfl⟩
abbrev main_v407 : Ref sig .tc := ⟨.hbm, 532, rfl⟩
abbrev main_cst_60 : Ref sig .tc := ⟨.hbm, 533, rfl⟩
abbrev main_v408 : Ref sig .tc := ⟨.hbm, 534, rfl⟩
abbrev main_v409 : Ref sig .tc := ⟨.hbm, 535, rfl⟩
abbrev main_v410 : Ref sig .tc := ⟨.hbm, 536, rfl⟩
abbrev main_cst_61 : Ref sig .tc := ⟨.hbm, 537, rfl⟩
abbrev main_v411 : Ref sig .tc := ⟨.hbm, 538, rfl⟩
abbrev main_v412 : Ref sig .tc := ⟨.hbm, 539, rfl⟩
abbrev main_v413 : Ref sig .tc := ⟨.hbm, 540, rfl⟩
abbrev main_cst_62 : Ref sig .tc := ⟨.hbm, 541, rfl⟩
abbrev main_v414 : Ref sig .tc := ⟨.hbm, 542, rfl⟩
abbrev main_v415 : Ref sig .tc := ⟨.hbm, 543, rfl⟩
abbrev main_v416 : Ref sig .tc := ⟨.hbm, 544, rfl⟩
abbrev main_v417 : Ref sig .tc := ⟨.hbm, 545, rfl⟩
abbrev main_v418 : Ref sig .tc := ⟨.hbm, 546, rfl⟩
abbrev main_v419 : Ref sig .tc := ⟨.hbm, 547, rfl⟩
abbrev main_cst_63 : Ref sig .tc := ⟨.hbm, 548, rfl⟩
abbrev main_v420 : Ref sig .tc := ⟨.hbm, 549, rfl⟩
abbrev main_v421 : Ref sig .tc := ⟨.hbm, 550, rfl⟩
abbrev main_v422 : Ref sig .tc := ⟨.hbm, 551, rfl⟩
abbrev main_v423 : Ref sig .tc := ⟨.hbm, 552, rfl⟩
abbrev main_v424 : Ref sig .tc := ⟨.hbm, 553, rfl⟩
abbrev main_v425 : Ref sig .tc := ⟨.hbm, 554, rfl⟩
abbrev main_v426 : Ref sig .tc := ⟨.hbm, 555, rfl⟩
abbrev main_v427 : Ref sig .tc := ⟨.hbm, 556, rfl⟩
abbrev main_cst_64 : Ref sig .tc := ⟨.hbm, 557, rfl⟩
abbrev main_call24_v0 : Ref sig .tc := ⟨.hbm, 558, rfl⟩
abbrev main_call24_v1 : Ref sig .tc := ⟨.hbm, 559, rfl⟩
abbrev main_call24_v2 : Ref sig .tc := ⟨.hbm, 560, rfl⟩
abbrev main_v428 : Ref sig .tc := ⟨.hbm, 561, rfl⟩
abbrev main_v429 : Ref sig .tc := ⟨.hbm, 562, rfl⟩
abbrev main_v430 : Ref sig .tc := ⟨.hbm, 563, rfl⟩
abbrev main_v431 : Ref sig .tc := ⟨.hbm, 564, rfl⟩
abbrev main_v432 : Ref sig .tc := ⟨.hbm, 565, rfl⟩
abbrev main_v433 : Ref sig .tc := ⟨.hbm, 566, rfl⟩
abbrev main_cst_65 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_cst_66 : Ref sig .tc := ⟨.hbm, 571, rfl⟩
abbrev main_v437 : Ref sig .tc := ⟨.hbm, 572, rfl⟩
abbrev main_v438 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_v442 : Ref sig .tc := ⟨.hbm, 577, rfl⟩
abbrev main_cst_67 : Ref sig .tc := ⟨.hbm, 578, rfl⟩
abbrev main_v443 : Ref sig .tc := ⟨.hbm, 579, rfl⟩
abbrev main_v444 : Ref sig .tc := ⟨.hbm, 580, rfl⟩
abbrev main_v445 : Ref sig .tc := ⟨.hbm, 581, rfl⟩
abbrev main_cst_68 : Ref sig .tc := ⟨.hbm, 582, rfl⟩
abbrev main_v446 : Ref sig .tc := ⟨.hbm, 583, rfl⟩
abbrev main_v447 : Ref sig .tc := ⟨.hbm, 584, rfl⟩
abbrev main_v448 : Ref sig .tc := ⟨.hbm, 585, rfl⟩
abbrev main_v449 : Ref sig .tc := ⟨.hbm, 586, rfl⟩
abbrev main_v450 : Ref sig .tc := ⟨.hbm, 587, rfl⟩
abbrev main_v451 : Ref sig .tc := ⟨.hbm, 588, rfl⟩
abbrev main_cst_69 : Ref sig .tc := ⟨.hbm, 589, rfl⟩
abbrev main_v452 : Ref sig .tc := ⟨.hbm, 590, rfl⟩
abbrev main_v453 : Ref sig .tc := ⟨.hbm, 591, rfl⟩
abbrev main_v454 : Ref sig .tc := ⟨.hbm, 592, rfl⟩
abbrev main_cst_70 : Ref sig .tc := ⟨.hbm, 593, rfl⟩
abbrev main_v455 : Ref sig .tc := ⟨.hbm, 594, rfl⟩
abbrev main_v456 : Ref sig .tc := ⟨.hbm, 595, rfl⟩
abbrev main_v457 : Ref sig .tc := ⟨.hbm, 596, rfl⟩
abbrev main_v458 : Ref sig .tc := ⟨.hbm, 597, rfl⟩
abbrev main_v459 : Ref sig .tc := ⟨.hbm, 598, rfl⟩
abbrev main_v460 : Ref sig .tc := ⟨.hbm, 599, rfl⟩
abbrev main_cst_71 : Ref sig .tc := ⟨.hbm, 600, rfl⟩
abbrev main_v461 : Ref sig .tc := ⟨.hbm, 601, rfl⟩
abbrev main_v462 : Ref sig .tc := ⟨.hbm, 602, rfl⟩
abbrev main_v463 : Ref sig .tc := ⟨.hbm, 603, rfl⟩
abbrev main_cst_72 : Ref sig .tc := ⟨.hbm, 604, rfl⟩
abbrev main_v464 : Ref sig .tc := ⟨.hbm, 605, rfl⟩
abbrev main_v465 : Ref sig .tc := ⟨.hbm, 606, rfl⟩
abbrev main_v466 : Ref sig .tc := ⟨.hbm, 607, rfl⟩
abbrev main_v467 : Ref sig .tc := ⟨.hbm, 608, rfl⟩
abbrev main_v468 : Ref sig .tc := ⟨.hbm, 609, rfl⟩
abbrev main_v469 : Ref sig .tc := ⟨.hbm, 610, rfl⟩
abbrev main_cst_73 : Ref sig .tc := ⟨.hbm, 611, rfl⟩
abbrev main_v470 : Ref sig .tc := ⟨.hbm, 612, rfl⟩
abbrev main_cst_74 : Ref sig .tc := ⟨.hbm, 613, rfl⟩
abbrev main_v471 : Ref sig .tc := ⟨.hbm, 614, rfl⟩
abbrev main_v472 : Ref sig .tc := ⟨.hbm, 615, rfl⟩
abbrev main_v473 : Ref sig .tc := ⟨.hbm, 616, rfl⟩
abbrev main_v474 : Ref sig .tc := ⟨.hbm, 617, rfl⟩
abbrev main_v475 : Ref sig .tc := ⟨.hbm, 618, rfl⟩
abbrev main_v476 : Ref sig .tc := ⟨.hbm, 619, rfl⟩
abbrev main_cst_75 : Ref sig .tc := ⟨.hbm, 620, rfl⟩
abbrev main_v477 : Ref sig .tc := ⟨.hbm, 621, rfl⟩
abbrev main_cst_76 : Ref sig .tc := ⟨.hbm, 622, rfl⟩
abbrev main_v478 : Ref sig .tc := ⟨.hbm, 623, rfl⟩
abbrev main_cst_77 : Ref sig .tc := ⟨.hbm, 624, rfl⟩
abbrev main_v479 : Ref sig .tc := ⟨.hbm, 625, rfl⟩
abbrev main_cst_78 : Ref sig .tc := ⟨.hbm, 626, rfl⟩
abbrev main_v480 : Ref sig .tc := ⟨.hbm, 627, rfl⟩
abbrev main_v481 : Ref sig .tc := ⟨.hbm, 628, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x63x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x63x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x63x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64x63 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x64x63 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64x63 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x12x63x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x12x64x63 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S4x64x64 : Shape := ⟨3, ![4, 64, 64]⟩
abbrev S4x63x64 : Shape := ⟨3, ![4, 63, 64]⟩
abbrev S63 : Shape := ⟨1, ![63]⟩
abbrev S63x1 : Shape := ⟨2, ![63, 1]⟩
abbrev S63x64 : Shape := ⟨2, ![63, 64]⟩
abbrev S64 : Shape := ⟨1, ![64]⟩
abbrev S1x64 : Shape := ⟨2, ![1, 64]⟩
abbrev S_ : Shape := ⟨0, ![]⟩
abbrev S1x63x64 : Shape := ⟨3, ![1, 63, 64]⟩
abbrev S4x4032 : Shape := ⟨2, ![4, 4032]⟩
abbrev S4032 : Shape := ⟨1, ![4032]⟩
abbrev S4x4032x1 : Shape := ⟨3, ![4, 4032, 1]⟩
abbrev S4x4032x2 : Shape := ⟨3, ![4, 4032, 2]⟩
abbrev S4x64x63 : Shape := ⟨3, ![4, 64, 63]⟩
abbrev S64x1 : Shape := ⟨2, ![64, 1]⟩
abbrev S64x63 : Shape := ⟨2, ![64, 63]⟩
abbrev S1x63 : Shape := ⟨2, ![1, 63]⟩
abbrev S1x64x63 : Shape := ⟨3, ![1, 64, 63]⟩
abbrev S4x8064x2 : Shape := ⟨3, ![4, 8064, 2]⟩
abbrev S4x8064 : Shape := ⟨2, ![4, 8064]⟩
abbrev S4x1x64 : Shape := ⟨3, ![4, 1, 64]⟩
abbrev S4x62x64 : Shape := ⟨3, ![4, 62, 64]⟩
abbrev S4x64x1 : Shape := ⟨3, ![4, 64, 1]⟩
abbrev S4x64x62 : Shape := ⟨3, ![4, 64, 62]⟩
abbrev S4x64x64x1 : Shape := ⟨4, ![4, 64, 64, 1]⟩
abbrev S4x64x64x2 : Shape := ⟨4, ![4, 64, 64, 2]⟩
abbrev S4x8064x1 : Shape := ⟨3, ![4, 8064, 1]⟩
abbrev S8064x2 : Shape := ⟨2, ![8064, 2]⟩
abbrev S4x8064x1x2 : Shape := ⟨4, ![4, 8064, 1, 2]⟩
abbrev S4x1x8064x2 : Shape := ⟨4, ![4, 1, 8064, 2]⟩
abbrev S4x8064x8064x2 : Shape := ⟨4, ![4, 8064, 8064, 2]⟩
abbrev S4x8064x8064 : Shape := ⟨3, ![4, 8064, 8064]⟩
abbrev S8064 : Shape := ⟨1, ![8064]⟩
abbrev S1x8064 : Shape := ⟨2, ![1, 8064]⟩
abbrev S8064x8064 : Shape := ⟨2, ![8064, 8064]⟩
abbrev S4 : Shape := ⟨1, ![4]⟩
abbrev S4x1 : Shape := ⟨2, ![4, 1]⟩
abbrev S4x4096 : Shape := ⟨2, ![4, 4096]⟩

abbrev nBuf : Space → Nat
  | .hbm => 914
  | .vmem => 0
  | .smem => 0
  | _ => 0

abbrev hbmTy0_0 (i : Nat) : BufTy := match i % 128 with
  | 0 => ⟨S4x64x64, .f32⟩
  | 1 => ⟨S4x64x64, .f32⟩
  | 2 => ⟨S4x63x64, .f32⟩
  | 3 => ⟨S4x63x64, .f32⟩
  | 4 => ⟨S63, .f32⟩
  | 5 => ⟨S63x1, .f32⟩
  | 6 => ⟨S63x64, .f32⟩
  | 7 => ⟨S64, .f32⟩
  | 8 => ⟨S1x64, .f32⟩
  | 9 => ⟨S63x64, .f32⟩
  | 10 => ⟨S_, .f32⟩
  | 11 => ⟨S4x63x64, .f32⟩
  | 12 => ⟨S4x63x64, .i1⟩
  | 13 => ⟨S4x63x64, .i1⟩
  | 14 => ⟨S_, .f32⟩
  | 15 => ⟨S4x63x64, .f32⟩
  | 16 => ⟨S4x63x64, .i1⟩
  | 17 => ⟨S4x63x64, .i1⟩
  | 18 => ⟨S4x63x64, .i1⟩
  | 19 => ⟨S4x63x64, .i1⟩
  | 20 => ⟨S4x63x64, .i1⟩
  | 21 => ⟨S4x63x64, .f32⟩
  | 22 => ⟨S_, .f32⟩
  | 23 => ⟨S4x63x64, .f32⟩
  | 24 => ⟨S4x63x64, .i1⟩
  | 25 => ⟨S4x63x64, .i1⟩
  | 26 => ⟨S4x63x64, .f32⟩
  | 27 => ⟨S4x63x64, .f32⟩
  | 28 => ⟨S4x63x64, .f32⟩
  | 29 => ⟨S4x63x64, .f32⟩
  | 30 => ⟨S_, .f32⟩
  | 31 => ⟨S4x63x64, .f32⟩
  | 32 => ⟨S4x63x64, .f32⟩
  | 33 => ⟨S4x63x64, .f32⟩
  | 34 => ⟨S_, .f32⟩
  | 35 => ⟨S63x64, .f32⟩
  | 36 => ⟨S63x64, .f32⟩
  | 37 => ⟨S1x63x64, .f32⟩
  | 38 => ⟨S4x63x64, .f32⟩
  | 39 => ⟨S4x63x64, .f32⟩
  | 40 => ⟨S4x63x64, .f32⟩
  | 41 => ⟨S4x63x64, .f32⟩
  | 42 => ⟨S4x63x64, .f32⟩
  | 43 => ⟨S4x63x64, .f32⟩
  | 44 => ⟨S4x4032, .f32⟩
  | 45 => ⟨S4032, .f32⟩
  | 46 => ⟨S4x4032, .f32⟩
  | 47 => ⟨S4x4032x1, .f32⟩
  | 48 => ⟨S4x4032x1, .f32⟩
  | 49 => ⟨S4x4032x2, .f32⟩
  | 50 => ⟨S4x63x64, .i1⟩
  | 51 => ⟨S4x63x64, .i1⟩
  | 52 => ⟨S4x4032, .i1⟩
  | 53 => ⟨S4x64x63, .f32⟩
  | 54 => ⟨S4x64x63, .f32⟩
  | 55 => ⟨S64, .f32⟩
  | 56 => ⟨S64x1, .f32⟩
  | 57 => ⟨S64x63, .f32⟩
  | 58 => ⟨S63, .f32⟩
  | 59 => ⟨S1x63, .f32⟩
  | 60 => ⟨S64x63, .f32⟩
  | 61 => ⟨S_, .f32⟩
  | 62 => ⟨S4x64x63, .f32⟩
  | 63 => ⟨S4x64x63, .i1⟩
  | 64 => ⟨S4x64x63, .i1⟩
  | 65 => ⟨S_, .f32⟩
  | 66 => ⟨S4x64x63, .f32⟩
  | 67 => ⟨S4x64x63, .i1⟩
  | 68 => ⟨S4x64x63, .i1⟩
  | 69 => ⟨S4x64x63, .i1⟩
  | 70 => ⟨S4x64x63, .i1⟩
  | 71 => ⟨S4x64x63, .i1⟩
  | 72 => ⟨S4x64x63, .f32⟩
  | 73 => ⟨S_, .f32⟩
  | 74 => ⟨S4x64x63, .f32⟩
  | 75 => ⟨S4x64x63, .i1⟩
  | 76 => ⟨S4x64x63, .i1⟩
  | 77 => ⟨S4x64x63, .f32⟩
  | 78 => ⟨S4x64x63, .f32⟩
  | 79 => ⟨S4x64x63, .f32⟩
  | 80 => ⟨S4x64x63, .f32⟩
  | 81 => ⟨S_, .f32⟩
  | 82 => ⟨S4x64x63, .f32⟩
  | 83 => ⟨S4x64x63, .f32⟩
  | 84 => ⟨S4x64x63, .f32⟩
  | 85 => ⟨S_, .f32⟩
  | 86 => ⟨S64x63, .f32⟩
  | 87 => ⟨S64x63, .f32⟩
  | 88 => ⟨S1x64x63, .f32⟩
  | 89 => ⟨S4x64x63, .f32⟩
  | 90 => ⟨S4x64x63, .f32⟩
  | 91 => ⟨S4x64x63, .f32⟩
  | 92 => ⟨S4x64x63, .f32⟩
  | 93 => ⟨S4x64x63, .f32⟩
  | 94 => ⟨S4x64x63, .f32⟩
  | 95 => ⟨S4032, .f32⟩
  | 96 => ⟨S4x4032, .f32⟩
  | 97 => ⟨S4x4032, .f32⟩
  | 98 => ⟨S4x4032x1, .f32⟩
  | 99 => ⟨S4x4032x1, .f32⟩
  | 100 => ⟨S4x4032x2, .f32⟩
  | 101 => ⟨S4x64x63, .i1⟩
  | 102 => ⟨S4x64x63, .i1⟩
  | 103 => ⟨S4x4032, .i1⟩
  | 104 => ⟨S4x8064x2, .f32⟩
  | 105 => ⟨S4x8064, .i1⟩
  | 106 => ⟨S4x63x64, .f32⟩
  | 107 => ⟨S4x63x64, .f32⟩
  | 108 => ⟨S63, .f32⟩
  | 109 => ⟨S63x1, .f32⟩
  | 110 => ⟨S63x64, .f32⟩
  | 111 => ⟨S64, .f32⟩
  | 112 => ⟨S1x64, .f32⟩
  | 113 => ⟨S63x64, .f32⟩
  | 114 => ⟨S_, .f32⟩
  | 115 => ⟨S4x63x64, .f32⟩
  | 116 => ⟨S4x63x64, .i1⟩
  | 117 => ⟨S4x63x64, .i1⟩
  | 118 => ⟨S_, .f32⟩
  | 119 => ⟨S4x63x64, .f32⟩
  | 120 => ⟨S4x63x64, .i1⟩
  | 121 => ⟨S4x63x64, .i1⟩
  | 122 => ⟨S4x63x64, .i1⟩
  | 123 => ⟨S4x63x64, .i1⟩
  | 124 => ⟨S4x63x64, .i1⟩
  | 125 => ⟨S4x63x64, .f32⟩
  | 126 => ⟨S_, .f32⟩
  | 127 => ⟨S4x63x64, .f32⟩
  | _ => ⟨S4x64x64, .f32⟩

abbrev hbmTy0_1 (i : Nat) : BufTy := match i % 128 with
  | 0 => ⟨S4x63x64, .i1⟩
  | 1 => ⟨S4x63x64, .i1⟩
  | 2 => ⟨S4x63x64, .f32⟩
  | 3 => ⟨S4x63x64, .f32⟩
  | 4 => ⟨S4x63x64, .f32⟩
  | 5 => ⟨S4x63x64, .f32⟩
  | 6 => ⟨S_, .f32⟩
  | 7 => ⟨S4x63x64, .f32⟩
  | 8 => ⟨S4x63x64, .f32⟩
  | 9 => ⟨S4x63x64, .f32⟩
  | 10 => ⟨S_, .f32⟩
  | 11 => ⟨S63x64, .f32⟩
  | 12 => ⟨S63x64, .f32⟩
  | 13 => ⟨S1x63x64, .f32⟩
  | 14 => ⟨S4x63x64, .f32⟩
  | 15 => ⟨S4x63x64, .f32⟩
  | 16 => ⟨S4x63x64, .f32⟩
  | 17 => ⟨S4x63x64, .f32⟩
  | 18 => ⟨S4x63x64, .f32⟩
  | 19 => ⟨S4x63x64, .f32⟩
  | 20 => ⟨S4x4032, .f32⟩
  | 21 => ⟨S4032, .f32⟩
  | 22 => ⟨S4x4032, .f32⟩
  | 23 => ⟨S4x4032x1, .f32⟩
  | 24 => ⟨S4x4032x1, .f32⟩
  | 25 => ⟨S4x4032x2, .f32⟩
  | 26 => ⟨S4x63x64, .i1⟩
  | 27 => ⟨S4x63x64, .i1⟩
  | 28 => ⟨S4x4032, .i1⟩
  | 29 => ⟨S4x64x63, .f32⟩
  | 30 => ⟨S4x64x63, .f32⟩
  | 31 => ⟨S64, .f32⟩
  | 32 => ⟨S64x1, .f32⟩
  | 33 => ⟨S64x63, .f32⟩
  | 34 => ⟨S63, .f32⟩
  | 35 => ⟨S1x63, .f32⟩
  | 36 => ⟨S64x63, .f32⟩
  | 37 => ⟨S_, .f32⟩
  | 38 => ⟨S4x64x63, .f32⟩
  | 39 => ⟨S4x64x63, .i1⟩
  | 40 => ⟨S4x64x63, .i1⟩
  | 41 => ⟨S_, .f32⟩
  | 42 => ⟨S4x64x63, .f32⟩
  | 43 => ⟨S4x64x63, .i1⟩
  | 44 => ⟨S4x64x63, .i1⟩
  | 45 => ⟨S4x64x63, .i1⟩
  | 46 => ⟨S4x64x63, .i1⟩
  | 47 => ⟨S4x64x63, .i1⟩
  | 48 => ⟨S4x64x63, .f32⟩
  | 49 => ⟨S_, .f32⟩
  | 50 => ⟨S4x64x63, .f32⟩
  | 51 => ⟨S4x64x63, .i1⟩
  | 52 => ⟨S4x64x63, .i1⟩
  | 53 => ⟨S4x64x63, .f32⟩
  | 54 => ⟨S4x64x63, .f32⟩
  | 55 => ⟨S4x64x63, .f32⟩
  | 56 => ⟨S4x64x63, .f32⟩
  | 57 => ⟨S_, .f32⟩
  | 58 => ⟨S4x64x63, .f32⟩
  | 59 => ⟨S4x64x63, .f32⟩
  | 60 => ⟨S4x64x63, .f32⟩
  | 61 => ⟨S_, .f32⟩
  | 62 => ⟨S64x63, .f32⟩
  | 63 => ⟨S64x63, .f32⟩
  | 64 => ⟨S1x64x63, .f32⟩
  | 65 => ⟨S4x64x63, .f32⟩
  | 66 => ⟨S4x64x63, .f32⟩
  | 67 => ⟨S4x64x63, .f32⟩
  | 68 => ⟨S4x64x63, .f32⟩
  | 69 => ⟨S4x64x63, .f32⟩
  | 70 => ⟨S4x64x63, .f32⟩
  | 71 => ⟨S4032, .f32⟩
  | 72 => ⟨S4x4032, .f32⟩
  | 73 => ⟨S4x4032, .f32⟩
  | 74 => ⟨S4x4032x1, .f32⟩
  | 75 => ⟨S4x4032x1, .f32⟩
  | 76 => ⟨S4x4032x2, .f32⟩
  | 77 => ⟨S4x64x63, .i1⟩
  | 78 => ⟨S4x64x63, .i1⟩
  | 79 => ⟨S4x4032, .i1⟩
  | 80 => ⟨S4x8064x2, .f32⟩
  | 81 => ⟨S4x8064, .i1⟩
  | 82 => ⟨S4x1x64, .f32⟩
  | 83 => ⟨S4x1x64, .f32⟩
  | 84 => ⟨S4x1x64, .f32⟩
  | 85 => ⟨S4x62x64, .f32⟩
  | 86 => ⟨S4x62x64, .f32⟩
  | 87 => ⟨S4x62x64, .f32⟩
  | 88 => ⟨S_, .f32⟩
  | 89 => ⟨S4x62x64, .f32⟩
  | 90 => ⟨S4x62x64, .f32⟩
  | 91 => ⟨S4x1x64, .f32⟩
  | 92 => ⟨S4x1x64, .f32⟩
  | 93 => ⟨S4x1x64, .f32⟩
  | 94 => ⟨S4x64x64, .f32⟩
  | 95 => ⟨S4x64x1, .f32⟩
  | 96 => ⟨S4x64x1, .f32⟩
  | 97 => ⟨S4x64x1, .f32⟩
  | 98 => ⟨S4x64x62, .f32⟩
  | 99 => ⟨S4x64x62, .f32⟩
  | 100 => ⟨S4x64x62, .f32⟩
  | 101 => ⟨S_, .f32⟩
  | 102 => ⟨S4x64x62, .f32⟩
  | 103 => ⟨S4x64x62, .f32⟩
  | 104 => ⟨S4x64x1, .f32⟩
  | 105 => ⟨S4x64x1, .f32⟩
  | 106 => ⟨S4x64x1, .f32⟩
  | 107 => ⟨S4x64x64, .f32⟩
  | 108 => ⟨S4x64x64x1, .f32⟩
  | 109 => ⟨S4x64x64x1, .f32⟩
  | 110 => ⟨S4x64x64x2, .f32⟩
  | 111 => ⟨S4x8064x1, .f32⟩
  | 112 => ⟨S4x8064, .f32⟩
  | 113 => ⟨S4x8064x1, .f32⟩
  | 114 => ⟨S4x8064, .f32⟩
  | 115 => ⟨S4x8064, .f32⟩
  | 116 => ⟨S4x8064, .i32⟩
  | 117 => ⟨S4x8064, .f32⟩
  | 118 => ⟨S4x8064, .i32⟩
  | 119 => ⟨S_, .i32⟩
  | 120 => ⟨S_, .i32⟩
  | 121 => ⟨S_, .i32⟩
  | 122 => ⟨S4x8064, .i32⟩
  | 123 => ⟨S4x8064, .i32⟩
  | 124 => ⟨S_, .i32⟩
  | 125 => ⟨S4x8064, .i32⟩
  | 126 => ⟨S4x8064, .i32⟩
  | 127 => ⟨S_, .i32⟩
  | _ => ⟨S4x64x64, .f32⟩

abbrev hbmTy0_2 (i : Nat) : BufTy := match i % 128 with
  | 0 => ⟨S_, .i32⟩
  | 1 => ⟨S_, .i32⟩
  | 2 => ⟨S4x8064, .i32⟩
  | 3 => ⟨S4x8064, .i32⟩
  | 4 => ⟨S_, .i32⟩
  | 5 => ⟨S4x8064, .i32⟩
  | 6 => ⟨S4x8064, .i32⟩
  | 7 => ⟨S_, .i32⟩
  | 8 => ⟨S4x8064, .i32⟩
  | 9 => ⟨S4x8064, .i32⟩
  | 10 => ⟨S_, .i32⟩
  | 11 => ⟨S_, .i32⟩
  | 12 => ⟨S_, .i32⟩
  | 13 => ⟨S4x8064, .i32⟩
  | 14 => ⟨S4x8064, .i32⟩
  | 15 => ⟨S_, .i32⟩
  | 16 => ⟨S4x8064, .i32⟩
  | 17 => ⟨S4x8064, .i32⟩
  | 18 => ⟨S_, .i32⟩
  | 19 => ⟨S4x8064, .i32⟩
  | 20 => ⟨S4x8064, .i32⟩
  | 21 => ⟨S_, .i32⟩
  | 22 => ⟨S_, .i32⟩
  | 23 => ⟨S_, .i32⟩
  | 24 => ⟨S4x8064, .i32⟩
  | 25 => ⟨S4x8064, .i32⟩
  | 26 => ⟨S_, .i32⟩
  | 27 => ⟨S4x8064, .i32⟩
  | 28 => ⟨S4x8064, .i32⟩
  | 29 => ⟨S4x8064, .f32⟩
  | 30 => ⟨S4x8064, .f32⟩
  | 31 => ⟨S4x8064x1, .f32⟩
  | 32 => ⟨S4x8064, .f32⟩
  | 33 => ⟨S4x8064, .f32⟩
  | 34 => ⟨S4x8064x1, .f32⟩
  | 35 => ⟨S_, .i32⟩
  | 36 => ⟨S4x8064, .i32⟩
  | 37 => ⟨S4x8064, .i1⟩
  | 38 => ⟨S_, .i32⟩
  | 39 => ⟨S4x8064, .i32⟩
  | 40 => ⟨S4x8064, .i32⟩
  | 41 => ⟨S4x8064, .i32⟩
  | 42 => ⟨S_, .i32⟩
  | 43 => ⟨S4x8064, .i32⟩
  | 44 => ⟨S4x8064, .i1⟩
  | 45 => ⟨S_, .i32⟩
  | 46 => ⟨S4x8064, .i32⟩
  | 47 => ⟨S4x8064, .i32⟩
  | 48 => ⟨S4x8064, .i32⟩
  | 49 => ⟨S4x8064x1, .i32⟩
  | 50 => ⟨S4x8064x1, .i32⟩
  | 51 => ⟨S4x8064x2, .i32⟩
  | 52 => ⟨S4x8064x2, .f32⟩
  | 53 => ⟨S_, .i32⟩
  | 54 => ⟨S4x8064, .i32⟩
  | 55 => ⟨S4x8064, .i1⟩
  | 56 => ⟨S_, .i32⟩
  | 57 => ⟨S4x8064, .i32⟩
  | 58 => ⟨S4x8064, .i32⟩
  | 59 => ⟨S4x8064, .i32⟩
  | 60 => ⟨S_, .i32⟩
  | 61 => ⟨S4x8064, .i32⟩
  | 62 => ⟨S4x8064, .i1⟩
  | 63 => ⟨S_, .i32⟩
  | 64 => ⟨S4x8064, .i32⟩
  | 65 => ⟨S4x8064, .i32⟩
  | 66 => ⟨S4x8064, .i32⟩
  | 67 => ⟨S4x8064x1, .i32⟩
  | 68 => ⟨S4x8064x1, .i32⟩
  | 69 => ⟨S4x8064x2, .i32⟩
  | 70 => ⟨S4x8064x2, .f32⟩
  | 71 => ⟨S_, .i32⟩
  | 72 => ⟨S4x8064, .i32⟩
  | 73 => ⟨S4x8064, .i1⟩
  | 74 => ⟨S_, .i32⟩
  | 75 => ⟨S4x8064, .i32⟩
  | 76 => ⟨S4x8064, .i32⟩
  | 77 => ⟨S4x8064, .i32⟩
  | 78 => ⟨S_, .i32⟩
  | 79 => ⟨S4x8064, .i32⟩
  | 80 => ⟨S4x8064, .i1⟩
  | 81 => ⟨S_, .i32⟩
  | 82 => ⟨S4x8064, .i32⟩
  | 83 => ⟨S4x8064, .i32⟩
  | 84 => ⟨S4x8064, .i32⟩
  | 85 => ⟨S4x8064x1, .i32⟩
  | 86 => ⟨S4x8064x1, .i32⟩
  | 87 => ⟨S4x8064x2, .i32⟩
  | 88 => ⟨S4x8064x2, .f32⟩
  | 89 => ⟨S_, .i32⟩
  | 90 => ⟨S4x8064, .i32⟩
  | 91 => ⟨S4x8064, .i1⟩
  | 92 => ⟨S_, .i32⟩
  | 93 => ⟨S4x8064, .i32⟩
  | 94 => ⟨S4x8064, .i32⟩
  | 95 => ⟨S4x8064, .i32⟩
  | 96 => ⟨S_, .i32⟩
  | 97 => ⟨S4x8064, .i32⟩
  | 98 => ⟨S4x8064, .i1⟩
  | 99 => ⟨S_, .i32⟩
  | 100 => ⟨S4x8064, .i32⟩
  | 101 => ⟨S4x8064, .i32⟩
  | 102 => ⟨S4x8064, .i32⟩
  | 103 => ⟨S4x8064x1, .i32⟩
  | 104 => ⟨S4x8064x1, .i32⟩
  | 105 => ⟨S4x8064x2, .i32⟩
  | 106 => ⟨S4x8064x2, .f32⟩
  | 107 => ⟨S_, .f32⟩
  | 108 => ⟨S4x8064x1, .f32⟩
  | 109 => ⟨S4x8064x1, .f32⟩
  | 110 => ⟨S4x8064x2, .f32⟩
  | 111 => ⟨S4x8064x2, .f32⟩
  | 112 => ⟨S_, .f32⟩
  | 113 => ⟨S4x8064x1, .f32⟩
  | 114 => ⟨S4x8064x1, .f32⟩
  | 115 => ⟨S4x8064x2, .f32⟩
  | 116 => ⟨S4x8064x2, .f32⟩
  | 117 => ⟨S_, .f32⟩
  | 118 => ⟨S4x8064x1, .f32⟩
  | 119 => ⟨S4x8064x1, .f32⟩
  | 120 => ⟨S4x8064x2, .f32⟩
  | 121 => ⟨S4x8064x2, .f32⟩
  | 122 => ⟨S4x8064x2, .f32⟩
  | 123 => ⟨S4x8064x2, .f32⟩
  | 124 => ⟨S4x8064x2, .f32⟩
  | 125 => ⟨S4x8064x2, .f32⟩
  | 126 => ⟨S4x8064x2, .f32⟩
  | 127 => ⟨S_, .f32⟩
  | _ => ⟨S4x64x64, .f32⟩

abbrev hbmTy0_3 (i : Nat) : BufTy := match i % 128 with
  | 0 => ⟨S4x8064x1, .f32⟩
  | 1 => ⟨S4x8064x1, .f32⟩
  | 2 => ⟨S4x8064x2, .f32⟩
  | 3 => ⟨S4x8064x2, .f32⟩
  | 4 => ⟨S4x8064x2, .f32⟩
  | 5 => ⟨S4x8064x2, .f32⟩
  | 6 => ⟨S4x8064x2, .f32⟩
  | 7 => ⟨S4x8064x2, .f32⟩
  | 8 => ⟨S4x8064x2, .f32⟩
  | 9 => ⟨S4x8064x2, .f32⟩
  | 10 => ⟨S4x8064x2, .f32⟩
  | 11 => ⟨S_, .f32⟩
  | 12 => ⟨S4x8064, .f32⟩
  | 13 => ⟨S4x8064x1, .f32⟩
  | 14 => ⟨S4x8064x1, .f32⟩
  | 15 => ⟨S_, .f32⟩
  | 16 => ⟨S4x8064x1, .f32⟩
  | 17 => ⟨S4x8064x1, .f32⟩
  | 18 => ⟨S4x8064x2, .f32⟩
  | 19 => ⟨S4x8064x2, .f32⟩
  | 20 => ⟨S4x8064x1, .i1⟩
  | 21 => ⟨S_, .f32⟩
  | 22 => ⟨S_, .f32⟩
  | 23 => ⟨S4x8064x2, .i1⟩
  | 24 => ⟨S8064x2, .f32⟩
  | 25 => ⟨S4x8064x2, .f32⟩
  | 26 => ⟨S4x8064x2, .f32⟩
  | 27 => ⟨S4x8064x1x2, .f32⟩
  | 28 => ⟨S4x1x8064x2, .f32⟩
  | 29 => ⟨S4x8064x8064x2, .f32⟩
  | 30 => ⟨S4x8064x8064x2, .f32⟩
  | 31 => ⟨S4x8064x8064x2, .f32⟩
  | 32 => ⟨S4x8064x8064x2, .f32⟩
  | 33 => ⟨S_, .f32⟩
  | 34 => ⟨S4x8064x8064, .f32⟩
  | 35 => ⟨S4x8064x8064, .f32⟩
  | 36 => ⟨S_, .f32⟩
  | 37 => ⟨S4x8064, .f32⟩
  | 38 => ⟨S4x8064x1, .f32⟩
  | 39 => ⟨S4x8064x8064, .f32⟩
  | 40 => ⟨S4x8064x8064, .i1⟩
  | 41 => ⟨S8064, .i32⟩
  | 42 => ⟨S1x8064, .i32⟩
  | 43 => ⟨S_, .i32⟩
  | 44 => ⟨S_, .i32⟩
  | 45 => ⟨S8064x8064, .i32⟩
  | 46 => ⟨S8064x8064, .i32⟩
  | 47 => ⟨S4x8064x8064, .i32⟩
  | 48 => ⟨S4x8064x8064, .i32⟩
  | 49 => ⟨S4x8064x8064, .i32⟩
  | 50 => ⟨S_, .i32⟩
  | 51 => ⟨S4x8064, .i32⟩
  | 52 => ⟨S_, .f32⟩
  | 53 => ⟨S4x8064, .f32⟩
  | 54 => ⟨S4x8064, .i1⟩
  | 55 => ⟨S4x8064, .i1⟩
  | 56 => ⟨S_, .i32⟩
  | 57 => ⟨S4x8064, .i32⟩
  | 58 => ⟨S4x8064, .i1⟩
  | 59 => ⟨S_, .i32⟩
  | 60 => ⟨S4x8064, .i32⟩
  | 61 => ⟨S4x8064, .i32⟩
  | 62 => ⟨S4x8064, .i32⟩
  | 63 => ⟨S4x8064x1, .i32⟩
  | 64 => ⟨S4x8064x2, .f32⟩
  | 65 => ⟨S4x8064x2, .f32⟩
  | 66 => ⟨S4x8064x2, .f32⟩
  | 67 => ⟨S_, .f32⟩
  | 68 => ⟨S4x8064, .f32⟩
  | 69 => ⟨S_, .f32⟩
  | 70 => ⟨S4x8064, .f32⟩
  | 71 => ⟨S4x8064, .f32⟩
  | 72 => ⟨S4x8064x1, .f32⟩
  | 73 => ⟨S4x8064, .f32⟩
  | 74 => ⟨S4x8064x1, .f32⟩
  | 75 => ⟨S4x8064, .f32⟩
  | 76 => ⟨S4x8064, .f32⟩
  | 77 => ⟨S4x8064, .i32⟩
  | 78 => ⟨S4x8064, .f32⟩
  | 79 => ⟨S4x8064, .i32⟩
  | 80 => ⟨S_, .i32⟩
  | 81 => ⟨S4x8064, .i32⟩
  | 82 => ⟨S4x8064, .i32⟩
  | 83 => ⟨S_, .i32⟩
  | 84 => ⟨S4x8064, .i32⟩
  | 85 => ⟨S4x8064, .i32⟩
  | 86 => ⟨S4x8064, .f32⟩
  | 87 => ⟨S4x8064, .f32⟩
  | 88 => ⟨S4x8064, .f32⟩
  | 89 => ⟨S4x8064, .f32⟩
  | 90 => ⟨S_, .f32⟩
  | 91 => ⟨S4x8064, .f32⟩
  | 92 => ⟨S4x8064, .f32⟩
  | 93 => ⟨S_, .f32⟩
  | 94 => ⟨S4x8064, .f32⟩
  | 95 => ⟨S4x8064, .f32⟩
  | 96 => ⟨S4x8064, .f32⟩
  | 97 => ⟨S_, .f32⟩
  | 98 => ⟨S4x8064, .f32⟩
  | 99 => ⟨S4x8064, .f32⟩
  | 100 => ⟨S4x8064, .f32⟩
  | 101 => ⟨S_, .f32⟩
  | 102 => ⟨S4x8064, .f32⟩
  | 103 => ⟨S4x8064, .f32⟩
  | 104 => ⟨S4x8064, .f32⟩
  | 105 => ⟨S4x8064, .f32⟩
  | 106 => ⟨S_, .i32⟩
  | 107 => ⟨S4x8064, .i32⟩
  | 108 => ⟨S4x8064, .i1⟩
  | 109 => ⟨S_, .i32⟩
  | 110 => ⟨S4x8064, .i32⟩
  | 111 => ⟨S4x8064, .i1⟩
  | 112 => ⟨S4x8064, .i1⟩
  | 113 => ⟨S_, .i32⟩
  | 114 => ⟨S4x8064, .i32⟩
  | 115 => ⟨S4x8064, .i1⟩
  | 116 => ⟨S4x8064, .i1⟩
  | 117 => ⟨S_, .i32⟩
  | 118 => ⟨S4x8064, .i32⟩
  | 119 => ⟨S4x8064, .i1⟩
  | 120 => ⟨S4x8064, .i1⟩
  | 121 => ⟨S4x8064, .i1⟩
  | 122 => ⟨S4x8064, .f32⟩
  | 123 => ⟨S_, .f32⟩
  | 124 => ⟨S_, .f32⟩
  | 125 => ⟨S8064, .f32⟩
  | 126 => ⟨S4x8064, .f32⟩
  | 127 => ⟨S4x8064, .f32⟩
  | _ => ⟨S4x64x64, .f32⟩

abbrev hbmTy0_4 (i : Nat) : BufTy := match i % 128 with
  | 0 => ⟨S_, .i32⟩
  | 1 => ⟨S_, .i32⟩
  | 2 => ⟨S_, .i32⟩
  | 3 => ⟨S4x8064, .i32⟩
  | 4 => ⟨S4x8064, .i32⟩
  | 5 => ⟨S_, .i32⟩
  | 6 => ⟨S4x8064, .i32⟩
  | 7 => ⟨S4x8064, .i32⟩
  | 8 => ⟨S_, .i32⟩
  | 9 => ⟨S4x8064, .i32⟩
  | 10 => ⟨S4x8064, .i32⟩
  | 11 => ⟨S_, .i32⟩
  | 12 => ⟨S_, .i32⟩
  | 13 => ⟨S_, .i32⟩
  | 14 => ⟨S4x8064, .i32⟩
  | 15 => ⟨S4x8064, .i32⟩
  | 16 => ⟨S_, .i32⟩
  | 17 => ⟨S4x8064, .i32⟩
  | 18 => ⟨S4x8064, .i32⟩
  | 19 => ⟨S4x8064, .i32⟩
  | 20 => ⟨S_, .i32⟩
  | 21 => ⟨S4x8064, .i32⟩
  | 22 => ⟨S4x8064, .i1⟩
  | 23 => ⟨S_, .i32⟩
  | 24 => ⟨S4x8064, .i32⟩
  | 25 => ⟨S4x8064, .i1⟩
  | 26 => ⟨S4x8064, .i1⟩
  | 27 => ⟨S_, .i32⟩
  | 28 => ⟨S4x8064, .i32⟩
  | 29 => ⟨S4x8064, .i1⟩
  | 30 => ⟨S4x8064, .i1⟩
  | 31 => ⟨S_, .i32⟩
  | 32 => ⟨S4x8064, .i32⟩
  | 33 => ⟨S4x8064, .i1⟩
  | 34 => ⟨S4x8064, .i1⟩
  | 35 => ⟨S4x8064, .i1⟩
  | 36 => ⟨S4x8064, .f32⟩
  | 37 => ⟨S_, .f32⟩
  | 38 => ⟨S_, .f32⟩
  | 39 => ⟨S8064, .f32⟩
  | 40 => ⟨S4x8064, .f32⟩
  | 41 => ⟨S4x8064, .f32⟩
  | 42 => ⟨S_, .i32⟩
  | 43 => ⟨S_, .i32⟩
  | 44 => ⟨S_, .i32⟩
  | 45 => ⟨S4x8064, .i32⟩
  | 46 => ⟨S4x8064, .i32⟩
  | 47 => ⟨S_, .i32⟩
  | 48 => ⟨S4x8064, .i32⟩
  | 49 => ⟨S4x8064, .i32⟩
  | 50 => ⟨S_, .i32⟩
  | 51 => ⟨S4x8064, .i32⟩
  | 52 => ⟨S4x8064, .i32⟩
  | 53 => ⟨S_, .i32⟩
  | 54 => ⟨S_, .i32⟩
  | 55 => ⟨S_, .i32⟩
  | 56 => ⟨S4x8064, .i32⟩
  | 57 => ⟨S4x8064, .i32⟩
  | 58 => ⟨S_, .i32⟩
  | 59 => ⟨S4x8064, .i32⟩
  | 60 => ⟨S4x8064, .i32⟩
  | 61 => ⟨S4x8064, .i32⟩
  | 62 => ⟨S_, .i32⟩
  | 63 => ⟨S4x8064, .i32⟩
  | 64 => ⟨S4x8064, .i1⟩
  | 65 => ⟨S_, .i32⟩
  | 66 => ⟨S4x8064, .i32⟩
  | 67 => ⟨S4x8064, .i1⟩
  | 68 => ⟨S4x8064, .i1⟩
  | 69 => ⟨S_, .i32⟩
  | 70 => ⟨S4x8064, .i32⟩
  | 71 => ⟨S4x8064, .i1⟩
  | 72 => ⟨S4x8064, .i1⟩
  | 73 => ⟨S_, .i32⟩
  | 74 => ⟨S4x8064, .i32⟩
  | 75 => ⟨S4x8064, .i1⟩
  | 76 => ⟨S4x8064, .i1⟩
  | 77 => ⟨S4x8064, .i1⟩
  | 78 => ⟨S4x8064, .f32⟩
  | 79 => ⟨S_, .f32⟩
  | 80 => ⟨S_, .f32⟩
  | 81 => ⟨S8064, .f32⟩
  | 82 => ⟨S4x8064, .f32⟩
  | 83 => ⟨S4x8064, .f32⟩
  | 84 => ⟨S_, .i32⟩
  | 85 => ⟨S_, .i32⟩
  | 86 => ⟨S_, .i32⟩
  | 87 => ⟨S4x8064, .i32⟩
  | 88 => ⟨S4x8064, .i32⟩
  | 89 => ⟨S_, .i32⟩
  | 90 => ⟨S4x8064, .i32⟩
  | 91 => ⟨S4x8064, .i32⟩
  | 92 => ⟨S_, .i32⟩
  | 93 => ⟨S4x8064, .i32⟩
  | 94 => ⟨S4x8064, .i32⟩
  | 95 => ⟨S_, .i32⟩
  | 96 => ⟨S_, .i32⟩
  | 97 => ⟨S_, .i32⟩
  | 98 => ⟨S4x8064, .i32⟩
  | 99 => ⟨S4x8064, .i32⟩
  | 100 => ⟨S_, .i32⟩
  | 101 => ⟨S4x8064, .i32⟩
  | 102 => ⟨S4x8064, .i32⟩
  | 103 => ⟨S4x8064, .i32⟩
  | 104 => ⟨S_, .i32⟩
  | 105 => ⟨S4x8064, .i32⟩
  | 106 => ⟨S4x8064, .i1⟩
  | 107 => ⟨S_, .i32⟩
  | 108 => ⟨S4x8064, .i32⟩
  | 109 => ⟨S4x8064, .i1⟩
  | 110 => ⟨S4x8064, .i1⟩
  | 111 => ⟨S_, .i32⟩
  | 112 => ⟨S4x8064, .i32⟩
  | 113 => ⟨S4x8064, .i1⟩
  | 114 => ⟨S4x8064, .i1⟩
  | 115 => ⟨S_, .i32⟩
  | 116 => ⟨S4x8064, .i32⟩
  | 117 => ⟨S4x8064, .i1⟩
  | 118 => ⟨S4x8064, .i1⟩
  | 119 => ⟨S4x8064, .i1⟩
  | 120 => ⟨S4x8064, .f32⟩
  | 121 => ⟨S_, .f32⟩
  | 122 => ⟨S_, .f32⟩
  | 123 => ⟨S8064, .f32⟩
  | 124 => ⟨S4x8064, .f32⟩
  | 125 => ⟨S4x8064, .f32⟩
  | 126 => ⟨S_, .i32⟩
  | 127 => ⟨S_, .i32⟩
  | _ => ⟨S4x64x64, .f32⟩

abbrev hbmTy0_5 (i : Nat) : BufTy := match i % 128 with
  | 0 => ⟨S_, .i32⟩
  | 1 => ⟨S4x8064, .i32⟩
  | 2 => ⟨S4x8064, .i32⟩
  | 3 => ⟨S_, .i32⟩
  | 4 => ⟨S4x8064, .i32⟩
  | 5 => ⟨S4x8064, .i32⟩
  | 6 => ⟨S_, .i32⟩
  | 7 => ⟨S4x8064, .i32⟩
  | 8 => ⟨S4x8064, .i32⟩
  | 9 => ⟨S_, .i32⟩
  | 10 => ⟨S_, .i32⟩
  | 11 => ⟨S_, .i32⟩
  | 12 => ⟨S4x8064, .i32⟩
  | 13 => ⟨S4x8064, .i32⟩
  | 14 => ⟨S_, .i32⟩
  | 15 => ⟨S4x8064, .i32⟩
  | 16 => ⟨S4x8064, .i32⟩
  | 17 => ⟨S4x8064, .i32⟩
  | 18 => ⟨S4x8064x1, .f32⟩
  | 19 => ⟨S4x8064, .f32⟩
  | 20 => ⟨S4x8064x1, .f32⟩
  | 21 => ⟨S4x8064, .f32⟩
  | 22 => ⟨S4x8064, .f32⟩
  | 23 => ⟨S4x8064, .i32⟩
  | 24 => ⟨S4x8064, .f32⟩
  | 25 => ⟨S4x8064, .i32⟩
  | 26 => ⟨S4x8064, .f32⟩
  | 27 => ⟨S4x8064, .f32⟩
  | 28 => ⟨S4x8064x1, .f32⟩
  | 29 => ⟨S4x8064, .f32⟩
  | 30 => ⟨S4x8064, .f32⟩
  | 31 => ⟨S4x8064x1, .f32⟩
  | 32 => ⟨S_, .i32⟩
  | 33 => ⟨S_, .i32⟩
  | 34 => ⟨S_, .i32⟩
  | 35 => ⟨S4x8064, .i32⟩
  | 36 => ⟨S4x8064, .i32⟩
  | 37 => ⟨S_, .i32⟩
  | 38 => ⟨S4x8064, .i32⟩
  | 39 => ⟨S4x8064, .i32⟩
  | 40 => ⟨S_, .i32⟩
  | 41 => ⟨S4x8064, .i32⟩
  | 42 => ⟨S4x8064, .i32⟩
  | 43 => ⟨S_, .i32⟩
  | 44 => ⟨S_, .i32⟩
  | 45 => ⟨S_, .i32⟩
  | 46 => ⟨S4x8064, .i32⟩
  | 47 => ⟨S4x8064, .i32⟩
  | 48 => ⟨S_, .i32⟩
  | 49 => ⟨S4x8064, .i32⟩
  | 50 => ⟨S4x8064, .i32⟩
  | 51 => ⟨S_, .i32⟩
  | 52 => ⟨S_, .i32⟩
  | 53 => ⟨S_, .i32⟩
  | 54 => ⟨S4x8064, .i32⟩
  | 55 => ⟨S4x8064, .i32⟩
  | 56 => ⟨S_, .i32⟩
  | 57 => ⟨S4x8064, .i32⟩
  | 58 => ⟨S4x8064, .i32⟩
  | 59 => ⟨S_, .i32⟩
  | 60 => ⟨S4x8064, .i32⟩
  | 61 => ⟨S4x8064, .i32⟩
  | 62 => ⟨S_, .i32⟩
  | 63 => ⟨S_, .i32⟩
  | 64 => ⟨S_, .i32⟩
  | 65 => ⟨S4x8064, .i32⟩
  | 66 => ⟨S4x8064, .i32⟩
  | 67 => ⟨S_, .i32⟩
  | 68 => ⟨S4x8064, .i32⟩
  | 69 => ⟨S4x8064, .i32⟩
  | 70 => ⟨S_, .i32⟩
  | 71 => ⟨S4x8064, .i32⟩
  | 72 => ⟨S4x8064, .i1⟩
  | 73 => ⟨S_, .i32⟩
  | 74 => ⟨S4x8064, .i32⟩
  | 75 => ⟨S4x8064, .i32⟩
  | 76 => ⟨S4x8064, .i32⟩
  | 77 => ⟨S_, .i32⟩
  | 78 => ⟨S4x8064, .i32⟩
  | 79 => ⟨S4x8064, .i1⟩
  | 80 => ⟨S_, .i32⟩
  | 81 => ⟨S4x8064, .i32⟩
  | 82 => ⟨S4x8064, .i32⟩
  | 83 => ⟨S4x8064, .i32⟩
  | 84 => ⟨S4x8064x1, .i32⟩
  | 85 => ⟨S4x8064x1, .i32⟩
  | 86 => ⟨S4x8064x2, .i32⟩
  | 87 => ⟨S4x8064, .f32⟩
  | 88 => ⟨S4x8064x1, .f32⟩
  | 89 => ⟨S_, .i32⟩
  | 90 => ⟨S4x8064, .i32⟩
  | 91 => ⟨S4x8064, .i1⟩
  | 92 => ⟨S_, .i32⟩
  | 93 => ⟨S4x8064, .i32⟩
  | 94 => ⟨S4x8064, .i32⟩
  | 95 => ⟨S4x8064, .i32⟩
  | 96 => ⟨S_, .i32⟩
  | 97 => ⟨S4x8064, .i32⟩
  | 98 => ⟨S4x8064, .i1⟩
  | 99 => ⟨S_, .i32⟩
  | 100 => ⟨S4x8064, .i32⟩
  | 101 => ⟨S4x8064, .i32⟩
  | 102 => ⟨S4x8064, .i32⟩
  | 103 => ⟨S4x8064x1, .i32⟩
  | 104 => ⟨S4x8064x1, .i32⟩
  | 105 => ⟨S4x8064x2, .i32⟩
  | 106 => ⟨S4x8064, .f32⟩
  | 107 => ⟨S4x8064x1, .f32⟩
  | 108 => ⟨S_, .i32⟩
  | 109 => ⟨S4x8064, .i32⟩
  | 110 => ⟨S4x8064, .i1⟩
  | 111 => ⟨S_, .i32⟩
  | 112 => ⟨S4x8064, .i32⟩
  | 113 => ⟨S4x8064, .i32⟩
  | 114 => ⟨S4x8064, .i32⟩
  | 115 => ⟨S_, .i32⟩
  | 116 => ⟨S4x8064, .i32⟩
  | 117 => ⟨S4x8064, .i1⟩
  | 118 => ⟨S_, .i32⟩
  | 119 => ⟨S4x8064, .i32⟩
  | 120 => ⟨S4x8064, .i32⟩
  | 121 => ⟨S4x8064, .i32⟩
  | 122 => ⟨S4x8064x1, .i32⟩
  | 123 => ⟨S4x8064x1, .i32⟩
  | 124 => ⟨S4x8064x2, .i32⟩
  | 125 => ⟨S4x8064, .f32⟩
  | 126 => ⟨S4x8064x1, .f32⟩
  | 127 => ⟨S_, .i32⟩
  | _ => ⟨S4x64x64, .f32⟩

abbrev hbmTy0_6 (i : Nat) : BufTy := match i % 128 with
  | 0 => ⟨S4x8064, .i32⟩
  | 1 => ⟨S4x8064, .i1⟩
  | 2 => ⟨S_, .i32⟩
  | 3 => ⟨S4x8064, .i32⟩
  | 4 => ⟨S4x8064, .i32⟩
  | 5 => ⟨S4x8064, .i32⟩
  | 6 => ⟨S_, .i32⟩
  | 7 => ⟨S4x8064, .i32⟩
  | 8 => ⟨S4x8064, .i1⟩
  | 9 => ⟨S_, .i32⟩
  | 10 => ⟨S4x8064, .i32⟩
  | 11 => ⟨S4x8064, .i32⟩
  | 12 => ⟨S4x8064, .i32⟩
  | 13 => ⟨S4x8064x1, .i32⟩
  | 14 => ⟨S4x8064x1, .i32⟩
  | 15 => ⟨S4x8064x2, .i32⟩
  | 16 => ⟨S4x8064, .f32⟩
  | 17 => ⟨S4x8064x1, .f32⟩
  | 18 => ⟨S_, .f32⟩
  | 19 => ⟨S4x8064x1, .f32⟩
  | 20 => ⟨S4x8064x1, .f32⟩
  | 21 => ⟨S4x8064x1, .f32⟩
  | 22 => ⟨S_, .f32⟩
  | 23 => ⟨S4x8064x1, .f32⟩
  | 24 => ⟨S4x8064x1, .f32⟩
  | 25 => ⟨S4x8064x1, .f32⟩
  | 26 => ⟨S_, .f32⟩
  | 27 => ⟨S4x8064x1, .f32⟩
  | 28 => ⟨S4x8064x1, .f32⟩
  | 29 => ⟨S4x8064x1, .f32⟩
  | 30 => ⟨S4x8064x1, .f32⟩
  | 31 => ⟨S4x8064x1, .f32⟩
  | 32 => ⟨S4x8064x1, .f32⟩
  | 33 => ⟨S_, .f32⟩
  | 34 => ⟨S4x8064x1, .f32⟩
  | 35 => ⟨S4x8064x1, .f32⟩
  | 36 => ⟨S4x8064x1, .f32⟩
  | 37 => ⟨S4x8064x1, .f32⟩
  | 38 => ⟨S4x8064x1, .f32⟩
  | 39 => ⟨S4x8064x1, .f32⟩
  | 40 => ⟨S4x8064x1, .f32⟩
  | 41 => ⟨S4x8064, .f32⟩
  | 42 => ⟨S_, .f32⟩
  | 43 => ⟨S_, .f32⟩
  | 44 => ⟨S8064, .f32⟩
  | 45 => ⟨S4x8064, .f32⟩
  | 46 => ⟨S4x8064, .f32⟩
  | 47 => ⟨S4, .i32⟩
  | 48 => ⟨S4x1, .i32⟩
  | 49 => ⟨S_, .f32⟩
  | 50 => ⟨S4x4096, .f32⟩
  | 51 => ⟨S_, .i32⟩
  | 52 => ⟨S4x1, .i32⟩
  | 53 => ⟨S4x1, .i1⟩
  | 54 => ⟨S_, .i32⟩
  | 55 => ⟨S4x1, .i32⟩
  | 56 => ⟨S4x1, .i32⟩
  | 57 => ⟨S4x1, .i32⟩
  | 58 => ⟨S_, .i32⟩
  | 59 => ⟨S4x8064, .i32⟩
  | 60 => ⟨S4x8064, .i1⟩
  | 61 => ⟨S_, .i32⟩
  | 62 => ⟨S4x8064, .i32⟩
  | 63 => ⟨S4x8064, .i32⟩
  | 64 => ⟨S4x8064, .i32⟩
  | 65 => ⟨S4x8064, .i32⟩
  | 66 => ⟨S4x8064x1, .i32⟩
  | 67 => ⟨S4x8064x1, .i32⟩
  | 68 => ⟨S4x8064x2, .i32⟩
  | 69 => ⟨S4x4096, .f32⟩
  | 70 => ⟨S_, .i32⟩
  | 71 => ⟨S4x1, .i32⟩
  | 72 => ⟨S4x1, .i1⟩
  | 73 => ⟨S_, .i32⟩
  | 74 => ⟨S4x1, .i32⟩
  | 75 => ⟨S4x1, .i32⟩
  | 76 => ⟨S4x1, .i32⟩
  | 77 => ⟨S_, .i32⟩
  | 78 => ⟨S4x8064, .i32⟩
  | 79 => ⟨S4x8064, .i1⟩
  | 80 => ⟨S_, .i32⟩
  | 81 => ⟨S4x8064, .i32⟩
  | 82 => ⟨S4x8064, .i32⟩
  | 83 => ⟨S4x8064, .i32⟩
  | 84 => ⟨S4x8064, .i32⟩
  | 85 => ⟨S4x8064x1, .i32⟩
  | 86 => ⟨S4x8064x1, .i32⟩
  | 87 => ⟨S4x8064x2, .i32⟩
  | 88 => ⟨S4x4096, .f32⟩
  | 89 => ⟨S_, .i32⟩
  | 90 => ⟨S4x1, .i32⟩
  | 91 => ⟨S4x1, .i1⟩
  | 92 => ⟨S_, .i32⟩
  | 93 => ⟨S4x1, .i32⟩
  | 94 => ⟨S4x1, .i32⟩
  | 95 => ⟨S4x1, .i32⟩
  | 96 => ⟨S_, .i32⟩
  | 97 => ⟨S4x8064, .i32⟩
  | 98 => ⟨S4x8064, .i1⟩
  | 99 => ⟨S_, .i32⟩
  | 100 => ⟨S4x8064, .i32⟩
  | 101 => ⟨S4x8064, .i32⟩
  | 102 => ⟨S4x8064, .i32⟩
  | 103 => ⟨S4x8064, .i32⟩
  | 104 => ⟨S4x8064x1, .i32⟩
  | 105 => ⟨S4x8064x1, .i32⟩
  | 106 => ⟨S4x8064x2, .i32⟩
  | 107 => ⟨S4x4096, .f32⟩
  | 108 => ⟨S_, .i32⟩
  | 109 => ⟨S4x1, .i32⟩
  | 110 => ⟨S4x1, .i1⟩
  | 111 => ⟨S_, .i32⟩
  | 112 => ⟨S4x1, .i32⟩
  | 113 => ⟨S4x1, .i32⟩
  | 114 => ⟨S4x1, .i32⟩
  | 115 => ⟨S_, .i32⟩
  | 116 => ⟨S4x8064, .i32⟩
  | 117 => ⟨S4x8064, .i1⟩
  | 118 => ⟨S_, .i32⟩
  | 119 => ⟨S4x8064, .i32⟩
  | 120 => ⟨S4x8064, .i32⟩
  | 121 => ⟨S4x8064, .i32⟩
  | 122 => ⟨S4x8064, .i32⟩
  | 123 => ⟨S4x8064x1, .i32⟩
  | 124 => ⟨S4x8064x1, .i32⟩
  | 125 => ⟨S4x8064x2, .i32⟩
  | 126 => ⟨S4x4096, .f32⟩
  | 127 => ⟨S4x64x64, .f32⟩
  | _ => ⟨S4x64x64, .f32⟩

abbrev hbmTy0_7 (i : Nat) : BufTy := match i % 128 with
  | 0 => ⟨S4x64x64, .f32⟩
  | 1 => ⟨S_, .f32⟩
  | 2 => ⟨S4, .f32⟩
  | 3 => ⟨S_, .f32⟩
  | 4 => ⟨S_, .f32⟩
  | 5 => ⟨S_, .f32⟩
  | 6 => ⟨S_, .f32⟩
  | 7 => ⟨S_, .f32⟩
  | 8 => ⟨S4, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S4x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4x64x64, .f32⟩

abbrev bufTy : (tb : Table) → Fin (tcTables nBuf tb) → BufTy
  | .hbm, ⟨i, _⟩ => hbmTy i
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_v33 : Ref sig .tc := ⟨.hbm, 41, rfl⟩
abbrev main_call1_v0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_8 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_call2_v0 : Ref sig .tc := ⟨.hbm, 91, rfl⟩
abbrev main_v77 : Ref sig .tc := ⟨.hbm, 92, rfl⟩
abbrev main_call3_v0 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_9 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_11 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_cst_12 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_cst_13 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_call4_v0 : Ref sig .tc := ⟨.hbm, 144, rfl⟩
abbrev main_v123 : Ref sig .tc := ⟨.hbm, 145, rfl⟩
abbrev main_call5_v0 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_14 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_cst_15 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_cst_16 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_cst_17 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_cst_18 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_call6_v0 : Ref sig .tc := ⟨.hbm, 195, rfl⟩
abbrev main_v167 : Ref sig .tc := ⟨.hbm, 196, rfl⟩
abbrev main_call7_v0 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_cst_19 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_cst_20 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_c : Ref sig .tc := ⟨.hbm, 247, rfl⟩
abbrev main_c_21 : Ref sig .tc := ⟨.hbm, 248, rfl⟩
abbrev main_call8_v0 : Ref sig .tc := ⟨.hbm, 249, rfl⟩
abbrev main_call8_v1 : Ref sig .tc := ⟨.hbm, 250, rfl⟩
abbrev main_call8_v2 : Ref sig .tc := ⟨.hbm, 251, rfl⟩
abbrev main_call8_v3 : Ref sig .tc := ⟨.hbm, 252, rfl⟩
abbrev main_call8_v4 : Ref sig .tc := ⟨.hbm, 253, rfl⟩
abbrev main_v215 : Ref sig .tc := ⟨.hbm, 254, rfl⟩
abbrev main_c_22 : Ref sig .tc := ⟨.hbm, 255, rfl⟩
abbrev main_c_23 : Ref sig .tc := ⟨.hbm, 256, rfl⟩
abbrev main_call9_v0 : Ref sig .tc := ⟨.hbm, 257, rfl⟩
abbrev main_call9_v1 : Ref sig .tc := ⟨.hbm, 258, rfl⟩
abbrev main_call9_v2 : Ref sig .tc := ⟨.hbm, 259, rfl⟩
abbrev main_call9_v3 : Ref sig .tc := ⟨.hbm, 260, rfl⟩
abbrev main_call9_v4 : Ref sig .tc := ⟨.hbm, 261, rfl⟩
abbrev main_v216 : Ref sig .tc := ⟨.hbm, 262, rfl⟩
abbrev main_c_24 : Ref sig .tc := ⟨.hbm, 263, rfl⟩
abbrev main_v217 : Ref sig .tc := ⟨.hbm, 264, rfl⟩
abbrev main_v218 : Ref sig .tc := ⟨.hbm, 265, rfl⟩
abbrev main_c_25 : Ref sig .tc := ⟨.hbm, 266, rfl⟩
abbrev main_c_26 : Ref sig .tc := ⟨.hbm, 267, rfl⟩
abbrev main_call10_v0 : Ref sig .tc := ⟨.hbm, 268, rfl⟩
abbrev main_call10_v1 : Ref sig .tc := ⟨.hbm, 269, rfl⟩
abbrev main_call10_v2 : Ref sig .tc := ⟨.hbm, 270, rfl⟩
abbrev main_call10_v3 : Ref sig .tc := ⟨.hbm, 271, rfl⟩
abbrev main_call10_v4 : Ref sig .tc := ⟨.hbm, 272, rfl⟩
abbrev main_v219 : Ref sig .tc := ⟨.hbm, 273, rfl⟩
abbrev main_c_27 : Ref sig .tc := ⟨.hbm, 274, rfl⟩
abbrev main_v220 : Ref sig .tc := ⟨.hbm, 275, rfl⟩
abbrev main_v221 : Ref sig .tc := ⟨.hbm, 276, rfl⟩
abbrev main_c_28 : Ref sig .tc := ⟨.hbm, 277, rfl⟩
abbrev main_c_29 : Ref sig .tc := ⟨.hbm, 278, rfl⟩
abbrev main_call11_v0 : Ref sig .tc := ⟨.hbm, 279, rfl⟩
abbrev main_call11_v1 : Ref sig .tc := ⟨.hbm, 280, rfl⟩
abbrev main_call11_v2 : Ref sig .tc := ⟨.hbm, 281, rfl⟩
abbrev main_call11_v3 : Ref sig .tc := ⟨.hbm, 282, rfl⟩
abbrev main_call11_v4 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_c_30 : Ref sig .tc := ⟨.hbm, 291, rfl⟩
abbrev main_v229 : Ref sig .tc := ⟨.hbm, 292, rfl⟩
abbrev main_v230 : Ref sig .tc := ⟨.hbm, 293, rfl⟩
abbrev main_c_31 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_c_32 : Ref sig .tc := ⟨.hbm, 298, rfl⟩
abbrev main_v234 : Ref sig .tc := ⟨.hbm, 299, rfl⟩
abbrev main_v235 : Ref sig .tc := ⟨.hbm, 300, rfl⟩
abbrev main_c_33 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_c_34 : Ref sig .tc := ⟨.hbm, 309, rfl⟩
abbrev main_v243 : Ref sig .tc := ⟨.hbm, 310, rfl⟩
abbrev main_v244 : Ref sig .tc := ⟨.hbm, 311, rfl⟩
abbrev main_c_35 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_c_36 : Ref sig .tc := ⟨.hbm, 316, rfl⟩
abbrev main_v248 : Ref sig .tc := ⟨.hbm, 317, rfl⟩
abbrev main_v249 : Ref sig .tc := ⟨.hbm, 318, rfl⟩
abbrev main_c_37 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_c_38 : Ref sig .tc := ⟨.hbm, 327, rfl⟩
abbrev main_v257 : Ref sig .tc := ⟨.hbm, 328, rfl⟩
abbrev main_v258 : Ref sig .tc := ⟨.hbm, 329, rfl⟩
abbrev main_c_39 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_c_40 : Ref sig .tc := ⟨.hbm, 334, rfl⟩
abbrev main_v262 : Ref sig .tc := ⟨.hbm, 335, rfl⟩
abbrev main_v263 : Ref sig .tc := ⟨.hbm, 336, rfl⟩
abbrev main_c_41 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_c_42 : Ref sig .tc := ⟨.hbm, 345, rfl⟩
abbrev main_v271 : Ref sig .tc := ⟨.hbm, 346, rfl⟩
abbrev main_v272 : Ref sig .tc := ⟨.hbm, 347, rfl⟩
abbrev main_c_43 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_c_44 : Ref sig .tc := ⟨.hbm, 352, rfl⟩
abbrev main_v276 : Ref sig .tc := ⟨.hbm, 353, rfl⟩
abbrev main_v277 : Ref sig .tc := ⟨.hbm, 354, rfl⟩
abbrev main_c_45 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_cst_46 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_cst_47 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_cst_48 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_cst_49 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_v311 : Ref sig .tc := ⟨.hbm, 393, rfl⟩
abbrev main_call12_v0 : Ref sig .tc := ⟨.hbm, 394, rfl⟩
abbrev main_call12_cst : Ref sig .tc := ⟨.hbm, 395, rfl⟩
abbrev main_call12_v1 : Ref sig .tc := ⟨.hbm, 396, rfl⟩
abbrev main_call12_v2 : Ref sig .tc := ⟨.hbm, 397, rfl⟩
abbrev main_v312 : Ref sig .tc := ⟨.hbm, 398, rfl⟩
abbrev main_cst_50 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_cst_51 : Ref sig .tc := ⟨.hbm, 405, rfl⟩
abbrev main_call13_v0 : Ref sig .tc := ⟨.hbm, 406, rfl⟩
abbrev main_call13_v1 : Ref sig .tc := ⟨.hbm, 407, rfl⟩
abbrev main_call13_v2 : Ref sig .tc := ⟨.hbm, 408, rfl⟩
abbrev main_call13_v3 : Ref sig .tc := ⟨.hbm, 409, rfl⟩
abbrev main_v318 : Ref sig .tc := ⟨.hbm, 410, rfl⟩
abbrev main_v319 : Ref sig .tc := ⟨.hbm, 411, rfl⟩
abbrev main_v320 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_cst_52 : Ref sig .tc := ⟨.hbm, 417, rfl⟩
abbrev main_v325 : Ref sig .tc := ⟨.hbm, 418, rfl⟩
abbrev main_v326 : Ref sig .tc := ⟨.hbm, 419, rfl⟩
abbrev main_cst_53 : Ref sig .tc := ⟨.hbm, 420, rfl⟩
abbrev main_v327 : Ref sig .tc := ⟨.hbm, 421, rfl⟩
abbrev main_v328 : Ref sig .tc := ⟨.hbm, 422, rfl⟩
abbrev main_v329 : Ref sig .tc := ⟨.hbm, 423, rfl⟩
abbrev main_v330 : Ref sig .tc := ⟨.hbm, 424, rfl⟩
abbrev main_v331 : Ref sig .tc := ⟨.hbm, 425, rfl⟩
abbrev main_v332 : Ref sig .tc := ⟨.hbm, 426, rfl⟩
abbrev main_c_54 : Ref sig .tc := ⟨.hbm, 427, rfl⟩
abbrev main_call14_v0 : Ref sig .tc := ⟨.hbm, 428, rfl⟩
abbrev main_call14_v1 : Ref sig .tc := ⟨.hbm, 429, rfl⟩
abbrev main_call14_v2 : Ref sig .tc := ⟨.hbm, 430, rfl⟩
abbrev main_call14_v3 : Ref sig .tc := ⟨.hbm, 431, rfl⟩
abbrev main_call14_v4 : Ref sig .tc := ⟨.hbm, 432, rfl⟩
abbrev main_v333 : Ref sig .tc := ⟨.hbm, 433, rfl⟩
abbrev main_c_55 : Ref sig .tc := ⟨.hbm, 434, rfl⟩
abbrev main_v334 : Ref sig .tc := ⟨.hbm, 435, rfl⟩
abbrev main_cst_56 : Ref sig .tc := ⟨.hbm, 436, rfl⟩
abbrev main_v335 : Ref sig .tc := ⟨.hbm, 437, rfl⟩
abbrev main_v336 : Ref sig .tc := ⟨.hbm, 438, rfl⟩
abbrev main_v337 : Ref sig .tc := ⟨.hbm, 439, rfl⟩
abbrev main_c_57 : Ref sig .tc := ⟨.hbm, 440, rfl⟩
abbrev main_v338 : Ref sig .tc := ⟨.hbm, 441, rfl⟩
abbrev main_v339 : Ref sig .tc := ⟨.hbm, 442, rfl⟩
abbrev main_c_58 : Ref sig .tc := ⟨.hbm, 443, rfl⟩
abbrev main_v340 : Ref sig .tc := ⟨.hbm, 444, rfl⟩
abbrev main_v341 : Ref sig .tc := ⟨.hbm, 445, rfl⟩
abbrev main_v342 : Ref sig .tc := ⟨.hbm, 446, rfl⟩
abbrev main_v343 : Ref sig .tc := ⟨.hbm, 447, rfl⟩
abbrev main_v344 : Ref sig .tc := ⟨.hbm, 448, rfl⟩
abbrev main_v345 : Ref sig .tc := ⟨.hbm, 449, rfl⟩
abbrev main_v346 : Ref sig .tc := ⟨.hbm, 450, rfl⟩
abbrev main_cst_59 : Ref sig .tc := ⟨.hbm, 451, rfl⟩
abbrev main_v347 : Ref sig .tc := ⟨.hbm, 452, rfl⟩
abbrev main_cst_60 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_v351 : Ref sig .tc := ⟨.hbm, 457, rfl⟩
abbrev main_v352 : Ref sig .tc := ⟨.hbm, 458, rfl⟩
abbrev main_v353 : Ref sig .tc := ⟨.hbm, 459, rfl⟩
abbrev main_v354 : Ref sig .tc := ⟨.hbm, 460, rfl⟩
abbrev main_v355 : Ref sig .tc := ⟨.hbm, 461, rfl⟩
abbrev main_v356 : Ref sig .tc := ⟨.hbm, 462, rfl⟩
abbrev main_v357 : Ref sig .tc := ⟨.hbm, 463, rfl⟩
abbrev main_c_61 : Ref sig .tc := ⟨.hbm, 464, rfl⟩
abbrev main_v358 : Ref sig .tc := ⟨.hbm, 465, rfl⟩
abbrev main_v359 : Ref sig .tc := ⟨.hbm, 466, rfl⟩
abbrev main_c_62 : Ref sig .tc := ⟨.hbm, 467, rfl⟩
abbrev main_v360 : Ref sig .tc := ⟨.hbm, 468, rfl⟩
abbrev main_v361 : Ref sig .tc := ⟨.hbm, 469, rfl⟩
abbrev main_v362 : Ref sig .tc := ⟨.hbm, 470, rfl⟩
abbrev main_v363 : Ref sig .tc := ⟨.hbm, 471, rfl⟩
abbrev main_v364 : Ref sig .tc := ⟨.hbm, 472, rfl⟩
abbrev main_v365 : Ref sig .tc := ⟨.hbm, 473, rfl⟩
abbrev main_cst_63 : Ref sig .tc := ⟨.hbm, 474, rfl⟩
abbrev main_v366 : Ref sig .tc := ⟨.hbm, 475, rfl⟩
abbrev main_v367 : Ref sig .tc := ⟨.hbm, 476, rfl⟩
abbrev main_cst_64 : Ref sig .tc := ⟨.hbm, 477, rfl⟩
abbrev main_v368 : Ref sig .tc := ⟨.hbm, 478, rfl⟩
abbrev main_v369 : Ref sig .tc := ⟨.hbm, 479, rfl⟩
abbrev main_v370 : Ref sig .tc := ⟨.hbm, 480, rfl⟩
abbrev main_cst_65 : Ref sig .tc := ⟨.hbm, 481, rfl⟩
abbrev main_v371 : Ref sig .tc := ⟨.hbm, 482, rfl⟩
abbrev main_v372 : Ref sig .tc := ⟨.hbm, 483, rfl⟩
abbrev main_v373 : Ref sig .tc := ⟨.hbm, 484, rfl⟩
abbrev main_cst_66 : Ref sig .tc := ⟨.hbm, 485, rfl⟩
abbrev main_v374 : Ref sig .tc := ⟨.hbm, 486, rfl⟩
abbrev main_v375 : Ref sig .tc := ⟨.hbm, 487, rfl⟩
abbrev main_v376 : Ref sig .tc := ⟨.hbm, 488, rfl⟩
abbrev main_v377 : Ref sig .tc := ⟨.hbm, 489, rfl⟩
abbrev main_c_67 : Ref sig .tc := ⟨.hbm, 490, rfl⟩
abbrev main_v378 : Ref sig .tc := ⟨.hbm, 491, rfl⟩
abbrev main_v379 : Ref sig .tc := ⟨.hbm, 492, rfl⟩
abbrev main_c_68 : Ref sig .tc := ⟨.hbm, 493, rfl⟩
abbrev main_v380 : Ref sig .tc := ⟨.hbm, 494, rfl⟩
abbrev main_v381 : Ref sig .tc := ⟨.hbm, 495, rfl⟩
abbrev main_v382 : Ref sig .tc := ⟨.hbm, 496, rfl⟩
abbrev main_c_69 : Ref sig .tc := ⟨.hbm, 497, rfl⟩
abbrev main_v383 : Ref sig .tc := ⟨.hbm, 498, rfl⟩
abbrev main_v384 : Ref sig .tc := ⟨.hbm, 499, rfl⟩
abbrev main_v385 : Ref sig .tc := ⟨.hbm, 500, rfl⟩
abbrev main_c_70 : Ref sig .tc := ⟨.hbm, 501, rfl⟩
abbrev main_v386 : Ref sig .tc := ⟨.hbm, 502, rfl⟩
abbrev main_v387 : Ref sig .tc := ⟨.hbm, 503, rfl⟩
abbrev main_v388 : Ref sig .tc := ⟨.hbm, 504, rfl⟩
abbrev main_v389 : Ref sig .tc := ⟨.hbm, 505, rfl⟩
abbrev main_v390 : Ref sig .tc := ⟨.hbm, 506, rfl⟩
abbrev main_cst_71 : Ref sig .tc := ⟨.hbm, 507, rfl⟩
abbrev main_call15_v0 : Ref sig .tc := ⟨.hbm, 508, rfl⟩
abbrev main_call15_v1 : Ref sig .tc := ⟨.hbm, 509, rfl⟩
abbrev main_call15_v2 : Ref sig .tc := ⟨.hbm, 510, rfl⟩
abbrev main_v391 : Ref sig .tc := ⟨.hbm, 511, rfl⟩
abbrev main_c_72 : Ref sig .tc := ⟨.hbm, 512, rfl⟩
abbrev main_c_73 : Ref sig .tc := ⟨.hbm, 513, rfl⟩
abbrev main_call16_v0 : Ref sig .tc := ⟨.hbm, 514, rfl⟩
abbrev main_call16_v1 : Ref sig .tc := ⟨.hbm, 515, rfl⟩
abbrev main_call16_v2 : Ref sig .tc := ⟨.hbm, 516, rfl⟩
abbrev main_call16_v3 : Ref sig .tc := ⟨.hbm, 517, rfl⟩
abbrev main_call16_v4 : Ref sig .tc := ⟨.hbm, 518, rfl⟩
abbrev main_v392 : Ref sig .tc := ⟨.hbm, 519, rfl⟩
abbrev main_c_74 : Ref sig .tc := ⟨.hbm, 520, rfl⟩
abbrev main_v393 : Ref sig .tc := ⟨.hbm, 521, rfl⟩
abbrev main_v394 : Ref sig .tc := ⟨.hbm, 522, rfl⟩
abbrev main_c_75 : Ref sig .tc := ⟨.hbm, 523, rfl⟩
abbrev main_c_76 : Ref sig .tc := ⟨.hbm, 524, rfl⟩
abbrev main_call17_v0 : Ref sig .tc := ⟨.hbm, 525, rfl⟩
abbrev main_call17_v1 : Ref sig .tc := ⟨.hbm, 526, rfl⟩
abbrev main_call17_v2 : Ref sig .tc := ⟨.hbm, 527, rfl⟩
abbrev main_call17_v3 : Ref sig .tc := ⟨.hbm, 528, rfl⟩
abbrev main_call17_v4 : Ref sig .tc := ⟨.hbm, 529, rfl⟩
abbrev main_v395 : Ref sig .tc := ⟨.hbm, 530, rfl⟩
abbrev main_v396 : Ref sig .tc := ⟨.hbm, 531, rfl⟩
abbrev main_c_77 : Ref sig .tc := ⟨.hbm, 532, rfl⟩
abbrev main_v397 : Ref sig .tc := ⟨.hbm, 533, rfl⟩
abbrev main_v398 : Ref sig .tc := ⟨.hbm, 534, rfl⟩
abbrev main_c_78 : Ref sig .tc := ⟨.hbm, 535, rfl⟩
abbrev main_v399 : Ref sig .tc := ⟨.hbm, 536, rfl⟩
abbrev main_v400 : Ref sig .tc := ⟨.hbm, 537, rfl⟩
abbrev main_v401 : Ref sig .tc := ⟨.hbm, 538, rfl⟩
abbrev main_c_79 : Ref sig .tc := ⟨.hbm, 539, rfl⟩
abbrev main_v402 : Ref sig .tc := ⟨.hbm, 540, rfl⟩
abbrev main_v403 : Ref sig .tc := ⟨.hbm, 541, rfl⟩
abbrev main_v404 : Ref sig .tc := ⟨.hbm, 542, rfl⟩
abbrev main_c_80 : Ref sig .tc := ⟨.hbm, 543, rfl⟩
abbrev main_v405 : Ref sig .tc := ⟨.hbm, 544, rfl⟩
abbrev main_v406 : Ref sig .tc := ⟨.hbm, 545, rfl⟩
abbrev main_v407 : Ref sig .tc := ⟨.hbm, 546, rfl⟩
abbrev main_v408 : Ref sig .tc := ⟨.hbm, 547, rfl⟩
abbrev main_v409 : Ref sig .tc := ⟨.hbm, 548, rfl⟩
abbrev main_cst_81 : Ref sig .tc := ⟨.hbm, 549, rfl⟩
abbrev main_call18_v0 : Ref sig .tc := ⟨.hbm, 550, rfl⟩
abbrev main_call18_v1 : Ref sig .tc := ⟨.hbm, 551, rfl⟩
abbrev main_call18_v2 : Ref sig .tc := ⟨.hbm, 552, rfl⟩
abbrev main_v410 : Ref sig .tc := ⟨.hbm, 553, rfl⟩
abbrev main_c_82 : Ref sig .tc := ⟨.hbm, 554, rfl⟩
abbrev main_c_83 : Ref sig .tc := ⟨.hbm, 555, rfl⟩
abbrev main_call19_v0 : Ref sig .tc := ⟨.hbm, 556, rfl⟩
abbrev main_call19_v1 : Ref sig .tc := ⟨.hbm, 557, rfl⟩
abbrev main_call19_v2 : Ref sig .tc := ⟨.hbm, 558, rfl⟩
abbrev main_call19_v3 : Ref sig .tc := ⟨.hbm, 559, rfl⟩
abbrev main_call19_v4 : Ref sig .tc := ⟨.hbm, 560, rfl⟩
abbrev main_v411 : Ref sig .tc := ⟨.hbm, 561, rfl⟩
abbrev main_c_84 : Ref sig .tc := ⟨.hbm, 562, rfl⟩
abbrev main_v412 : Ref sig .tc := ⟨.hbm, 563, rfl⟩
abbrev main_v413 : Ref sig .tc := ⟨.hbm, 564, rfl⟩
abbrev main_c_85 : Ref sig .tc := ⟨.hbm, 565, rfl⟩
abbrev main_c_86 : Ref sig .tc := ⟨.hbm, 566, rfl⟩
abbrev main_call20_v0 : Ref sig .tc := ⟨.hbm, 567, rfl⟩
abbrev main_call20_v1 : Ref sig .tc := ⟨.hbm, 568, rfl⟩
abbrev main_call20_v2 : Ref sig .tc := ⟨.hbm, 569, rfl⟩
abbrev main_call20_v3 : Ref sig .tc := ⟨.hbm, 570, rfl⟩
abbrev main_call20_v4 : Ref sig .tc := ⟨.hbm, 571, rfl⟩
abbrev main_v414 : Ref sig .tc := ⟨.hbm, 572, rfl⟩
abbrev main_v415 : Ref sig .tc := ⟨.hbm, 573, rfl⟩
abbrev main_c_87 : Ref sig .tc := ⟨.hbm, 574, rfl⟩
abbrev main_v416 : Ref sig .tc := ⟨.hbm, 575, rfl⟩
abbrev main_v417 : Ref sig .tc := ⟨.hbm, 576, rfl⟩
abbrev main_c_88 : Ref sig .tc := ⟨.hbm, 577, rfl⟩
abbrev main_v418 : Ref sig .tc := ⟨.hbm, 578, rfl⟩
abbrev main_v419 : Ref sig .tc := ⟨.hbm, 579, rfl⟩
abbrev main_v420 : Ref sig .tc := ⟨.hbm, 580, rfl⟩
abbrev main_c_89 : Ref sig .tc := ⟨.hbm, 581, rfl⟩
abbrev main_v421 : Ref sig .tc := ⟨.hbm, 582, rfl⟩
abbrev main_v422 : Ref sig .tc := ⟨.hbm, 583, rfl⟩
abbrev main_v423 : Ref sig .tc := ⟨.hbm, 584, rfl⟩
abbrev main_c_90 : Ref sig .tc := ⟨.hbm, 585, rfl⟩
abbrev main_v424 : Ref sig .tc := ⟨.hbm, 586, rfl⟩
abbrev main_v425 : Ref sig .tc := ⟨.hbm, 587, rfl⟩
abbrev main_v426 : Ref sig .tc := ⟨.hbm, 588, rfl⟩
abbrev main_v427 : Ref sig .tc := ⟨.hbm, 589, rfl⟩
abbrev main_v428 : Ref sig .tc := ⟨.hbm, 590, rfl⟩
abbrev main_cst_91 : Ref sig .tc := ⟨.hbm, 591, rfl⟩
abbrev main_call21_v0 : Ref sig .tc := ⟨.hbm, 592, rfl⟩
abbrev main_call21_v1 : Ref sig .tc := ⟨.hbm, 593, rfl⟩
abbrev main_call21_v2 : Ref sig .tc := ⟨.hbm, 594, rfl⟩
abbrev main_v429 : Ref sig .tc := ⟨.hbm, 595, rfl⟩
abbrev main_c_92 : Ref sig .tc := ⟨.hbm, 596, rfl⟩
abbrev main_c_93 : Ref sig .tc := ⟨.hbm, 597, rfl⟩
abbrev main_call22_v0 : Ref sig .tc := ⟨.hbm, 598, rfl⟩
abbrev main_call22_v1 : Ref sig .tc := ⟨.hbm, 599, rfl⟩
abbrev main_call22_v2 : Ref sig .tc := ⟨.hbm, 600, rfl⟩
abbrev main_call22_v3 : Ref sig .tc := ⟨.hbm, 601, rfl⟩
abbrev main_call22_v4 : Ref sig .tc := ⟨.hbm, 602, rfl⟩
abbrev main_v430 : Ref sig .tc := ⟨.hbm, 603, rfl⟩
abbrev main_c_94 : Ref sig .tc := ⟨.hbm, 604, rfl⟩
abbrev main_v431 : Ref sig .tc := ⟨.hbm, 605, rfl⟩
abbrev main_v432 : Ref sig .tc := ⟨.hbm, 606, rfl⟩
abbrev main_c_95 : Ref sig .tc := ⟨.hbm, 607, rfl⟩
abbrev main_c_96 : Ref sig .tc := ⟨.hbm, 608, rfl⟩
abbrev main_call23_v0 : Ref sig .tc := ⟨.hbm, 609, rfl⟩
abbrev main_call23_v1 : Ref sig .tc := ⟨.hbm, 610, rfl⟩
abbrev main_call23_v2 : Ref sig .tc := ⟨.hbm, 611, rfl⟩
abbrev main_call23_v3 : Ref sig .tc := ⟨.hbm, 612, rfl⟩
abbrev main_call23_v4 : Ref sig .tc := ⟨.hbm, 613, rfl⟩
abbrev main_v433 : Ref sig .tc := ⟨.hbm, 614, rfl⟩
abbrev main_v434 : Ref sig .tc := ⟨.hbm, 615, rfl⟩
abbrev main_c_97 : Ref sig .tc := ⟨.hbm, 616, rfl⟩
abbrev main_v435 : Ref sig .tc := ⟨.hbm, 617, rfl⟩
abbrev main_v436 : Ref sig .tc := ⟨.hbm, 618, rfl⟩
abbrev main_c_98 : Ref sig .tc := ⟨.hbm, 619, rfl⟩
abbrev main_v437 : Ref sig .tc := ⟨.hbm, 620, rfl⟩
abbrev main_v438 : Ref sig .tc := ⟨.hbm, 621, rfl⟩
abbrev main_v439 : Ref sig .tc := ⟨.hbm, 622, rfl⟩
abbrev main_c_99 : Ref sig .tc := ⟨.hbm, 623, rfl⟩
abbrev main_v440 : Ref sig .tc := ⟨.hbm, 624, rfl⟩
abbrev main_v441 : Ref sig .tc := ⟨.hbm, 625, rfl⟩
abbrev main_v442 : Ref sig .tc := ⟨.hbm, 626, rfl⟩
abbrev main_c_100 : Ref sig .tc := ⟨.hbm, 627, rfl⟩
abbrev main_v443 : Ref sig .tc := ⟨.hbm, 628, rfl⟩
abbrev main_v444 : Ref sig .tc := ⟨.hbm, 629, rfl⟩
abbrev main_v445 : Ref sig .tc := ⟨.hbm, 630, rfl⟩
abbrev main_v446 : Ref sig .tc := ⟨.hbm, 631, rfl⟩
abbrev main_v447 : Ref sig .tc := ⟨.hbm, 632, rfl⟩
abbrev main_cst_101 : Ref sig .tc := ⟨.hbm, 633, rfl⟩
abbrev main_call24_v0 : Ref sig .tc := ⟨.hbm, 634, rfl⟩
abbrev main_call24_v1 : Ref sig .tc := ⟨.hbm, 635, rfl⟩
abbrev main_call24_v2 : Ref sig .tc := ⟨.hbm, 636, rfl⟩
abbrev main_v448 : Ref sig .tc := ⟨.hbm, 637, rfl⟩
abbrev main_c_102 : Ref sig .tc := ⟨.hbm, 638, rfl⟩
abbrev main_c_103 : Ref sig .tc := ⟨.hbm, 639, rfl⟩
abbrev main_call25_v0 : Ref sig .tc := ⟨.hbm, 640, rfl⟩
abbrev main_call25_v1 : Ref sig .tc := ⟨.hbm, 641, rfl⟩
abbrev main_call25_v2 : Ref sig .tc := ⟨.hbm, 642, rfl⟩
abbrev main_call25_v3 : Ref sig .tc := ⟨.hbm, 643, rfl⟩
abbrev main_call25_v4 : Ref sig .tc := ⟨.hbm, 644, rfl⟩
abbrev main_v449 : Ref sig .tc := ⟨.hbm, 645, rfl⟩
abbrev main_c_104 : Ref sig .tc := ⟨.hbm, 646, rfl⟩
abbrev main_v450 : Ref sig .tc := ⟨.hbm, 647, rfl⟩
abbrev main_v451 : Ref sig .tc := ⟨.hbm, 648, rfl⟩
abbrev main_c_105 : Ref sig .tc := ⟨.hbm, 649, rfl⟩
abbrev main_c_106 : Ref sig .tc := ⟨.hbm, 650, rfl⟩
abbrev main_call26_v0 : Ref sig .tc := ⟨.hbm, 651, rfl⟩
abbrev main_call26_v1 : Ref sig .tc := ⟨.hbm, 652, rfl⟩
abbrev main_call26_v2 : Ref sig .tc := ⟨.hbm, 653, rfl⟩
abbrev main_call26_v3 : Ref sig .tc := ⟨.hbm, 654, rfl⟩
abbrev main_call26_v4 : Ref sig .tc := ⟨.hbm, 655, rfl⟩
abbrev main_v452 : Ref sig .tc := ⟨.hbm, 656, rfl⟩
abbrev main_v453 : Ref sig .tc := ⟨.hbm, 657, rfl⟩
abbrev main_v454 : Ref sig .tc := ⟨.hbm, 658, rfl⟩
abbrev main_v455 : Ref sig .tc := ⟨.hbm, 659, rfl⟩
abbrev main_v456 : Ref sig .tc := ⟨.hbm, 660, rfl⟩
abbrev main_v457 : Ref sig .tc := ⟨.hbm, 661, rfl⟩
abbrev main_v458 : Ref sig .tc := ⟨.hbm, 662, rfl⟩
abbrev main_v459 : Ref sig .tc := ⟨.hbm, 663, rfl⟩
abbrev main_v460 : Ref sig .tc := ⟨.hbm, 664, rfl⟩
abbrev main_v461 : Ref sig .tc := ⟨.hbm, 665, rfl⟩
abbrev main_v462 : Ref sig .tc := ⟨.hbm, 666, rfl⟩
abbrev main_v463 : Ref sig .tc := ⟨.hbm, 667, rfl⟩
abbrev main_v464 : Ref sig .tc := ⟨.hbm, 668, rfl⟩
abbrev main_v465 : Ref sig .tc := ⟨.hbm, 669, rfl⟩
abbrev main_v466 : Ref sig .tc := ⟨.hbm, 670, rfl⟩
abbrev main_v467 : Ref sig .tc := ⟨.hbm, 671, rfl⟩
abbrev main_c_107 : Ref sig .tc := ⟨.hbm, 672, rfl⟩
abbrev main_c_108 : Ref sig .tc := ⟨.hbm, 673, rfl⟩
abbrev main_call27_v0 : Ref sig .tc := ⟨.hbm, 674, rfl⟩
abbrev main_call27_v1 : Ref sig .tc := ⟨.hbm, 675, rfl⟩
abbrev main_call27_v2 : Ref sig .tc := ⟨.hbm, 676, rfl⟩
abbrev main_call27_v3 : Ref sig .tc := ⟨.hbm, 677, rfl⟩
abbrev main_call27_v4 : Ref sig .tc := ⟨.hbm, 678, rfl⟩
abbrev main_v468 : Ref sig .tc := ⟨.hbm, 679, rfl⟩
abbrev main_c_109 : Ref sig .tc := ⟨.hbm, 680, rfl⟩
abbrev main_v469 : Ref sig .tc := ⟨.hbm, 681, rfl⟩
abbrev main_v470 : Ref sig .tc := ⟨.hbm, 682, rfl⟩
abbrev main_c_110 : Ref sig .tc := ⟨.hbm, 683, rfl⟩
abbrev main_c_111 : Ref sig .tc := ⟨.hbm, 684, rfl⟩
abbrev main_call28_v0 : Ref sig .tc := ⟨.hbm, 685, rfl⟩
abbrev main_call28_v1 : Ref sig .tc := ⟨.hbm, 686, rfl⟩
abbrev main_call28_v2 : Ref sig .tc := ⟨.hbm, 687, rfl⟩
abbrev main_call28_v3 : Ref sig .tc := ⟨.hbm, 688, rfl⟩
abbrev main_call28_v4 : Ref sig .tc := ⟨.hbm, 689, rfl⟩
abbrev main_v471 : Ref sig .tc := ⟨.hbm, 690, rfl⟩
abbrev main_c_112 : Ref sig .tc := ⟨.hbm, 691, rfl⟩
abbrev main_c_113 : Ref sig .tc := ⟨.hbm, 692, rfl⟩
abbrev main_call29_v0 : Ref sig .tc := ⟨.hbm, 693, rfl⟩
abbrev main_call29_v1 : Ref sig .tc := ⟨.hbm, 694, rfl⟩
abbrev main_call29_v2 : Ref sig .tc := ⟨.hbm, 695, rfl⟩
abbrev main_call29_v3 : Ref sig .tc := ⟨.hbm, 696, rfl⟩
abbrev main_call29_v4 : Ref sig .tc := ⟨.hbm, 697, rfl⟩
abbrev main_v472 : Ref sig .tc := ⟨.hbm, 698, rfl⟩
abbrev main_c_114 : Ref sig .tc := ⟨.hbm, 699, rfl⟩
abbrev main_v473 : Ref sig .tc := ⟨.hbm, 700, rfl⟩
abbrev main_v474 : Ref sig .tc := ⟨.hbm, 701, rfl⟩
abbrev main_c_115 : Ref sig .tc := ⟨.hbm, 702, rfl⟩
abbrev main_c_116 : Ref sig .tc := ⟨.hbm, 703, rfl⟩
abbrev main_call30_v0 : Ref sig .tc := ⟨.hbm, 704, rfl⟩
abbrev main_call30_v1 : Ref sig .tc := ⟨.hbm, 705, rfl⟩
abbrev main_call30_v2 : Ref sig .tc := ⟨.hbm, 706, rfl⟩
abbrev main_call30_v3 : Ref sig .tc := ⟨.hbm, 707, rfl⟩
abbrev main_call30_v4 : Ref sig .tc := ⟨.hbm, 708, rfl⟩
abbrev main_v475 : Ref sig .tc := ⟨.hbm, 709, rfl⟩
abbrev main_c_117 : Ref sig .tc := ⟨.hbm, 710, rfl⟩
abbrev main_v476 : Ref sig .tc := ⟨.hbm, 711, rfl⟩
abbrev main_v477 : Ref sig .tc := ⟨.hbm, 712, rfl⟩
abbrev main_c_118 : Ref sig .tc := ⟨.hbm, 713, rfl⟩
abbrev main_v478 : Ref sig .tc := ⟨.hbm, 714, rfl⟩
abbrev main_v479 : Ref sig .tc := ⟨.hbm, 715, rfl⟩
abbrev main_v480 : Ref sig .tc := ⟨.hbm, 716, rfl⟩
abbrev main_c_119 : Ref sig .tc := ⟨.hbm, 717, rfl⟩
abbrev main_v481 : Ref sig .tc := ⟨.hbm, 718, rfl⟩
abbrev main_v482 : Ref sig .tc := ⟨.hbm, 719, rfl⟩
abbrev main_c_120 : Ref sig .tc := ⟨.hbm, 720, rfl⟩
abbrev main_v483 : Ref sig .tc := ⟨.hbm, 721, rfl⟩
abbrev main_v484 : Ref sig .tc := ⟨.hbm, 722, rfl⟩
abbrev main_v485 : Ref sig .tc := ⟨.hbm, 723, rfl⟩
abbrev main_v486 : Ref sig .tc := ⟨.hbm, 724, rfl⟩
abbrev main_v487 : Ref sig .tc := ⟨.hbm, 725, rfl⟩
abbrev main_v488 : Ref sig .tc := ⟨.hbm, 726, rfl⟩
abbrev main_v489 : Ref sig .tc := ⟨.hbm, 727, rfl⟩
abbrev main_v490 : Ref sig .tc := ⟨.hbm, 728, rfl⟩
abbrev main_c_121 : Ref sig .tc := ⟨.hbm, 729, rfl⟩
abbrev main_v491 : Ref sig .tc := ⟨.hbm, 730, rfl⟩
abbrev main_v492 : Ref sig .tc := ⟨.hbm, 731, rfl⟩
abbrev main_c_122 : Ref sig .tc := ⟨.hbm, 732, rfl⟩
abbrev main_v493 : Ref sig .tc := ⟨.hbm, 733, rfl⟩
abbrev main_v494 : Ref sig .tc := ⟨.hbm, 734, rfl⟩
abbrev main_v495 : Ref sig .tc := ⟨.hbm, 735, rfl⟩
abbrev main_c_123 : Ref sig .tc := ⟨.hbm, 736, rfl⟩
abbrev main_v496 : Ref sig .tc := ⟨.hbm, 737, rfl⟩
abbrev main_v497 : Ref sig .tc := ⟨.hbm, 738, rfl⟩
abbrev main_c_124 : Ref sig .tc := ⟨.hbm, 739, rfl⟩
abbrev main_v498 : Ref sig .tc := ⟨.hbm, 740, rfl⟩
abbrev main_v499 : Ref sig .tc := ⟨.hbm, 741, rfl⟩
abbrev main_v500 : Ref sig .tc := ⟨.hbm, 742, rfl⟩
abbrev main_v501 : Ref sig .tc := ⟨.hbm, 743, rfl⟩
abbrev main_v502 : Ref sig .tc := ⟨.hbm, 744, rfl⟩
abbrev main_v503 : Ref sig .tc := ⟨.hbm, 745, rfl⟩
abbrev main_v504 : Ref sig .tc := ⟨.hbm, 746, rfl⟩
abbrev main_v505 : Ref sig .tc := ⟨.hbm, 747, rfl⟩
abbrev main_c_125 : Ref sig .tc := ⟨.hbm, 748, rfl⟩
abbrev main_v506 : Ref sig .tc := ⟨.hbm, 749, rfl⟩
abbrev main_v507 : Ref sig .tc := ⟨.hbm, 750, rfl⟩
abbrev main_c_126 : Ref sig .tc := ⟨.hbm, 751, rfl⟩
abbrev main_v508 : Ref sig .tc := ⟨.hbm, 752, rfl⟩
abbrev main_v509 : Ref sig .tc := ⟨.hbm, 753, rfl⟩
abbrev main_v510 : Ref sig .tc := ⟨.hbm, 754, rfl⟩
abbrev main_c_127 : Ref sig .tc := ⟨.hbm, 755, rfl⟩
abbrev main_v511 : Ref sig .tc := ⟨.hbm, 756, rfl⟩
abbrev main_v512 : Ref sig .tc := ⟨.hbm, 757, rfl⟩
abbrev main_c_128 : Ref sig .tc := ⟨.hbm, 758, rfl⟩
abbrev main_v513 : Ref sig .tc := ⟨.hbm, 759, rfl⟩
abbrev main_v514 : Ref sig .tc := ⟨.hbm, 760, rfl⟩
abbrev main_v515 : Ref sig .tc := ⟨.hbm, 761, rfl⟩
abbrev main_v516 : Ref sig .tc := ⟨.hbm, 762, rfl⟩
abbrev main_v517 : Ref sig .tc := ⟨.hbm, 763, rfl⟩
abbrev main_v518 : Ref sig .tc := ⟨.hbm, 764, rfl⟩
abbrev main_v519 : Ref sig .tc := ⟨.hbm, 765, rfl⟩
abbrev main_v520 : Ref sig .tc := ⟨.hbm, 766, rfl⟩
abbrev main_c_129 : Ref sig .tc := ⟨.hbm, 767, rfl⟩
abbrev main_v521 : Ref sig .tc := ⟨.hbm, 768, rfl⟩
abbrev main_v522 : Ref sig .tc := ⟨.hbm, 769, rfl⟩
abbrev main_c_130 : Ref sig .tc := ⟨.hbm, 770, rfl⟩
abbrev main_v523 : Ref sig .tc := ⟨.hbm, 771, rfl⟩
abbrev main_v524 : Ref sig .tc := ⟨.hbm, 772, rfl⟩
abbrev main_v525 : Ref sig .tc := ⟨.hbm, 773, rfl⟩
abbrev main_c_131 : Ref sig .tc := ⟨.hbm, 774, rfl⟩
abbrev main_v526 : Ref sig .tc := ⟨.hbm, 775, rfl⟩
abbrev main_v527 : Ref sig .tc := ⟨.hbm, 776, rfl⟩
abbrev main_c_132 : Ref sig .tc := ⟨.hbm, 777, rfl⟩
abbrev main_v528 : Ref sig .tc := ⟨.hbm, 778, rfl⟩
abbrev main_v529 : Ref sig .tc := ⟨.hbm, 779, rfl⟩
abbrev main_v530 : Ref sig .tc := ⟨.hbm, 780, rfl⟩
abbrev main_v531 : Ref sig .tc := ⟨.hbm, 781, rfl⟩
abbrev main_v532 : Ref sig .tc := ⟨.hbm, 782, rfl⟩
abbrev main_v533 : Ref sig .tc := ⟨.hbm, 783, rfl⟩
abbrev main_v534 : Ref sig .tc := ⟨.hbm, 784, rfl⟩
abbrev main_v535 : Ref sig .tc := ⟨.hbm, 785, rfl⟩
abbrev main_cst_133 : Ref sig .tc := ⟨.hbm, 786, rfl⟩
abbrev main_v536 : Ref sig .tc := ⟨.hbm, 787, rfl⟩
abbrev main_v537 : Ref sig .tc := ⟨.hbm, 788, rfl⟩
abbrev main_v538 : Ref sig .tc := ⟨.hbm, 789, rfl⟩
abbrev main_cst_134 : Ref sig .tc := ⟨.hbm, 790, rfl⟩
abbrev main_v539 : Ref sig .tc := ⟨.hbm, 791, rfl⟩
abbrev main_v540 : Ref sig .tc := ⟨.hbm, 792, rfl⟩
abbrev main_v541 : Ref sig .tc := ⟨.hbm, 793, rfl⟩
abbrev main_cst_135 : Ref sig .tc := ⟨.hbm, 794, rfl⟩
abbrev main_v542 : Ref sig .tc := ⟨.hbm, 795, rfl⟩
abbrev main_v543 : Ref sig .tc := ⟨.hbm, 796, rfl⟩
abbrev main_v544 : Ref sig .tc := ⟨.hbm, 797, rfl⟩
abbrev main_v545 : Ref sig .tc := ⟨.hbm, 798, rfl⟩
abbrev main_v546 : Ref sig .tc := ⟨.hbm, 799, rfl⟩
abbrev main_v547 : Ref sig .tc := ⟨.hbm, 800, rfl⟩
abbrev main_cst_136 : Ref sig .tc := ⟨.hbm, 801, rfl⟩
abbrev main_v548 : Ref sig .tc := ⟨.hbm, 802, rfl⟩
abbrev main_v549 : Ref sig .tc := ⟨.hbm, 803, rfl⟩
abbrev main_v550 : Ref sig .tc := ⟨.hbm, 804, rfl⟩
abbrev main_v551 : Ref sig .tc := ⟨.hbm, 805, rfl⟩
abbrev main_v552 : Ref sig .tc := ⟨.hbm, 806, rfl⟩
abbrev main_v553 : Ref sig .tc := ⟨.hbm, 807, rfl⟩
abbrev main_v554 : Ref sig .tc := ⟨.hbm, 808, rfl⟩
abbrev main_v555 : Ref sig .tc := ⟨.hbm, 809, rfl⟩
abbrev main_cst_137 : Ref sig .tc := ⟨.hbm, 810, rfl⟩
abbrev main_call31_v0 : Ref sig .tc := ⟨.hbm, 811, rfl⟩
abbrev main_call31_v1 : Ref sig .tc := ⟨.hbm, 812, rfl⟩
abbrev main_call31_v2 : Ref sig .tc := ⟨.hbm, 813, rfl⟩
abbrev main_v556 : Ref sig .tc := ⟨.hbm, 814, rfl⟩
abbrev main_v557 : Ref sig .tc := ⟨.hbm, 815, rfl⟩
abbrev main_v558 : Ref sig .tc := ⟨.hbm, 816, rfl⟩
abbrev main_cst_138 : Ref sig .tc := ⟨.hbm, 817, rfl⟩
abbrev main_v559 : Ref sig .tc := ⟨.hbm, 818, rfl⟩
abbrev main_c_139 : Ref sig .tc := ⟨.hbm, 819, rfl⟩
abbrev main_v560 : Ref sig .tc := ⟨.hbm, 820, rfl⟩
abbrev main_v561 : Ref sig .tc := ⟨.hbm, 821, rfl⟩
abbrev main_c_140 : Ref sig .tc := ⟨.hbm, 822, rfl⟩
abbrev main_v562 : Ref sig .tc := ⟨.hbm, 823, rfl⟩
abbrev main_v563 : Ref sig .tc := ⟨.hbm, 824, rfl⟩
abbrev main_v564 : Ref sig .tc := ⟨.hbm, 825, rfl⟩
abbrev main_c_141 : Ref sig .tc := ⟨.hbm, 826, rfl⟩
abbrev main_v565 : Ref sig .tc := ⟨.hbm, 827, rfl⟩
abbrev main_v566 : Ref sig .tc := ⟨.hbm, 828, rfl⟩
abbrev main_c_142 : Ref sig .tc := ⟨.hbm, 829, rfl⟩
abbrev main_v567 : Ref sig .tc := ⟨.hbm, 830, rfl⟩
abbrev main_v568 : Ref sig .tc := ⟨.hbm, 831, rfl⟩
abbrev main_v569 : Ref sig .tc := ⟨.hbm, 832, rfl⟩
abbrev main_v570 : Ref sig .tc := ⟨.hbm, 833, rfl⟩
abbrev main_v571 : Ref sig .tc := ⟨.hbm, 834, rfl⟩
abbrev main_v572 : Ref sig .tc := ⟨.hbm, 835, rfl⟩
abbrev main_v573 : Ref sig .tc := ⟨.hbm, 836, rfl⟩
abbrev main_v574 : Ref sig .tc := ⟨.hbm, 837, rfl⟩
abbrev main_c_143 : Ref sig .tc := ⟨.hbm, 838, rfl⟩
abbrev main_v575 : Ref sig .tc := ⟨.hbm, 839, rfl⟩
abbrev main_v576 : Ref sig .tc := ⟨.hbm, 840, rfl⟩
abbrev main_c_144 : Ref sig .tc := ⟨.hbm, 841, rfl⟩
abbrev main_v577 : Ref sig .tc := ⟨.hbm, 842, rfl⟩
abbrev main_v578 : Ref sig .tc := ⟨.hbm, 843, rfl⟩
abbrev main_v579 : Ref sig .tc := ⟨.hbm, 844, rfl⟩
abbrev main_c_145 : Ref sig .tc := ⟨.hbm, 845, rfl⟩
abbrev main_v580 : Ref sig .tc := ⟨.hbm, 846, rfl⟩
abbrev main_v581 : Ref sig .tc := ⟨.hbm, 847, rfl⟩
abbrev main_c_146 : Ref sig .tc := ⟨.hbm, 848, rfl⟩
abbrev main_v582 : Ref sig .tc := ⟨.hbm, 849, rfl⟩
abbrev main_v583 : Ref sig .tc := ⟨.hbm, 850, rfl⟩
abbrev main_v584 : Ref sig .tc := ⟨.hbm, 851, rfl⟩
abbrev main_v585 : Ref sig .tc := ⟨.hbm, 852, rfl⟩
abbrev main_v586 : Ref sig .tc := ⟨.hbm, 853, rfl⟩
abbrev main_v587 : Ref sig .tc := ⟨.hbm, 854, rfl⟩
abbrev main_v588 : Ref sig .tc := ⟨.hbm, 855, rfl⟩
abbrev main_v589 : Ref sig .tc := ⟨.hbm, 856, rfl⟩
abbrev main_c_147 : Ref sig .tc := ⟨.hbm, 857, rfl⟩
abbrev main_v590 : Ref sig .tc := ⟨.hbm, 858, rfl⟩
abbrev main_v591 : Ref sig .tc := ⟨.hbm, 859, rfl⟩
abbrev main_c_148 : Ref sig .tc := ⟨.hbm, 860, rfl⟩
abbrev main_v592 : Ref sig .tc := ⟨.hbm, 861, rfl⟩
abbrev main_v593 : Ref sig .tc := ⟨.hbm, 862, rfl⟩
abbrev main_v594 : Ref sig .tc := ⟨.hbm, 863, rfl⟩
abbrev main_c_149 : Ref sig .tc := ⟨.hbm, 864, rfl⟩
abbrev main_v595 : Ref sig .tc := ⟨.hbm, 865, rfl⟩
abbrev main_v596 : Ref sig .tc := ⟨.hbm, 866, rfl⟩
abbrev main_c_150 : Ref sig .tc := ⟨.hbm, 867, rfl⟩
abbrev main_v597 : Ref sig .tc := ⟨.hbm, 868, rfl⟩
abbrev main_v598 : Ref sig .tc := ⟨.hbm, 869, rfl⟩
abbrev main_v599 : Ref sig .tc := ⟨.hbm, 870, rfl⟩
abbrev main_v600 : Ref sig .tc := ⟨.hbm, 871, rfl⟩
abbrev main_v601 : Ref sig .tc := ⟨.hbm, 872, rfl⟩
abbrev main_v602 : Ref sig .tc := ⟨.hbm, 873, rfl⟩
abbrev main_v603 : Ref sig .tc := ⟨.hbm, 874, rfl⟩
abbrev main_v604 : Ref sig .tc := ⟨.hbm, 875, rfl⟩
abbrev main_c_151 : Ref sig .tc := ⟨.hbm, 876, rfl⟩
abbrev main_v605 : Ref sig .tc := ⟨.hbm, 877, rfl⟩
abbrev main_v606 : Ref sig .tc := ⟨.hbm, 878, rfl⟩
abbrev main_c_152 : Ref sig .tc := ⟨.hbm, 879, rfl⟩
abbrev main_v607 : Ref sig .tc := ⟨.hbm, 880, rfl⟩
abbrev main_v608 : Ref sig .tc := ⟨.hbm, 881, rfl⟩
abbrev main_v609 : Ref sig .tc := ⟨.hbm, 882, rfl⟩
abbrev main_c_153 : Ref sig .tc := ⟨.hbm, 883, rfl⟩
abbrev main_v610 : Ref sig .tc := ⟨.hbm, 884, rfl⟩
abbrev main_v611 : Ref sig .tc := ⟨.hbm, 885, rfl⟩
abbrev main_c_154 : Ref sig .tc := ⟨.hbm, 886, rfl⟩
abbrev main_v612 : Ref sig .tc := ⟨.hbm, 887, rfl⟩
abbrev main_v613 : Ref sig .tc := ⟨.hbm, 888, rfl⟩
abbrev main_v614 : Ref sig .tc := ⟨.hbm, 889, rfl⟩
abbrev main_v615 : Ref sig .tc := ⟨.hbm, 890, rfl⟩
abbrev main_v616 : Ref sig .tc := ⟨.hbm, 891, rfl⟩
abbrev main_v617 : Ref sig .tc := ⟨.hbm, 892, rfl⟩
abbrev main_v618 : Ref sig .tc := ⟨.hbm, 893, rfl⟩
abbrev main_v619 : Ref sig .tc := ⟨.hbm, 894, rfl⟩
abbrev main_v620 : Ref sig .tc := ⟨.hbm, 895, rfl⟩
abbrev main_v621 : Ref sig .tc := ⟨.hbm, 896, rfl⟩
abbrev main_cst_155 : Ref sig .tc := ⟨.hbm, 897, rfl⟩
abbrev main_v622 : Ref sig .tc := ⟨.hbm, 898, rfl⟩
abbrev main_cst_156 : Ref sig .tc := ⟨.hbm, 899, rfl⟩
abbrev main_v623 : Ref sig .tc := ⟨.hbm, 900, rfl⟩
abbrev main_cst_157 : Ref sig .tc := ⟨.hbm, 901, rfl⟩
abbrev main_v624 : Ref sig .tc := ⟨.hbm, 902, rfl⟩
abbrev main_cst_158 : Ref sig .tc := ⟨.hbm, 903, rfl⟩
abbrev main_v625 : Ref sig .tc := ⟨.hbm, 904, rfl⟩
abbrev main_cst_159 : Ref sig .tc := ⟨.hbm, 905, rfl⟩
abbrev main_v626 : Ref sig .tc := ⟨.hbm, 906, rfl⟩
abbrev main_cst_160 : Ref sig .tc := ⟨.hbm, 907, rfl⟩
abbrev main_v627 : Ref sig .tc := ⟨.hbm, 908, rfl⟩
abbrev main_cst_161 : Ref sig .tc := ⟨.hbm, 909, rfl⟩
abbrev main_v628 : Ref sig .tc := ⟨.hbm, 910, rfl⟩
abbrev main_cst_162 : Ref sig .tc := ⟨.hbm, 911, rfl⟩
abbrev main_v629 : Ref sig .tc := ⟨.hbm, 912, rfl⟩
abbrev main_v630 : Ref sig .tc := ⟨.hbm, 913, rfl⟩

abbrev nD : Nat := 1
abbrev τ : Topo := Topo.v7x

variable {F : FTy → Type} [FloatOps F]
-- ==== Proof.Order.lean ====
/- Straight-line host code read as a system of equations. When every operation writes one buffer, of a number above
   those of the buffers it reads and of everything written before, no buffer is written twice or read before it is
   written, so the contents at the end satisfy every operation's own equation at once: running any one of them again
   changes nothing. A proof can then read the whole line off ONE valuation, an equation per operation. -/
module

public import Idealize.ShloMosaic.Lib.StableHlo
public import Idealize.ShloMosaic.Lib.StableHlo.Run

@[expose] public section

namespace Cert.Order

open Idealize.ShloMosaic

variable {τ : Topo} {sig : RefSig} {Val : EltTy → Type}

/-- A buffer's number in its table. -/
abbrev rank (b : DevRef τ sig) : ℕ := b.idx.val

/-- `op` allocates nothing, writes only buffers numbered `k`, and what it leaves there depends only on buffers numbered below `k`. -/
structure Step (k : ℕ) (op : HloOp τ sig Val) : Prop where
  fresh : op.fresh = ∅
  target : ∀ b ∈ op.writes, rank b = k
  source : ∀ F G : Valuation τ sig Val, (∀ b, rank b < k → F b = G b) → ∀ b ∈ op.writes, op.result F b = op.result G b

/-- The operations of a line write buffers of increasing numbers, all at least `n` and below `m`, each reading only
    buffers of numbers below the one it writes. -/
inductive Ordered : ℕ → List (HloOp τ sig Val) → ℕ → Prop
  | nil {n m : ℕ} : n ≤ m → Ordered n [] m
  | cons {n m k : ℕ} {op : HloOp τ sig Val} {l : List (HloOp τ sig Val)} :
      n ≤ k → Step k op → Ordered (k + 1) l m → Ordered n (op :: l) m

namespace Ordered

/-- Two ordered lists, one after the other. -/
theorem append {n m p : ℕ} {A B : List (HloOp τ sig Val)} (hA : Ordered n A m) (hB : Ordered m B p) :
    Ordered n (A ++ B) p := by
  induction hA with
  | nil h =>
    cases hB with
    | nil h' => exact .nil (h.trans h')
    | cons h' s t => exact .cons (h.trans h') s t
  | cons h s _ ih => exact .cons h s (ih hB)

/-- What an ordered list writes ranks no lower than its start. -/
theorem write_ge {n m : ℕ} {l : List (HloOp τ sig Val)} (h : Ordered n l m) :
    ∀ op ∈ l, ∀ b ∈ op.writes, n ≤ rank b := by
  induction h with
  | nil _ => simp
  | cons h s _ ih =>
    intro op hop b hb
    rcases List.mem_cons.mp hop with rfl | hop
    · exact h.trans (s.target b hb).ge
    · exact h.trans ((Nat.le_succ _).trans (ih op hop b hb))

/-- No operation of an ordered line allocates. -/
theorem fresh {n m : ℕ} {l : List (HloOp τ sig Val)} (h : Ordered n l m) : ∀ op ∈ l, op.fresh = ∅ := by
  induction h with
  | nil _ => simp
  | cons _ s _ ih => exact List.forall_mem_cons.mpr ⟨s.fresh, ih⟩

/-- A buffer numbered below the line's first is left as it was. -/
theorem after_below {n m : ℕ} {l : List (HloOp τ sig Val)} (h : Ordered n l m) (V : Valuation τ sig Val)
    {b : DevRef τ sig} (hb : rank b < n) : StableHlo.after l V b = V b :=
  StableHlo.after_of_forall_not_mem l V fun op hop hw => absurd (h.write_ge op hop b hw) (Nat.not_le.mpr hb)

/-- At the end of an ordered line every one of its operations, run once more, changes nothing. -/
theorem fixed {n m : ℕ} {l : List (HloOp τ sig Val)} (h : Ordered n l m) (V : Valuation τ sig Val) :
    ∀ op ∈ l, op.result (StableHlo.after l V) = StableHlo.after l V := by
  induction h generalizing V with
  | nil _ => simp
  | @cons n m k op l hn s hl ih =>
    intro op' hop'
    rw [StableHlo.after_cons]
    rcases List.mem_cons.mp hop' with rfl | hop'
    · funext b
      by_cases hb : b ∈ op'.writes
      · have hk := s.target b hb
        rw [hl.after_below (op'.result V) (b := b) (by omega)]
        refine s.source _ _ (fun b' hb' => ?_) b hb
        rw [hl.after_below (op'.result V) (b := b') (by omega)]
        exact op'.result_of_not_mem V fun hm => by have := s.target b' hm; omega
      · exact op'.result_of_not_mem _ hb
    · exact ih _ op' hop'

end Ordered

/-! ## Each kind of operation -/

section Steps
variable {k : ℕ}

/-- A constant operation is a step. -/
theorem nullary (y : Ref sig .tc) (v : y.ty.Contents Val) (hy) :
    Step (rank (Proc.devRef (τ := τ) .tc y)) (StableHlo.nullary y v hy : HloOp τ sig Val) where
  fresh := rfl
  target b hb := by rw [Finset.mem_singleton.mp hb]
  source F G h b hb := by
    obtain rfl := Finset.mem_singleton.mp hb
    rw [StableHlo.nullary_result, StableHlo.nullary_result]

/-- An operation of one operand is a step. -/
theorem unary (x y : Ref sig .tc) (f : x.ty.Contents Val → y.ty.Contents Val) (hx hy)
    (h1 : rank (Proc.devRef (τ := τ) .tc x) < rank (Proc.devRef (τ := τ) .tc y)) :
    Step (rank (Proc.devRef (τ := τ) .tc y)) (StableHlo.unary x y f hx hy : HloOp τ sig Val) where
  fresh := rfl
  target b hb := by rw [Finset.mem_singleton.mp hb]
  source F G h b hb := by
    obtain rfl := Finset.mem_singleton.mp hb
    rw [StableHlo.unary_result, StableHlo.unary_result, h _ h1]

/-- A reshape is a step. -/
theorem reshape (x y : Ref sig .tc) (he : x.ty.elt = y.ty.elt) (hn : x.ty.shape.ShapeCasts y.ty.shape) (hx hy)
    (h1 : rank (Proc.devRef (τ := τ) .tc x) < rank (Proc.devRef (τ := τ) .tc y)) :
    Step (rank (Proc.devRef (τ := τ) .tc y)) (StableHlo.reshape x y he hn hx hy : HloOp τ sig Val) where
  fresh := rfl
  target b hb := by rw [Finset.mem_singleton.mp hb]
  source F G h b hb := by
    obtain rfl := Finset.mem_singleton.mp hb
    rw [StableHlo.reshape_result, StableHlo.reshape_result, h _ h1]

/-- An operation of two operands is a step. -/
theorem binary (a b y : Ref sig .tc) (f : a.ty.Contents Val → b.ty.Contents Val → y.ty.Contents Val) (ha hb hy)
    (h1 : rank (Proc.devRef (τ := τ) .tc a) < rank (Proc.devRef (τ := τ) .tc y))
    (h2 : rank (Proc.devRef (τ := τ) .tc b) < rank (Proc.devRef (τ := τ) .tc y)) :
    Step (rank (Proc.devRef (τ := τ) .tc y)) (StableHlo.binary a b y f ha hb hy : HloOp τ sig Val) where
  fresh := rfl
  target b hb := by rw [Finset.mem_singleton.mp hb]
  source F G h b hb := by
    obtain rfl := Finset.mem_singleton.mp hb
    rw [StableHlo.binary_result, StableHlo.binary_result, h _ h1, h _ h2]

/-- An operation of three operands is a step. -/
theorem ternary (c a b y : Ref sig .tc)
    (f : c.ty.Contents Val → a.ty.Contents Val → b.ty.Contents Val → y.ty.Contents Val) (hc ha hb hy)
    (h1 : rank (Proc.devRef (τ := τ) .tc c) < rank (Proc.devRef (τ := τ) .tc y))
    (h2 : rank (Proc.devRef (τ := τ) .tc a) < rank (Proc.devRef (τ := τ) .tc y))
    (h3 : rank (Proc.devRef (τ := τ) .tc b) < rank (Proc.devRef (τ := τ) .tc y)) :
    Step (rank (Proc.devRef (τ := τ) .tc y)) (StableHlo.ternary c a b y f hc ha hb hy : HloOp τ sig Val) where
  fresh := rfl
  target b hb := by rw [Finset.mem_singleton.mp hb]
  source F G h b hb := by
    obtain rfl := Finset.mem_singleton.mp hb
    rw [StableHlo.ternary_result, StableHlo.ternary_result, h _ h1, h _ h2, h _ h3]

/-- An operation of several operands is a step. -/
theorem nary {n : ℕ} (xs : Fin n → Ref sig .tc) (y : Ref sig .tc)
    (f : ((k : Fin n) → (xs k).ty.Contents Val) → y.ty.Contents Val) (hxs hy)
    (h1 : ∀ k, rank (Proc.devRef (τ := τ) .tc (xs k)) < rank (Proc.devRef (τ := τ) .tc y)) :
    Step (rank (Proc.devRef (τ := τ) .tc y)) (StableHlo.nary xs y f hxs hy : HloOp τ sig Val) where
  fresh := rfl
  target b hb := by rw [Finset.mem_singleton.mp hb]
  source F G h b hb := by
    obtain rfl := Finset.mem_singleton.mp hb
    rw [StableHlo.nary_result, StableHlo.nary_result]
    exact congrArg f (funext fun k => h _ (h1 k))

end Steps

/-! ## The equation a fixed operation states -/

variable {W : Valuation τ sig Val}

/-- Running an operation changes nothing exactly when it leaves the buffer it writes as it is. -/
private theorem result_eq_iff (op : HloOp τ sig Val) (y : DevRef τ sig) (hy : op.writes = {y}) :
    op.result W = W ↔ W y = op.result W y :=
  ⟨fun h => (congrFun h y).symm, fun h => funext fun b => by
    by_cases hb : b = y
    · subst hb; exact h.symm
    · exact op.result_of_not_mem W (by rw [hy]; simpa using hb)⟩

/-- When a constant operation is settled. -/
theorem fix_nullary (y : Ref sig .tc) (v : y.ty.Contents Val) (hy) :
    (StableHlo.nullary y v hy : HloOp τ sig Val).result W = W ↔ W (Proc.devRef .tc y) = v := by
  rw [result_eq_iff _ (Proc.devRef .tc y) rfl, StableHlo.nullary_result]

/-- When an operation of one operand is settled. -/
theorem fix_unary (x y : Ref sig .tc) (f : x.ty.Contents Val → y.ty.Contents Val) (hx hy) :
    (StableHlo.unary x y f hx hy : HloOp τ sig Val).result W = W
      ↔ W (Proc.devRef .tc y) = f (W (Proc.devRef .tc x)) := by
  rw [result_eq_iff _ (Proc.devRef .tc y) rfl, StableHlo.unary_result]

/-- When a reshape is settled. -/
theorem fix_reshape (x y : Ref sig .tc) (he : x.ty.elt = y.ty.elt) (hn : x.ty.shape.ShapeCasts y.ty.shape) (hx hy) :
    (StableHlo.reshape x y he hn hx hy : HloOp τ sig Val).result W = W
      ↔ W (Proc.devRef .tc y) = fun i => he ▸ shapeCast y.ty.shape (W (Proc.devRef .tc x)) hn i := by
  rw [result_eq_iff _ (Proc.devRef .tc y) rfl, StableHlo.reshape_result]

/-- When an operation of two operands is settled. -/
theorem fix_binary (a b y : Ref sig .tc) (f : a.ty.Contents Val → b.ty.Contents Val → y.ty.Contents Val) (ha hb hy) :
    (StableHlo.binary a b y f ha hb hy : HloOp τ sig Val).result W = W
      ↔ W (Proc.devRef .tc y) = f (W (Proc.devRef .tc a)) (W (Proc.devRef .tc b)) := by
  rw [result_eq_iff _ (Proc.devRef .tc y) rfl, StableHlo.binary_result]

/-- When an operation of three operands is settled. -/
theorem fix_ternary (c a b y : Ref sig .tc)
    (f : c.ty.Contents Val → a.ty.Contents Val → b.ty.Contents Val → y.ty.Contents Val) (hc ha hb hy) :
    (StableHlo.ternary c a b y f hc ha hb hy : HloOp τ sig Val).result W = W
      ↔ W (Proc.devRef .tc y)
        = f (W (Proc.devRef .tc c)) (W (Proc.devRef .tc a)) (W (Proc.devRef .tc b)) := by
  rw [result_eq_iff _ (Proc.devRef .tc y) rfl, StableHlo.ternary_result]

/-- When an operation of several operands is settled. -/
theorem fix_nary {n : ℕ} (xs : Fin n → Ref sig .tc) (y : Ref sig .tc)
    (f : ((k : Fin n) → (xs k).ty.Contents Val) → y.ty.Contents Val) (hxs hy) :
    (StableHlo.nary xs y f hxs hy : HloOp τ sig Val).result W = W
      ↔ W (Proc.devRef .tc y) = f (fun k => W (Proc.devRef .tc (xs k))) := by
  rw [result_eq_iff _ (Proc.devRef .tc y) rfl, StableHlo.nary_result]

end Cert.Order
-- ==== Proof.HostTail.lean ====
/- The host operations after the kernel's region, as one ordered line (`Cert.Order.Ordered`): each writes a buffer of its
   own, after the buffers it reads. -/
module

public import proofs.«01_k».proof.Proof.Gen.KernelIdeal.Launch
public import proofs.«01_k».proof.Proof.Order
public import Idealize.ShloMosaic.Lib.Pipeline.FrameSuffix

@[expose] public section

-- the longest stretch has 158 operations
set_option maxRecDepth 8000

noncomputable section

namespace Cert.KernelIdeal.Tail

open Idealize.ShloMosaic Idealize.ShloMosaic.TcCoe
open Cert.KernelIdeal.Gen Cert.Order

variable {F : FTy → Type} [FloatOps F]

/-- The stretches of host operations after the region, in program order. -/
abbrev lines : List (List (HloOp τ sig (Elt F))) :=
  [hostOps1, hostOps1_1, hostOps1_2, hostOps1_3, hostOps1_4, hostOps1_5, hostOps1_6, hostOps1_7,
   hostOps1_8, hostOps1_9, hostOps1_10, hostOps1_11, hostOps1_12, hostOps1_13, hostOps1_14, hostOps1_15,
   hostOps1_16, hostOps1_17, hostOps1_18, hostOps1_19, hostOps1_20, hostOps1_21, hostOps1_22, hostOps1_23,
   hostOps1_24, hostOps1_25, hostOps1_26, hostOps1_27, hostOps1_28, hostOps1_29, hostOps1_30, hostOps1_31,
   hostOps1_32, hostOps1_33, hostOps1_34, hostOps1_35, hostOps1_36, hostOps1_37, hostOps1_38, hostOps1_39,
   hostOps1_40, hostOps1_41, hostOps1_42, hostOps1_43, hostOps1_44, hostOps1_45, hostOps1_46]

set_option maxHeartbeats 4000000 in
/-- All of them write distinct buffers numbered from 10 on, each after the buffers it reads. -/
theorem ordered : Ordered 10 (lines (F := F)).flatten 10000 := by
  simp only [lines, List.flatten_cons, List.flatten_nil]
  refine .append (m := 56) ?_ <| .append (m := 58) ?_ <| .append (m := 60) ?_ <| .append (m := 96) ?_ <| .append (m := 98) ?_ <|
    .append (m := 100) ?_ <| .append (m := 258) ?_ <| .append (m := 264) ?_ <| .append (m := 266) ?_ <| .append (m := 272) ?_ <|
    .append (m := 309) ?_ <| .append (m := 314) ?_ <| .append (m := 382) ?_ <| .append (m := 386) ?_ <| .append (m := 404) ?_ <|
    .append (m := 408) ?_ <| .append (m := 426) ?_ <| .append (m := 430) ?_ <| .append (m := 448) ?_ <| .append (m := 452) ?_ <|
    .append (m := 463) ?_ <| .append (m := 467) ?_ <| .append (m := 468) ?_ <| .append (m := 470) ?_ <| .append (m := 471) ?_ <|
    .append (m := 475) ?_ <| .append (m := 476) ?_ <| .append (m := 478) ?_ <| .append (m := 479) ?_ <| .append (m := 483) ?_ <|
    .append (m := 484) ?_ <| .append (m := 486) ?_ <| .append (m := 487) ?_ <| .append (m := 491) ?_ <| .append (m := 492) ?_ <|
    .append (m := 494) ?_ <| .append (m := 495) ?_ <| .append (m := 499) ?_ <| .append (m := 500) ?_ <| .append (m := 502) ?_ <|
    .append (m := 503) ?_ <| .append (m := 507) ?_ <| .append (m := 508) ?_ <| .append (m := 510) ?_ <| .append (m := 558) ?_ <|
    .append (m := 562) ?_ <| .append (m := 629) ?_ <| .nil (by decide)
  all_goals
    repeat first
      | refine .cons (by decide) (nullary _ _ _) ?_
      | refine .cons (by decide) (unary _ _ _ _ _ (by decide)) ?_
      | refine .cons (by decide) (reshape _ _ _ _ _ _ (by decide)) ?_
      | refine .cons (by decide) (binary _ _ _ _ _ _ _ (by decide) (by decide)) ?_
      | refine .cons (by decide) (ternary _ _ _ _ _ _ _ _ _ (by decide) (by decide) (by decide)) ?_
      | refine .cons (by decide) (nary _ _ _ _ _ (by decide)) ?_
      | exact .nil (by decide)

/-- Each operation touches buffers of the host program only. -/
theorem sub : ∀ ops ∈ lines (F := F), ∀ op ∈ ops, op.bufs ⊆ Pipeline.tailRefs sig Pipeline.Prefetch.none spec0 := by
  rw [Pipeline.tailRefs_none spec0 launch0.win.arr_unscoped]
  have all : ∀ ops ∈ lines (F := F), ops.Forall fun op => op.bufs ⊆ StableHlo.tcRefs τ sig := by
    simp only [List.forall_mem_cons, List.forall_mem_nil, and_true]
    exact ⟨hostOps1_sub, hostOps1_1_sub, hostOps1_2_sub, hostOps1_3_sub, hostOps1_4_sub, hostOps1_5_sub,
      hostOps1_6_sub, hostOps1_7_sub, hostOps1_8_sub, hostOps1_9_sub, hostOps1_10_sub, hostOps1_11_sub,
      hostOps1_12_sub, hostOps1_13_sub, hostOps1_14_sub, hostOps1_15_sub, hostOps1_16_sub, hostOps1_17_sub,
      hostOps1_18_sub, hostOps1_19_sub, hostOps1_20_sub, hostOps1_21_sub, hostOps1_22_sub, hostOps1_23_sub,
      hostOps1_24_sub, hostOps1_25_sub, hostOps1_26_sub, hostOps1_27_sub, hostOps1_28_sub, hostOps1_29_sub,
      hostOps1_30_sub, hostOps1_31_sub, hostOps1_32_sub, hostOps1_33_sub, hostOps1_34_sub, hostOps1_35_sub,
      hostOps1_36_sub, hostOps1_37_sub, hostOps1_38_sub, hostOps1_39_sub, hostOps1_40_sub, hostOps1_41_sub,
      hostOps1_42_sub, hostOps1_43_sub, hostOps1_44_sub, hostOps1_45_sub, hostOps1_46_sub, List.forall_mem_nil _⟩
  exact fun ops hops op hop => Pipeline.sub_ucRefs op (List.forall_iff_forall_mem.mp (all ops hops) op hop)

/-- None of them allocates. -/
theorem fresh : ∀ ops ∈ lines (F := F), ∀ op ∈ ops, op.fresh = ∅ :=
  fun ops hops op hop => ordered.fresh op (List.mem_flatten.mpr ⟨ops, hops, hop⟩)

/-- None of them writes an array of the region: those are numbered below 10. -/
theorem keeps : ∀ ops ∈ lines (F := F), ∀ op ∈ ops, ∀ w, Proc.devRef .tc (Pipeline.arrRef spec0 w) ∉ op.writes :=
  fun ops hops op hop w hw =>
    absurd (ordered.write_ge op (List.mem_flatten.mpr ⟨ops, hops, hop⟩) _ hw)
      ((by decide : ∀ w, ¬ 10 ≤ rank (Proc.devRef (τ := τ) .tc (Pipeline.arrRef spec0 w))) w)

end Cert.KernelIdeal.Tail

end
-- ==== Proof.Launch.lean ====
/- The launch of the kernel `Cert.KernelIdeal`: what the region's body leaves in each output buffer, its triple, the run of the
   whole program and the frame. It follows the usual set-up for a region of this kind, with a greater recursion depth,
   which the 560 or so host operations after the region need. -/
module

public import proofs.«01_k».proof.Proof.HostTail
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 100000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxHeartbeats 800000 in
/-- The program is the region followed by the host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (Tail.lines.map StableHlo.seq)) :=
  Pipeline.hmain_around cfgs 0 defs₀ 𝒱₀ m main [] Tail.lines (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for proof data over these arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for proof data over these arrays whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run whose arrays are the region's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) Tail.lines))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

/-! ## The body's accesses -/

abbrev r0_0 : Rect S4x64x64 := Rect.unit (s := S4x64x64) ![0, 0, 0] S4x64x64.size inb_S4x64x64_S4x64x64_0_0_0
abbrev r0_1 : Rect S4x63x64 := Rect.unit (s := S4x63x64) ![0, 0, 0] S4x63x64.size inb_S4x63x64_S4x63x64_0_0_0
abbrev r0_2 : Rect S4x64x63 := Rect.unit (s := S4x64x63) ![0, 0, 0] S4x64x63.size inb_S4x64x63_S4x64x63_0_0_0
abbrev r0_3 : Rect S4x12x63x64 := Rect.unit (s := S4x12x63x64) ![0, 0, 0, 0] S4x12x63x64.size inb_S4x12x63x64_S4x12x63x64_0_0_0_0
abbrev r0_4 : Rect S4x12x64x63 := Rect.unit (s := S4x12x64x63) ![0, 0, 0, 0] S4x12x64x63.size inb_S4x12x64x63_S4x12x64x63_0_0_0_0

/-! ## What the body leaves in each output window's buffer -/

/-! ### Values of the body that several stores share, over the input windows' blocks -/

def k0_pay879 (x0 : Vec F S4x64x64 .f32) (x1 : Vec F S4x64x64 .f32) : FVec F S4x64x63 .f32 :=
  k0_pay7 (View.ld x1 r0_0)
def k0_pay880 (x0 : Vec F S4x64x64 .f32) (x1 : Vec F S4x64x64 .f32) : FVec F S4x64x63 .f32 :=
  k0_pay8 (View.ld x1 r0_0)
def k0_pay881 (x0 : Vec F S4x64x64 .f32) (x1 : Vec F S4x64x64 .f32) : IVec S4x64x63 1 :=
  k0_pay10 (View.ld x1 r0_0)
def k0_pay882 (x0 : Vec F S4x64x64 .f32) (x1 : Vec F S4x64x64 .f32) : IVec S4x64x63 1 :=
  k0_pay11 (View.ld x1 r0_0)
def k0_pay883 (x0 : Vec F S4x64x64 .f32) (x1 : Vec F S4x64x64 .f32) : FVec F S4x63x64 .f32 :=
  k0_pay14 (View.ld x0 r0_0)
def k0_pay884 (x0 : Vec F S4x64x64 .f32) (x1 : Vec F S4x64x64 .f32) : FVec F S4x64x63 .f32 :=
  k0_pay19 (k0_pay15 (View.ld x0 r0_0)) (k0_pay16 (View.ld x0 r0_0)) (k0_pay17 (F := F)) (k0_pay18 (View.ld x0 r0_0))
def k0_pay885 (x0 : Vec F S4x64x64 .f32) (x1 : Vec F S4x64x64 .f32) : FVec F S4x71x71 .f32 :=
  k0_pay20 (k0_pay5 (View.ld x1 r0_0)) (k0_pay6 (View.ld x1 r0_0))
def k0_pay886 (x0 : Vec F S4x64x64 .f32) (x1 : Vec F S4x64x64 .f32) : FVec F S4x71x71 .f32 :=
  k0_pay21 (k0_pay12 (k0_pay879 x0 x1) (k0_pay880 x0 x1) (k0_pay9 (F := F)) (k0_pay881 x0 x1) (k0_pay882 x0 x1)) (k0_pay13 (k0_pay879 x0 x1) (k0_pay880 x0 x1) (k0_pay881 x0 x1) (k0_pay882 x0 x1))
def k0_pay887 (x0 : Vec F S4x64x64 .f32) (x1 : Vec F S4x64x64 .f32) : FVec F S4x63x64 .f32 :=
  k0_pay22 (F := F)
def k0_pay888 (x0 : Vec F S4x64x64 .f32) (x1 : Vec F S4x64x64 .f32) : FVec F S4x63x64 .f32 :=
  k0_pay23 (F := F)
def k0_pay889 (x0 : Vec F S4x64x64 .f32) (x1 : Vec F S4x64x64 .f32) : FVec F S4x64x63 .f32 :=
  k0_pay24 (F := F)
def k0_pay890 (x0 : Vec F S4x64x64 .f32) (x1 : Vec F S4x64x64 .f32) : FVec F S4x64x63 .f32 :=
  k0_pay25 (F := F)
def k0_pay891 (x0 : Vec F S4x64x64 .f32) (x1 : Vec F S4x64x64 .f32) : FVec F S4x63x64 .f32 :=
  k0_pay26 (F := F)
def k0_pay892 (x0 : Vec F S4x64x64 .f32) (x1 : Vec F S4x64x64 .f32) : FVec F S4x63x64 .f32 :=
  k0_pay30 (k0_pay888 x0 x1) (k0_pay29 (F := F))
def k0_pay893 (x0 : Vec F S4x64x64 .f32) (x1 : Vec F S4x64x64 .f32) : FVec F S4x63x64 .f32 :=
  k0_pay31 (k0_pay888 x0 x1)
def k0_pay894 (x0 : Vec F S4x64x64 .f32) (x1 : Vec F S4x64x64 .f32) : FVec F S4x63x64 .f32 :=
  k0_pay32 (k0_pay888 x0 x1)
def k0_pay895 (x0 : Vec F S4x64x64 .f32) (x1 : Vec F S4x64x64 .f32) : FVec F S4x63x64 .f32 :=
  k0_pay33 (k0_pay888 x0 x1)
def k0_pay896 (x0 : Vec F S4x64x64 .f32) (x1 : Vec F S4x64x64 .f32) : FVec F S4x63x64 .f32 :=
  k0_pay34 (k0_pay888 x0 x1)
def k0_pay897 (x0 : Vec F S4x64x64 .f32) (x1 : Vec F S4x64x64 .f32) : FVec F S4x63x64 .f32 :=
  k0_pay35 (k0_pay888 x0 x1)
def k0_pay898 (x0 : Vec F S4x64x64 .f32) (x1 : Vec F S4x64x64 .f32) : FVec F S4x63x64 .f32 :=
  k0_pay36 (k0_pay888 x0 x1)
def k0_pay899 (x0 : Vec F S4x64x64 .f32) (x1 : Vec F S4x64x64 .f32) : FVec F S4x63x64 .f32 :=
  k0_pay48 (k0_pay883 x0 x1) (k0_pay885 x0 x1) (k0_pay891 x0 x1)
def k0_pay900 (x0 : Vec F S4x64x64 .f32) (x1 : Vec F S4x64x64 .f32) : FVec F S4x63x64 .f32 :=
  k0_pay52 (k0_pay883 x0 x1) (k0_pay885 x0 x1)
def k0_pay901 (x0 : Vec F S4x64x64 .f32) (x1 : Vec F S4x64x64 .f32) : IVec S4x63x64 1 :=
  k0_pay53 (k0_pay883 x0 x1) (k0_pay885 x0 x1) (k0_pay891 x0 x1)
def k0_pay902 (x0 : Vec F S4x64x64 .f32) (x1 : Vec F S4x64x64 .f32) : FVec F S4x63x64 .f32 :=
  k0_pay74 (k0_pay883 x0 x1) (k0_pay885 x0 x1) (k0_pay899 x0 x1) (k0_pay900 x0 x1) (k0_pay901 x0 x1)
def k0_pay903 (x0 : Vec F S4x64x64 .f32) (x1 : Vec F S4x64x64 .f32) : FVec F S4x63x64 .f32 :=
  k0_pay78 (k0_pay883 x0 x1) (k0_pay885 x0 x1)
def k0_pay904 (x0 : Vec F S4x64x64 .f32) (x1 : Vec F S4x64x64 .f32) : FVec F S4x63x64 .f32 :=
  k0_pay97 (k0_pay883 x0 x1) (k0_pay885 x0 x1) (k0_pay902 x0 x1) (k0_pay903 x0 x1)
def k0_pay905 (x0 : Vec F S4x64x64 .f32) (x1 : Vec F S4x64x64 .f32) : FVec F S4x63x64 .f32 :=
  k0_pay101 (k0_pay883 x0 x1) (k0_pay885 x0 x1)
def k0_pay906 (x0 : Vec F S4x64x64 .f32) (x1 : Vec F S4x64x64 .f32) : FVec F S4x63x64 .f32 :=
  k0_pay123 (k0_pay883 x0 x1) (k0_pay885 x0 x1) (k0_pay904 x0 x1) (k0_pay905 x0 x1)
def k0_pay907 (x0 : Vec F S4x64x64 .f32) (x1 : Vec F S4x64x64 .f32) : FVec F S4x63x64 .f32 :=
  k0_pay126 (k0_pay885 x0 x1)
def k0_pay908 (x0 : Vec F S4x64x64 .f32) (x1 : Vec F S4x64x64 .f32) : FVec F S4x63x64 .f32 :=
  k0_pay145 (k0_pay883 x0 x1) (k0_pay885 x0 x1) (k0_pay906 x0 x1) (k0_pay907 x0 x1)
def k0_pay909 (x0 : Vec F S4x64x64 .f32) (x1 : Vec F S4x64x64 .f32) : FVec F S4x63x64 .f32 :=
  k0_pay149 (k0_pay883 x0 x1) (k0_pay885 x0 x1)
def k0_pay910 (x0 : Vec F S4x64x64 .f32) (x1 : Vec F S4x64x64 .f32) : FVec F S4x63x64 .f32 :=
  k0_pay172 (k0_pay883 x0 x1) (k0_pay885 x0 x1) (k0_pay908 x0 x1) (k0_pay909 x0 x1)
def k0_pay911 (x0 : Vec F S4x64x64 .f32) (x1 : Vec F S4x64x64 .f32) : FVec F S4x63x64 .f32 :=
  k0_pay194 (k0_pay883 x0 x1) (k0_pay885 x0 x1) (k0_pay910 x0 x1)
def k0_pay912 (x0 : Vec F S4x64x64 .f32) (x1 : Vec F S4x64x64 .f32) : FVec F S4x63x64 .f32 :=
  k0_pay198 (k0_pay883 x0 x1) (k0_pay885 x0 x1)
def k0_pay913 (x0 : Vec F S4x64x64 .f32) (x1 : Vec F S4x64x64 .f32) : FVec F S4x63x64 .f32 :=
  k0_pay199 (F := F)
def k0_pay914 (x0 : Vec F S4x64x64 .f32) (x1 : Vec F S4x64x64 .f32) : FVec F S4x63x64 .f32 :=
  k0_pay223 (k0_pay883 x0 x1) (k0_pay885 x0 x1) (k0_pay911 x0 x1) (k0_pay912 x0 x1) (k0_pay913 x0 x1)
def k0_pay915 (x0 : Vec F S4x64x64 .f32) (x1 : Vec F S4x64x64 .f32) : FVec F S4x63x64 .f32 :=
  k0_pay230 (k0_pay887 x0 x1)
def k0_pay916 (x0 : Vec F S4x64x64 .f32) (x1 : Vec F S4x64x64 .f32) : FVec F S4x63x64 .f32 :=
  k0_pay231 (k0_pay887 x0 x1)
def k0_pay917 (x0 : Vec F S4x64x64 .f32) (x1 : Vec F S4x64x64 .f32) : FVec F S4x63x64 .f32 :=
  k0_pay232 (k0_pay887 x0 x1)
def k0_pay918 (x0 : Vec F S4x64x64 .f32) (x1 : Vec F S4x64x64 .f32) : FVec F S4x63x64 .f32 :=
  k0_pay233 (k0_pay887 x0 x1)
def k0_pay919 (x0 : Vec F S4x64x64 .f32) (x1 : Vec F S4x64x64 .f32) : FVec F S4x63x64 .f32 :=
  k0_pay234 (k0_pay887 x0 x1)
def k0_pay920 (x0 : Vec F S4x64x64 .f32) (x1 : Vec F S4x64x64 .f32) : FVec F S4x63x64 .f32 :=
  k0_pay235 (k0_pay887 x0 x1)
def k0_pay921 (x0 : Vec F S4x64x64 .f32) (x1 : Vec F S4x64x64 .f32) : FVec F S4x63x64 .f32 :=
  k0_pay236 (k0_pay887 x0 x1)
def k0_pay922 (x0 : Vec F S4x64x64 .f32) (x1 : Vec F S4x64x64 .f32) : FVec F S4x63x64 .f32 :=
  k0_pay244 (k0_pay883 x0 x1) (k0_pay885 x0 x1) (k0_pay886 x0 x1) (k0_pay887 x0 x1) (k0_pay888 x0 x1) (k0_pay914 x0 x1)
def k0_pay923 (x0 : Vec F S4x64x64 .f32) (x1 : Vec F S4x64x64 .f32) : FVec F S4x63x64 .f32 :=
  k0_pay248 (k0_pay886 x0 x1) (k0_pay888 x0 x1)
def k0_pay924 (x0 : Vec F S4x64x64 .f32) (x1 : Vec F S4x64x64 .f32) : FVec F S4x63x64 .f32 :=
  k0_pay267 (k0_pay883 x0 x1) (k0_pay886 x0 x1) (k0_pay888 x0 x1) (k0_pay915 x0 x1) (k0_pay922 x0 x1) (k0_pay923 x0 x1)
def k0_pay925 (x0 : Vec F S4x64x64 .f32) (x1 : Vec F S4x64x64 .f32) : FVec F S4x63x64 .f32 :=
  k0_pay271 (k0_pay883 x0 x1) (k0_pay886 x0 x1) (k0_pay888 x0 x1) (k0_pay915 x0 x1)
def k0_pay926 (x0 : Vec F S4x64x64 .f32) (x1 : Vec F S4x64x64 .f32) : FVec F S4x63x64 .f32 :=
  k0_pay293 (k0_pay883 x0 x1) (k0_pay886 x0 x1) (k0_pay888 x0 x1) (k0_pay916 x0 x1) (k0_pay924 x0 x1) (k0_pay925 x0 x1)
def k0_pay927 (x0 : Vec F S4x64x64 .f32) (x1 : Vec F S4x64x64 .f32) : FVec F S4x63x64 .f32 :=
  k0_pay296 (k0_pay886 x0 x1)
def k0_pay928 (x0 : Vec F S4x64x64 .f32) (x1 : Vec F S4x64x64 .f32) : FVec F S4x63x64 .f32 :=
  k0_pay315 (k0_pay883 x0 x1) (k0_pay886 x0 x1) (k0_pay888 x0 x1) (k0_pay916 x0 x1) (k0_pay917 x0 x1) (k0_pay926 x0 x1) (k0_pay927 x0 x1)
def k0_pay929 (x0 : Vec F S4x64x64 .f32) (x1 : Vec F S4x64x64 .f32) : FVec F S4x63x64 .f32 :=
  k0_pay319 (k0_pay883 x0 x1) (k0_pay886 x0 x1) (k0_pay888 x0 x1) (k0_pay917 x0 x1)
def k0_pay930 (x0 : Vec F S4x64x64 .f32) (x1 : Vec F S4x64x64 .f32) : FVec F S4x63x64 .f32 :=
  k0_pay342 (k0_pay883 x0 x1) (k0_pay886 x0 x1) (k0_pay888 x0 x1) (k0_pay917 x0 x1) (k0_pay918 x0 x1) (k0_pay928 x0 x1) (k0_pay929 x0 x1)
def k0_pay931 (x0 : Vec F S4x64x64 .f32) (x1 : Vec F S4x64x64 .f32) : FVec F S4x63x64 .f32 :=
  k0_pay364 (k0_pay883 x0 x1) (k0_pay886 x0 x1) (k0_pay888 x0 x1) (k0_pay918 x0 x1) (k0_pay930 x0 x1)
def k0_pay932 (x0 : Vec F S4x64x64 .f32) (x1 : Vec F S4x64x64 .f32) : FVec F S4x63x64 .f32 :=
  k0_pay368 (k0_pay883 x0 x1) (k0_pay918 x0 x1)
def k0_pay933 (x0 : Vec F S4x64x64 .f32) (x1 : Vec F S4x64x64 .f32) : FVec F S4x63x64 .f32 :=
  k0_pay369 (k0_pay886 x0 x1) (k0_pay888 x0 x1)
def k0_pay934 (x0 : Vec F S4x64x64 .f32) (x1 : Vec F S4x64x64 .f32) : FVec F S4x63x64 .f32 :=
  k0_pay393 (k0_pay883 x0 x1) (k0_pay886 x0 x1) (k0_pay888 x0 x1) (k0_pay919 x0 x1) (k0_pay931 x0 x1) (k0_pay932 x0 x1) (k0_pay933 x0 x1)
def k0_pay935 (x0 : Vec F S4x64x64 .f32) (x1 : Vec F S4x64x64 .f32) : FVec F S4x63x64 .f32 :=
  k0_pay414 (k0_pay883 x0 x1) (k0_pay886 x0 x1) (k0_pay888 x0 x1) (k0_pay919 x0 x1) (k0_pay920 x0 x1) (k0_pay934 x0 x1)
def k0_pay936 (x0 : Vec F S4x64x64 .f32) (x1 : Vec F S4x64x64 .f32) : FVec F S4x63x64 .f32 :=
  k0_pay418 (k0_pay886 x0 x1) (k0_pay888 x0 x1)
def k0_pay937 (x0 : Vec F S4x64x64 .f32) (x1 : Vec F S4x64x64 .f32) : FVec F S4x63x64 .f32 :=
  k0_pay419 (k0_pay883 x0 x1) (k0_pay920 x0 x1)
def k0_pay938 (x0 : Vec F S4x64x64 .f32) (x1 : Vec F S4x64x64 .f32) : FVec F S4x64x63 .f32 :=
  k0_pay437 (F := F)
def k0_pay939 (x0 : Vec F S4x64x64 .f32) (x1 : Vec F S4x64x64 .f32) : FVec F S4x64x63 .f32 :=
  k0_pay439 (k0_pay890 x0 x1)
def k0_pay940 (x0 : Vec F S4x64x64 .f32) (x1 : Vec F S4x64x64 .f32) : FVec F S4x64x63 .f32 :=
  k0_pay440 (k0_pay890 x0 x1)
def k0_pay941 (x0 : Vec F S4x64x64 .f32) (x1 : Vec F S4x64x64 .f32) : FVec F S4x64x63 .f32 :=
  k0_pay441 (k0_pay890 x0 x1)
def k0_pay942 (x0 : Vec F S4x64x64 .f32) (x1 : Vec F S4x64x64 .f32) : FVec F S4x64x63 .f32 :=
  k0_pay442 (k0_pay890 x0 x1)
def k0_pay943 (x0 : Vec F S4x64x64 .f32) (x1 : Vec F S4x64x64 .f32) : FVec F S4x64x63 .f32 :=
  k0_pay443 (k0_pay890 x0 x1)
def k0_pay944 (x0 : Vec F S4x64x64 .f32) (x1 : Vec F S4x64x64 .f32) : FVec F S4x64x63 .f32 :=
  k0_pay444 (k0_pay890 x0 x1)
def k0_pay945 (x0 : Vec F S4x64x64 .f32) (x1 : Vec F S4x64x64 .f32) : FVec F S4x64x63 .f32 :=
  k0_pay445 (k0_pay890 x0 x1)
def k0_pay946 (x0 : Vec F S4x64x64 .f32) (x1 : Vec F S4x64x64 .f32) : FVec F S4x64x63 .f32 :=
  k0_pay446 (k0_pay890 x0 x1)
def k0_pay947 (x0 : Vec F S4x64x64 .f32) (x1 : Vec F S4x64x64 .f32) : FVec F S4x64x63 .f32 :=
  k0_pay458 (k0_pay884 x0 x1) (k0_pay885 x0 x1) (k0_pay889 x0 x1) (k0_pay890 x0 x1) (k0_pay938 x0 x1)
def k0_pay948 (x0 : Vec F S4x64x64 .f32) (x1 : Vec F S4x64x64 .f32) : FVec F S4x64x63 .f32 :=
  k0_pay462 (k0_pay885 x0 x1) (k0_pay889 x0 x1)
def k0_pay949 (x0 : Vec F S4x64x64 .f32) (x1 : Vec F S4x64x64 .f32) : FVec F S4x64x63 .f32 :=
  k0_pay481 (k0_pay884 x0 x1) (k0_pay885 x0 x1) (k0_pay889 x0 x1) (k0_pay941 x0 x1) (k0_pay942 x0 x1) (k0_pay943 x0 x1) (k0_pay944 x0 x1) (k0_pay945 x0 x1) (k0_pay947 x0 x1) (k0_pay948 x0 x1)
def k0_pay950 (x0 : Vec F S4x64x64 .f32) (x1 : Vec F S4x64x64 .f32) : FVec F S4x64x63 .f32 :=
  k0_pay485 (k0_pay884 x0 x1) (k0_pay885 x0 x1) (k0_pay889 x0 x1) (k0_pay940 x0 x1)
def k0_pay951 (x0 : Vec F S4x64x64 .f32) (x1 : Vec F S4x64x64 .f32) : FVec F S4x64x63 .f32 :=
  k0_pay507 (k0_pay884 x0 x1) (k0_pay885 x0 x1) (k0_pay889 x0 x1) (k0_pay941 x0 x1) (k0_pay942 x0 x1) (k0_pay943 x0 x1) (k0_pay944 x0 x1) (k0_pay945 x0 x1) (k0_pay949 x0 x1) (k0_pay950 x0 x1)
def k0_pay952 (x0 : Vec F S4x64x64 .f32) (x1 : Vec F S4x64x64 .f32) : FVec F S4x64x63 .f32 :=
  k0_pay510 (k0_pay885 x0 x1)
def k0_pay953 (x0 : Vec F S4x64x64 .f32) (x1 : Vec F S4x64x64 .f32) : FVec F S4x64x63 .f32 :=
  k0_pay529 (k0_pay884 x0 x1) (k0_pay885 x0 x1) (k0_pay889 x0 x1) (k0_pay939 x0 x1) (k0_pay940 x0 x1) (k0_pay941 x0 x1) (k0_pay942 x0 x1) (k0_pay943 x0 x1) (k0_pay951 x0 x1) (k0_pay952 x0 x1)
def k0_pay954 (x0 : Vec F S4x64x64 .f32) (x1 : Vec F S4x64x64 .f32) : FVec F S4x64x63 .f32 :=
  k0_pay533 (k0_pay884 x0 x1) (k0_pay885 x0 x1) (k0_pay889 x0 x1) (k0_pay944 x0 x1)
def k0_pay955 (x0 : Vec F S4x64x64 .f32) (x1 : Vec F S4x64x64 .f32) : FVec F S4x64x63 .f32 :=
  k0_pay556 (k0_pay884 x0 x1) (k0_pay885 x0 x1) (k0_pay889 x0 x1) (k0_pay939 x0 x1) (k0_pay940 x0 x1) (k0_pay941 x0 x1) (k0_pay945 x0 x1) (k0_pay946 x0 x1) (k0_pay953 x0 x1) (k0_pay954 x0 x1)
def k0_pay956 (x0 : Vec F S4x64x64 .f32) (x1 : Vec F S4x64x64 .f32) : FVec F S4x64x63 .f32 :=
  k0_pay578 (k0_pay884 x0 x1) (k0_pay885 x0 x1) (k0_pay889 x0 x1) (k0_pay942 x0 x1) (k0_pay943 x0 x1) (k0_pay944 x0 x1) (k0_pay945 x0 x1) (k0_pay946 x0 x1) (k0_pay955 x0 x1)
def k0_pay957 (x0 : Vec F S4x64x64 .f32) (x1 : Vec F S4x64x64 .f32) : FVec F S4x64x63 .f32 :=
  k0_pay582 (k0_pay885 x0 x1) (k0_pay889 x0 x1)
def k0_pay958 (x0 : Vec F S4x64x64 .f32) (x1 : Vec F S4x64x64 .f32) : FVec F S4x64x63 .f32 :=
  k0_pay583 (k0_pay884 x0 x1) (k0_pay940 x0 x1)
def k0_pay959 (x0 : Vec F S4x64x64 .f32) (x1 : Vec F S4x64x64 .f32) : FVec F S4x64x63 .f32 :=
  k0_pay607 (k0_pay884 x0 x1) (k0_pay885 x0 x1) (k0_pay889 x0 x1) (k0_pay941 x0 x1) (k0_pay942 x0 x1) (k0_pay943 x0 x1) (k0_pay944 x0 x1) (k0_pay945 x0 x1) (k0_pay956 x0 x1) (k0_pay957 x0 x1) (k0_pay958 x0 x1)
def k0_pay960 (x0 : Vec F S4x64x64 .f32) (x1 : Vec F S4x64x64 .f32) : FVec F S4x64x63 .f32 :=
  k0_pay628 (k0_pay884 x0 x1) (k0_pay885 x0 x1) (k0_pay889 x0 x1) (k0_pay940 x0 x1) (k0_pay941 x0 x1) (k0_pay942 x0 x1) (k0_pay943 x0 x1) (k0_pay944 x0 x1) (k0_pay959 x0 x1)
def k0_pay961 (x0 : Vec F S4x64x64 .f32) (x1 : Vec F S4x64x64 .f32) : FVec F S4x64x63 .f32 :=
  k0_pay632 (k0_pay884 x0 x1) (k0_pay945 x0 x1)
def k0_pay962 (x0 : Vec F S4x64x64 .f32) (x1 : Vec F S4x64x64 .f32) : FVec F S4x64x63 .f32 :=
  k0_pay633 (k0_pay885 x0 x1) (k0_pay889 x0 x1)
def k0_pay963 (x0 : Vec F S4x64x64 .f32) (x1 : Vec F S4x64x64 .f32) : FVec F S4x64x63 .f32 :=
  k0_pay647 (k0_pay889 x0 x1)
def k0_pay964 (x0 : Vec F S4x64x64 .f32) (x1 : Vec F S4x64x64 .f32) : FVec F S4x64x63 .f32 :=
  k0_pay648 (k0_pay889 x0 x1)
def k0_pay965 (x0 : Vec F S4x64x64 .f32) (x1 : Vec F S4x64x64 .f32) : FVec F S4x64x63 .f32 :=
  k0_pay649 (k0_pay889 x0 x1)
def k0_pay966 (x0 : Vec F S4x64x64 .f32) (x1 : Vec F S4x64x64 .f32) : FVec F S4x64x63 .f32 :=
  k0_pay650 (k0_pay889 x0 x1)
def k0_pay967 (x0 : Vec F S4x64x64 .f32) (x1 : Vec F S4x64x64 .f32) : FVec F S4x64x63 .f32 :=
  k0_pay651 (k0_pay889 x0 x1)
def k0_pay968 (x0 : Vec F S4x64x64 .f32) (x1 : Vec F S4x64x64 .f32) : FVec F S4x64x63 .f32 :=
  k0_pay656 (k0_pay884 x0 x1) (k0_pay885 x0 x1) (k0_pay886 x0 x1) (k0_pay889 x0 x1) (k0_pay942 x0 x1) (k0_pay943 x0 x1) (k0_pay960 x0 x1) (k0_pay961 x0 x1) (k0_pay962 x0 x1)
def k0_pay969 (x0 : Vec F S4x64x64 .f32) (x1 : Vec F S4x64x64 .f32) : FVec F S4x64x63 .f32 :=
  k0_pay677 (k0_pay884 x0 x1) (k0_pay886 x0 x1) (k0_pay968 x0 x1)
def k0_pay970 (x0 : Vec F S4x64x64 .f32) (x1 : Vec F S4x64x64 .f32) : FVec F S4x64x63 .f32 :=
  k0_pay681 (k0_pay884 x0 x1) (k0_pay886 x0 x1)
def k0_pay971 (x0 : Vec F S4x64x64 .f32) (x1 : Vec F S4x64x64 .f32) : IVec S4x64x63 1 :=
  k0_pay705 (k0_pay884 x0 x1) (k0_pay886 x0 x1) (k0_pay969 x0 x1) (k0_pay970 x0 x1) (Scalar.ofBits .f32 0x40800000#32)
def k0_pay972 (x0 : Vec F S4x64x64 .f32) (x1 : Vec F S4x64x64 .f32) : FVec F S4x64x63 .f32 :=
  k0_pay706 (k0_pay884 x0 x1) (k0_pay886 x0 x1) (k0_pay969 x0 x1) (k0_pay970 x0 x1) (Scalar.ofBits .f32 0x40800000#32)
def k0_pay973 (x0 : Vec F S4x64x64 .f32) (x1 : Vec F S4x64x64 .f32) : FVec F S4x64x63 .f32 :=
  k0_pay726 (k0_pay884 x0 x1) (k0_pay886 x0 x1) (k0_pay972 x0 x1)
def k0_pay974 (x0 : Vec F S4x64x64 .f32) (x1 : Vec F S4x64x64 .f32) : FVec F S4x64x63 .f32 :=
  k0_pay730 (k0_pay884 x0 x1) (k0_pay886 x0 x1)
def k0_pay975 (x0 : Vec F S4x64x64 .f32) (x1 : Vec F S4x64x64 .f32) : FVec F S4x64x63 .f32 :=
  k0_pay749 (k0_pay884 x0 x1) (k0_pay886 x0 x1) (k0_pay973 x0 x1) (k0_pay974 x0 x1)
def k0_pay976 (x0 : Vec F S4x64x64 .f32) (x1 : Vec F S4x64x64 .f32) : FVec F S4x64x63 .f32 :=
  k0_pay753 (k0_pay884 x0 x1) (k0_pay886 x0 x1)
def k0_pay977 (x0 : Vec F S4x64x64 .f32) (x1 : Vec F S4x64x64 .f32) : IVec S4x64x63 1 :=
  k0_pay754 (k0_pay884 x0 x1) (k0_pay886 x0 x1) (k0_pay973 x0 x1) (k0_pay974 x0 x1)
def k0_pay978 (x0 : Vec F S4x64x64 .f32) (x1 : Vec F S4x64x64 .f32) : FVec F S4x64x63 .f32 :=
  k0_pay775 (k0_pay884 x0 x1) (k0_pay886 x0 x1) (k0_pay975 x0 x1) (k0_pay976 x0 x1) (k0_pay977 x0 x1)
def k0_pay979 (x0 : Vec F S4x64x64 .f32) (x1 : Vec F S4x64x64 .f32) : FVec F S4x64x63 .f32 :=
  k0_pay779 (k0_pay884 x0 x1) (k0_pay886 x0 x1)
def k0_pay980 (x0 : Vec F S4x64x64 .f32) (x1 : Vec F S4x64x64 .f32) : FVec F S4x64x63 .f32 :=
  k0_pay798 (k0_pay884 x0 x1) (k0_pay886 x0 x1) (k0_pay978 x0 x1) (k0_pay979 x0 x1)
def k0_pay981 (x0 : Vec F S4x64x64 .f32) (x1 : Vec F S4x64x64 .f32) : FVec F S4x64x63 .f32 :=
  k0_pay802 (k0_pay884 x0 x1) (k0_pay886 x0 x1)
def k0_pay982 (x0 : Vec F S4x64x64 .f32) (x1 : Vec F S4x64x64 .f32) : FVec F S4x64x63 .f32 :=
  k0_pay824 (k0_pay884 x0 x1) (k0_pay886 x0 x1) (k0_pay980 x0 x1) (k0_pay981 x0 x1)
def k0_pay983 (x0 : Vec F S4x64x64 .f32) (x1 : Vec F S4x64x64 .f32) : FVec F S4x64x63 .f32 :=
  k0_pay827 (k0_pay886 x0 x1)
def k0_pay984 (x0 : Vec F S4x64x64 .f32) (x1 : Vec F S4x64x64 .f32) : FVec F S4x1x64 .f32 :=
  k0_pay845 (View.ld x0 r0_0)
def k0_pay985 (x0 : Vec F S4x64x64 .f32) (x1 : Vec F S4x64x64 .f32) : FVec F S4x1x64 .f32 :=
  k0_pay846 (View.ld x0 r0_0)
def k0_pay986 (x0 : Vec F S4x64x64 .f32) (x1 : Vec F S4x64x64 .f32) : FVec F S4x64x64 .f32 :=
  k0_pay847 (View.ld x0 r0_0) (k0_pay984 x0 x1) (k0_pay985 x0 x1)
def k0_pay987 (x0 : Vec F S4x64x64 .f32) (x1 : Vec F S4x64x64 .f32) : FVec F S4x64x64 .f32 :=
  k0_pay848 (View.ld x0 r0_0)
def k0_pay988 (x0 : Vec F S4x64x64 .f32) (x1 : Vec F S4x64x64 .f32) : IVec S4x63x64 1 :=
  k0_pay849 (k0_pay883 x0 x1) (k0_pay887 x0 x1)
def k0_pay989 (x0 : Vec F S4x64x64 .f32) (x1 : Vec F S4x64x64 .f32) : IVec S4x64x63 1 :=
  k0_pay850 (k0_pay884 x0 x1) (k0_pay890 x0 x1)
def k0_pay990 (x0 : Vec F S4x64x64 .f32) (x1 : Vec F S4x64x64 .f32) : FVec F S4x64x64 .f32 :=
  k0_pay856 (View.ld x0 r0_0) (k0_pay984 x0 x1) (k0_pay985 x0 x1)

/-- What the body leaves in output window 2's buffer: its one store. -/
def out0_2 (x0 : Vec F S4x64x64 .f32) (x1 : Vec F S4x64x64 .f32) : Vec F S4x63x64 .f32 :=
  View.canon [⟨r0_1, k0_pay434 (k0_pay883 x0 x1) (k0_pay886 x0 x1) (k0_pay888 x0 x1) (k0_pay920 x0 x1) (k0_pay921 x0 x1) (k0_pay935 x0 x1) (k0_pay936 x0 x1) (k0_pay937 x0 x1)⟩]

/-- The store covers the buffer. -/
theorem cover0_2 (p0 : Vec F S4x63x64 .f32) (y : S4x63x64.Idx) :
    ∃ pc ∈ ([⟨r0_1, p0⟩] : List (View.Piece (Elt F) S4x63x64 .f32)), y ∈ pc.1.set :=
  View.cover_of_tiled [⟨r0_1, p0⟩] S4x63x64.size (by rfl) y

/-- What the body leaves in output window 3's buffer: its one store. -/
def out0_3 (x0 : Vec F S4x64x64 .f32) (x1 : Vec F S4x64x64 .f32) : Vec F S4x63x64 .f32 :=
  View.canon [⟨r0_1, k0_pay435 (k0_pay883 x0 x1) (k0_pay886 x0 x1) (k0_pay888 x0 x1) (k0_pay920 x0 x1) (k0_pay921 x0 x1) (k0_pay935 x0 x1) (k0_pay415 (k0_pay883 x0 x1) (k0_pay886 x0 x1) (k0_pay888 x0 x1) (k0_pay919 x0 x1) (k0_pay920 x0 x1) (k0_pay934 x0 x1) (k0_pay394 (k0_pay883 x0 x1) (k0_pay886 x0 x1) (k0_pay888 x0 x1) (k0_pay918 x0 x1) (k0_pay919 x0 x1) (k0_pay931 x0 x1) (k0_pay365 (k0_pay883 x0 x1) (k0_pay886 x0 x1) (k0_pay888 x0 x1) (k0_pay918 x0 x1) (k0_pay930 x0 x1) (k0_pay343 (k0_pay883 x0 x1) (k0_pay886 x0 x1) (k0_pay888 x0 x1) (k0_pay917 x0 x1) (k0_pay918 x0 x1) (k0_pay928 x0 x1) (k0_pay316 (k0_pay883 x0 x1) (k0_pay886 x0 x1) (k0_pay888 x0 x1) (k0_pay916 x0 x1) (k0_pay917 x0 x1) (k0_pay926 x0 x1) (k0_pay294 (k0_pay883 x0 x1) (k0_pay886 x0 x1) (k0_pay888 x0 x1) (k0_pay915 x0 x1) (k0_pay916 x0 x1) (k0_pay924 x0 x1) (k0_pay268 (k0_pay883 x0 x1) (k0_pay886 x0 x1) (k0_pay888 x0 x1) (k0_pay915 x0 x1) (k0_pay922 x0 x1) (k0_pay245 (k0_pay883 x0 x1) (k0_pay885 x0 x1) (k0_pay886 x0 x1) (k0_pay887 x0 x1) (k0_pay888 x0 x1) (k0_pay914 x0 x1) (k0_pay224 (k0_pay883 x0 x1) (k0_pay885 x0 x1) (k0_pay911 x0 x1) (k0_pay195 (k0_pay883 x0 x1) (k0_pay885 x0 x1) (k0_pay910 x0 x1) (k0_pay173 (k0_pay883 x0 x1) (k0_pay885 x0 x1) (k0_pay908 x0 x1) (k0_pay146 (k0_pay883 x0 x1) (k0_pay885 x0 x1) (k0_pay906 x0 x1) (k0_pay124 (k0_pay883 x0 x1) (k0_pay885 x0 x1) (k0_pay904 x0 x1) (k0_pay98 (k0_pay883 x0 x1) (k0_pay885 x0 x1) (k0_pay902 x0 x1) (k0_pay75 (k0_pay883 x0 x1) (k0_pay885 x0 x1) (k0_pay899 x0 x1) (k0_pay49 (k0_pay883 x0 x1) (k0_pay885 x0 x1) (k0_pay891 x0 x1) (k0_pay27 (F := F))) (k0_pay51 (k0_pay885 x0 x1)) (k0_pay900 x0 x1) (k0_pay901 x0 x1)) (k0_pay77 (k0_pay885 x0 x1)) (k0_pay903 x0 x1)) (k0_pay100 (k0_pay885 x0 x1)) (k0_pay905 x0 x1)) (k0_pay907 x0 x1)) (k0_pay148 (k0_pay885 x0 x1)) (k0_pay909 x0 x1))) (k0_pay197 (k0_pay885 x0 x1)) (k0_pay912 x0 x1) (k0_pay913 x0 x1))) (k0_pay923 x0 x1)) (k0_pay925 x0 x1)) (k0_pay927 x0 x1)) (k0_pay929 x0 x1))) (k0_pay932 x0 x1) (k0_pay933 x0 x1))) (k0_pay936 x0 x1) (k0_pay937 x0 x1)⟩]

/-- The store covers the buffer. -/
theorem cover0_3 (p0 : Vec F S4x63x64 .f32) (y : S4x63x64.Idx) :
    ∃ pc ∈ ([⟨r0_1, p0⟩] : List (View.Piece (Elt F) S4x63x64 .f32)), y ∈ pc.1.set :=
  View.cover_of_tiled [⟨r0_1, p0⟩] S4x63x64.size (by rfl) y

/-- What the body leaves in output window 4's buffer: its one store. -/
def out0_4 (x0 : Vec F S4x64x64 .f32) (x1 : Vec F S4x64x64 .f32) : Vec F S4x63x64 .f32 :=
  View.canon [⟨r0_1, k0_pay436 (k0_pay883 x0 x1) (k0_pay886 x0 x1) (k0_pay888 x0 x1) (k0_pay920 x0 x1) (k0_pay921 x0 x1) (k0_pay935 x0 x1) (k0_pay416 (k0_pay883 x0 x1) (k0_pay886 x0 x1) (k0_pay888 x0 x1) (k0_pay919 x0 x1) (k0_pay920 x0 x1) (k0_pay389 (k0_pay883 x0 x1) (k0_pay886 x0 x1) (k0_pay888 x0 x1) (k0_pay919 x0 x1) (k0_pay931 x0 x1) (k0_pay366 (k0_pay883 x0 x1) (k0_pay886 x0 x1) (k0_pay888 x0 x1) (k0_pay918 x0 x1) (k0_pay930 x0 x1) (k0_pay344 (k0_pay883 x0 x1) (k0_pay886 x0 x1) (k0_pay888 x0 x1) (k0_pay917 x0 x1) (k0_pay918 x0 x1) (k0_pay928 x0 x1) (k0_pay317 (k0_pay883 x0 x1) (k0_pay886 x0 x1) (k0_pay888 x0 x1) (k0_pay916 x0 x1) (k0_pay917 x0 x1) (k0_pay926 x0 x1) (k0_pay295 (k0_pay883 x0 x1) (k0_pay886 x0 x1) (k0_pay888 x0 x1) (k0_pay916 x0 x1) (k0_pay924 x0 x1) (k0_pay269 (k0_pay883 x0 x1) (k0_pay886 x0 x1) (k0_pay888 x0 x1) (k0_pay915 x0 x1) (k0_pay922 x0 x1) (k0_pay246 (k0_pay883 x0 x1) (k0_pay885 x0 x1) (k0_pay886 x0 x1) (k0_pay887 x0 x1) (k0_pay888 x0 x1) (k0_pay895 x0 x1) (k0_pay897 x0 x1) (k0_pay219 (k0_pay883 x0 x1) (k0_pay885 x0 x1) (k0_pay893 x0 x1) (k0_pay894 x0 x1) (k0_pay895 x0 x1) (k0_pay896 x0 x1) (k0_pay897 x0 x1) (k0_pay911 x0 x1) (k0_pay196 (k0_pay883 x0 x1) (k0_pay885 x0 x1) (k0_pay893 x0 x1) (k0_pay894 x0 x1) (k0_pay895 x0 x1) (k0_pay896 x0 x1) (k0_pay898 x0 x1) (k0_pay910 x0 x1) (k0_pay174 (k0_pay883 x0 x1) (k0_pay885 x0 x1) (k0_pay892 x0 x1) (k0_pay893 x0 x1) (k0_pay894 x0 x1) (k0_pay895 x0 x1) (k0_pay896 x0 x1) (k0_pay897 x0 x1) (k0_pay908 x0 x1) (k0_pay147 (k0_pay883 x0 x1) (k0_pay885 x0 x1) (k0_pay894 x0 x1) (k0_pay895 x0 x1) (k0_pay896 x0 x1) (k0_pay897 x0 x1) (k0_pay898 x0 x1) (k0_pay906 x0 x1) (k0_pay125 (k0_pay883 x0 x1) (k0_pay885 x0 x1) (k0_pay892 x0 x1) (k0_pay893 x0 x1) (k0_pay895 x0 x1) (k0_pay896 x0 x1) (k0_pay897 x0 x1) (k0_pay898 x0 x1) (k0_pay904 x0 x1) (k0_pay99 (k0_pay883 x0 x1) (k0_pay885 x0 x1) (k0_pay892 x0 x1) (k0_pay893 x0 x1) (k0_pay894 x0 x1) (k0_pay896 x0 x1) (k0_pay897 x0 x1) (k0_pay902 x0 x1) (k0_pay76 (k0_pay883 x0 x1) (k0_pay885 x0 x1) (k0_pay893 x0 x1) (k0_pay894 x0 x1) (k0_pay895 x0 x1) (k0_pay896 x0 x1) (k0_pay897 x0 x1) (k0_pay899 x0 x1) (k0_pay50 (k0_pay883 x0 x1) (k0_pay885 x0 x1) (k0_pay888 x0 x1) (k0_pay891 x0 x1) (k0_pay28 (F := F))) (k0_pay900 x0 x1) (k0_pay901 x0 x1)) (k0_pay903 x0 x1)) (k0_pay905 x0 x1)) (k0_pay907 x0 x1)) (k0_pay909 x0 x1))) (k0_pay912 x0 x1) (k0_pay913 x0 x1)) (k0_pay222 (k0_pay883 x0 x1) (k0_pay885 x0 x1) (k0_pay911 x0 x1) (k0_pay912 x0 x1) (k0_pay913 x0 x1)) (k0_pay914 x0 x1)) (k0_pay247 (k0_pay886 x0 x1)) (k0_pay923 x0 x1)) (k0_pay270 (k0_pay886 x0 x1)) (k0_pay925 x0 x1)) (k0_pay927 x0 x1)) (k0_pay318 (k0_pay886 x0 x1)) (k0_pay929 x0 x1))) (k0_pay367 (k0_pay886 x0 x1)) (k0_pay932 x0 x1) (k0_pay933 x0 x1)) (k0_pay390 (k0_pay886 x0 x1)) (k0_pay392 (k0_pay883 x0 x1) (k0_pay886 x0 x1) (k0_pay888 x0 x1) (k0_pay919 x0 x1) (k0_pay931 x0 x1) (k0_pay932 x0 x1) (k0_pay933 x0 x1)) (k0_pay934 x0 x1)) (k0_pay417 (k0_pay886 x0 x1)) (k0_pay936 x0 x1) (k0_pay937 x0 x1)⟩]

/-- The store covers the buffer. -/
theorem cover0_4 (p0 : Vec F S4x63x64 .f32) (y : S4x63x64.Idx) :
    ∃ pc ∈ ([⟨r0_1, p0⟩] : List (View.Piece (Elt F) S4x63x64 .f32)), y ∈ pc.1.set :=
  View.cover_of_tiled [⟨r0_1, p0⟩] S4x63x64.size (by rfl) y

/-- What the body leaves in output window 5's buffer: its one store. -/
def out0_5 (x0 : Vec F S4x64x64 .f32) (x1 : Vec F S4x64x64 .f32) : Vec F S4x64x63 .f32 :=
  View.canon [⟨r0_2, k0_pay842 (k0_pay884 x0 x1) (k0_pay886 x0 x1) (k0_pay982 x0 x1) (k0_pay983 x0 x1)⟩]

/-- The store covers the buffer. -/
theorem cover0_5 (p0 : Vec F S4x64x63 .f32) (y : S4x64x63.Idx) :
    ∃ pc ∈ ([⟨r0_2, p0⟩] : List (View.Piece (Elt F) S4x64x63 .f32)), y ∈ pc.1.set :=
  View.cover_of_tiled [⟨r0_2, p0⟩] S4x64x63.size (by rfl) y

/-- What the body leaves in output window 6's buffer: its one store. -/
def out0_6 (x0 : Vec F S4x64x64 .f32) (x1 : Vec F S4x64x64 .f32) : Vec F S4x64x63 .f32 :=
  View.canon [⟨r0_2, k0_pay843 (k0_pay884 x0 x1) (k0_pay886 x0 x1) (k0_pay967 x0 x1) (k0_pay652 (k0_pay889 x0 x1)) (k0_pay982 x0 x1) (k0_pay825 (k0_pay884 x0 x1) (k0_pay886 x0 x1) (k0_pay967 x0 x1) (k0_pay980 x0 x1) (k0_pay799 (k0_pay884 x0 x1) (k0_pay886 x0 x1) (k0_pay966 x0 x1) (k0_pay978 x0 x1) (k0_pay776 (k0_pay884 x0 x1) (k0_pay886 x0 x1) (k0_pay965 x0 x1) (k0_pay966 x0 x1) (k0_pay975 x0 x1) (k0_pay750 (k0_pay884 x0 x1) (k0_pay886 x0 x1) (k0_pay965 x0 x1) (k0_pay973 x0 x1) (k0_pay727 (k0_pay884 x0 x1) (k0_pay886 x0 x1) (k0_pay964 x0 x1) (k0_pay701 (k0_pay884 x0 x1) (k0_pay886 x0 x1) (k0_pay963 x0 x1) (k0_pay964 x0 x1) (k0_pay969 x0 x1) (k0_pay678 (k0_pay884 x0 x1) (k0_pay886 x0 x1) (k0_pay646 (k0_pay889 x0 x1)) (k0_pay963 x0 x1) (k0_pay968 x0 x1) (k0_pay657 (k0_pay884 x0 x1) (k0_pay885 x0 x1) (k0_pay886 x0 x1) (k0_pay889 x0 x1) (k0_pay942 x0 x1) (k0_pay943 x0 x1) (k0_pay960 x0 x1) (k0_pay629 (k0_pay884 x0 x1) (k0_pay885 x0 x1) (k0_pay889 x0 x1) (k0_pay940 x0 x1) (k0_pay941 x0 x1) (k0_pay942 x0 x1) (k0_pay943 x0 x1) (k0_pay944 x0 x1) (k0_pay959 x0 x1) (k0_pay608 (k0_pay884 x0 x1) (k0_pay885 x0 x1) (k0_pay889 x0 x1) (k0_pay941 x0 x1) (k0_pay942 x0 x1) (k0_pay943 x0 x1) (k0_pay944 x0 x1) (k0_pay945 x0 x1) (k0_pay956 x0 x1) (k0_pay579 (k0_pay884 x0 x1) (k0_pay885 x0 x1) (k0_pay889 x0 x1) (k0_pay942 x0 x1) (k0_pay943 x0 x1) (k0_pay944 x0 x1) (k0_pay945 x0 x1) (k0_pay946 x0 x1) (k0_pay955 x0 x1) (k0_pay557 (k0_pay884 x0 x1) (k0_pay885 x0 x1) (k0_pay889 x0 x1) (k0_pay939 x0 x1) (k0_pay940 x0 x1) (k0_pay941 x0 x1) (k0_pay945 x0 x1) (k0_pay946 x0 x1) (k0_pay953 x0 x1) (k0_pay530 (k0_pay884 x0 x1) (k0_pay885 x0 x1) (k0_pay889 x0 x1) (k0_pay939 x0 x1) (k0_pay940 x0 x1) (k0_pay941 x0 x1) (k0_pay942 x0 x1) (k0_pay943 x0 x1) (k0_pay951 x0 x1) (k0_pay508 (k0_pay884 x0 x1) (k0_pay885 x0 x1) (k0_pay889 x0 x1) (k0_pay941 x0 x1) (k0_pay942 x0 x1) (k0_pay943 x0 x1) (k0_pay944 x0 x1) (k0_pay945 x0 x1) (k0_pay949 x0 x1) (k0_pay482 (k0_pay884 x0 x1) (k0_pay885 x0 x1) (k0_pay889 x0 x1) (k0_pay941 x0 x1) (k0_pay942 x0 x1) (k0_pay943 x0 x1) (k0_pay944 x0 x1) (k0_pay945 x0 x1) (k0_pay947 x0 x1) (k0_pay459 (k0_pay884 x0 x1) (k0_pay885 x0 x1) (k0_pay889 x0 x1) (k0_pay890 x0 x1) (k0_pay938 x0 x1) (k0_pay438 (F := F))) (k0_pay461 (k0_pay885 x0 x1)) (k0_pay948 x0 x1)) (k0_pay484 (k0_pay885 x0 x1)) (k0_pay950 x0 x1)) (k0_pay952 x0 x1)) (k0_pay532 (k0_pay885 x0 x1)) (k0_pay954 x0 x1))) (k0_pay581 (k0_pay885 x0 x1)) (k0_pay957 x0 x1) (k0_pay958 x0 x1))) (k0_pay631 (k0_pay885 x0 x1)) (k0_pay961 x0 x1) (k0_pay962 x0 x1))) (k0_pay970 x0 x1) (Scalar.ofBits .f32 0x40800000#32)) (k0_pay971 x0 x1) (k0_pay972 x0 x1)) (k0_pay974 x0 x1)) (k0_pay976 x0 x1) (k0_pay977 x0 x1)) (k0_pay979 x0 x1)) (k0_pay981 x0 x1)) (k0_pay983 x0 x1)⟩]

/-- The store covers the buffer. -/
theorem cover0_6 (p0 : Vec F S4x64x63 .f32) (y : S4x64x63.Idx) :
    ∃ pc ∈ ([⟨r0_2, p0⟩] : List (View.Piece (Elt F) S4x64x63 .f32)), y ∈ pc.1.set :=
  View.cover_of_tiled [⟨r0_2, p0⟩] S4x64x63.size (by rfl) y

/-- What the body leaves in output window 7's buffer: its one store. -/
def out0_7 (x0 : Vec F S4x64x64 .f32) (x1 : Vec F S4x64x64 .f32) : Vec F S4x64x63 .f32 :=
  View.canon [⟨r0_2, k0_pay844 (k0_pay884 x0 x1) (k0_pay886 x0 x1) (k0_pay982 x0 x1) (k0_pay826 (k0_pay884 x0 x1) (k0_pay886 x0 x1) (k0_pay980 x0 x1) (k0_pay800 (k0_pay884 x0 x1) (k0_pay886 x0 x1) (k0_pay978 x0 x1) (k0_pay777 (k0_pay884 x0 x1) (k0_pay886 x0 x1) (k0_pay975 x0 x1) (k0_pay751 (k0_pay884 x0 x1) (k0_pay886 x0 x1) (k0_pay973 x0 x1) (k0_pay728 (k0_pay884 x0 x1) (k0_pay886 x0 x1) (k0_pay702 (k0_pay884 x0 x1) (k0_pay886 x0 x1) (k0_pay969 x0 x1) (k0_pay679 (k0_pay884 x0 x1) (k0_pay886 x0 x1) (k0_pay645 (k0_pay884 x0 x1) (k0_pay885 x0 x1) (k0_pay889 x0 x1) (k0_pay942 x0 x1) (k0_pay943 x0 x1) (k0_pay945 x0 x1) (k0_pay960 x0 x1) (k0_pay630 (k0_pay884 x0 x1) (k0_pay885 x0 x1) (k0_pay889 x0 x1) (k0_pay940 x0 x1) (k0_pay941 x0 x1) (k0_pay942 x0 x1) (k0_pay943 x0 x1) (k0_pay944 x0 x1) (k0_pay945 x0 x1) (k0_pay603 (k0_pay884 x0 x1) (k0_pay885 x0 x1) (k0_pay889 x0 x1) (k0_pay940 x0 x1) (k0_pay941 x0 x1) (k0_pay942 x0 x1) (k0_pay943 x0 x1) (k0_pay944 x0 x1) (k0_pay956 x0 x1) (k0_pay580 (k0_pay884 x0 x1) (k0_pay885 x0 x1) (k0_pay889 x0 x1) (k0_pay942 x0 x1) (k0_pay943 x0 x1) (k0_pay944 x0 x1) (k0_pay945 x0 x1) (k0_pay946 x0 x1) (k0_pay955 x0 x1) (k0_pay558 (k0_pay884 x0 x1) (k0_pay885 x0 x1) (k0_pay889 x0 x1) (k0_pay939 x0 x1) (k0_pay940 x0 x1) (k0_pay941 x0 x1) (k0_pay944 x0 x1) (k0_pay945 x0 x1) (k0_pay946 x0 x1) (k0_pay953 x0 x1) (k0_pay531 (k0_pay884 x0 x1) (k0_pay885 x0 x1) (k0_pay889 x0 x1) (k0_pay939 x0 x1) (k0_pay940 x0 x1) (k0_pay941 x0 x1) (k0_pay942 x0 x1) (k0_pay943 x0 x1) (k0_pay951 x0 x1) (k0_pay509 (k0_pay884 x0 x1) (k0_pay885 x0 x1) (k0_pay889 x0 x1) (k0_pay940 x0 x1) (k0_pay941 x0 x1) (k0_pay942 x0 x1) (k0_pay943 x0 x1) (k0_pay944 x0 x1) (k0_pay945 x0 x1) (k0_pay949 x0 x1) (k0_pay483 (k0_pay884 x0 x1) (k0_pay885 x0 x1) (k0_pay889 x0 x1) (k0_pay941 x0 x1) (k0_pay942 x0 x1) (k0_pay943 x0 x1) (k0_pay944 x0 x1) (k0_pay945 x0 x1) (k0_pay947 x0 x1) (k0_pay460 (k0_pay884 x0 x1) (k0_pay885 x0 x1) (k0_pay889 x0 x1) (k0_pay890 x0 x1) (k0_pay938 x0 x1) (Scalar.ofBits .f32 0x00000000#32)) (k0_pay948 x0 x1)) (k0_pay950 x0 x1)) (k0_pay952 x0 x1)) (k0_pay954 x0 x1))) (k0_pay957 x0 x1) (k0_pay958 x0 x1)) (k0_pay606 (k0_pay884 x0 x1) (k0_pay885 x0 x1) (k0_pay889 x0 x1) (k0_pay941 x0 x1) (k0_pay942 x0 x1) (k0_pay943 x0 x1) (k0_pay944 x0 x1) (k0_pay945 x0 x1) (k0_pay956 x0 x1) (k0_pay957 x0 x1) (k0_pay958 x0 x1)) (k0_pay959 x0 x1)) (k0_pay961 x0 x1) (k0_pay962 x0 x1)) (k0_pay653 (k0_pay886 x0 x1)) (k0_pay655 (k0_pay884 x0 x1) (k0_pay885 x0 x1) (k0_pay886 x0 x1) (k0_pay889 x0 x1) (k0_pay942 x0 x1) (k0_pay943 x0 x1) (k0_pay960 x0 x1) (k0_pay961 x0 x1) (k0_pay962 x0 x1)) (k0_pay968 x0 x1)) (k0_pay680 (k0_pay886 x0 x1)) (k0_pay970 x0 x1) (Scalar.ofBits .f32 0x40800000#32)) (k0_pay703 (k0_pay886 x0 x1)) (k0_pay971 x0 x1) (k0_pay972 x0 x1)) (k0_pay729 (k0_pay886 x0 x1)) (k0_pay974 x0 x1)) (k0_pay752 (k0_pay886 x0 x1)) (k0_pay976 x0 x1) (k0_pay977 x0 x1)) (k0_pay778 (k0_pay886 x0 x1)) (k0_pay979 x0 x1)) (k0_pay801 (k0_pay886 x0 x1)) (k0_pay981 x0 x1)) (k0_pay983 x0 x1)⟩]

/-- The store covers the buffer. -/
theorem cover0_7 (p0 : Vec F S4x64x63 .f32) (y : S4x64x63.Idx) :
    ∃ pc ∈ ([⟨r0_2, p0⟩] : List (View.Piece (Elt F) S4x64x63 .f32)), y ∈ pc.1.set :=
  View.cover_of_tiled [⟨r0_2, p0⟩] S4x64x63.size (by rfl) y

/-- What the body leaves in output window 8's buffer: its one store. -/
def out0_8 (x0 : Vec F S4x64x64 .f32) (x1 : Vec F S4x64x64 .f32) : Vec F S4x12x63x64 .f32 :=
  View.canon [⟨r0_3, k0_pay877 (View.ld x0 r0_0) (k0_pay988 x0 x1) (k0_pay852 (View.ld x0 r0_0) (k0_pay883 x0 x1) (k0_pay887 x0 x1) (k0_pay984 x0 x1) (k0_pay985 x0 x1)) (k0_pay853 (View.ld x0 r0_0) (k0_pay883 x0 x1) (k0_pay887 x0 x1) (k0_pay984 x0 x1) (k0_pay985 x0 x1)) (k0_pay854 (View.ld x0 r0_0) (k0_pay883 x0 x1) (k0_pay887 x0 x1) (k0_pay984 x0 x1) (k0_pay985 x0 x1)) (k0_pay855 (View.ld x0 r0_0) (k0_pay883 x0 x1) (k0_pay887 x0 x1) (k0_pay984 x0 x1) (k0_pay985 x0 x1)) (k0_pay864 (k0_pay987 x0 x1) (k0_pay988 x0 x1)) (k0_pay865 (k0_pay987 x0 x1) (k0_pay988 x0 x1)) (k0_pay866 (k0_pay987 x0 x1) (k0_pay988 x0 x1)) (k0_pay867 (k0_pay987 x0 x1) (k0_pay988 x0 x1)) (k0_pay873 (View.ld x0 r0_0)) (k0_pay874 (View.ld x0 r0_0)) (k0_pay875 (View.ld x0 r0_0)) (k0_pay876 (View.ld x0 r0_0) (k0_pay988 x0 x1))⟩]

/-- The store covers the buffer. -/
theorem cover0_8 (p0 : Vec F S4x12x63x64 .f32) (y : S4x12x63x64.Idx) :
    ∃ pc ∈ ([⟨r0_3, p0⟩] : List (View.Piece (Elt F) S4x12x63x64 .f32)), y ∈ pc.1.set :=
  View.cover_of_tiled [⟨r0_3, p0⟩] S4x12x63x64.size (by rfl) y

/-- What the body leaves in output window 9's buffer: its one store. -/
def out0_9 (x0 : Vec F S4x64x64 .f32) (x1 : Vec F S4x64x64 .f32) : Vec F S4x12x64x63 .f32 :=
  View.canon [⟨r0_4, k0_pay878 (View.ld x0 r0_0) (k0_pay989 x0 x1) (k0_pay859 (k0_pay986 x0 x1) (k0_pay989 x0 x1)) (k0_pay860 (k0_pay986 x0 x1) (k0_pay989 x0 x1) (k0_pay857 (View.ld x0 r0_0) (k0_pay984 x0 x1) (k0_pay985 x0 x1))) (k0_pay861 (k0_pay989 x0 x1) (k0_pay990 x0 x1)) (k0_pay862 (k0_pay989 x0 x1) (k0_pay990 x0 x1) (k0_pay858 (View.ld x0 r0_0) (k0_pay984 x0 x1) (k0_pay985 x0 x1))) (k0_pay869 (k0_pay987 x0 x1) (k0_pay989 x0 x1)) (k0_pay870 (k0_pay987 x0 x1) (k0_pay989 x0 x1)) (k0_pay871 (k0_pay987 x0 x1) (k0_pay989 x0 x1)) (k0_pay872 (k0_pay987 x0 x1) (k0_pay989 x0 x1))⟩]

/-- The store covers the buffer. -/
theorem cover0_9 (p0 : Vec F S4x12x64x63 .f32) (y : S4x12x64x63.Idx) :
    ∃ pc ∈ ([⟨r0_4, p0⟩] : List (View.Piece (Elt F) S4x12x64x63 .f32)), y ∈ pc.1.set :=
  View.cover_of_tiled [⟨r0_4, p0⟩] S4x12x64x63.size (by rfl) y

/-! ## The body's triple -/

set_option maxHeartbeats 19261450 in
/-- The body, run on the inputs' blocks, leaves them as they were and each output's buffer at its `out0_W`. -/
theorem sound_kernel (c : Dev nD) (E : Set ℕ) (arg0 : Memref sig .tc .vmem S4x64x64 .f32) (harg0 : arg0.IsWhole) (arg1 : Memref sig .tc .vmem S4x64x64 .f32) (harg1 : arg1.IsWhole) (arg2 : Memref sig .tc .vmem S4x63x64 .f32) (harg2 : arg2.IsWhole) (arg3 : Memref sig .tc .vmem S4x63x64 .f32) (harg3 : arg3.IsWhole) (arg4 : Memref sig .tc .vmem S4x63x64 .f32) (harg4 : arg4.IsWhole) (arg5 : Memref sig .tc .vmem S4x64x63 .f32) (harg5 : arg5.IsWhole) (arg6 : Memref sig .tc .vmem S4x64x63 .f32) (harg6 : arg6.IsWhole) (arg7 : Memref sig .tc .vmem S4x64x63 .f32) (harg7 : arg7.IsWhole) (arg8 : Memref sig .tc .vmem S4x12x63x64 .f32) (harg8 : arg8.IsWhole) (arg9 : Memref sig .tc .vmem S4x12x64x63 .f32) (harg9 : arg9.IsWhole)
    (x0 : Vec F S4x64x64 .f32) (x1 : Vec F S4x64x64 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1) ∗ owns (c : Thread nD τ) arg6 fullShare (out0_6 x0 x1) ∗ owns (c : Thread nD τ) arg7 fullShare (out0_7 x0 x1) ∗ owns (c : Thread nD τ) arg8 fullShare (out0_8 x0 x1) ∗ owns (c : Thread nD τ) arg9 fullShare (out0_9 x0 x1)) -∗ K ⟨⟩))
      ⊢ wp frame (wpE (defs₀ (F := F)) Variants.none c none) E (cc0__nn_kernel arg0 harg0 arg1 harg1 arg2 harg2 arg3 harg3 arg4 harg4 arg5 harg5 arg6 harg6 arg7 harg7 arg8 harg8 arg9 harg9) K := by
  simp only [cc0__nn_kernel_eq_skeleton]; unfold cc0__nn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  iexists _; isplitr
  swap; · iexact H9
  ipureintro
  refine (View.read_writes_eq_canon _ _ _ (cover0_9 _)).trans ?_
  rfl

/-! ## The pipeline's proof data -/

/-- The proof data: the arrays as the region finds them; after the body each input's buffer at its block and each
    output's at its `out0_W`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
    | ⟨5, _⟩ => out0_5 (iblk m c 0 t) (iblk m c 1 t)
    | ⟨6, _⟩ => out0_6 (iblk m c 0 t) (iblk m c 1 t)
    | ⟨7, _⟩ => out0_7 (iblk m c 0 t) (iblk m c 1 t)
    | ⟨8, _⟩ => out0_8 (iblk m c 0 t) (iblk m c 1 t)
    | ⟨9, _⟩ => out0_9 (iblk m c 0 t) (iblk m c 1 t)
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]
theorem after0_5 (c : Dev nD) (t : Fin cfg0.N) : (dats m 0 c).after 5 t = out0_5 (iblk m c 0 t) (iblk m c 1 t) := by dsimp only [dats]
theorem after0_6 (c : Dev nD) (t : Fin cfg0.N) : (dats m 0 c).after 6 t = out0_6 (iblk m c 0 t) (iblk m c 1 t) := by dsimp only [dats]
theorem after0_7 (c : Dev nD) (t : Fin cfg0.N) : (dats m 0 c).after 7 t = out0_7 (iblk m c 0 t) (iblk m c 1 t) := by dsimp only [dats]
theorem after0_8 (c : Dev nD) (t : Fin cfg0.N) : (dats m 0 c).after 8 t = out0_8 (iblk m c 0 t) (iblk m c 1 t) := by dsimp only [dats]
theorem after0_9 (c : Dev nD) (t : Fin cfg0.N) : (dats m 0 c).after 9 t = out0_9 (iblk m c 0 t) (iblk m c 1 t) := by dsimp only [dats]

/-- Each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body as the table of bodies holds it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- `run_main`, with every semaphore counter at zero at the end. -/
theorem run_main_quiescent : θ_run defs (onTc (τ := τ) (main (F := F))) (s₀ m ρ) (fun r => (Pipeline.FramePost cfgs (dats m) 0 (Pipeline.afterTail₀ cfgs (dats m) 0 (V0 m) Tail.lines)) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := Tail.lines) (hsub := Tail.sub) (hfresh := Tail.fresh) (hkeep := Tail.keeps)
    (hmain := hmain m Variants.none) (hA := A_eq m) (hΦ := fun _ _ => rfl)

/-- Every execution ends with the arrays as the proof data say and every other buffer as the host operations leave it. -/
theorem run_main : θ_run defs (onTc (τ := τ) (main (F := F))) (s₀ m ρ) (Pipeline.FramePost cfgs (dats m) 0 (Pipeline.afterTail₀ cfgs (dats m) 0 (V0 m) Tail.lines)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the program runs, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Run

end
-- ==== Proof.Scalars.lean ====
/- The scalar facts of the crossings: the reals named by the float words that occur, and the position of a crossing on an
   edge of the grid, which lies between the two ends of the edge whatever the two values there are. -/
module

public import Idealize.ShloMosaic.Lib.IdealHost
public import Idealize.ShloMosaic.Lib.Pointwise

@[expose] public section

noncomputable section

namespace Cert.Edges

open Idealize.ShloMosaic

/-- The small positive word added under the division names a positive real. -/
theorem word_eps : ∃ e : ℝ, 0 < e ∧ Ideal.ofBits .f32 0x322BCC77#32 = ((e : ℝ) : EReal) := by
  refine ⟨11258999 * (2 : ℝ) ^ (-50 : ℤ), by positivity, ?_⟩
  simp [Ideal.ofBits, Ideal.ieee, -EReal.coe_mul]

/-- The word that marks the kernel's absent points. -/
theorem word_far : Ideal.ofBits .f32 0x5368D4A5#32 = ((999999995904 : ℝ) : EReal) := by
  simp [Ideal.ofBits, Ideal.ieee, -EReal.coe_mul]; norm_num

/-- The word the search starts from, about `10 ^ 20`. -/
theorem word_start : Ideal.ofBits .f32 0x60AD78EC#32 = ((100000002004087734272 : ℝ) : EReal) := by
  simp [Ideal.ofBits, Ideal.ieee, -EReal.coe_mul]; norm_num

/-- The word that marks the reference's absent points. -/
theorem word_million : Ideal.ofBits .f32 0x49742400#32 = ((1000000 : ℝ) : EReal) := by
  simp [Ideal.ofBits, Ideal.ieee, -EReal.coe_mul]; norm_num

/-- The word of the distance threshold. -/
theorem word_three : Ideal.ofBits .f32 0x40400000#32 = ((3 : ℝ) : EReal) := by
  simp [Ideal.ofBits, Ideal.ieee, -EReal.coe_mul]; norm_num

/-- The word of plus infinity. -/
theorem word_top : Ideal.ofBits .f32 0x7F800000#32 = ⊤ := by
  simp [Ideal.ofBits, Ideal.ieee]

/-- A word below `2 ^ 31`, converted to a float, is that natural number. -/
theorem sitofp_nat (k : ℕ) (hk : k < 2 ^ 31) :
    (FloatOps.sitofp .f32 (BitVec.ofNat 32 k) : Ideal .f32) = (((k : ℕ) : ℝ) : EReal) := by
  show (((BitVec.ofNat 32 k).toInt : ℝ) : EReal) = _
  rw [BitVec.toInt_eq_toNat_of_lt (by simp; omega)]
  simp [Nat.mod_eq_of_lt (show k < 4294967296 by omega)]

/-- The crossing of an edge from `k` to `k + 1` whose ends carry `p` and `q`. -/
def pos (k : ℕ) (p q : EReal) : EReal :=
  if p = 0 then (FloatOps.sitofp .f32 (BitVec.ofNat 32 k) : Ideal .f32) else
    if q = 0 then (FloatOps.sitofp .f32 (BitVec.ofNat 32 k) : Ideal .f32) + (1 : EReal) else
      (FloatOps.sitofp .f32 (BitVec.ofNat 32 k) : Ideal .f32) +
        Ideal.div (max p (-p)) (max p (-p) + max q (-q) + Ideal.ofBits .f32 0x322BCC77#32)

/-- Whether an edge whose ends carry `p` and `q` is crossed. -/
def crossed (p q : EReal) : BitVec 1 := BitVec.ofBool (decide (p = 0 ∨ q = 0 ∨ p * q < 0))

/-- The quotient in a crossing's position lies between zero and one. -/
theorem quotient_mem (x y : EReal) (hx : 0 ≤ x) (hy : 0 ≤ y) :
    ∃ t : ℝ, Ideal.div x (x + y + Ideal.ofBits .f32 0x322BCC77#32) = (t : EReal) ∧ 0 ≤ t ∧ t ≤ 1 := by
  obtain ⟨e, he, hw⟩ := word_eps
  rw [hw]
  have hpos : 0 < x + y + (e : EReal) :=
    lt_of_lt_of_le (EReal.coe_pos.mpr he) (le_add_of_nonneg_left (add_nonneg hx hy))
  rw [Ideal.div, if_neg hpos.ne']
  induction x with
  | bot => simp at hx
  | top =>
    refine ⟨0, ?_, le_rfl, zero_le_one⟩
    have : (⊤ : EReal) + y + e = ⊤ := by
      rw [EReal.top_add_of_ne_bot (by rintro rfl; simp at hy), EReal.top_add_of_ne_bot (by simp)]
    rw [this]; simp
  | coe x =>
    induction y with
    | bot => simp at hy
    | top =>
      refine ⟨0, ?_, le_rfl, zero_le_one⟩
      simp
    | coe y =>
      rw [EReal.coe_nonneg] at hx hy
      refine ⟨x * (x + y + e)⁻¹, by norm_cast, by positivity, ?_⟩
      rw [← div_eq_mul_inv, div_le_one (by positivity)]
      linarith

/-- A crossing lies on its edge. -/
theorem pos_spec (k : ℕ) (hk : k < 2 ^ 31) (p q : EReal) :
    ∃ t : ℝ, pos k p q = ((k + t : ℝ) : EReal) ∧ 0 ≤ t ∧ t ≤ 1 := by
  unfold pos
  rw [sitofp_nat k hk]
  split
  · exact ⟨0, by simp, le_rfl, zero_le_one⟩
  split
  · exact ⟨1, by rw [EReal.coe_add, EReal.coe_one], zero_le_one, le_rfl⟩
  have ha : ∀ x : EReal, 0 ≤ max x (-x) := fun x => by
    rcases le_total 0 x with h | h
    · exact le_max_of_le_left h
    · exact le_max_of_le_right (EReal.neg_nonneg.mpr h)
  obtain ⟨t, ht, h0, h1⟩ := quotient_mem _ _ (ha p) (ha q)
  exact ⟨t, by rw [ht, EReal.coe_add], h0, h1⟩

/-- The square root of a nonnegative real is at most three exactly when the real is at most nine. -/
theorem sqrt_le_three (x : ℝ) (hx : 0 ≤ x) : Ideal.sqrt (x : EReal) ≤ ((3 : ℝ) : EReal) ↔ x ≤ 9 := by
  show (if x < 0 then (⊥ : EReal) else (Real.sqrt x : EReal)) ≤ _ ↔ _
  rw [if_neg (not_lt.mpr hx), EReal.coe_le_coe_iff, Real.sqrt_le_left (by norm_num)]
  norm_num

end Cert.Edges

end
-- ==== Proof.Points.lean ====
/- The crossing points of a grid of values: where each lies, and which edges are crossed; and that the arrays of points
   computed by the two programs hold exactly these. -/
module

public import proofs.«01_k».proof.Proof.Launch
public import proofs.«01_k».proof.Proof.Scalars
public import proofs.«01_k».proof.Proof.Gen.ReferenceIdeal
public import proofs.«01_k».proof.Proof.Gen.ReferenceIdeal.Run

@[expose] public section

set_option maxRecDepth 100000

noncomputable section

namespace Cert.Edges

open Idealize.ShloMosaic Idealize.ShloMosaic.TcCoe

/-- Four images of values on a grid of 64 by 64. -/
abbrev Grid := Fin 4 → Fin 64 → Fin 64 → EReal

/-- The row at which the vertical edge below `(i, j)` is crossed. -/
def vr (A : Grid) (b : Fin 4) (i : Fin 63) (j : Fin 64) : EReal :=
  pos i.val (A b ⟨i.val, by omega⟩ j) (A b ⟨1 + i.val, by omega⟩ j)

/-- Whether the vertical edge below `(i, j)` is crossed. -/
def vm (A : Grid) (b : Fin 4) (i : Fin 63) (j : Fin 64) : BitVec 1 :=
  crossed (A b ⟨i.val, by omega⟩ j) (A b ⟨1 + i.val, by omega⟩ j)

/-- The column at which the horizontal edge right of `(i, j)` is crossed. -/
def hc (A : Grid) (b : Fin 4) (i : Fin 64) (j : Fin 63) : EReal :=
  pos j.val (A b i ⟨j.val, by omega⟩) (A b i ⟨1 + j.val, by omega⟩)

/-- Whether the horizontal edge right of `(i, j)` is crossed. -/
def hm (A : Grid) (b : Fin 4) (i : Fin 64) (j : Fin 63) : BitVec 1 :=
  crossed (A b i ⟨j.val, by omega⟩) (A b i ⟨1 + j.val, by omega⟩)

/-- The number of the point on a vertical edge. -/
def vp (i : Fin 63) (j : Fin 64) : Fin 8064 := ⟨i.val * 64 + j.val, by omega⟩

/-- The number of the point on a horizontal edge. -/
def hp (i : Fin 64) (j : Fin 63) : Fin 8064 := ⟨4032 + (i.val * 63 + j.val), by omega⟩

/-- Every point lies on a vertical or on a horizontal edge. -/
theorem point_cases (n : Fin 8064) : (∃ i j, n = vp i j) ∨ ∃ i j, n = hp i j := by
  by_cases h : n.val < 4032
  · exact .inl ⟨⟨n.val / 64, by omega⟩, ⟨n.val % 64, by omega⟩, Fin.ext (by simp only [vp]; omega)⟩
  · exact .inr ⟨⟨(n.val - 4032) / 63, by omega⟩, ⟨(n.val - 4032) % 63, by omega⟩, Fin.ext (by simp only [hp]; omega)⟩

/-- A natural number as a value. -/
def nat (k : ℕ) : EReal := ((k : ℝ) : EReal)

/-- The row of a point. -/
def row (A : Grid) (b : Fin 4) (n : Fin 8064) : EReal :=
  if h : n.val < 4032 then vr A b ⟨n.val / 64, by omega⟩ ⟨n.val % 64, by omega⟩ else nat ((n.val - 4032) / 63)

/-- The column of a point. -/
def col (A : Grid) (b : Fin 4) (n : Fin 8064) : EReal :=
  if h : n.val < 4032 then nat (n.val % 64) else hc A b ⟨(n.val - 4032) / 63, by omega⟩ ⟨(n.val - 4032) % 63, by omega⟩

/-- Whether a point's edge is crossed. -/
def msk (A : Grid) (b : Fin 4) (n : Fin 8064) : BitVec 1 :=
  if h : n.val < 4032 then vm A b ⟨n.val / 64, by omega⟩ ⟨n.val % 64, by omega⟩
  else hm A b ⟨(n.val - 4032) / 63, by omega⟩ ⟨(n.val - 4032) % 63, by omega⟩

section
variable (A : Grid) (b : Fin 4)

/-- The row of a vertical edge from its number. -/
private theorem vdiv (i : Fin 63) (j : Fin 64) : (i.val * 64 + j.val) / 64 = i.val := by omega
/-- The column of a vertical edge from its number. -/
private theorem vmod (i : Fin 63) (j : Fin 64) : (i.val * 64 + j.val) % 64 = j.val := by omega
/-- The row of a horizontal edge from its number. -/
private theorem hdiv (i : Fin 64) (j : Fin 63) : (4032 + (i.val * 63 + j.val) - 4032) / 63 = i.val := by omega
/-- The column of a horizontal edge from its number. -/
private theorem hmod (i : Fin 64) (j : Fin 63) : (4032 + (i.val * 63 + j.val) - 4032) % 63 = j.val := by omega
/-- A vertical edge's number is in the first half. -/
private theorem vlt (i : Fin 63) (j : Fin 64) : i.val * 64 + j.val < 4032 := by omega
/-- A horizontal edge's number is in the second half. -/
private theorem hge (i : Fin 64) (j : Fin 63) : ¬ 4032 + (i.val * 63 + j.val) < 4032 := by omega

/-- The row of a vertical edge's point. -/
theorem row_vp (i : Fin 63) (j : Fin 64) : row A b (vp i j) = vr A b i j := by
  simp only [row, vp, vdiv, vmod, vlt, dif_pos, Fin.eta]
/-- The row of a horizontal edge's point. -/
theorem row_hp (i : Fin 64) (j : Fin 63) : row A b (hp i j) = nat i.val := by
  simp only [row, hp, hdiv, hmod, hge, dif_neg, not_false_eq_true]
/-- The column of a vertical edge's point. -/
theorem col_vp (i : Fin 63) (j : Fin 64) : col A b (vp i j) = nat j.val := by
  simp only [col, vp, vdiv, vmod, vlt, dif_pos]
/-- The column of a horizontal edge's point. -/
theorem col_hp (i : Fin 64) (j : Fin 63) : col A b (hp i j) = hc A b i j := by
  simp only [col, hp, hdiv, hmod, hge, dif_neg, not_false_eq_true, Fin.eta]
/-- The flag of a vertical edge's point. -/
theorem msk_vp (i : Fin 63) (j : Fin 64) : msk A b (vp i j) = vm A b i j := by
  simp only [msk, vp, vdiv, vmod, vlt, dif_pos, Fin.eta]
/-- The flag of a horizontal edge's point. -/
theorem msk_hp (i : Fin 64) (j : Fin 63) : msk A b (hp i j) = hm A b i j := by
  simp only [msk, hp, hdiv, hmod, hge, dif_neg, not_false_eq_true, Fin.eta]

end

/-- The position as the programs select it, between the two exact ends and the quotient. -/
theorem pos_select (k : ℕ) (p q : EReal) :
    (if p = 0 then (FloatOps.sitofp .f32 (BitVec.ofNat 32 k) : Ideal .f32) else
      Scalar.select (IntOp.andi (~~~BitVec.ofBool (decide (p = 0))) (BitVec.ofBool (decide (q = 0))))
        ((FloatOps.sitofp .f32 (BitVec.ofNat 32 k) : Ideal .f32) + (1 : EReal))
        ((FloatOps.sitofp .f32 (BitVec.ofNat 32 k) : Ideal .f32) +
          Ideal.div (max p (-p)) (max p (-p) + max q (-q) + Ideal.ofBits .f32 0x322BCC77#32))) = pos k p q := by
  unfold pos
  by_cases hp : p = 0
  · simp [hp]
  · by_cases hq : q = 0 <;> simp [hp, hq, Scalar.select, IntOp.andi]

/-- The crossing flag as the programs build it from three disjoint cases. -/
theorem crossed_bits (p q : EReal) :
    IntOp.ori (IntOp.ori (BitVec.ofBool (decide (p = 0)))
        (IntOp.andi (~~~BitVec.ofBool (decide (p = 0))) (BitVec.ofBool (decide (q = 0)))))
      (IntOp.andi (IntOp.andi (~~~BitVec.ofBool (decide (p = 0)))
        (~~~IntOp.andi (~~~BitVec.ofBool (decide (p = 0))) (BitVec.ofBool (decide (q = 0)))))
        (BitVec.ofBool (decide (p * q < 0)))) = crossed p q := by
  unfold crossed
  by_cases hp : p = 0 <;> by_cases hq : q = 0 <;> by_cases hm : p * q < 0 <;>
    simp [hp, hq, hm, IntOp.andi, IntOp.ori]

/-- Exclusive or with one is negation. -/
theorem xori_one (x : BitVec 1) : IntOp.xori x 1#1 = ~~~x := by
  revert x; decide

section Reference
open Cert.ReferenceIdeal.Gen Cert.ReferenceIdeal.Value Cert.ReferenceIdeal
variable (V : Valuation τ sig (Elt Ideal))

/-- The first argument of the reference as a grid. -/
abbrev predOf : Grid := fun b y x => V (Proc.devRef .tc main_arg0) (ix3 b y x)
/-- The second argument of the reference as a grid. -/
abbrev gtOf : Grid := fun b y x => V (Proc.devRef .tc main_arg1) (ix3 b y x)

/-- The rows of the reference's predicted points. -/
theorem pred_row (b : Fin 4) (n : Fin 8064) : res_main_v178 V (ix3 b n (0 : Fin 2)) = row (predOf V) b n := by
  unfold row
  by_cases h : n.val < 4032
  · simp only [h, dif_pos]
    pointwise [res_main_v178, res_main_v90, res_main_v91, res_main_v94, res_main_v99, res_main_v103, res_main_v134, res_main_v135, res_main_v141, res_main_v143, res_main_v147]
    rw [dif_pos h]
    exact pos_select _ _ _
  · simp only [h, dif_neg, not_false_eq_true]
    pointwise [res_main_v178, res_main_v90, res_main_v91, res_main_v94, res_main_v99, res_main_v103, res_main_v134, res_main_v135, res_main_v141, res_main_v143, res_main_v147]
    rw [dif_neg h]
    exact sitofp_nat _ (by omega)

/-- The columns of the reference's predicted points. -/
theorem pred_col (b : Fin 4) (n : Fin 8064) : res_main_v178 V (ix3 b n (1 : Fin 2)) = col (predOf V) b n := by
  unfold col
  by_cases h : n.val < 4032
  · simp only [h, dif_pos]
    pointwise [res_main_v178, res_main_v90, res_main_v91, res_main_v94, res_main_v99, res_main_v103, res_main_v134, res_main_v135, res_main_v141, res_main_v143, res_main_v147]
    rw [dif_pos h]
    exact sitofp_nat _ (by omega)
  · simp only [h, dif_neg, not_false_eq_true]
    pointwise [res_main_v178, res_main_v90, res_main_v91, res_main_v94, res_main_v99, res_main_v103, res_main_v134, res_main_v135, res_main_v141, res_main_v143, res_main_v147]
    rw [dif_neg h]
    exact pos_select _ _ _

/-- The flags of the reference's predicted points. -/
theorem pred_msk (b : Fin 4) (n : Fin 8064) : res_main_v179 V (ix2 b n) = msk (predOf V) b n := by
  unfold msk
  by_cases h : n.val < 4032
  · simp only [h, dif_pos]
    pointwise [res_main_v179, res_main_v90, res_main_v91, res_main_v94, res_main_v99, res_main_v103, res_main_v134, res_main_v135, res_main_v141, res_main_v143, res_main_v147]
    rw [dif_pos h]
    exact crossed_bits _ _
  · simp only [h, dif_neg, not_false_eq_true]
    pointwise [res_main_v179, res_main_v90, res_main_v91, res_main_v94, res_main_v99, res_main_v103, res_main_v134, res_main_v135, res_main_v141, res_main_v143, res_main_v147]
    rw [dif_neg h]
    exact crossed_bits _ _

/-- The rows of the reference's true points. -/
theorem gt_row (b : Fin 4) (n : Fin 8064) : res_main_v88 V (ix3 b n (0 : Fin 2)) = row (gtOf V) b n := by
  unfold row
  by_cases h : n.val < 4032
  · simp only [h, dif_pos]
    pointwise [res_main_v88, res_main_v0, res_main_v1, res_main_v4, res_main_v9, res_main_v13, res_main_v44, res_main_v45, res_main_v51, res_main_v53, res_main_v57]
    rw [dif_pos h]
    exact pos_select _ _ _
  · simp only [h, dif_neg, not_false_eq_true]
    pointwise [res_main_v88, res_main_v0, res_main_v1, res_main_v4, res_main_v9, res_main_v13, res_main_v44, res_main_v45, res_main_v51, res_main_v53, res_main_v57]
    rw [dif_neg h]
    exact sitofp_nat _ (by omega)

/-- The columns of the reference's true points. -/
theorem gt_col (b : Fin 4) (n : Fin 8064) : res_main_v88 V (ix3 b n (1 : Fin 2)) = col (gtOf V) b n := by
  unfold col
  by_cases h : n.val < 4032
  · simp only [h, dif_pos]
    pointwise [res_main_v88, res_main_v0, res_main_v1, res_main_v4, res_main_v9, res_main_v13, res_main_v44, res_main_v45, res_main_v51, res_main_v53, res_main_v57]
    rw [dif_pos h]
    exact sitofp_nat _ (by omega)
  · simp only [h, dif_neg, not_false_eq_true]
    pointwise [res_main_v88, res_main_v0, res_main_v1, res_main_v4, res_main_v9, res_main_v13, res_main_v44, res_main_v45, res_main_v51, res_main_v53, res_main_v57]
    rw [dif_neg h]
    exact pos_select _ _ _

end Reference

section Kernel
open Cert.KernelIdeal.Gen Cert.KernelIdeal

/-- A kernel argument as a grid. -/
abbrev gridOf (x : Vec Ideal S4x64x64 .f32) : Grid := fun b y z => x (ix3 b y z)

/-- Reading a whole argument. -/
theorem ld0 (x : Vec Ideal S4x64x64 .f32) : View.ld x Run.r0_0 = x := by
  funext i
  show x (Run.r0_0.idx i) = x i
  congr 1
  funext a
  apply Fin.ext
  show (![0, 0, 0] : Fin 3 → ℕ) a + 1 * (i a : ℕ) = i a
  fin_cases a <;> (show 0 + 1 * _ = _; rw [Nat.zero_add, Nat.one_mul])

/-- The rows of the crossed vertical edges, as the region computes them from the second argument. -/
theorem pay5 (x : Vec Ideal S4x64x64 .f32) (b : Fin 4) (i : Fin 63) (j : Fin 64) :
    k0_pay5 x (ix3 b i j) = vr (gridOf x) b i j := by
  pointwise [k0_pay5, k0_pay1, k0_pay2, k0_pay3, k0_pay4, xori_one]
  exact pos_select _ _ _

/-- The flags of the vertical edges, as the region computes them from the second argument. -/
theorem pay6 (x : Vec Ideal S4x64x64 .f32) (b : Fin 4) (i : Fin 63) (j : Fin 64) :
    k0_pay6 x (ix3 b i j) = vm (gridOf x) b i j := by
  pointwise [k0_pay6, k0_pay1, k0_pay2, k0_pay3, k0_pay4, xori_one]
  exact crossed_bits _ _

/-- The columns of the crossed horizontal edges, as the region computes them from the second argument. -/
theorem pay12 (x0 x1 : Vec Ideal S4x64x64 .f32) (b : Fin 4) (i : Fin 64) (j : Fin 63) :
    k0_pay12 (Run.k0_pay879 x0 x1) (Run.k0_pay880 x0 x1) (k0_pay9 (F := Ideal)) (Run.k0_pay881 x0 x1) (Run.k0_pay882 x0 x1)
      (ix3 b i j) = hc (gridOf x1) b i j := by
  rw [Run.k0_pay879, Run.k0_pay880, Run.k0_pay881, Run.k0_pay882, ld0]
  pointwise [k0_pay12, k0_pay7, k0_pay8, k0_pay9, k0_pay10, k0_pay11, xori_one]
  exact pos_select _ _ _

/-- The flags of the horizontal edges, as the region computes them from the second argument. -/
theorem pay13 (x0 x1 : Vec Ideal S4x64x64 .f32) (b : Fin 4) (i : Fin 64) (j : Fin 63) :
    k0_pay13 (Run.k0_pay879 x0 x1) (Run.k0_pay880 x0 x1) (Run.k0_pay881 x0 x1) (Run.k0_pay882 x0 x1)
      (ix3 b i j) = hm (gridOf x1) b i j := by
  rw [Run.k0_pay879, Run.k0_pay880, Run.k0_pay881, Run.k0_pay882, ld0]
  pointwise [k0_pay13, k0_pay7, k0_pay8, k0_pay9, k0_pay10, k0_pay11, xori_one]
  exact crossed_bits _ _

/-- The rows of the crossed vertical edges of the first argument, in the region. -/
theorem pay883 (x0 x1 : Vec Ideal S4x64x64 .f32) (b : Fin 4) (i : Fin 63) (j : Fin 64) :
    Run.k0_pay883 x0 x1 (ix3 b i j) = vr (gridOf x0) b i j := by
  rw [Run.k0_pay883, ld0]
  pointwise [k0_pay14, xori_one]
  exact pos_select _ _ _

/-- The columns of the crossed horizontal edges of the first argument, in the region. -/
theorem pay884 (x0 x1 : Vec Ideal S4x64x64 .f32) (b : Fin 4) (i : Fin 64) (j : Fin 63) :
    Run.k0_pay884 x0 x1 (ix3 b i j) = hc (gridOf x0) b i j := by
  rw [Run.k0_pay884, ld0]
  pointwise [k0_pay19, k0_pay15, k0_pay16, k0_pay17, k0_pay18, xori_one]
  exact pos_select _ _ _

/-- The value marking an absent point in the kernel. -/
def far : EReal := Ideal.ofBits .f32 0x5368D4A5#32

/-- The padded rows of the vertical edges, at padded coordinates. -/
def gv (A : Grid) (b : Fin 4) (u v : ℕ) : EReal :=
  if h : 4 ≤ u ∧ u < 67 ∧ 3 ≤ v ∧ v < 67 then
    Scalar.select (vm A b ⟨u - 4, by omega⟩ ⟨v - 3, by omega⟩) (vr A b ⟨u - 4, by omega⟩ ⟨v - 3, by omega⟩) far
  else far

/-- The padded columns of the horizontal edges, at padded coordinates. -/
def gh (A : Grid) (b : Fin 4) (u v : ℕ) : EReal :=
  if h : 3 ≤ u ∧ u < 67 ∧ 4 ≤ v ∧ v < 67 then
    Scalar.select (hm A b ⟨u - 3, by omega⟩ ⟨v - 4, by omega⟩) (hc A b ⟨u - 3, by omega⟩ ⟨v - 4, by omega⟩) far
  else far

/-- The region's padded array of vertical edges. -/
theorem pay885 (x0 x1 : Vec Ideal S4x64x64 .f32) (b : Fin 4) (u v : Fin 71) :
    Run.k0_pay885 x0 x1 (ix3 b u v) = gv (gridOf x1) b u v := by
  rw [Run.k0_pay885, ld0]
  pointwise [k0_pay20, pay5, pay6]
  simp only [gv, far]
  split_ifs <;> first | rfl | omega | rw [dif_pos (by omega)]

/-- The region's padded array of horizontal edges. -/
theorem pay886 (x0 x1 : Vec Ideal S4x64x64 .f32) (b : Fin 4) (u v : Fin 71) :
    Run.k0_pay886 x0 x1 (ix3 b u v) = gh (gridOf x1) b u v := by
  rw [Run.k0_pay886]
  pointwise [k0_pay21, pay12, pay13]
  simp only [gh, far]
  split_ifs <;> first | rfl | omega | rw [dif_pos (by omega)]

end Kernel

end Cert.Edges

end
-- ==== Proof.Nearest.lean ====
/- The nearest true point: a search that keeps the first strict minimum over a list of candidates finds the first nearest
   of all the points whenever the list holds every point within the threshold, in order, and nothing else so near. -/
module

public import proofs.«01_k».proof.Proof.Points

@[expose] public section

noncomputable section

namespace Cert.Edges

open Idealize.ShloMosaic

/-- A distance and the point at that distance. -/
structure Near where
  /-- The distance. -/
  d : EReal
  /-- The row. -/
  r : EReal
  /-- The column. -/
  c : EReal

/-- Take the candidate where it is strictly nearer. -/
def Near.step (t e : Near) : Near := if e.d < t.d then e else t

/-- A search either keeps its start, nothing being nearer, or ends at the first nearest candidate. -/
theorem Near.fold_first {ι : Type} (f : ι → Near) (K : List ι) (s : Near) :
    (K.foldl (fun t k => t.step (f k)) s = s ∧ ∀ k ∈ K, s.d ≤ (f k).d) ∨
      ∃ K₁ e K₂, K = K₁ ++ e :: K₂ ∧ K.foldl (fun t k => t.step (f k)) s = f e ∧ (f e).d < s.d ∧
        (∀ k ∈ K₁, (f e).d < (f k).d) ∧ ∀ k ∈ K₂, (f e).d ≤ (f k).d := by
  induction K generalizing s with
  | nil => exact .inl ⟨rfl, by simp⟩
  | cons x K ih =>
    rw [List.foldl_cons]
    by_cases h : (f x).d < s.d
    · rw [show s.step (f x) = f x from if_pos h]
      rcases ih (f x) with ⟨h1, h2⟩ | ⟨K₁, e, K₂, rfl, h1, h2, h3, h4⟩
      · exact .inr ⟨[], x, K, rfl, h1, h, by simp, h2⟩
      · refine .inr ⟨x :: K₁, e, K₂, rfl, h1, h2.trans h, ?_, h4⟩
        rintro k hk
        rcases List.mem_cons.mp hk with rfl | hk
        · exact h2
        · exact h3 k hk
    · rw [show s.step (f x) = s from if_neg h]
      rcases ih s with ⟨h1, h2⟩ | ⟨K₁, e, K₂, rfl, h1, h2, h3, h4⟩
      · refine .inl ⟨h1, ?_⟩
        rintro k hk
        rcases List.mem_cons.mp hk with rfl | hk
        · exact not_lt.mp h
        · exact h2 k hk
      · refine .inr ⟨x :: K₁, e, K₂, rfl, h1, h2, ?_, h4⟩
        rintro k hk
        rcases List.mem_cons.mp hk with rfl | hk
        · exact h2.trans_le (not_lt.mp h)
        · exact h3 k hk

/-- `n` is the first index at which `D` is least. -/
def First {N : ℕ} (D : Fin N → EReal) (n : Fin N) : Prop := (∀ n', D n ≤ D n') ∧ ∀ n' < n, D n < D n'

/-- The search finds the first nearest point, if one is within the bound. -/
theorem Near.fold_eq {ι : Type} {N : ℕ} (f : ι → Near) (K : List ι) (s : Near) (idx : ι → Option (Fin N))
    (D R C : Fin N → EReal) (B : EReal) (hs : B < s.d)
    (h1 : ∀ k ∈ K, ∀ n, idx k = some n → (f k).d = D n ∧ (f k).r = R n ∧ (f k).c = C n)
    (h0 : ∀ k ∈ K, idx k = none → B < (f k).d)
    (h2 : ∀ n, D n ≤ B → ∃ k ∈ K, idx k = some n)
    (hp : K.Pairwise fun k k' => ∀ n n', idx k = some n → idx k' = some n' → n < n')
    (n : Fin N) (hn : First D n) :
    ((K.foldl (fun t k => t.step (f k)) s).d ≤ B ↔ D n ≤ B) ∧
      (D n ≤ B → (K.foldl (fun t k => t.step (f k)) s).r = R n ∧ (K.foldl (fun t k => t.step (f k)) s).c = C n) := by
  rcases fold_first f K s with ⟨e1, e2⟩ | ⟨K₁, e, K₂, rfl, e1, e2, e3, e4⟩
  · rw [e1]
    have hD : ¬ D n ≤ B := fun h => by
      obtain ⟨k, hk, hi⟩ := h2 n h
      exact absurd ((e2 k hk).trans ((h1 k hk n hi).1.le.trans h)) (not_le.mpr hs)
    exact ⟨⟨fun h => absurd h (not_le.mpr hs), fun h => absurd h hD⟩, fun h => absurd h hD⟩
  · rw [e1]
    have he : e ∈ K₁ ++ e :: K₂ := by simp
    have back : (f e).d ≤ B → ∃ m, idx e = some m := fun h => by
      cases hi : idx e with
      | none => exact absurd h (not_le.mpr (h0 e he hi))
      | some m => exact ⟨m, rfl⟩
    have fwd : D n ≤ B → idx e = some n := fun h => by
      obtain ⟨k, hk, hi⟩ := h2 n h
      have hkd := (h1 k hk n hi).1
      rw [List.pairwise_append, List.pairwise_cons] at hp
      have hle : (f e).d ≤ (f k).d := by
        rcases List.mem_append.mp hk with hk | hk
        · exact (e3 k hk).le
        · rcases List.mem_cons.mp hk with rfl | hk
          · exact le_rfl
          · exact e4 k hk
      obtain ⟨m, hm⟩ := back (hle.trans (hkd.le.trans h))
      have hmd := (h1 e he m hm).1
      have hDm : D m = D n := le_antisymm (hmd ▸ hkd ▸ hle) (hn.1 m)
      rcases lt_trichotomy m n with hlt | rfl | hgt
      · exact absurd (hn.2 m hlt) (by rw [hDm]; exact lt_irrefl _)
      · exact hm
      · exfalso
        rcases List.mem_append.mp hk with hk | hk
        · have := e3 k hk
          rw [hkd, hmd, hDm] at this
          exact lt_irrefl _ this
        · rcases List.mem_cons.mp hk with rfl | hk
          · rw [hm] at hi; exact absurd (Option.some.inj hi) hgt.ne'
          · exact absurd (hp.2.1.1 k hk m n hm hi) (not_lt.mpr hgt.le)
    refine ⟨⟨fun h => ?_, fun h => ?_⟩, fun h => ?_⟩
    · obtain ⟨m, hm⟩ := back h
      exact (hn.1 m).trans ((h1 e he m hm).1 ▸ h)
    · rw [(h1 e he n (fwd h)).1]; exact h
    · exact (h1 e he n (fwd h)).2

/-- The distance between two points, as both programs compute it. -/
def dist (pr pc r c : EReal) : EReal := Ideal.sqrt ((pr - r) * (pr - r) + (pc - c) * (pc - c))

/-- The distance between two real points is within three when the sum of squares is within nine. -/
theorem dist_le (a b r c : ℝ) :
    dist (a : EReal) (b : EReal) (r : EReal) (c : EReal) ≤ ((3 : ℝ) : EReal) ↔ (a - r) ^ 2 + (b - c) ^ 2 ≤ 9 := by
  have : dist (a : EReal) (b : EReal) (r : EReal) (c : EReal) = Ideal.sqrt (((a - r) ^ 2 + (b - c) ^ 2 : ℝ) : EReal) := by
    unfold dist
    rw [← EReal.coe_sub, ← EReal.coe_sub, ← EReal.coe_mul, ← EReal.coe_mul, ← EReal.coe_add, ← sq, ← sq]
  rw [this, sqrt_le_three _ (by positivity)]

/-- A point far from both grids is not within three. -/
theorem far_dist (a b r c : ℝ) (h : a ≤ 100) (hr : 200 ≤ r) :
    ((3 : ℝ) : EReal) < dist (a : EReal) (b : EReal) (r : EReal) (c : EReal) := by
  rw [← not_le, dist_le]
  nlinarith [sq_nonneg (b - c), mul_nonneg (sub_nonneg.mpr h) (sub_nonneg.mpr hr)]

/-- Two points whose columns are far apart are more than three apart. -/
theorem far_dist' (a b r c : ℝ) (h : b ≤ 100) (hr : 200 ≤ c) :
    ((3 : ℝ) : EReal) < dist (a : EReal) (b : EReal) (r : EReal) (c : EReal) := by
  rw [← not_le, dist_le]
  nlinarith [sq_nonneg (a - r), mul_nonneg (sub_nonneg.mpr h) (sub_nonneg.mpr hr)]

/-- The least size of a difference that lies between `m - ε` and `m + δ`. -/
def gap (ε δ m : ℤ) : ℤ := max (max (m - ε) (-(m + δ))) 0

/-- The square of the least size is at most the difference's square. -/
theorem gap_sq {ε δ m : ℤ} {u : ℝ} (h1 : (m : ℝ) - ε ≤ u) (h2 : u ≤ m + δ) : ((gap ε δ m : ℤ) : ℝ) ^ 2 ≤ u ^ 2 := by
  have h0 : 0 ≤ gap ε δ m := le_max_right _ _
  have : ((gap ε δ m : ℤ) : ℝ) ≤ |u| := by
    unfold gap
    push_cast
    refine max_le (max_le (h1.trans (le_abs_self u)) ?_) (abs_nonneg u)
    have := neg_le_abs u
    linarith
  rw [← sq_abs u]
  exact pow_le_pow_left₀ (by exact_mod_cast h0) this 2

/-- The windows searched: those whose edge may hold a point within three. -/
def offsets (ε₁ δ₁ ε₂ δ₂ : ℤ) : List (ℕ × ℕ) :=
  ((List.range 9).product (List.range 9)).filter fun p =>
    gap ε₁ δ₁ (p.1 - (3 + δ₁)) ^ 2 + gap ε₂ δ₂ (p.2 - (3 + δ₂)) ^ 2 ≤ 9

/-- A pair of grid differences small enough is one of the windows. -/
theorem mem_offsets {ε₁ δ₁ ε₂ δ₂ m k : ℤ} (e1 : ε₁ ≤ 1) (d1 : δ₁ ≤ 1) (e2 : ε₂ ≤ 1) (d2 : δ₂ ≤ 1)
    (h : gap ε₁ δ₁ m ^ 2 + gap ε₂ δ₂ k ^ 2 ≤ 9) :
    ∃ a b : ℕ, (a : ℤ) = m + (3 + δ₁) ∧ (b : ℤ) = k + (3 + δ₂) ∧ (a, b) ∈ offsets ε₁ δ₁ ε₂ δ₂ := by
  have g1 : gap ε₁ δ₁ m ≤ 3 := by nlinarith [sq_nonneg (gap ε₂ δ₂ k)]
  have g2 : gap ε₂ δ₂ k ≤ 3 := by nlinarith [sq_nonneg (gap ε₁ δ₁ m)]
  have a1 : m - ε₁ ≤ 3 := (le_max_left _ _).trans ((le_max_left _ _).trans g1)
  have a2 : -(m + δ₁) ≤ 3 := (le_max_right _ _).trans ((le_max_left _ _).trans g1)
  have b1 : k - ε₂ ≤ 3 := (le_max_left _ _).trans ((le_max_left _ _).trans g2)
  have b2 : -(k + δ₂) ≤ 3 := (le_max_right _ _).trans ((le_max_left _ _).trans g2)
  refine ⟨(m + (3 + δ₁)).toNat, (k + (3 + δ₂)).toNat, by omega, by omega, ?_⟩
  rw [offsets, List.mem_filter]
  refine ⟨List.mem_product.mpr ⟨List.mem_range.mpr (by omega), List.mem_range.mpr (by omega)⟩, ?_⟩
  rw [decide_eq_true_iff]
  simp only
  rw [show ((m + (3 + δ₁)).toNat : ℤ) - (3 + δ₁) = m by omega, show ((k + (3 + δ₂)).toNat : ℤ) - (3 + δ₂) = k by omega]
  exact h

/-- The windows of both kinds of edge: vertical ones first. -/
def keys (ε₁ ε₂ : ℤ) : List (Bool × ℕ × ℕ) :=
  (offsets ε₁ 1 ε₂ 0).map (fun p => (false, p)) ++ (offsets ε₁ 0 ε₂ 1).map (fun p => (true, p))

section
variable (G : Grid) (q : Fin 4)

/-- The point in a window, seen from `(y, x)`: none off the grid, and none on an edge not crossed. -/
def target (y x : ℕ) : Bool × ℕ × ℕ → Option (Fin 8064)
  | (false, a, b) => if h : 4 ≤ a + y ∧ a + y < 67 ∧ 3 ≤ b + x ∧ b + x < 67 then
      if vm G q ⟨a + y - 4, by omega⟩ ⟨b + x - 3, by omega⟩ = 1#1 then some (vp ⟨a + y - 4, by omega⟩ ⟨b + x - 3, by omega⟩) else none
    else none
  | (true, a, b) => if h : 3 ≤ a + y ∧ a + y < 67 ∧ 4 ≤ b + x ∧ b + x < 67 then
      if hm G q ⟨a + y - 3, by omega⟩ ⟨b + x - 4, by omega⟩ = 1#1 then some (hp ⟨a + y - 3, by omega⟩ ⟨b + x - 4, by omega⟩) else none
    else none

/-- The integer `k - 3` as a value. -/
def off (k : ℕ) : EReal := (((k : ℝ) - 3 : ℝ) : EReal)

/-- The candidate at `(r, c)`. -/
def nearOf (pr pc r c : EReal) : Near := ⟨dist pr pc r c, r, c⟩

/-- The candidate of a window. -/
def cand (pr pc : EReal) (y x : ℕ) : Bool × ℕ × ℕ → Near
  | (false, a, b) => nearOf pr pc (gv G q (a + y) (b + x)) (nat x + off b)
  | (true, a, b) => nearOf pr pc (nat y + off a) (gh G q (a + y) (b + x))

/-- The row of a true point, the absent ones put far away. -/
def rowFar (n : Fin 8064) : EReal := Scalar.select (msk G q n) (row G q n) (Ideal.ofBits .f32 0x49742400#32)
/-- The column of a true point, the absent ones put far away. -/
def colFar (n : Fin 8064) : EReal := Scalar.select (msk G q n) (col G q n) (Ideal.ofBits .f32 0x49742400#32)

/-- The crossing of a vertical edge lies on it. -/
theorem vr_spec (i : Fin 63) (j : Fin 64) : ∃ t : ℝ, vr G q i j = ((i.val + t : ℝ) : EReal) ∧ 0 ≤ t ∧ t ≤ 1 :=
  pos_spec _ (by omega) _ _

/-- The crossing of a horizontal edge lies on it. -/
theorem hc_spec (i : Fin 64) (j : Fin 63) : ∃ t : ℝ, hc G q i j = ((j.val + t : ℝ) : EReal) ∧ 0 ≤ t ∧ t ≤ 1 :=
  pos_spec _ (by omega) _ _

/-- A number plus an offset, as a real. -/
theorem nat_off (x b : ℕ) : nat x + off b = (((x : ℝ) + (b - 3) : ℝ) : EReal) := by
  rw [nat, off, EReal.coe_add]

/-- A set flag selects the first. -/
theorem select_one {α : Type} (x y : α) : Scalar.select 1#1 x y = x := rfl
/-- A flag not set selects the second. -/
theorem select_ne {α : Type} {m : BitVec 1} (h : m ≠ 1#1) (x y : α) : Scalar.select m x y = y := if_neg h

variable (pr pc : ℝ) (y x : ℕ) (hy : y < 64) (hx : x < 64)

include hy hx in
/-- What is found in a window that holds a point is that point. -/
theorem cand_some (k : Bool × ℕ × ℕ) (n : Fin 8064) (h : target G q y x k = some n) :
    (cand G q pr pc y x k).d = dist pr pc (rowFar G q n) (colFar G q n) ∧ (cand G q pr pc y x k).r = row G q n ∧
      (cand G q pr pc y x k).c = col G q n := by
  rcases k with ⟨_ | _, a, b⟩
  · rw [target] at h
    split at h
    · rename_i hc
      split at h
      · rename_i hm
        obtain rfl := Option.some.inj h
        rw [rowFar, colFar, msk_vp, row_vp, col_vp, hm, select_one, select_one, cand, nearOf, gv, dif_pos hc, hm, select_one]
        have : nat x + off b = nat (b + x - 3) := by
          rw [nat_off, nat]
          congr 1
          rw [Nat.cast_sub (by omega)]
          push_cast; ring
        rw [this]
        exact ⟨rfl, rfl, rfl⟩
      · simp at h
    · simp at h
  · rw [target] at h
    split at h
    · rename_i hc'
      split at h
      · rename_i hm
        obtain rfl := Option.some.inj h
        rw [rowFar, colFar, msk_hp, row_hp, col_hp, hm, select_one, select_one, cand, nearOf, gh, dif_pos hc', hm, select_one]
        have : nat y + off a = nat (a + y - 3) := by
          rw [nat_off, nat]
          congr 1
          rw [Nat.cast_sub (by omega)]
          push_cast; ring
        rw [this]
        exact ⟨rfl, rfl, rfl⟩
      · simp at h
    · simp at h

/-- A window that holds no point holds nothing within three. -/
theorem cand_none (hr : pr ≤ 100) (hcl : pc ≤ 100) (k : Bool × ℕ × ℕ) (h : target G q y x k = none) :
    ((3 : ℝ) : EReal) < (cand G q pr pc y x k).d := by
  rcases k with ⟨_ | _, a, b⟩
  · have : gv G q (a + y) (b + x) = far := by
      rw [target] at h
      unfold gv
      split at h
      · rename_i hc
        rw [dif_pos hc]
        split at h
        · simp at h
        · rename_i hm; exact select_ne hm _ _
      · rename_i hc; rw [dif_neg hc]
    rw [cand, nearOf, this, far, word_far, nat_off]
    exact far_dist _ _ _ _ hr (by norm_num)
  · have : gh G q (a + y) (b + x) = far := by
      rw [target] at h
      unfold gh
      split at h
      · rename_i hc
        rw [dif_pos hc]
        split at h
        · simp at h
        · rename_i hm; exact select_ne hm _ _
      · rename_i hc; rw [dif_neg hc]
    rw [cand, nearOf, this, far, word_far, nat_off]
    exact far_dist' _ _ _ _ hcl (by norm_num)

/-- Every point within three lies in a window searched. -/
theorem exists_key (ε₁ ε₂ : ℤ) (e1 : ε₁ ≤ 1) (e2 : ε₂ ≤ 1) (r1 : (y : ℝ) ≤ pr) (r2 : pr ≤ y + ε₁) (c1 : (x : ℝ) ≤ pc)
    (c2 : pc ≤ x + ε₂) (hr : pr ≤ 100) (hcl : pc ≤ 100) (n : Fin 8064)
    (h : dist pr pc (rowFar G q n) (colFar G q n) ≤ ((3 : ℝ) : EReal)) : ∃ k ∈ keys ε₁ ε₂, target G q y x k = some n := by
  have hm : msk G q n = 1#1 := by
    by_contra hm
    rw [rowFar, colFar, select_ne hm, select_ne hm, word_million] at h
    exact absurd h (not_le.mpr (far_dist _ _ _ _ hr (by norm_num)))
  rw [rowFar, colFar, hm, select_one, select_one] at h
  rcases point_cases n with ⟨i, j, rfl⟩ | ⟨i, j, rfl⟩
  · rw [row_vp, col_vp] at h
    obtain ⟨t, ht, t0, t1⟩ := vr_spec G q i j
    rw [ht, nat, dist_le] at h
    have g1 := gap_sq (ε := ε₁) (δ := 1) (m := (i.val : ℤ) - y) (u := -(pr - (i.val + t))) (by push_cast; linarith) (by push_cast; linarith)
    have g2 := gap_sq (ε := ε₂) (δ := 0) (m := (j.val : ℤ) - x) (u := -(pc - j.val)) (by push_cast; linarith) (by push_cast; linarith)
    rw [neg_sq] at g1 g2
    obtain ⟨a, b, ha, hb, hab⟩ := mem_offsets e1 le_rfl e2 (by norm_num) (show gap ε₁ 1 ((i.val : ℤ) - y) ^ 2 + gap ε₂ 0 ((j.val : ℤ) - x) ^ 2 ≤ 9 by
      exact_mod_cast (add_le_add g1 g2).trans h)
    refine ⟨(false, a, b), List.mem_append_left _ (List.mem_map.mpr ⟨_, hab, rfl⟩), ?_⟩
    have hi : (⟨a + y - 4, by omega⟩ : Fin 63) = i := Fin.ext (by simp only; omega)
    have hj : (⟨b + x - 3, by omega⟩ : Fin 64) = j := Fin.ext (by simp only; omega)
    rw [msk_vp] at hm
    rw [target, dif_pos (by omega), hi, hj, if_pos hm]
  · rw [row_hp, col_hp] at h
    obtain ⟨t, ht, t0, t1⟩ := hc_spec G q i j
    rw [ht, nat, dist_le] at h
    have g1 := gap_sq (ε := ε₁) (δ := 0) (m := (i.val : ℤ) - y) (u := -(pr - i.val)) (by push_cast; linarith) (by push_cast; linarith)
    have g2 := gap_sq (ε := ε₂) (δ := 1) (m := (j.val : ℤ) - x) (u := -(pc - (j.val + t))) (by push_cast; linarith) (by push_cast; linarith)
    rw [neg_sq] at g1 g2
    obtain ⟨a, b, ha, hb, hab⟩ := mem_offsets e1 (by norm_num) e2 le_rfl (show gap ε₁ 0 ((i.val : ℤ) - y) ^ 2 + gap ε₂ 1 ((j.val : ℤ) - x) ^ 2 ≤ 9 by
      exact_mod_cast (add_le_add g1 g2).trans h)
    refine ⟨(true, a, b), List.mem_append_right _ (List.mem_map.mpr ⟨_, hab, rfl⟩), ?_⟩
    have hi : (⟨a + y - 3, by omega⟩ : Fin 64) = i := Fin.ext (by simp only; omega)
    have hj : (⟨b + x - 4, by omega⟩ : Fin 63) = j := Fin.ext (by simp only; omega)
    rw [msk_hp] at hm
    rw [target, dif_pos (by omega), hi, hj, if_pos hm]

/-- The order of the windows: row by row, and within a row by column. -/
def Before (p p' : ℕ × ℕ) : Prop := p.1 < p'.1 ∨ p.1 = p'.1 ∧ p.2 < p'.2

instance : DecidableRel Before := fun _ _ => inferInstanceAs (Decidable (_ ∨ _))

/-- The windows come in increasing order. -/
theorem offsets_sorted (ε₁ δ₁ ε₂ δ₂ : ℤ) : (offsets ε₁ δ₁ ε₂ δ₂).Pairwise Before :=
  List.Pairwise.filter _ (by decide)

/-- Along the windows the points in them come in increasing order. -/
theorem keys_sorted (ε₁ ε₂ : ℤ) :
    (keys ε₁ ε₂).Pairwise fun k k' => ∀ n n', target G q y x k = some n → target G q y x k' = some n' → n < n' := by
  rw [keys, List.pairwise_append]
  refine ⟨List.pairwise_map.mpr ((offsets_sorted ..).imp ?_), List.pairwise_map.mpr ((offsets_sorted ..).imp ?_), ?_⟩
  · rintro ⟨a, b⟩ ⟨a', b'⟩ hb n n' h h'
    simp only [Before] at hb
    rw [target] at h h'
    split at h <;> [skip; simp at h]
    split at h' <;> [skip; simp at h']
    split at h <;> [skip; simp at h]
    split at h' <;> [skip; simp at h']
    obtain rfl := Option.some.inj h
    obtain rfl := Option.some.inj h'
    simp only [Fin.lt_def, vp]
    omega
  · rintro ⟨a, b⟩ ⟨a', b'⟩ hb n n' h h'
    simp only [Before] at hb
    rw [target] at h h'
    split at h <;> [skip; simp at h]
    split at h' <;> [skip; simp at h']
    split at h <;> [skip; simp at h]
    split at h' <;> [skip; simp at h']
    obtain rfl := Option.some.inj h
    obtain rfl := Option.some.inj h'
    simp only [Fin.lt_def, hp]
    omega
  · intro k hk k' hk' n n' h h'
    obtain ⟨⟨a, b⟩, -, rfl⟩ := List.mem_map.mp hk
    obtain ⟨⟨a', b'⟩, -, rfl⟩ := List.mem_map.mp hk'
    change target G q y x (false, a, b) = _ at h
    change target G q y x (true, a', b') = _ at h'
    rw [target] at h
    rw [target] at h'
    split at h <;> [skip; simp at h]
    split at h' <;> [skip; simp at h']
    split at h <;> [skip; simp at h]
    split at h' <;> [skip; simp at h']
    obtain rfl := Option.some.inj h
    obtain rfl := Option.some.inj h'
    simp only [Fin.lt_def, vp, hp]
    omega

/-- The start of the search. -/
def begin0 : Near := ⟨Ideal.ofBits .f32 0x60AD78EC#32, 0, 0⟩

/-- The search from an observer on the edge at `(y, x)`: it ends within three exactly when the first nearest of all the
    points is within three, and then at that point. -/
theorem search_eq (hy : y < 64) (hx : x < 64) (ε₁ ε₂ : ℤ) (e1 : ε₁ ≤ 1) (e2 : ε₂ ≤ 1) (r1 : (y : ℝ) ≤ pr) (r2 : pr ≤ y + ε₁)
    (c1 : (x : ℝ) ≤ pc) (c2 : pc ≤ x + ε₂) (n : Fin 8064)
    (hn : First (fun n => dist pr pc (rowFar G q n) (colFar G q n)) n) :
    (((keys ε₁ ε₂).foldl (fun t k => t.step (cand G q pr pc y x k)) begin0).d ≤ ((3 : ℝ) : EReal) ↔
        dist pr pc (rowFar G q n) (colFar G q n) ≤ ((3 : ℝ) : EReal)) ∧
      (dist pr pc (rowFar G q n) (colFar G q n) ≤ ((3 : ℝ) : EReal) →
        ((keys ε₁ ε₂).foldl (fun t k => t.step (cand G q pr pc y x k)) begin0).r = row G q n ∧
          ((keys ε₁ ε₂).foldl (fun t k => t.step (cand G q pr pc y x k)) begin0).c = col G q n) := by
  have hy' : (y : ℝ) ≤ 63 := by exact_mod_cast Nat.le_of_lt_succ hy
  have hx' : (x : ℝ) ≤ 63 := by exact_mod_cast Nat.le_of_lt_succ hx
  have e1' : (ε₁ : ℝ) ≤ 1 := by exact_mod_cast e1
  have e2' : (ε₂ : ℝ) ≤ 1 := by exact_mod_cast e2
  have hr : pr ≤ 100 := by linarith
  have hcl : pc ≤ 100 := by linarith
  exact Near.fold_eq (cand G q pr pc y x) (keys ε₁ ε₂) begin0 (target G q y x)
    (fun n => dist pr pc (rowFar G q n) (colFar G q n)) (row G q) (col G q) _
    (by rw [begin0, word_start, EReal.coe_lt_coe_iff]; norm_num)
    (fun k _ n h => cand_some G q pr pc y x hy hx k n h)
    (fun k _ h => cand_none G q pr pc y x hr hcl k h)
    (fun n h => exists_key G q pr pc y x ε₁ ε₂ e1 e2 r1 r2 c1 c2 hr hcl n h)
    (keys_sorted G q y x ε₁ ε₂) n hn

end

end Cert.Edges

end
-- ==== Proof.RefNearest.lean ====
/- The reference's nearest true point: its distances, the least of them, and the first point that attains it. -/
module

public import proofs.«01_k».proof.Proof.Nearest

@[expose] public section

set_option maxRecDepth 100000

noncomputable section

namespace Cert.Edges

open Idealize.ShloMosaic Idealize.ShloMosaic.TcCoe
open Cert.ReferenceIdeal.Gen Cert.ReferenceIdeal.Value Cert.ReferenceIdeal

/-- Some index is the first at which `D` is least. -/
theorem exists_first {N : ℕ} [NeZero N] (D : Fin N → EReal) : ∃ n, First D n := by
  obtain ⟨a, -, ha⟩ := Finset.exists_min_image Finset.univ D ⟨0, Finset.mem_univ _⟩
  have hne : (Finset.univ.filter fun n => D n = D a).Nonempty := ⟨a, by simp⟩
  refine ⟨(Finset.univ.filter fun n => D n = D a).min' hne, ?_, ?_⟩
  · have := (Finset.mem_filter.mp (Finset.min'_mem _ hne)).2
    intro n'
    rw [this]
    exact ha n' (Finset.mem_univ _)
  · intro n' hn'
    have := (Finset.mem_filter.mp (Finset.min'_mem _ hne)).2
    rw [this]
    refine lt_of_le_of_ne (ha n' (Finset.mem_univ _)) fun h => ?_
    exact absurd (Finset.min'_le _ n' (by simp [h])) (not_le.mpr hn')

/-- The minimum of a family is its value at the first least index. -/
theorem fold_min {N : ℕ} (D : Fin N → EReal) (n : Fin N) (hn : First D n) : Finset.univ.fold min ⊤ D = D n :=
  le_antisymm ((Finset.fold_min_le _).mpr (.inr ⟨n, Finset.mem_univ _, le_rfl⟩)) ((Finset.le_fold_min _).mpr ⟨le_top, fun m _ => hn.1 m⟩)

/-- The signed minimum of two words, as integers. -/
theorem minsi_toInt (x y : BitVec 32) : min x.toInt y.toInt = (IntOp.minsi x y).toInt := by
  show _ = (if x.slt y then x else y).toInt
  by_cases h : x.toInt < y.toInt
  · simp [BitVec.slt, h, h.le]
  · simp [BitVec.slt, h, not_lt.mp h]

/-- The least word of a family is the one whose integer is least. -/
theorem fold_minsi {N : ℕ} (J : Fin N → BitVec 32) (z : BitVec 32) (n : Fin N) (hz : (J n).toInt ≤ z.toInt)
    (hn : ∀ m, (J n).toInt ≤ (J m).toInt) : Finset.univ.fold IntOp.minsi z J = J n := by
  apply BitVec.eq_of_toInt_eq
  rw [← Finset.fold_hom (op' := min) (m := BitVec.toInt) fun x y => (minsi_toInt x y).symm]
  exact le_antisymm ((Finset.fold_min_le _).mpr (.inr ⟨n, Finset.mem_univ _, le_rfl⟩)) ((Finset.le_fold_min _).mpr ⟨hz, fun m _ => hn m⟩)

/-- A small natural number's word as an integer. -/
theorem toInt_small (k : ℕ) (hk : k < 2 ^ 31) : (BitVec.ofNat 32 k).toInt = k := by
  rw [BitVec.toInt_eq_toNat_of_lt (by rw [BitVec.toNat_ofNat]; omega), BitVec.toNat_ofNat]
  omega

variable (V : Valuation τ sig (Elt Ideal))

/-- The reference's differences of coordinates. -/
theorem ref_diff (b : Fin 4) (n m : Fin 8064) (k : Fin 2) (z w : EReal) (hz : res_main_v178 V (ix3 b n k) = z)
    (hw : res_main_v88 V (ix3 b m k) = w) :
    res_main_v323 V (ix4 b n m k) = z - Scalar.select (msk (gtOf V) b m) w (Ideal.ofBits .f32 0x49742400#32) := by
  subst hz hw
  unfold msk
  by_cases h : m.val < 4032
  · simp only [h, dif_pos]
    pointwise [res_main_v323, res_main_v0, res_main_v1, res_main_v4, res_main_v9, res_main_v13, res_main_v44, res_main_v45, res_main_v51, res_main_v53, res_main_v57]
    rw [dif_pos h, crossed_bits]
    rfl
  · simp only [h, dif_neg, not_false_eq_true]
    pointwise [res_main_v323, res_main_v0, res_main_v1, res_main_v4, res_main_v9, res_main_v13, res_main_v44, res_main_v45, res_main_v51, res_main_v53, res_main_v57]
    rw [dif_neg h, crossed_bits]
    rfl

/-- The distance from a predicted point to a true one. -/
def dists (b : Fin 4) (n m : Fin 8064) : EReal :=
  dist (row (predOf V) b n) (col (predOf V) b n) (rowFar (gtOf V) b m) (colFar (gtOf V) b m)

/-- The reference's distances. -/
theorem ref_dist (b : Fin 4) (n m : Fin 8064) : res_main_v326 V (ix3 b n m) = dists V b n m := by
  pointwise [res_main_v326]
  rw [Fin.sum_univ_two, ref_diff V b n m 0 _ _ (pred_row V b n) (gt_row V b m), ref_diff V b n m 1 _ _ (pred_col V b n) (gt_col V b m)]
  rfl

/-- The index with the reduced coordinate put back. -/
private theorem lift3 (h : S4x8064x8064.Reduces [2] S4x8064) (b : Fin 4) (n m : Fin 8064) : h.lift (ix2 b n) m = ix3 b n m := by
  funext a
  apply Fin.ext
  fin_cases a <;> rfl

/-- The last axis is reduced. -/
private theorem reduces3 : S4x8064x8064.Reduces [2] S4x8064 := by decide

/-- The reference's least distance is the distance of the first nearest point. -/
theorem ref_min (b : Fin 4) (n m : Fin 8064) (hm : First (dists V b n) m) : res_main_v327 V (ix2 b n) = dists V b n m := by
  unfold res_main_v327
  rw [Host.reduce_eq_fold_single FloatOps.minimumf _ _ reducesTo_S4x8064x8064_S4x8064_d2 reduces3 h_S_, ← fold_min _ _ hm]
  have e : (res_main_v326 V ∘ reduces3.lift (ix2 b n) : Fin 8064 → EReal) = dists V b n :=
    funext fun k => (congrArg (res_main_v326 V) (lift3 reduces3 b n k)).trans (ref_dist V b n k)
  show Finset.univ.fold min (Ideal.ofBits .f32 0x7F800000#32) (res_main_v326 V ∘ reduces3.lift (ix2 b n) : Fin 8064 → EReal) = _
  rw [e, word_top]

/-- The reference's nearest index is that of the first nearest point. -/
theorem ref_idx (b : Fin 4) (n m : Fin 8064) (hm : First (dists V b n) m) : res_main_v334 V (ix2 b n) = BitVec.ofNat 32 m := by
  let J : Fin 8064 → BitVec 32 := fun k => if dists V b n k = dists V b n m then BitVec.ofNat 32 k else 8064#32
  have hJ : J m = BitVec.ofNat 32 m := if_pos rfl
  unfold res_main_v334
  rw [Host.reduce_eq_fold_single IntOp.minsi _ _ reducesTo_S4x8064x8064_S4x8064_d2 reduces3 h_S_, ← hJ]
  have e : ∀ k, (select (cmpf .oeq (res_main_v326 V) (broadcastInDim S4x8064x8064 ![0, 1, 2] bcast_S4x8064x1_S4x8064x8064_0_1_2 (broadcastInDim S4x8064x1 ![0, 1] bcast_S4x8064_S4x8064x1_0_1 (res_main_v327 V)))) (broadcastInDim S4x8064x8064 ![1, 2] bcast_S8064x8064_S4x8064x8064_1_2 (broadcastInDim S8064x8064 ![0, 1] bcast_S1x8064_S8064x8064_0_1 (broadcastInDim S1x8064 ![1] bcast_S8064_S1x8064_1 (iotaInDim S8064 32 0)))) (broadcastInDim S4x8064x8064 ![1, 2] bcast_S8064x8064_S4x8064x8064_1_2 (broadcastInDim S8064x8064 ![] bcast_S_S8064x8064 (id (constantI S_ 32 8064#32)))) : IVec S4x8064x8064 32) (ix3 b n k) = J k := by
    intro k
    pointwise [ref_dist, ref_min V b n m hm]
    by_cases h : dists V b n k = dists V b n m
    · simp [J, h, Scalar.select]
    · simp [J, h, Scalar.select]
      rfl
  refine Eq.trans (congrArg (fun f : Fin 8064 → BitVec 32 => Finset.univ.fold IntOp.minsi 2147483647#32 f)
    (funext fun k => (congrArg _ (lift3 reduces3 b n k)).trans (e k))) ?_
  refine fold_minsi J _ m ?_ fun k => ?_
  · rw [hJ, toInt_small _ (by omega)]
    show (m.val : ℤ) ≤ 2147483647
    omega
  · rw [hJ, toInt_small _ (by omega)]
    show (m.val : ℤ) ≤ (if _ then _ else _ : BitVec 32).toInt
    split_ifs with h
    · rw [toInt_small _ (by omega)]
      have : ¬ k < m := fun hk => absurd (hm.2 k hk) (by rw [h]; exact lt_irrefl _)
      exact_mod_cast not_lt.mp this
    · show (m.val : ℤ) ≤ 8064
      omega

end Cert.Edges

end
-- ==== Proof.Gathers.lean ====
/- The reference's gathers read at one place: where the index words are small numbers, the entry at those numbers. -/
module

public import proofs.«01_k».proof.Proof.RefNearest

@[expose] public section

set_option maxRecDepth 100000

noncomputable section

namespace Cert.Edges

open Idealize.ShloMosaic Idealize.ShloMosaic.TcCoe
open Cert.ReferenceIdeal.Gen Cert.ReferenceIdeal.Value Cert.ReferenceIdeal

/-- A small word read as a natural number. -/
theorem small (p : ℕ) (hp : p < 2 ^ 31) : (BitVec.ofNat 32 p).toInt.toNat = p := by
  rw [toInt_small p hp, Int.toNat_natCast]

/-- A small nonnegative word is not moved by the wrap of negative indices. -/
theorem wrap (k : ℕ) (hk : k < 2 ^ 31) (y : BitVec 32) :
    Scalar.select (IntOp.cmpi .slt (BitVec.ofNat 32 k) 0#32) y (BitVec.ofNat 32 k) = BitVec.ofNat 32 k := by
  have h : (BitVec.ofNat 32 k).slt 0#32 = false := by
    rw [BitVec.slt, toInt_small k hk]
    simp
  show Scalar.select (BitVec.ofBool ((BitVec.ofNat 32 k).slt 0#32)) y _ = _
  rw [h]
  rfl

/-- A small word clipped to the grid. -/
theorem clip (k : ℕ) (hk : k < 2 ^ 31) :
    IntOp.minsi 63#32 (IntOp.maxsi 0#32 (BitVec.ofNat 32 k)) = BitVec.ofNat 32 (min 63 k) := by
  have h0 : IntOp.maxsi 0#32 (BitVec.ofNat 32 k) = BitVec.ofNat 32 k := by
    show (if (BitVec.ofNat 32 k).slt 0#32 then 0#32 else BitVec.ofNat 32 k) = _
    rw [BitVec.slt, toInt_small k hk]
    simp
  rw [h0]
  apply BitVec.eq_of_toInt_eq
  rw [← minsi_toInt, toInt_small k hk, toInt_small 63 (by omega), toInt_small _ (by omega)]
  omega

/-- The normals gathered at a row and a column. -/
theorem gather_normal (x : FVec Ideal S4x64x64x2 .f32) (idx : IVec S4x8064x2 32) (b : Fin 4) (n : Fin 8064) (k : Fin 2) (p q : Fin 64)
   (hp : idx (ix3 b n (0 : Fin 2)) = BitVec.ofNat 32 p) (hq : idx (ix3 b n (1 : Fin 2)) = BitVec.ofNat 32 q) :
   Host.gather gather_S4x64x64x2_S4x8064x2_S4x8064x2_2_12_0_0_12_2_1112 x idx (ix3 b n k) = x (ix4 b p q k) := by
  unfold Host.gather
  refine congrArg x (funext fun a => Fin.ext ?_)
  have hi (z : Fin 2) : GatherDims.siIdx gather_S4x64x64x2_S4x8064x2_S4x8064x2_2_12_0_0_12_2_1112 (ix3 b n k) z = ix3 b n z := by
    funext a
    apply Fin.ext
    fin_cases a
    · rfl
    · rfl
    · rfl
  fin_cases a
  · exact (Nat.zero_add _).trans (Nat.add_zero _)
  · show min (idx (GatherDims.siIdx gather_S4x64x64x2_S4x8064x2_S4x8064x2_2_12_0_0_12_2_1112 (ix3 b n k) (0 : Fin 2))).toInt.toNat 63 + 0 + 0 = p.val
    rw [hi, hp, small _ (by omega)]; omega
  · show min (idx (GatherDims.siIdx gather_S4x64x64x2_S4x8064x2_S4x8064x2_2_12_0_0_12_2_1112 (ix3 b n k) (1 : Fin 2))).toInt.toNat 63 + 0 + 0 = q.val
    rw [hi, hq, small _ (by omega)]; omega
  · exact Nat.zero_add _
/-- The values gathered at a row and a column. -/
theorem gather_value (x : FVec Ideal S4x64x64 .f32) (idx : IVec S4x8064x2 32) (b : Fin 4) (n : Fin 8064) (p q : Fin 64)
   (hp : idx (ix3 b n (0 : Fin 2)) = BitVec.ofNat 32 p) (hq : idx (ix3 b n (1 : Fin 2)) = BitVec.ofNat 32 q) :
   Host.gather gather_S4x64x64_S4x8064x2_S4x8064_n_12_0_0_12_2_111 x idx (ix2 b n) = x (ix3 b p q) := by
  unfold Host.gather
  refine congrArg x (funext fun a => Fin.ext ?_)
  have hi (z : Fin 2) : GatherDims.siIdx gather_S4x64x64_S4x8064x2_S4x8064_n_12_0_0_12_2_111 (ix2 b n) z = ix3 b n z := by
    funext a
    apply Fin.ext
    fin_cases a
    · rfl
    · rfl
    · rfl
  fin_cases a
  · exact (Nat.zero_add _).trans (Nat.add_zero _)
  · show min (idx (GatherDims.siIdx gather_S4x64x64_S4x8064x2_S4x8064_n_12_0_0_12_2_111 (ix2 b n) (0 : Fin 2))).toInt.toNat 63 + 0 + 0 = p.val
    rw [hi, hp, small _ (by omega)]; omega
  · show min (idx (GatherDims.siIdx gather_S4x64x64_S4x8064x2_S4x8064_n_12_0_0_12_2_111 (ix2 b n) (1 : Fin 2))).toInt.toNat 63 + 0 + 0 = q.val
    rw [hi, hq, small _ (by omega)]; omega
/-- The points gathered at an index. -/
theorem gather_point (x : FVec Ideal S4x8064x2 .f32) (idx : IVec S4x8064x1 32) (b : Fin 4) (n : Fin 8064) (k : Fin 2) (p : Fin 8064)
   (hp : idx (ix3 b n (0 : Fin 1)) = BitVec.ofNat 32 p) :
   Host.gather gather_S4x8064x2_S4x8064x1_S4x8064x2_2_1_0_0_1_2_112 x idx (ix3 b n k) = x (ix3 b p k) := by
  unfold Host.gather
  refine congrArg x (funext fun a => Fin.ext ?_)
  have hi (z : Fin 1) : GatherDims.siIdx gather_S4x8064x2_S4x8064x1_S4x8064x2_2_1_0_0_1_2_112 (ix3 b n k) z = ix3 b n z := by
    funext a
    apply Fin.ext
    fin_cases a
    · rfl
    · rfl
    · rfl
  fin_cases a
  · exact (Nat.zero_add _).trans (Nat.add_zero _)
  · show min (idx (GatherDims.siIdx gather_S4x8064x2_S4x8064x1_S4x8064x2_2_1_0_0_1_2_112 (ix3 b n k) (0 : Fin 1))).toInt.toNat 8063 + 0 + 0 = p.val
    rw [hi, hp, small _ (by omega)]; omega
  · exact Nat.zero_add _

variable (V : Valuation τ sig (Elt Ideal))

/-- The true point the reference takes: the first nearest one. -/
theorem ref_sel (b : Fin 4) (n m : Fin 8064) (k : Fin 2) (hm : First (dists V b n) m) :
    Host.gather gather_S4x8064x2_S4x8064x1_S4x8064x2_2_1_0_0_1_2_112 (res_main_v88 V) (broadcastInDim S4x8064x1 ![0, 1] bcast_S4x8064_S4x8064x1_0_1 (select (cmpi .slt (res_main_v334 V) (broadcastInDim S4x8064 ![] bcast_S_S4x8064 (constantI S_ 32 0#32))) (addi (res_main_v334 V) (broadcastInDim S4x8064 ![] bcast_S_S4x8064 (constantI S_ 32 8064#32))) (res_main_v334 V))) (ix3 b n k)
      = res_main_v88 V (ix3 b m k) := by
  refine gather_point _ _ b n k m ?_
  pointwise [ref_idx V b n m hm]
  exact wrap _ (by omega) _

end Cert.Edges

end
-- ==== Proof.Cells.lean ====
/- The grid cell of a point: its row and column rounded down, as words, clipped to the grid, and the fractions left over. -/
module

public import proofs.«01_k».proof.Proof.Gathers

@[expose] public section

set_option maxRecDepth 100000

noncomputable section

namespace Cert.Edges

open Idealize.ShloMosaic Idealize.ShloMosaic.TcCoe

/-- A real between two whole numbers, rounded down and converted to a word. -/
theorem down (k : ℕ) (hk : k < 2 ^ 30) (x : EReal) (hx : ∃ t : ℝ, x = ((k + t : ℝ) : EReal) ∧ 0 ≤ t ∧ t ≤ 1) :
    (FloatOps.fptosi 32 (FloatOps.floor x : Ideal .f32) : BitVec 32) = BitVec.ofNat 32 (if x = nat (k + 1) then k + 1 else k) := by
  obtain ⟨t, rfl, h0, h1⟩ := hx
  have hf : ⌊(k + t : ℝ)⌋ = (((if ((k + t : ℝ) : EReal) = nat (k + 1) then k + 1 else k : ℕ)) : ℤ) := by
    by_cases h : t = 1
    · subst h
      rw [if_pos (by simp [nat])]
      rw [Int.floor_eq_iff]; push_cast; constructor <;> linarith
    · have h2 : t < 1 := lt_of_le_of_ne h1 h
      rw [if_neg (by simp only [nat, EReal.coe_eq_coe_iff]; push_cast; intro hh; apply h; linarith)]
      rw [Int.floor_eq_iff]; push_cast; constructor <;> linarith
  generalize (if ((k + t : ℝ) : EReal) = nat (k + 1) then k + 1 else k : ℕ) = c at hf
  show BitVec.ofInt 32 (Ideal.toIntClamped _ _ (((⌊(k + t : ℝ)⌋ : ℤ) : ℝ) : EReal)) = _
  have hc : c < 2 ^ 31 := by
    have h2 : ((c : ℕ) : ℤ) ≤ k + 1 := by
      rw [← hf]
      have := Int.floor_le (k + t : ℝ)
      have h3 : ((⌊(k + t : ℝ)⌋ : ℤ) : ℝ) ≤ ((k + 1 : ℤ) : ℝ) := by push_cast; linarith
      exact_mod_cast h3
    omega
  rw [hf]
  show BitVec.ofInt 32 (max _ (min _ (if (0 : ℝ) ≤ (((c : ℕ) : ℤ) : ℝ) then ⌊(((c : ℕ) : ℤ) : ℝ)⌋ else _))) = _
  rw [if_pos (by positivity), Int.floor_intCast, min_eq_right (by norm_num; omega), max_eq_right (by norm_num)]
  exact BitVec.ofInt_natCast 32 c

/-- The next natural number as a value. -/
theorem nat_succ (k : ℕ) : nat (k + 1) = nat k + 1 := by
  simp only [nat]; push_cast; rfl

/-- A number is not its successor. -/
theorem nat_ne_succ (k : ℕ) : ¬ nat k = nat (k + 1) := by
  simp only [nat, EReal.coe_eq_coe_iff]
  push_cast
  intro h
  linarith

/-- The row of the cell of a vertical edge's crossing. -/
def rv (A : Grid) (b : Fin 4) (i : Fin 63) (j : Fin 64) : ℕ := if vr A b i j = nat (i.val + 1) then i.val + 1 else i.val

/-- The column of the cell of a horizontal edge's crossing. -/
def ch (A : Grid) (b : Fin 4) (i : Fin 64) (j : Fin 63) : ℕ := if hc A b i j = nat (j.val + 1) then j.val + 1 else j.val

/-- The row of a point's cell. -/
def cr (A : Grid) (b : Fin 4) (n : Fin 8064) : ℕ :=
  if h : n.val < 4032 then rv A b ⟨n.val / 64, by omega⟩ ⟨n.val % 64, by omega⟩ else (n.val - 4032) / 63

/-- The column of a point's cell. -/
def cc (A : Grid) (b : Fin 4) (n : Fin 8064) : ℕ :=
  if h : n.val < 4032 then n.val % 64 else ch A b ⟨(n.val - 4032) / 63, by omega⟩ ⟨(n.val - 4032) % 63, by omega⟩

/-- A vertical edge's cell row is within the image. -/
theorem rv_le (A : Grid) (b : Fin 4) (i : Fin 63) (j : Fin 64) : rv A b i j < 64 := by
  unfold rv; split_ifs <;> omega
/-- A horizontal edge's cell column is within the image. -/
theorem ch_le (A : Grid) (b : Fin 4) (i : Fin 64) (j : Fin 63) : ch A b i j < 64 := by
  unfold ch; split_ifs <;> omega
/-- A cell's row is within the image. -/
theorem cr_le (A : Grid) (b : Fin 4) (n : Fin 8064) : cr A b n < 64 := by
  unfold cr; split_ifs
  · exact rv_le _ _ _ _
  · omega
/-- A cell's column is within the image. -/
theorem cc_le (A : Grid) (b : Fin 4) (n : Fin 8064) : cc A b n < 64 := by
  unfold cc; split_ifs
  · omega
  · exact ch_le _ _ _ _

/-- The row of a point rounded down. -/
theorem row_down (A : Grid) (b : Fin 4) (n : Fin 8064) :
    (FloatOps.fptosi 32 (FloatOps.floor (row A b n) : Ideal .f32) : BitVec 32) = BitVec.ofNat 32 (cr A b n) := by
  unfold cr
  by_cases h : n.val < 4032
  · rw [dif_pos h, row, dif_pos h]
    refine down _ (by simp only; omega) _ ?_
    exact pos_spec _ (by simp; omega) _ _
  · rw [dif_neg h, row, dif_neg h, down ((n.val - 4032) / 63) (by omega) _ ⟨0, by simp [nat], le_rfl, zero_le_one⟩,
      if_neg (nat_ne_succ _)]

/-- The column of a point rounded down. -/
theorem col_down (A : Grid) (b : Fin 4) (n : Fin 8064) :
    (FloatOps.fptosi 32 (FloatOps.floor (col A b n) : Ideal .f32) : BitVec 32) = BitVec.ofNat 32 (cc A b n) := by
  unfold cc
  by_cases h : n.val < 4032
  · rw [dif_pos h, col, dif_pos h, down (n.val % 64) (by omega) _ ⟨0, by simp [nat], le_rfl, zero_le_one⟩,
      if_neg (nat_ne_succ _)]
  · rw [dif_neg h, col, dif_neg h]
    refine down _ (by simp only; omega) _ ?_
    exact pos_spec _ (by simp; omega) _ _

section Reference
open Cert.ReferenceIdeal.Gen Cert.ReferenceIdeal.Value Cert.ReferenceIdeal
variable (V : Valuation τ sig (Elt Ideal))

/-- The reference's row coordinates. -/
theorem ref_r (b : Fin 4) (n : Fin 8064) : res_main_v208 V (ix2 b n) = row (predOf V) b n := by
  pointwise [res_main_v208, pred_row]
/-- The reference's column coordinates. -/
theorem ref_c (b : Fin 4) (n : Fin 8064) : res_main_v210 V (ix2 b n) = col (predOf V) b n := by
  pointwise [res_main_v210, pred_col]
/-- The reference's rounded-down rows are the cells' rows. -/
theorem ref_cr (b : Fin 4) (n : Fin 8064) : res_main_v212 V (ix2 b n) = BitVec.ofNat 32 (cr (predOf V) b n) := by
  pointwise [res_main_v212, ref_r]
  exact row_down _ _ _
/-- The reference's rounded-down columns are the cells' columns. -/
theorem ref_cc (b : Fin 4) (n : Fin 8064) : res_main_v214 V (ix2 b n) = BitVec.ofNat 32 (cc (predOf V) b n) := by
  pointwise [res_main_v214, ref_c]
  exact col_down _ _ _
/-- The clipped row of the cell. -/
theorem ref_215 (b : Fin 4) (n : Fin 8064) : res_main_v215 V (ix2 b n) = BitVec.ofNat 32 (cr (predOf V) b n) := by
  have h := cr_le (predOf V) b n
  pointwise [res_main_v215, ref_cr]
  exact (clip _ (by omega)).trans (congrArg _ (min_eq_right (by omega)))

/-- The clipped column of the cell. -/
theorem ref_216 (b : Fin 4) (n : Fin 8064) : res_main_v216 V (ix2 b n) = BitVec.ofNat 32 (cc (predOf V) b n) := by
  have h := cc_le (predOf V) b n
  pointwise [res_main_v216, ref_cc]
  exact (clip _ (by omega)).trans (congrArg _ (min_eq_right (by omega)))

/-- The clipped row after the cell. -/
theorem ref_219 (b : Fin 4) (n : Fin 8064) : res_main_v219 V (ix2 b n) = BitVec.ofNat 32 (min 63 (cr (predOf V) b n + 1)) := by
  have h := cr_le (predOf V) b n
  pointwise [res_main_v219, ref_cr]
  show IntOp.minsi 63#32 (IntOp.maxsi 0#32 (BitVec.ofNat 32 _ + BitVec.ofNat 32 1)) = _
  rw [← BitVec.ofNat_add]
  exact clip _ (by omega)

/-- The clipped column after the cell. -/
theorem ref_222 (b : Fin 4) (n : Fin 8064) : res_main_v222 V (ix2 b n) = BitVec.ofNat 32 (min 63 (cc (predOf V) b n + 1)) := by
  have h := cc_le (predOf V) b n
  pointwise [res_main_v222, ref_cc]
  show IntOp.minsi 63#32 (IntOp.maxsi 0#32 (BitVec.ofNat 32 _ + BitVec.ofNat 32 1)) = _
  rw [← BitVec.ofNat_add]
  exact clip _ (by omega)

end Reference

end Cert.Edges

end
-- ==== Proof.Search.lean ====
/- The nearest-contour search as the region computes it: each of the two searches is a fold of one update over its list
   of candidate windows, the running state being the least distance so far and the point that attained it. -/
module

public import proofs.«01_k».proof.Proof.Launch

@[expose] public section

set_option maxRecDepth 100000

noncomputable section

namespace Cert.KernelIdeal.Search

open Idealize.ShloMosaic Idealize.ShloMosaic.TcCoe
open Cert.KernelIdeal.Gen Cert.KernelIdeal.Run

variable {F : FTy → Type} [FloatOps F]

/-- Three arrays of one shape: a distance and the two coordinates of the point at that distance. -/
structure Trip (F : FTy → Type) (s : Shape) where
  /-- The distance. -/
  d : FVec F s .f32
  /-- The row coordinate. -/
  r : FVec F s .f32
  /-- The column coordinate. -/
  c : FVec F s .f32

/-- One update: where the candidate `e` is strictly nearer than the state `t`, take the candidate. -/
def step {s : Shape} (t e : Trip F s) : Trip F s :=
  ⟨select (cmpf .olt e.d t.d) e.d t.d, select (cmpf .olt e.d t.d) e.r t.r, select (cmpf .olt e.d t.d) e.c t.c⟩

/-- The word of the integer `k - 3`, for `k` at most seven. -/
def wd (k : ℕ) : BitVec 32 :=
  [0xC0400000#32, 0xC0000000#32, 0xBF800000#32, 0x00000000#32, 0x3F800000#32, 0x40000000#32, 0x40400000#32,
    0x40800000#32].getD k 0#32

/-- The word of the square of `k - 3`, for `k` at most six. -/
def sq (k : ℕ) : BitVec 32 :=
  [0x41100000#32, 0x40800000#32, 0x3F800000#32, 0x00000000#32, 0x3F800000#32, 0x40800000#32, 0x41100000#32].getD k 0#32

/-- The word of the integer `k - 4`, for `k` at most eight. -/
def wd4 (k : ℕ) : BitVec 32 := match k with | 0 => 0xC0800000#32 | k + 1 => wd k

/-- A candidate on a vertical grid edge seen from a vertical one: the window of `GV` at `(a, b)`; the columns differ by
    the constant `b - 3`. -/
def vv (pr : FVec F S4x63x64 .f32) (GV : FVec F S4x71x71 .f32) (iJ : FVec F S4x63x64 .f32) (a b : ℕ)
    (h : S4x71x71.Slices ![0, a, b] S4x63x64) : Trip F S4x63x64 :=
  ⟨sqrt (addf (mulf (subf pr (extractStridedSlice S4x63x64 ![0, a, b] GV h)) (subf pr (extractStridedSlice S4x63x64 ![0, a, b] GV h)))
      (broadcast S4x63x64 (Scalar.ofBits .f32 (sq b)))),
    extractStridedSlice S4x63x64 ![0, a, b] GV h, addf iJ (broadcast S4x63x64 (Scalar.ofBits .f32 (wd b)))⟩

/-- A candidate on a horizontal grid edge seen from a vertical one: the window of `GH` at `(a, b)`. -/
def vh (pr : FVec F S4x63x64 .f32) (GH : FVec F S4x71x71 .f32) (iI iJ : FVec F S4x63x64 .f32) (a b : ℕ)
    (h : S4x71x71.Slices ![0, a, b] S4x63x64) : Trip F S4x63x64 :=
  ⟨sqrt (addf (mulf (subf pr (addf iI (broadcast S4x63x64 (Scalar.ofBits .f32 (wd a))))) (subf pr (addf iI (broadcast S4x63x64 (Scalar.ofBits .f32 (wd a))))))
      (mulf (subf iJ (extractStridedSlice S4x63x64 ![0, a, b] GH h)) (subf iJ (extractStridedSlice S4x63x64 ![0, a, b] GH h)))),
    addf iI (broadcast S4x63x64 (Scalar.ofBits .f32 (wd a))), extractStridedSlice S4x63x64 ![0, a, b] GH h⟩

/-- A candidate on a vertical grid edge seen from a horizontal one: the window of `GV` at `(a, b)`. -/
def hv (pc : FVec F S4x64x63 .f32) (GV : FVec F S4x71x71 .f32) (iI iJ : FVec F S4x64x63 .f32) (a b : ℕ)
    (h : S4x71x71.Slices ![0, a, b] S4x64x63) : Trip F S4x64x63 :=
  ⟨sqrt (addf (mulf (subf iI (extractStridedSlice S4x64x63 ![0, a, b] GV h)) (subf iI (extractStridedSlice S4x64x63 ![0, a, b] GV h)))
      (mulf (subf pc (addf iJ (broadcast S4x64x63 (Scalar.ofBits .f32 (wd b))))) (subf pc (addf iJ (broadcast S4x64x63 (Scalar.ofBits .f32 (wd b))))))),
    extractStridedSlice S4x64x63 ![0, a, b] GV h, addf iJ (broadcast S4x64x63 (Scalar.ofBits .f32 (wd b)))⟩

/-- A candidate on a horizontal grid edge seen from a horizontal one: the window of `GH` at `(a, b)`; the rows differ by
    the constant `a - 3`. -/
def hh (pc : FVec F S4x64x63 .f32) (GH : FVec F S4x71x71 .f32) (iI : FVec F S4x64x63 .f32) (a b : ℕ)
    (h : S4x71x71.Slices ![0, a, b] S4x64x63) : Trip F S4x64x63 :=
  ⟨sqrt (addf (broadcast S4x64x63 (Scalar.ofBits .f32 (sq a)))
      (mulf (subf pc (extractStridedSlice S4x64x63 ![0, a, b] GH h)) (subf pc (extractStridedSlice S4x64x63 ![0, a, b] GH h)))),
    addf iI (broadcast S4x64x63 (Scalar.ofBits .f32 (wd a))), extractStridedSlice S4x64x63 ![0, a, b] GH h⟩

/-- The candidates on vertical edges, from a vertical one, in the order searched. -/
def listVV (pr : FVec F S4x63x64 .f32) (GV : FVec F S4x71x71 .f32) (iJ : FVec F S4x63x64 .f32) : List (Trip F S4x63x64) :=
  let e := vv pr GV iJ
  [
    e 0 3 slices_S4x71x71_o0_0_3_S4x63x64, e 1 1 slices_S4x71x71_o0_1_1_S4x63x64,
    e 1 2 slices_S4x71x71_o0_1_2_S4x63x64, e 1 3 slices_S4x71x71_o0_1_3_S4x63x64,
    e 1 4 slices_S4x71x71_o0_1_4_S4x63x64, e 1 5 slices_S4x71x71_o0_1_5_S4x63x64,
    e 2 1 slices_S4x71x71_o0_2_1_S4x63x64, e 2 2 slices_S4x71x71_o0_2_2_S4x63x64,
    e 2 3 slices_S4x71x71_o0_2_3_S4x63x64, e 2 4 slices_S4x71x71_o0_2_4_S4x63x64,
    e 2 5 slices_S4x71x71_o0_2_5_S4x63x64, e 3 0 slices_S4x71x71_o0_3_0_S4x63x64,
    e 3 1 slices_S4x71x71_o0_3_1_S4x63x64, e 3 2 slices_S4x71x71_o0_3_2_S4x63x64,
    e 3 3 slices_S4x71x71_o0_3_3_S4x63x64, e 3 4 slices_S4x71x71_o0_3_4_S4x63x64,
    e 3 5 slices_S4x71x71_o0_3_5_S4x63x64, e 3 6 slices_S4x71x71_o0_3_6_S4x63x64,
    e 4 0 slices_S4x71x71_o0_4_0_S4x63x64, e 4 1 slices_S4x71x71_o0_4_1_S4x63x64,
    e 4 2 slices_S4x71x71_o0_4_2_S4x63x64, e 4 3 slices_S4x71x71_o0_4_3_S4x63x64,
    e 4 4 slices_S4x71x71_o0_4_4_S4x63x64, e 4 5 slices_S4x71x71_o0_4_5_S4x63x64,
    e 4 6 slices_S4x71x71_o0_4_6_S4x63x64, e 5 0 slices_S4x71x71_o0_5_0_S4x63x64,
    e 5 1 slices_S4x71x71_o0_5_1_S4x63x64, e 5 2 slices_S4x71x71_o0_5_2_S4x63x64,
    e 5 3 slices_S4x71x71_o0_5_3_S4x63x64, e 5 4 slices_S4x71x71_o0_5_4_S4x63x64,
    e 5 5 slices_S4x71x71_o0_5_5_S4x63x64, e 5 6 slices_S4x71x71_o0_5_6_S4x63x64,
    e 6 1 slices_S4x71x71_o0_6_1_S4x63x64, e 6 2 slices_S4x71x71_o0_6_2_S4x63x64,
    e 6 3 slices_S4x71x71_o0_6_3_S4x63x64, e 6 4 slices_S4x71x71_o0_6_4_S4x63x64,
    e 6 5 slices_S4x71x71_o0_6_5_S4x63x64, e 7 1 slices_S4x71x71_o0_7_1_S4x63x64,
    e 7 2 slices_S4x71x71_o0_7_2_S4x63x64, e 7 3 slices_S4x71x71_o0_7_3_S4x63x64,
    e 7 4 slices_S4x71x71_o0_7_4_S4x63x64, e 7 5 slices_S4x71x71_o0_7_5_S4x63x64,
    e 8 3 slices_S4x71x71_o0_8_3_S4x63x64]

/-- The candidates on horizontal edges, from a vertical one, in the order searched. -/
def listVH (pr : FVec F S4x63x64 .f32) (GH : FVec F S4x71x71 .f32) (iI iJ : FVec F S4x63x64 .f32) : List (Trip F S4x63x64) :=
  let e := vh pr GH iI iJ
  [
    e 0 3 slices_S4x71x71_o0_0_3_S4x63x64, e 0 4 slices_S4x71x71_o0_0_4_S4x63x64,
    e 1 1 slices_S4x71x71_o0_1_1_S4x63x64, e 1 2 slices_S4x71x71_o0_1_2_S4x63x64,
    e 1 3 slices_S4x71x71_o0_1_3_S4x63x64, e 1 4 slices_S4x71x71_o0_1_4_S4x63x64,
    e 1 5 slices_S4x71x71_o0_1_5_S4x63x64, e 1 6 slices_S4x71x71_o0_1_6_S4x63x64,
    e 2 1 slices_S4x71x71_o0_2_1_S4x63x64, e 2 2 slices_S4x71x71_o0_2_2_S4x63x64,
    e 2 3 slices_S4x71x71_o0_2_3_S4x63x64, e 2 4 slices_S4x71x71_o0_2_4_S4x63x64,
    e 2 5 slices_S4x71x71_o0_2_5_S4x63x64, e 2 6 slices_S4x71x71_o0_2_6_S4x63x64,
    e 3 0 slices_S4x71x71_o0_3_0_S4x63x64, e 3 1 slices_S4x71x71_o0_3_1_S4x63x64,
    e 3 2 slices_S4x71x71_o0_3_2_S4x63x64, e 3 3 slices_S4x71x71_o0_3_3_S4x63x64,
    e 3 4 slices_S4x71x71_o0_3_4_S4x63x64, e 3 5 slices_S4x71x71_o0_3_5_S4x63x64,
    e 3 6 slices_S4x71x71_o0_3_6_S4x63x64, e 3 7 slices_S4x71x71_o0_3_7_S4x63x64,
    e 4 0 slices_S4x71x71_o0_4_0_S4x63x64, e 4 1 slices_S4x71x71_o0_4_1_S4x63x64,
    e 4 2 slices_S4x71x71_o0_4_2_S4x63x64, e 4 3 slices_S4x71x71_o0_4_3_S4x63x64,
    e 4 4 slices_S4x71x71_o0_4_4_S4x63x64, e 4 5 slices_S4x71x71_o0_4_5_S4x63x64,
    e 4 6 slices_S4x71x71_o0_4_6_S4x63x64, e 4 7 slices_S4x71x71_o0_4_7_S4x63x64,
    e 5 1 slices_S4x71x71_o0_5_1_S4x63x64, e 5 2 slices_S4x71x71_o0_5_2_S4x63x64,
    e 5 3 slices_S4x71x71_o0_5_3_S4x63x64, e 5 4 slices_S4x71x71_o0_5_4_S4x63x64,
    e 5 5 slices_S4x71x71_o0_5_5_S4x63x64, e 5 6 slices_S4x71x71_o0_5_6_S4x63x64,
    e 6 1 slices_S4x71x71_o0_6_1_S4x63x64, e 6 2 slices_S4x71x71_o0_6_2_S4x63x64,
    e 6 3 slices_S4x71x71_o0_6_3_S4x63x64, e 6 4 slices_S4x71x71_o0_6_4_S4x63x64,
    e 6 5 slices_S4x71x71_o0_6_5_S4x63x64, e 6 6 slices_S4x71x71_o0_6_6_S4x63x64,
    e 7 3 slices_S4x71x71_o0_7_3_S4x63x64, e 7 4 slices_S4x71x71_o0_7_4_S4x63x64]

/-- The candidates on vertical edges, from a horizontal one, in the order searched. -/
def listHV (pc : FVec F S4x64x63 .f32) (GV : FVec F S4x71x71 .f32) (iI iJ : FVec F S4x64x63 .f32) : List (Trip F S4x64x63) :=
  let e := hv pc GV iI iJ
  [
    e 0 3 slices_S4x71x71_o0_0_3_S4x64x63, e 0 4 slices_S4x71x71_o0_0_4_S4x64x63,
    e 1 1 slices_S4x71x71_o0_1_1_S4x64x63, e 1 2 slices_S4x71x71_o0_1_2_S4x64x63,
    e 1 3 slices_S4x71x71_o0_1_3_S4x64x63, e 1 4 slices_S4x71x71_o0_1_4_S4x64x63,
    e 1 5 slices_S4x71x71_o0_1_5_S4x64x63, e 1 6 slices_S4x71x71_o0_1_6_S4x64x63,
    e 2 1 slices_S4x71x71_o0_2_1_S4x64x63, e 2 2 slices_S4x71x71_o0_2_2_S4x64x63,
    e 2 3 slices_S4x71x71_o0_2_3_S4x64x63, e 2 4 slices_S4x71x71_o0_2_4_S4x64x63,
    e 2 5 slices_S4x71x71_o0_2_5_S4x64x63, e 2 6 slices_S4x71x71_o0_2_6_S4x64x63,
    e 3 0 slices_S4x71x71_o0_3_0_S4x64x63, e 3 1 slices_S4x71x71_o0_3_1_S4x64x63,
    e 3 2 slices_S4x71x71_o0_3_2_S4x64x63, e 3 3 slices_S4x71x71_o0_3_3_S4x64x63,
    e 3 4 slices_S4x71x71_o0_3_4_S4x64x63, e 3 5 slices_S4x71x71_o0_3_5_S4x64x63,
    e 3 6 slices_S4x71x71_o0_3_6_S4x64x63, e 3 7 slices_S4x71x71_o0_3_7_S4x64x63,
    e 4 0 slices_S4x71x71_o0_4_0_S4x64x63, e 4 1 slices_S4x71x71_o0_4_1_S4x64x63,
    e 4 2 slices_S4x71x71_o0_4_2_S4x64x63, e 4 3 slices_S4x71x71_o0_4_3_S4x64x63,
    e 4 4 slices_S4x71x71_o0_4_4_S4x64x63, e 4 5 slices_S4x71x71_o0_4_5_S4x64x63,
    e 4 6 slices_S4x71x71_o0_4_6_S4x64x63, e 4 7 slices_S4x71x71_o0_4_7_S4x64x63,
    e 5 1 slices_S4x71x71_o0_5_1_S4x64x63, e 5 2 slices_S4x71x71_o0_5_2_S4x64x63,
    e 5 3 slices_S4x71x71_o0_5_3_S4x64x63, e 5 4 slices_S4x71x71_o0_5_4_S4x64x63,
    e 5 5 slices_S4x71x71_o0_5_5_S4x64x63, e 5 6 slices_S4x71x71_o0_5_6_S4x64x63,
    e 6 1 slices_S4x71x71_o0_6_1_S4x64x63, e 6 2 slices_S4x71x71_o0_6_2_S4x64x63,
    e 6 3 slices_S4x71x71_o0_6_3_S4x64x63, e 6 4 slices_S4x71x71_o0_6_4_S4x64x63,
    e 6 5 slices_S4x71x71_o0_6_5_S4x64x63, e 6 6 slices_S4x71x71_o0_6_6_S4x64x63,
    e 7 3 slices_S4x71x71_o0_7_3_S4x64x63, e 7 4 slices_S4x71x71_o0_7_4_S4x64x63]

/-- The candidates on horizontal edges, from a horizontal one, in the order searched. -/
def listHH (pc : FVec F S4x64x63 .f32) (GH : FVec F S4x71x71 .f32) (iI : FVec F S4x64x63 .f32) : List (Trip F S4x64x63) :=
  let e := hh pc GH iI
  [
    e 0 3 slices_S4x71x71_o0_0_3_S4x64x63, e 0 4 slices_S4x71x71_o0_0_4_S4x64x63,
    e 0 5 slices_S4x71x71_o0_0_5_S4x64x63, e 1 1 slices_S4x71x71_o0_1_1_S4x64x63,
    e 1 2 slices_S4x71x71_o0_1_2_S4x64x63, e 1 3 slices_S4x71x71_o0_1_3_S4x64x63,
    e 1 4 slices_S4x71x71_o0_1_4_S4x64x63, e 1 5 slices_S4x71x71_o0_1_5_S4x64x63,
    e 1 6 slices_S4x71x71_o0_1_6_S4x64x63, e 1 7 slices_S4x71x71_o0_1_7_S4x64x63,
    e 2 1 slices_S4x71x71_o0_2_1_S4x64x63, e 2 2 slices_S4x71x71_o0_2_2_S4x64x63,
    e 2 3 slices_S4x71x71_o0_2_3_S4x64x63, e 2 4 slices_S4x71x71_o0_2_4_S4x64x63,
    e 2 5 slices_S4x71x71_o0_2_5_S4x64x63, e 2 6 slices_S4x71x71_o0_2_6_S4x64x63,
    e 2 7 slices_S4x71x71_o0_2_7_S4x64x63, e 3 0 slices_S4x71x71_o0_3_0_S4x64x63,
    e 3 1 slices_S4x71x71_o0_3_1_S4x64x63, e 3 2 slices_S4x71x71_o0_3_2_S4x64x63,
    e 3 3 slices_S4x71x71_o0_3_3_S4x64x63, e 3 4 slices_S4x71x71_o0_3_4_S4x64x63,
    e 3 5 slices_S4x71x71_o0_3_5_S4x64x63, e 3 6 slices_S4x71x71_o0_3_6_S4x64x63,
    e 3 7 slices_S4x71x71_o0_3_7_S4x64x63, e 3 8 slices_S4x71x71_o0_3_8_S4x64x63,
    e 4 1 slices_S4x71x71_o0_4_1_S4x64x63, e 4 2 slices_S4x71x71_o0_4_2_S4x64x63,
    e 4 3 slices_S4x71x71_o0_4_3_S4x64x63, e 4 4 slices_S4x71x71_o0_4_4_S4x64x63,
    e 4 5 slices_S4x71x71_o0_4_5_S4x64x63, e 4 6 slices_S4x71x71_o0_4_6_S4x64x63,
    e 4 7 slices_S4x71x71_o0_4_7_S4x64x63, e 5 1 slices_S4x71x71_o0_5_1_S4x64x63,
    e 5 2 slices_S4x71x71_o0_5_2_S4x64x63, e 5 3 slices_S4x71x71_o0_5_3_S4x64x63,
    e 5 4 slices_S4x71x71_o0_5_4_S4x64x63, e 5 5 slices_S4x71x71_o0_5_5_S4x64x63,
    e 5 6 slices_S4x71x71_o0_5_6_S4x64x63, e 5 7 slices_S4x71x71_o0_5_7_S4x64x63,
    e 6 3 slices_S4x71x71_o0_6_3_S4x64x63, e 6 4 slices_S4x71x71_o0_6_4_S4x64x63,
    e 6 5 slices_S4x71x71_o0_6_5_S4x64x63]

/-- The state every search starts from. -/
def start (s : Shape) : Trip F s :=
  ⟨broadcast s (Scalar.ofBits .f32 0x60AD78EC#32), broadcast s (Scalar.ofBits .f32 0x00000000#32),
    broadcast s (Scalar.ofBits .f32 0x00000000#32)⟩

/-- The `n` members of a list from position `a` on. -/
def cut {α : Type} (l : List α) (a n : ℕ) : List α := (l.drop a).take n

/-- A fold over the first `a` members followed by one over the next `n` is the fold over the first `a + n`. -/
theorem fold_cut {α β : Type} {f : β → α → β} {l : List α} {a : ℕ} (n : ℕ) {s s₀ : β} (h : s = (l.take a).foldl f s₀) :
    (cut l a n).foldl f s = (l.take (a + n)).foldl f s₀ := by
  rw [h, ← List.foldl_append, cut, List.take_add]

/-- The candidates of the search from vertical edges, in order. -/
abbrev list_v (x0 x1 : Vec F S4x64x64 .f32) : List (Trip F S4x63x64) :=
  listVV (k0_pay883 x0 x1) (k0_pay885 x0 x1) (k0_pay888 x0 x1) ++ listVH (k0_pay883 x0 x1) (k0_pay886 x0 x1) (k0_pay887 x0 x1) (k0_pay888 x0 x1)

/-- The vertical edges' state that the region names after candidate 3, from the one named before. -/
theorem v_3 (x0 x1 : Vec F S4x64x64 .f32)  :
    (⟨k0_pay899 x0 x1,
      k0_pay49 (k0_pay883 x0 x1) (k0_pay885 x0 x1) (k0_pay891 x0 x1) (k0_pay27 (F := F)),
      k0_pay50 (k0_pay883 x0 x1) (k0_pay885 x0 x1) (k0_pay888 x0 x1) (k0_pay891 x0 x1) (k0_pay28 (F := F))⟩ : Trip F S4x63x64) =
    (cut (list_v x0 x1) 0 3).foldl step (start S4x63x64) := rfl

/-- The vertical edges' state that the region names after candidate 9, from the one named before. -/
theorem v_9 (x0 x1 : Vec F S4x64x64 .f32) (r c : FVec F S4x63x64 .f32) :
    (⟨k0_pay902 x0 x1,
      k0_pay75 (k0_pay883 x0 x1) (k0_pay885 x0 x1) (k0_pay899 x0 x1) r (k0_pay51 (k0_pay885 x0 x1)) (k0_pay900 x0 x1) (k0_pay901 x0 x1),
      k0_pay76 (k0_pay883 x0 x1) (k0_pay885 x0 x1) (k0_pay893 x0 x1) (k0_pay894 x0 x1) (k0_pay895 x0 x1) (k0_pay896 x0 x1) (k0_pay897 x0 x1) (k0_pay899 x0 x1) c (k0_pay900 x0 x1) (k0_pay901 x0 x1)⟩ : Trip F S4x63x64) =
    (cut (list_v x0 x1) 3 6).foldl step (⟨k0_pay899 x0 x1, r, c⟩) := rfl

/-- The vertical edges' state that the region names after candidate 14, from the one named before. -/
theorem v_14 (x0 x1 : Vec F S4x64x64 .f32) (r c : FVec F S4x63x64 .f32) :
    (⟨k0_pay904 x0 x1,
      k0_pay98 (k0_pay883 x0 x1) (k0_pay885 x0 x1) (k0_pay902 x0 x1) r (k0_pay77 (k0_pay885 x0 x1)) (k0_pay903 x0 x1),
      k0_pay99 (k0_pay883 x0 x1) (k0_pay885 x0 x1) (k0_pay892 x0 x1) (k0_pay893 x0 x1) (k0_pay894 x0 x1) (k0_pay896 x0 x1) (k0_pay897 x0 x1) (k0_pay902 x0 x1) c (k0_pay903 x0 x1)⟩ : Trip F S4x63x64) =
    (cut (list_v x0 x1) 9 5).foldl step (⟨k0_pay902 x0 x1, r, c⟩) := rfl

/-- The vertical edges' state that the region names after candidate 20, from the one named before. -/
theorem v_20 (x0 x1 : Vec F S4x64x64 .f32) (r c : FVec F S4x63x64 .f32) :
    (⟨k0_pay906 x0 x1,
      k0_pay124 (k0_pay883 x0 x1) (k0_pay885 x0 x1) (k0_pay904 x0 x1) r (k0_pay100 (k0_pay885 x0 x1)) (k0_pay905 x0 x1),
      k0_pay125 (k0_pay883 x0 x1) (k0_pay885 x0 x1) (k0_pay892 x0 x1) (k0_pay893 x0 x1) (k0_pay895 x0 x1) (k0_pay896 x0 x1) (k0_pay897 x0 x1) (k0_pay898 x0 x1) (k0_pay904 x0 x1) c (k0_pay905 x0 x1)⟩ : Trip F S4x63x64) =
    (cut (list_v x0 x1) 14 6).foldl step (⟨k0_pay904 x0 x1, r, c⟩) := rfl

/-- The vertical edges' state that the region names after candidate 25, from the one named before. -/
theorem v_25 (x0 x1 : Vec F S4x64x64 .f32) (r c : FVec F S4x63x64 .f32) :
    (⟨k0_pay908 x0 x1,
      k0_pay146 (k0_pay883 x0 x1) (k0_pay885 x0 x1) (k0_pay906 x0 x1) r (k0_pay907 x0 x1),
      k0_pay147 (k0_pay883 x0 x1) (k0_pay885 x0 x1) (k0_pay894 x0 x1) (k0_pay895 x0 x1) (k0_pay896 x0 x1) (k0_pay897 x0 x1) (k0_pay898 x0 x1) (k0_pay906 x0 x1) c (k0_pay907 x0 x1)⟩ : Trip F S4x63x64) =
    (cut (list_v x0 x1) 20 5).foldl step (⟨k0_pay906 x0 x1, r, c⟩) := rfl

/-- The vertical edges' state that the region names after candidate 31, from the one named before. -/
theorem v_31 (x0 x1 : Vec F S4x64x64 .f32) (r c : FVec F S4x63x64 .f32) :
    (⟨k0_pay910 x0 x1,
      k0_pay173 (k0_pay883 x0 x1) (k0_pay885 x0 x1) (k0_pay908 x0 x1) r (k0_pay148 (k0_pay885 x0 x1)) (k0_pay909 x0 x1),
      k0_pay174 (k0_pay883 x0 x1) (k0_pay885 x0 x1) (k0_pay892 x0 x1) (k0_pay893 x0 x1) (k0_pay894 x0 x1) (k0_pay895 x0 x1) (k0_pay896 x0 x1) (k0_pay897 x0 x1) (k0_pay908 x0 x1) c (k0_pay909 x0 x1)⟩ : Trip F S4x63x64) =
    (cut (list_v x0 x1) 25 6).foldl step (⟨k0_pay908 x0 x1, r, c⟩) := rfl

/-- The vertical edges' state that the region names after candidate 36, from the one named before. -/
theorem v_36 (x0 x1 : Vec F S4x64x64 .f32) (r c : FVec F S4x63x64 .f32) :
    (⟨k0_pay911 x0 x1,
      k0_pay195 (k0_pay883 x0 x1) (k0_pay885 x0 x1) (k0_pay910 x0 x1) r,
      k0_pay196 (k0_pay883 x0 x1) (k0_pay885 x0 x1) (k0_pay893 x0 x1) (k0_pay894 x0 x1) (k0_pay895 x0 x1) (k0_pay896 x0 x1) (k0_pay898 x0 x1) (k0_pay910 x0 x1) c⟩ : Trip F S4x63x64) =
    (cut (list_v x0 x1) 31 5).foldl step (⟨k0_pay910 x0 x1, r, c⟩) := rfl

/-- The vertical edges' state that the region names after candidate 45, from the one named before. -/
theorem v_45 (x0 x1 : Vec F S4x64x64 .f32) (r c : FVec F S4x63x64 .f32) :
    (⟨k0_pay922 x0 x1,
      k0_pay245 (k0_pay883 x0 x1) (k0_pay885 x0 x1) (k0_pay886 x0 x1) (k0_pay887 x0 x1) (k0_pay888 x0 x1) (k0_pay914 x0 x1) (k0_pay224 (k0_pay883 x0 x1) (k0_pay885 x0 x1) (k0_pay911 x0 x1) r (k0_pay197 (k0_pay885 x0 x1)) (k0_pay912 x0 x1) (k0_pay913 x0 x1)),
      k0_pay246 (k0_pay883 x0 x1) (k0_pay885 x0 x1) (k0_pay886 x0 x1) (k0_pay887 x0 x1) (k0_pay888 x0 x1) (k0_pay895 x0 x1) (k0_pay897 x0 x1) (k0_pay219 (k0_pay883 x0 x1) (k0_pay885 x0 x1) (k0_pay893 x0 x1) (k0_pay894 x0 x1) (k0_pay895 x0 x1) (k0_pay896 x0 x1) (k0_pay897 x0 x1) (k0_pay911 x0 x1) c (k0_pay912 x0 x1) (k0_pay913 x0 x1)) (k0_pay222 (k0_pay883 x0 x1) (k0_pay885 x0 x1) (k0_pay911 x0 x1) (k0_pay912 x0 x1) (k0_pay913 x0 x1)) (k0_pay914 x0 x1)⟩ : Trip F S4x63x64) =
    (cut (list_v x0 x1) 36 9).foldl step (⟨k0_pay911 x0 x1, r, c⟩) := rfl

/-- The vertical edges' state that the region names after candidate 50, from the one named before. -/
theorem v_50 (x0 x1 : Vec F S4x64x64 .f32) (r c : FVec F S4x63x64 .f32) :
    (⟨k0_pay924 x0 x1,
      k0_pay268 (k0_pay883 x0 x1) (k0_pay886 x0 x1) (k0_pay888 x0 x1) (k0_pay915 x0 x1) (k0_pay922 x0 x1) r (k0_pay923 x0 x1),
      k0_pay269 (k0_pay883 x0 x1) (k0_pay886 x0 x1) (k0_pay888 x0 x1) (k0_pay915 x0 x1) (k0_pay922 x0 x1) c (k0_pay247 (k0_pay886 x0 x1)) (k0_pay923 x0 x1)⟩ : Trip F S4x63x64) =
    (cut (list_v x0 x1) 45 5).foldl step (⟨k0_pay922 x0 x1, r, c⟩) := rfl

/-- The vertical edges' state that the region names after candidate 56, from the one named before. -/
theorem v_56 (x0 x1 : Vec F S4x64x64 .f32) (r c : FVec F S4x63x64 .f32) :
    (⟨k0_pay926 x0 x1,
      k0_pay294 (k0_pay883 x0 x1) (k0_pay886 x0 x1) (k0_pay888 x0 x1) (k0_pay915 x0 x1) (k0_pay916 x0 x1) (k0_pay924 x0 x1) r (k0_pay925 x0 x1),
      k0_pay295 (k0_pay883 x0 x1) (k0_pay886 x0 x1) (k0_pay888 x0 x1) (k0_pay916 x0 x1) (k0_pay924 x0 x1) c (k0_pay270 (k0_pay886 x0 x1)) (k0_pay925 x0 x1)⟩ : Trip F S4x63x64) =
    (cut (list_v x0 x1) 50 6).foldl step (⟨k0_pay924 x0 x1, r, c⟩) := rfl

/-- The vertical edges' state that the region names after candidate 61, from the one named before. -/
theorem v_61 (x0 x1 : Vec F S4x64x64 .f32) (r c : FVec F S4x63x64 .f32) :
    (⟨k0_pay928 x0 x1,
      k0_pay316 (k0_pay883 x0 x1) (k0_pay886 x0 x1) (k0_pay888 x0 x1) (k0_pay916 x0 x1) (k0_pay917 x0 x1) (k0_pay926 x0 x1) r (k0_pay927 x0 x1),
      k0_pay317 (k0_pay883 x0 x1) (k0_pay886 x0 x1) (k0_pay888 x0 x1) (k0_pay916 x0 x1) (k0_pay917 x0 x1) (k0_pay926 x0 x1) c (k0_pay927 x0 x1)⟩ : Trip F S4x63x64) =
    (cut (list_v x0 x1) 56 5).foldl step (⟨k0_pay926 x0 x1, r, c⟩) := rfl

/-- The vertical edges' state that the region names after candidate 67, from the one named before. -/
theorem v_67 (x0 x1 : Vec F S4x64x64 .f32) (r c : FVec F S4x63x64 .f32) :
    (⟨k0_pay930 x0 x1,
      k0_pay343 (k0_pay883 x0 x1) (k0_pay886 x0 x1) (k0_pay888 x0 x1) (k0_pay917 x0 x1) (k0_pay918 x0 x1) (k0_pay928 x0 x1) r (k0_pay929 x0 x1),
      k0_pay344 (k0_pay883 x0 x1) (k0_pay886 x0 x1) (k0_pay888 x0 x1) (k0_pay917 x0 x1) (k0_pay918 x0 x1) (k0_pay928 x0 x1) c (k0_pay318 (k0_pay886 x0 x1)) (k0_pay929 x0 x1)⟩ : Trip F S4x63x64) =
    (cut (list_v x0 x1) 61 6).foldl step (⟨k0_pay928 x0 x1, r, c⟩) := rfl

/-- The vertical edges' state that the region names after candidate 72, from the one named before. -/
theorem v_72 (x0 x1 : Vec F S4x64x64 .f32) (r c : FVec F S4x63x64 .f32) :
    (⟨k0_pay931 x0 x1,
      k0_pay365 (k0_pay883 x0 x1) (k0_pay886 x0 x1) (k0_pay888 x0 x1) (k0_pay918 x0 x1) (k0_pay930 x0 x1) r,
      k0_pay366 (k0_pay883 x0 x1) (k0_pay886 x0 x1) (k0_pay888 x0 x1) (k0_pay918 x0 x1) (k0_pay930 x0 x1) c⟩ : Trip F S4x63x64) =
    (cut (list_v x0 x1) 67 5).foldl step (⟨k0_pay930 x0 x1, r, c⟩) := rfl

/-- The vertical edges' state that the region names after candidate 83, from the one named before. -/
theorem v_83 (x0 x1 : Vec F S4x64x64 .f32) (r c : FVec F S4x63x64 .f32) :
    (⟨k0_pay935 x0 x1,
      k0_pay415 (k0_pay883 x0 x1) (k0_pay886 x0 x1) (k0_pay888 x0 x1) (k0_pay919 x0 x1) (k0_pay920 x0 x1) (k0_pay934 x0 x1) (k0_pay394 (k0_pay883 x0 x1) (k0_pay886 x0 x1) (k0_pay888 x0 x1) (k0_pay918 x0 x1) (k0_pay919 x0 x1) (k0_pay931 x0 x1) r (k0_pay932 x0 x1) (k0_pay933 x0 x1)),
      k0_pay416 (k0_pay883 x0 x1) (k0_pay886 x0 x1) (k0_pay888 x0 x1) (k0_pay919 x0 x1) (k0_pay920 x0 x1) (k0_pay389 (k0_pay883 x0 x1) (k0_pay886 x0 x1) (k0_pay888 x0 x1) (k0_pay919 x0 x1) (k0_pay931 x0 x1) c (k0_pay367 (k0_pay886 x0 x1)) (k0_pay932 x0 x1) (k0_pay933 x0 x1)) (k0_pay390 (k0_pay886 x0 x1)) (k0_pay392 (k0_pay883 x0 x1) (k0_pay886 x0 x1) (k0_pay888 x0 x1) (k0_pay919 x0 x1) (k0_pay931 x0 x1) (k0_pay932 x0 x1) (k0_pay933 x0 x1)) (k0_pay934 x0 x1)⟩ : Trip F S4x63x64) =
    (cut (list_v x0 x1) 72 11).foldl step (⟨k0_pay931 x0 x1, r, c⟩) := rfl

/-- The vertical edges' state that the region names after candidate 87, from the one named before. -/
theorem v_87 (x0 x1 : Vec F S4x64x64 .f32) (r c : FVec F S4x63x64 .f32) :
    (⟨k0_pay434 (k0_pay883 x0 x1) (k0_pay886 x0 x1) (k0_pay888 x0 x1) (k0_pay920 x0 x1) (k0_pay921 x0 x1) (k0_pay935 x0 x1) (k0_pay936 x0 x1) (k0_pay937 x0 x1),
      k0_pay435 (k0_pay883 x0 x1) (k0_pay886 x0 x1) (k0_pay888 x0 x1) (k0_pay920 x0 x1) (k0_pay921 x0 x1) (k0_pay935 x0 x1) r (k0_pay936 x0 x1) (k0_pay937 x0 x1),
      k0_pay436 (k0_pay883 x0 x1) (k0_pay886 x0 x1) (k0_pay888 x0 x1) (k0_pay920 x0 x1) (k0_pay921 x0 x1) (k0_pay935 x0 x1) c (k0_pay417 (k0_pay886 x0 x1)) (k0_pay936 x0 x1) (k0_pay937 x0 x1)⟩ : Trip F S4x63x64) =
    (cut (list_v x0 x1) 83 4).foldl step (⟨k0_pay935 x0 x1, r, c⟩) := rfl

/-- What the body computes for vertical edges: the fold over all candidates. -/
theorem search_v (x0 x1 : Vec F S4x64x64 .f32) :
    (⟨k0_pay434 (k0_pay883 x0 x1) (k0_pay886 x0 x1) (k0_pay888 x0 x1) (k0_pay920 x0 x1) (k0_pay921 x0 x1) (k0_pay935 x0 x1) (k0_pay936 x0 x1) (k0_pay937 x0 x1),
      k0_pay435 (k0_pay883 x0 x1) (k0_pay886 x0 x1) (k0_pay888 x0 x1) (k0_pay920 x0 x1) (k0_pay921 x0 x1) (k0_pay935 x0 x1) (k0_pay415 (k0_pay883 x0 x1) (k0_pay886 x0 x1) (k0_pay888 x0 x1) (k0_pay919 x0 x1) (k0_pay920 x0 x1) (k0_pay934 x0 x1) (k0_pay394 (k0_pay883 x0 x1) (k0_pay886 x0 x1) (k0_pay888 x0 x1) (k0_pay918 x0 x1) (k0_pay919 x0 x1) (k0_pay931 x0 x1) (k0_pay365 (k0_pay883 x0 x1) (k0_pay886 x0 x1) (k0_pay888 x0 x1) (k0_pay918 x0 x1) (k0_pay930 x0 x1) (k0_pay343 (k0_pay883 x0 x1) (k0_pay886 x0 x1) (k0_pay888 x0 x1) (k0_pay917 x0 x1) (k0_pay918 x0 x1) (k0_pay928 x0 x1) (k0_pay316 (k0_pay883 x0 x1) (k0_pay886 x0 x1) (k0_pay888 x0 x1) (k0_pay916 x0 x1) (k0_pay917 x0 x1) (k0_pay926 x0 x1) (k0_pay294 (k0_pay883 x0 x1) (k0_pay886 x0 x1) (k0_pay888 x0 x1) (k0_pay915 x0 x1) (k0_pay916 x0 x1) (k0_pay924 x0 x1) (k0_pay268 (k0_pay883 x0 x1) (k0_pay886 x0 x1) (k0_pay888 x0 x1) (k0_pay915 x0 x1) (k0_pay922 x0 x1) (k0_pay245 (k0_pay883 x0 x1) (k0_pay885 x0 x1) (k0_pay886 x0 x1) (k0_pay887 x0 x1) (k0_pay888 x0 x1) (k0_pay914 x0 x1) (k0_pay224 (k0_pay883 x0 x1) (k0_pay885 x0 x1) (k0_pay911 x0 x1) (k0_pay195 (k0_pay883 x0 x1) (k0_pay885 x0 x1) (k0_pay910 x0 x1) (k0_pay173 (k0_pay883 x0 x1) (k0_pay885 x0 x1) (k0_pay908 x0 x1) (k0_pay146 (k0_pay883 x0 x1) (k0_pay885 x0 x1) (k0_pay906 x0 x1) (k0_pay124 (k0_pay883 x0 x1) (k0_pay885 x0 x1) (k0_pay904 x0 x1) (k0_pay98 (k0_pay883 x0 x1) (k0_pay885 x0 x1) (k0_pay902 x0 x1) (k0_pay75 (k0_pay883 x0 x1) (k0_pay885 x0 x1) (k0_pay899 x0 x1) (k0_pay49 (k0_pay883 x0 x1) (k0_pay885 x0 x1) (k0_pay891 x0 x1) (k0_pay27 (F := F))) (k0_pay51 (k0_pay885 x0 x1)) (k0_pay900 x0 x1) (k0_pay901 x0 x1)) (k0_pay77 (k0_pay885 x0 x1)) (k0_pay903 x0 x1)) (k0_pay100 (k0_pay885 x0 x1)) (k0_pay905 x0 x1)) (k0_pay907 x0 x1)) (k0_pay148 (k0_pay885 x0 x1)) (k0_pay909 x0 x1))) (k0_pay197 (k0_pay885 x0 x1)) (k0_pay912 x0 x1) (k0_pay913 x0 x1))) (k0_pay923 x0 x1)) (k0_pay925 x0 x1)) (k0_pay927 x0 x1)) (k0_pay929 x0 x1))) (k0_pay932 x0 x1) (k0_pay933 x0 x1))) (k0_pay936 x0 x1) (k0_pay937 x0 x1),
      k0_pay436 (k0_pay883 x0 x1) (k0_pay886 x0 x1) (k0_pay888 x0 x1) (k0_pay920 x0 x1) (k0_pay921 x0 x1) (k0_pay935 x0 x1) (k0_pay416 (k0_pay883 x0 x1) (k0_pay886 x0 x1) (k0_pay888 x0 x1) (k0_pay919 x0 x1) (k0_pay920 x0 x1) (k0_pay389 (k0_pay883 x0 x1) (k0_pay886 x0 x1) (k0_pay888 x0 x1) (k0_pay919 x0 x1) (k0_pay931 x0 x1) (k0_pay366 (k0_pay883 x0 x1) (k0_pay886 x0 x1) (k0_pay888 x0 x1) (k0_pay918 x0 x1) (k0_pay930 x0 x1) (k0_pay344 (k0_pay883 x0 x1) (k0_pay886 x0 x1) (k0_pay888 x0 x1) (k0_pay917 x0 x1) (k0_pay918 x0 x1) (k0_pay928 x0 x1) (k0_pay317 (k0_pay883 x0 x1) (k0_pay886 x0 x1) (k0_pay888 x0 x1) (k0_pay916 x0 x1) (k0_pay917 x0 x1) (k0_pay926 x0 x1) (k0_pay295 (k0_pay883 x0 x1) (k0_pay886 x0 x1) (k0_pay888 x0 x1) (k0_pay916 x0 x1) (k0_pay924 x0 x1) (k0_pay269 (k0_pay883 x0 x1) (k0_pay886 x0 x1) (k0_pay888 x0 x1) (k0_pay915 x0 x1) (k0_pay922 x0 x1) (k0_pay246 (k0_pay883 x0 x1) (k0_pay885 x0 x1) (k0_pay886 x0 x1) (k0_pay887 x0 x1) (k0_pay888 x0 x1) (k0_pay895 x0 x1) (k0_pay897 x0 x1) (k0_pay219 (k0_pay883 x0 x1) (k0_pay885 x0 x1) (k0_pay893 x0 x1) (k0_pay894 x0 x1) (k0_pay895 x0 x1) (k0_pay896 x0 x1) (k0_pay897 x0 x1) (k0_pay911 x0 x1) (k0_pay196 (k0_pay883 x0 x1) (k0_pay885 x0 x1) (k0_pay893 x0 x1) (k0_pay894 x0 x1) (k0_pay895 x0 x1) (k0_pay896 x0 x1) (k0_pay898 x0 x1) (k0_pay910 x0 x1) (k0_pay174 (k0_pay883 x0 x1) (k0_pay885 x0 x1) (k0_pay892 x0 x1) (k0_pay893 x0 x1) (k0_pay894 x0 x1) (k0_pay895 x0 x1) (k0_pay896 x0 x1) (k0_pay897 x0 x1) (k0_pay908 x0 x1) (k0_pay147 (k0_pay883 x0 x1) (k0_pay885 x0 x1) (k0_pay894 x0 x1) (k0_pay895 x0 x1) (k0_pay896 x0 x1) (k0_pay897 x0 x1) (k0_pay898 x0 x1) (k0_pay906 x0 x1) (k0_pay125 (k0_pay883 x0 x1) (k0_pay885 x0 x1) (k0_pay892 x0 x1) (k0_pay893 x0 x1) (k0_pay895 x0 x1) (k0_pay896 x0 x1) (k0_pay897 x0 x1) (k0_pay898 x0 x1) (k0_pay904 x0 x1) (k0_pay99 (k0_pay883 x0 x1) (k0_pay885 x0 x1) (k0_pay892 x0 x1) (k0_pay893 x0 x1) (k0_pay894 x0 x1) (k0_pay896 x0 x1) (k0_pay897 x0 x1) (k0_pay902 x0 x1) (k0_pay76 (k0_pay883 x0 x1) (k0_pay885 x0 x1) (k0_pay893 x0 x1) (k0_pay894 x0 x1) (k0_pay895 x0 x1) (k0_pay896 x0 x1) (k0_pay897 x0 x1) (k0_pay899 x0 x1) (k0_pay50 (k0_pay883 x0 x1) (k0_pay885 x0 x1) (k0_pay888 x0 x1) (k0_pay891 x0 x1) (k0_pay28 (F := F))) (k0_pay900 x0 x1) (k0_pay901 x0 x1)) (k0_pay903 x0 x1)) (k0_pay905 x0 x1)) (k0_pay907 x0 x1)) (k0_pay909 x0 x1))) (k0_pay912 x0 x1) (k0_pay913 x0 x1)) (k0_pay222 (k0_pay883 x0 x1) (k0_pay885 x0 x1) (k0_pay911 x0 x1) (k0_pay912 x0 x1) (k0_pay913 x0 x1)) (k0_pay914 x0 x1)) (k0_pay247 (k0_pay886 x0 x1)) (k0_pay923 x0 x1)) (k0_pay270 (k0_pay886 x0 x1)) (k0_pay925 x0 x1)) (k0_pay927 x0 x1)) (k0_pay318 (k0_pay886 x0 x1)) (k0_pay929 x0 x1))) (k0_pay367 (k0_pay886 x0 x1)) (k0_pay932 x0 x1) (k0_pay933 x0 x1)) (k0_pay390 (k0_pay886 x0 x1)) (k0_pay392 (k0_pay883 x0 x1) (k0_pay886 x0 x1) (k0_pay888 x0 x1) (k0_pay919 x0 x1) (k0_pay931 x0 x1) (k0_pay932 x0 x1) (k0_pay933 x0 x1)) (k0_pay934 x0 x1)) (k0_pay417 (k0_pay886 x0 x1)) (k0_pay936 x0 x1) (k0_pay937 x0 x1)⟩ : Trip F S4x63x64) =
    (list_v x0 x1).foldl step (start S4x63x64) :=
  ((v_87 x0 x1 _ _).trans (fold_cut 4 ((v_83 x0 x1 _ _).trans (fold_cut 11 ((v_72 x0 x1 _ _).trans (fold_cut 5 ((v_67 x0 x1 _ _).trans (fold_cut 6 ((v_61 x0 x1 _ _).trans (fold_cut 5 ((v_56 x0 x1 _ _).trans (fold_cut 6 ((v_50 x0 x1 _ _).trans (fold_cut 5 ((v_45 x0 x1 _ _).trans (fold_cut 9 ((v_36 x0 x1 _ _).trans (fold_cut 5 ((v_31 x0 x1 _ _).trans (fold_cut 6 ((v_25 x0 x1 _ _).trans (fold_cut 5 ((v_20 x0 x1 _ _).trans (fold_cut 6 ((v_14 x0 x1 _ _).trans (fold_cut 5 ((v_9 x0 x1 _ _).trans (fold_cut 6 ((v_3 x0 x1 ).trans (fold_cut 3 rfl))))))))))))))))))))))))))))))

/-- The candidates of the search from horizontal edges, in order. -/
abbrev list_h (x0 x1 : Vec F S4x64x64 .f32) : List (Trip F S4x64x63) :=
  listHV (k0_pay884 x0 x1) (k0_pay885 x0 x1) (k0_pay889 x0 x1) (k0_pay890 x0 x1) ++ listHH (k0_pay884 x0 x1) (k0_pay886 x0 x1) (k0_pay889 x0 x1)

/-- The horizontal edges' state that the region names after candidate 3, from the one named before. -/
theorem h_3 (x0 x1 : Vec F S4x64x64 .f32)  :
    (⟨k0_pay947 x0 x1,
      k0_pay459 (k0_pay884 x0 x1) (k0_pay885 x0 x1) (k0_pay889 x0 x1) (k0_pay890 x0 x1) (k0_pay938 x0 x1) (k0_pay438 (F := F)),
      k0_pay460 (k0_pay884 x0 x1) (k0_pay885 x0 x1) (k0_pay889 x0 x1) (k0_pay890 x0 x1) (k0_pay938 x0 x1) (Scalar.ofBits .f32 0x00000000#32)⟩ : Trip F S4x64x63) =
    (cut (list_h x0 x1) 0 3).foldl step (start S4x64x63) := rfl

/-- The horizontal edges' state that the region names after candidate 8, from the one named before. -/
theorem h_8 (x0 x1 : Vec F S4x64x64 .f32) (r c : FVec F S4x64x63 .f32) :
    (⟨k0_pay949 x0 x1,
      k0_pay482 (k0_pay884 x0 x1) (k0_pay885 x0 x1) (k0_pay889 x0 x1) (k0_pay941 x0 x1) (k0_pay942 x0 x1) (k0_pay943 x0 x1) (k0_pay944 x0 x1) (k0_pay945 x0 x1) (k0_pay947 x0 x1) r (k0_pay461 (k0_pay885 x0 x1)) (k0_pay948 x0 x1),
      k0_pay483 (k0_pay884 x0 x1) (k0_pay885 x0 x1) (k0_pay889 x0 x1) (k0_pay941 x0 x1) (k0_pay942 x0 x1) (k0_pay943 x0 x1) (k0_pay944 x0 x1) (k0_pay945 x0 x1) (k0_pay947 x0 x1) c (k0_pay948 x0 x1)⟩ : Trip F S4x64x63) =
    (cut (list_h x0 x1) 3 5).foldl step (⟨k0_pay947 x0 x1, r, c⟩) := rfl

/-- The horizontal edges' state that the region names after candidate 14, from the one named before. -/
theorem h_14 (x0 x1 : Vec F S4x64x64 .f32) (r c : FVec F S4x64x63 .f32) :
    (⟨k0_pay951 x0 x1,
      k0_pay508 (k0_pay884 x0 x1) (k0_pay885 x0 x1) (k0_pay889 x0 x1) (k0_pay941 x0 x1) (k0_pay942 x0 x1) (k0_pay943 x0 x1) (k0_pay944 x0 x1) (k0_pay945 x0 x1) (k0_pay949 x0 x1) r (k0_pay484 (k0_pay885 x0 x1)) (k0_pay950 x0 x1),
      k0_pay509 (k0_pay884 x0 x1) (k0_pay885 x0 x1) (k0_pay889 x0 x1) (k0_pay940 x0 x1) (k0_pay941 x0 x1) (k0_pay942 x0 x1) (k0_pay943 x0 x1) (k0_pay944 x0 x1) (k0_pay945 x0 x1) (k0_pay949 x0 x1) c (k0_pay950 x0 x1)⟩ : Trip F S4x64x63) =
    (cut (list_h x0 x1) 8 6).foldl step (⟨k0_pay949 x0 x1, r, c⟩) := rfl

/-- The horizontal edges' state that the region names after candidate 19, from the one named before. -/
theorem h_19 (x0 x1 : Vec F S4x64x64 .f32) (r c : FVec F S4x64x63 .f32) :
    (⟨k0_pay953 x0 x1,
      k0_pay530 (k0_pay884 x0 x1) (k0_pay885 x0 x1) (k0_pay889 x0 x1) (k0_pay939 x0 x1) (k0_pay940 x0 x1) (k0_pay941 x0 x1) (k0_pay942 x0 x1) (k0_pay943 x0 x1) (k0_pay951 x0 x1) r (k0_pay952 x0 x1),
      k0_pay531 (k0_pay884 x0 x1) (k0_pay885 x0 x1) (k0_pay889 x0 x1) (k0_pay939 x0 x1) (k0_pay940 x0 x1) (k0_pay941 x0 x1) (k0_pay942 x0 x1) (k0_pay943 x0 x1) (k0_pay951 x0 x1) c (k0_pay952 x0 x1)⟩ : Trip F S4x64x63) =
    (cut (list_h x0 x1) 14 5).foldl step (⟨k0_pay951 x0 x1, r, c⟩) := rfl

/-- The horizontal edges' state that the region names after candidate 25, from the one named before. -/
theorem h_25 (x0 x1 : Vec F S4x64x64 .f32) (r c : FVec F S4x64x63 .f32) :
    (⟨k0_pay955 x0 x1,
      k0_pay557 (k0_pay884 x0 x1) (k0_pay885 x0 x1) (k0_pay889 x0 x1) (k0_pay939 x0 x1) (k0_pay940 x0 x1) (k0_pay941 x0 x1) (k0_pay945 x0 x1) (k0_pay946 x0 x1) (k0_pay953 x0 x1) r (k0_pay532 (k0_pay885 x0 x1)) (k0_pay954 x0 x1),
      k0_pay558 (k0_pay884 x0 x1) (k0_pay885 x0 x1) (k0_pay889 x0 x1) (k0_pay939 x0 x1) (k0_pay940 x0 x1) (k0_pay941 x0 x1) (k0_pay944 x0 x1) (k0_pay945 x0 x1) (k0_pay946 x0 x1) (k0_pay953 x0 x1) c (k0_pay954 x0 x1)⟩ : Trip F S4x64x63) =
    (cut (list_h x0 x1) 19 6).foldl step (⟨k0_pay953 x0 x1, r, c⟩) := rfl

/-- The horizontal edges' state that the region names after candidate 30, from the one named before. -/
theorem h_30 (x0 x1 : Vec F S4x64x64 .f32) (r c : FVec F S4x64x63 .f32) :
    (⟨k0_pay956 x0 x1,
      k0_pay579 (k0_pay884 x0 x1) (k0_pay885 x0 x1) (k0_pay889 x0 x1) (k0_pay942 x0 x1) (k0_pay943 x0 x1) (k0_pay944 x0 x1) (k0_pay945 x0 x1) (k0_pay946 x0 x1) (k0_pay955 x0 x1) r,
      k0_pay580 (k0_pay884 x0 x1) (k0_pay885 x0 x1) (k0_pay889 x0 x1) (k0_pay942 x0 x1) (k0_pay943 x0 x1) (k0_pay944 x0 x1) (k0_pay945 x0 x1) (k0_pay946 x0 x1) (k0_pay955 x0 x1) c⟩ : Trip F S4x64x63) =
    (cut (list_h x0 x1) 25 5).foldl step (⟨k0_pay955 x0 x1, r, c⟩) := rfl

/-- The horizontal edges' state that the region names after candidate 41, from the one named before. -/
theorem h_41 (x0 x1 : Vec F S4x64x64 .f32) (r c : FVec F S4x64x63 .f32) :
    (⟨k0_pay960 x0 x1,
      k0_pay629 (k0_pay884 x0 x1) (k0_pay885 x0 x1) (k0_pay889 x0 x1) (k0_pay940 x0 x1) (k0_pay941 x0 x1) (k0_pay942 x0 x1) (k0_pay943 x0 x1) (k0_pay944 x0 x1) (k0_pay959 x0 x1) (k0_pay608 (k0_pay884 x0 x1) (k0_pay885 x0 x1) (k0_pay889 x0 x1) (k0_pay941 x0 x1) (k0_pay942 x0 x1) (k0_pay943 x0 x1) (k0_pay944 x0 x1) (k0_pay945 x0 x1) (k0_pay956 x0 x1) r (k0_pay581 (k0_pay885 x0 x1)) (k0_pay957 x0 x1) (k0_pay958 x0 x1)),
      k0_pay630 (k0_pay884 x0 x1) (k0_pay885 x0 x1) (k0_pay889 x0 x1) (k0_pay940 x0 x1) (k0_pay941 x0 x1) (k0_pay942 x0 x1) (k0_pay943 x0 x1) (k0_pay944 x0 x1) (k0_pay945 x0 x1) (k0_pay603 (k0_pay884 x0 x1) (k0_pay885 x0 x1) (k0_pay889 x0 x1) (k0_pay940 x0 x1) (k0_pay941 x0 x1) (k0_pay942 x0 x1) (k0_pay943 x0 x1) (k0_pay944 x0 x1) (k0_pay956 x0 x1) c (k0_pay957 x0 x1) (k0_pay958 x0 x1)) (k0_pay606 (k0_pay884 x0 x1) (k0_pay885 x0 x1) (k0_pay889 x0 x1) (k0_pay941 x0 x1) (k0_pay942 x0 x1) (k0_pay943 x0 x1) (k0_pay944 x0 x1) (k0_pay945 x0 x1) (k0_pay956 x0 x1) (k0_pay957 x0 x1) (k0_pay958 x0 x1)) (k0_pay959 x0 x1)⟩ : Trip F S4x64x63) =
    (cut (list_h x0 x1) 30 11).foldl step (⟨k0_pay956 x0 x1, r, c⟩) := rfl

/-- The horizontal edges' state that the region names after candidate 50, from the one named before. -/
theorem h_50 (x0 x1 : Vec F S4x64x64 .f32) (r c : FVec F S4x64x63 .f32) :
    (⟨k0_pay969 x0 x1,
      k0_pay678 (k0_pay884 x0 x1) (k0_pay886 x0 x1) (k0_pay646 (k0_pay889 x0 x1)) (k0_pay963 x0 x1) (k0_pay968 x0 x1) (k0_pay657 (k0_pay884 x0 x1) (k0_pay885 x0 x1) (k0_pay886 x0 x1) (k0_pay889 x0 x1) (k0_pay942 x0 x1) (k0_pay943 x0 x1) (k0_pay960 x0 x1) r (k0_pay631 (k0_pay885 x0 x1)) (k0_pay961 x0 x1) (k0_pay962 x0 x1)),
      k0_pay679 (k0_pay884 x0 x1) (k0_pay886 x0 x1) (k0_pay645 (k0_pay884 x0 x1) (k0_pay885 x0 x1) (k0_pay889 x0 x1) (k0_pay942 x0 x1) (k0_pay943 x0 x1) (k0_pay945 x0 x1) (k0_pay960 x0 x1) c (k0_pay961 x0 x1) (k0_pay962 x0 x1)) (k0_pay653 (k0_pay886 x0 x1)) (k0_pay655 (k0_pay884 x0 x1) (k0_pay885 x0 x1) (k0_pay886 x0 x1) (k0_pay889 x0 x1) (k0_pay942 x0 x1) (k0_pay943 x0 x1) (k0_pay960 x0 x1) (k0_pay961 x0 x1) (k0_pay962 x0 x1)) (k0_pay968 x0 x1)⟩ : Trip F S4x64x63) =
    (cut (list_h x0 x1) 41 9).foldl step (⟨k0_pay960 x0 x1, r, c⟩) := rfl

/-- The horizontal edges' state that the region names after candidate 61, from the one named before. -/
theorem h_61 (x0 x1 : Vec F S4x64x64 .f32) (r c : FVec F S4x64x63 .f32) :
    (⟨k0_pay973 x0 x1,
      k0_pay727 (k0_pay884 x0 x1) (k0_pay886 x0 x1) (k0_pay964 x0 x1) (k0_pay701 (k0_pay884 x0 x1) (k0_pay886 x0 x1) (k0_pay963 x0 x1) (k0_pay964 x0 x1) (k0_pay969 x0 x1) r (k0_pay970 x0 x1) (Scalar.ofBits .f32 0x40800000#32)) (k0_pay971 x0 x1) (k0_pay972 x0 x1),
      k0_pay728 (k0_pay884 x0 x1) (k0_pay886 x0 x1) (k0_pay702 (k0_pay884 x0 x1) (k0_pay886 x0 x1) (k0_pay969 x0 x1) c (k0_pay680 (k0_pay886 x0 x1)) (k0_pay970 x0 x1) (Scalar.ofBits .f32 0x40800000#32)) (k0_pay703 (k0_pay886 x0 x1)) (k0_pay971 x0 x1) (k0_pay972 x0 x1)⟩ : Trip F S4x64x63) =
    (cut (list_h x0 x1) 50 11).foldl step (⟨k0_pay969 x0 x1, r, c⟩) := rfl

/-- The horizontal edges' state that the region names after candidate 66, from the one named before. -/
theorem h_66 (x0 x1 : Vec F S4x64x64 .f32) (r c : FVec F S4x64x63 .f32) :
    (⟨k0_pay975 x0 x1,
      k0_pay750 (k0_pay884 x0 x1) (k0_pay886 x0 x1) (k0_pay965 x0 x1) (k0_pay973 x0 x1) r (k0_pay974 x0 x1),
      k0_pay751 (k0_pay884 x0 x1) (k0_pay886 x0 x1) (k0_pay973 x0 x1) c (k0_pay729 (k0_pay886 x0 x1)) (k0_pay974 x0 x1)⟩ : Trip F S4x64x63) =
    (cut (list_h x0 x1) 61 5).foldl step (⟨k0_pay973 x0 x1, r, c⟩) := rfl

/-- The horizontal edges' state that the region names after candidate 72, from the one named before. -/
theorem h_72 (x0 x1 : Vec F S4x64x64 .f32) (r c : FVec F S4x64x63 .f32) :
    (⟨k0_pay978 x0 x1,
      k0_pay776 (k0_pay884 x0 x1) (k0_pay886 x0 x1) (k0_pay965 x0 x1) (k0_pay966 x0 x1) (k0_pay975 x0 x1) r (k0_pay976 x0 x1) (k0_pay977 x0 x1),
      k0_pay777 (k0_pay884 x0 x1) (k0_pay886 x0 x1) (k0_pay975 x0 x1) c (k0_pay752 (k0_pay886 x0 x1)) (k0_pay976 x0 x1) (k0_pay977 x0 x1)⟩ : Trip F S4x64x63) =
    (cut (list_h x0 x1) 66 6).foldl step (⟨k0_pay975 x0 x1, r, c⟩) := rfl

/-- The horizontal edges' state that the region names after candidate 77, from the one named before. -/
theorem h_77 (x0 x1 : Vec F S4x64x64 .f32) (r c : FVec F S4x64x63 .f32) :
    (⟨k0_pay980 x0 x1,
      k0_pay799 (k0_pay884 x0 x1) (k0_pay886 x0 x1) (k0_pay966 x0 x1) (k0_pay978 x0 x1) r (k0_pay979 x0 x1),
      k0_pay800 (k0_pay884 x0 x1) (k0_pay886 x0 x1) (k0_pay978 x0 x1) c (k0_pay778 (k0_pay886 x0 x1)) (k0_pay979 x0 x1)⟩ : Trip F S4x64x63) =
    (cut (list_h x0 x1) 72 5).foldl step (⟨k0_pay978 x0 x1, r, c⟩) := rfl

/-- The horizontal edges' state that the region names after candidate 83, from the one named before. -/
theorem h_83 (x0 x1 : Vec F S4x64x64 .f32) (r c : FVec F S4x64x63 .f32) :
    (⟨k0_pay982 x0 x1,
      k0_pay825 (k0_pay884 x0 x1) (k0_pay886 x0 x1) (k0_pay967 x0 x1) (k0_pay980 x0 x1) r (k0_pay981 x0 x1),
      k0_pay826 (k0_pay884 x0 x1) (k0_pay886 x0 x1) (k0_pay980 x0 x1) c (k0_pay801 (k0_pay886 x0 x1)) (k0_pay981 x0 x1)⟩ : Trip F S4x64x63) =
    (cut (list_h x0 x1) 77 6).foldl step (⟨k0_pay980 x0 x1, r, c⟩) := rfl

/-- The horizontal edges' state that the region names after candidate 87, from the one named before. -/
theorem h_87 (x0 x1 : Vec F S4x64x64 .f32) (r c : FVec F S4x64x63 .f32) :
    (⟨k0_pay842 (k0_pay884 x0 x1) (k0_pay886 x0 x1) (k0_pay982 x0 x1) (k0_pay983 x0 x1),
      k0_pay843 (k0_pay884 x0 x1) (k0_pay886 x0 x1) (k0_pay967 x0 x1) (k0_pay652 (k0_pay889 x0 x1)) (k0_pay982 x0 x1) r (k0_pay983 x0 x1),
      k0_pay844 (k0_pay884 x0 x1) (k0_pay886 x0 x1) (k0_pay982 x0 x1) c (k0_pay983 x0 x1)⟩ : Trip F S4x64x63) =
    (cut (list_h x0 x1) 83 4).foldl step (⟨k0_pay982 x0 x1, r, c⟩) := rfl

/-- What the body computes for horizontal edges: the fold over all candidates. -/
theorem search_h (x0 x1 : Vec F S4x64x64 .f32) :
    (⟨k0_pay842 (k0_pay884 x0 x1) (k0_pay886 x0 x1) (k0_pay982 x0 x1) (k0_pay983 x0 x1),
      k0_pay843 (k0_pay884 x0 x1) (k0_pay886 x0 x1) (k0_pay967 x0 x1) (k0_pay652 (k0_pay889 x0 x1)) (k0_pay982 x0 x1) (k0_pay825 (k0_pay884 x0 x1) (k0_pay886 x0 x1) (k0_pay967 x0 x1) (k0_pay980 x0 x1) (k0_pay799 (k0_pay884 x0 x1) (k0_pay886 x0 x1) (k0_pay966 x0 x1) (k0_pay978 x0 x1) (k0_pay776 (k0_pay884 x0 x1) (k0_pay886 x0 x1) (k0_pay965 x0 x1) (k0_pay966 x0 x1) (k0_pay975 x0 x1) (k0_pay750 (k0_pay884 x0 x1) (k0_pay886 x0 x1) (k0_pay965 x0 x1) (k0_pay973 x0 x1) (k0_pay727 (k0_pay884 x0 x1) (k0_pay886 x0 x1) (k0_pay964 x0 x1) (k0_pay701 (k0_pay884 x0 x1) (k0_pay886 x0 x1) (k0_pay963 x0 x1) (k0_pay964 x0 x1) (k0_pay969 x0 x1) (k0_pay678 (k0_pay884 x0 x1) (k0_pay886 x0 x1) (k0_pay646 (k0_pay889 x0 x1)) (k0_pay963 x0 x1) (k0_pay968 x0 x1) (k0_pay657 (k0_pay884 x0 x1) (k0_pay885 x0 x1) (k0_pay886 x0 x1) (k0_pay889 x0 x1) (k0_pay942 x0 x1) (k0_pay943 x0 x1) (k0_pay960 x0 x1) (k0_pay629 (k0_pay884 x0 x1) (k0_pay885 x0 x1) (k0_pay889 x0 x1) (k0_pay940 x0 x1) (k0_pay941 x0 x1) (k0_pay942 x0 x1) (k0_pay943 x0 x1) (k0_pay944 x0 x1) (k0_pay959 x0 x1) (k0_pay608 (k0_pay884 x0 x1) (k0_pay885 x0 x1) (k0_pay889 x0 x1) (k0_pay941 x0 x1) (k0_pay942 x0 x1) (k0_pay943 x0 x1) (k0_pay944 x0 x1) (k0_pay945 x0 x1) (k0_pay956 x0 x1) (k0_pay579 (k0_pay884 x0 x1) (k0_pay885 x0 x1) (k0_pay889 x0 x1) (k0_pay942 x0 x1) (k0_pay943 x0 x1) (k0_pay944 x0 x1) (k0_pay945 x0 x1) (k0_pay946 x0 x1) (k0_pay955 x0 x1) (k0_pay557 (k0_pay884 x0 x1) (k0_pay885 x0 x1) (k0_pay889 x0 x1) (k0_pay939 x0 x1) (k0_pay940 x0 x1) (k0_pay941 x0 x1) (k0_pay945 x0 x1) (k0_pay946 x0 x1) (k0_pay953 x0 x1) (k0_pay530 (k0_pay884 x0 x1) (k0_pay885 x0 x1) (k0_pay889 x0 x1) (k0_pay939 x0 x1) (k0_pay940 x0 x1) (k0_pay941 x0 x1) (k0_pay942 x0 x1) (k0_pay943 x0 x1) (k0_pay951 x0 x1) (k0_pay508 (k0_pay884 x0 x1) (k0_pay885 x0 x1) (k0_pay889 x0 x1) (k0_pay941 x0 x1) (k0_pay942 x0 x1) (k0_pay943 x0 x1) (k0_pay944 x0 x1) (k0_pay945 x0 x1) (k0_pay949 x0 x1) (k0_pay482 (k0_pay884 x0 x1) (k0_pay885 x0 x1) (k0_pay889 x0 x1) (k0_pay941 x0 x1) (k0_pay942 x0 x1) (k0_pay943 x0 x1) (k0_pay944 x0 x1) (k0_pay945 x0 x1) (k0_pay947 x0 x1) (k0_pay459 (k0_pay884 x0 x1) (k0_pay885 x0 x1) (k0_pay889 x0 x1) (k0_pay890 x0 x1) (k0_pay938 x0 x1) (k0_pay438 (F := F))) (k0_pay461 (k0_pay885 x0 x1)) (k0_pay948 x0 x1)) (k0_pay484 (k0_pay885 x0 x1)) (k0_pay950 x0 x1)) (k0_pay952 x0 x1)) (k0_pay532 (k0_pay885 x0 x1)) (k0_pay954 x0 x1))) (k0_pay581 (k0_pay885 x0 x1)) (k0_pay957 x0 x1) (k0_pay958 x0 x1))) (k0_pay631 (k0_pay885 x0 x1)) (k0_pay961 x0 x1) (k0_pay962 x0 x1))) (k0_pay970 x0 x1) (Scalar.ofBits .f32 0x40800000#32)) (k0_pay971 x0 x1) (k0_pay972 x0 x1)) (k0_pay974 x0 x1)) (k0_pay976 x0 x1) (k0_pay977 x0 x1)) (k0_pay979 x0 x1)) (k0_pay981 x0 x1)) (k0_pay983 x0 x1),
      k0_pay844 (k0_pay884 x0 x1) (k0_pay886 x0 x1) (k0_pay982 x0 x1) (k0_pay826 (k0_pay884 x0 x1) (k0_pay886 x0 x1) (k0_pay980 x0 x1) (k0_pay800 (k0_pay884 x0 x1) (k0_pay886 x0 x1) (k0_pay978 x0 x1) (k0_pay777 (k0_pay884 x0 x1) (k0_pay886 x0 x1) (k0_pay975 x0 x1) (k0_pay751 (k0_pay884 x0 x1) (k0_pay886 x0 x1) (k0_pay973 x0 x1) (k0_pay728 (k0_pay884 x0 x1) (k0_pay886 x0 x1) (k0_pay702 (k0_pay884 x0 x1) (k0_pay886 x0 x1) (k0_pay969 x0 x1) (k0_pay679 (k0_pay884 x0 x1) (k0_pay886 x0 x1) (k0_pay645 (k0_pay884 x0 x1) (k0_pay885 x0 x1) (k0_pay889 x0 x1) (k0_pay942 x0 x1) (k0_pay943 x0 x1) (k0_pay945 x0 x1) (k0_pay960 x0 x1) (k0_pay630 (k0_pay884 x0 x1) (k0_pay885 x0 x1) (k0_pay889 x0 x1) (k0_pay940 x0 x1) (k0_pay941 x0 x1) (k0_pay942 x0 x1) (k0_pay943 x0 x1) (k0_pay944 x0 x1) (k0_pay945 x0 x1) (k0_pay603 (k0_pay884 x0 x1) (k0_pay885 x0 x1) (k0_pay889 x0 x1) (k0_pay940 x0 x1) (k0_pay941 x0 x1) (k0_pay942 x0 x1) (k0_pay943 x0 x1) (k0_pay944 x0 x1) (k0_pay956 x0 x1) (k0_pay580 (k0_pay884 x0 x1) (k0_pay885 x0 x1) (k0_pay889 x0 x1) (k0_pay942 x0 x1) (k0_pay943 x0 x1) (k0_pay944 x0 x1) (k0_pay945 x0 x1) (k0_pay946 x0 x1) (k0_pay955 x0 x1) (k0_pay558 (k0_pay884 x0 x1) (k0_pay885 x0 x1) (k0_pay889 x0 x1) (k0_pay939 x0 x1) (k0_pay940 x0 x1) (k0_pay941 x0 x1) (k0_pay944 x0 x1) (k0_pay945 x0 x1) (k0_pay946 x0 x1) (k0_pay953 x0 x1) (k0_pay531 (k0_pay884 x0 x1) (k0_pay885 x0 x1) (k0_pay889 x0 x1) (k0_pay939 x0 x1) (k0_pay940 x0 x1) (k0_pay941 x0 x1) (k0_pay942 x0 x1) (k0_pay943 x0 x1) (k0_pay951 x0 x1) (k0_pay509 (k0_pay884 x0 x1) (k0_pay885 x0 x1) (k0_pay889 x0 x1) (k0_pay940 x0 x1) (k0_pay941 x0 x1) (k0_pay942 x0 x1) (k0_pay943 x0 x1) (k0_pay944 x0 x1) (k0_pay945 x0 x1) (k0_pay949 x0 x1) (k0_pay483 (k0_pay884 x0 x1) (k0_pay885 x0 x1) (k0_pay889 x0 x1) (k0_pay941 x0 x1) (k0_pay942 x0 x1) (k0_pay943 x0 x1) (k0_pay944 x0 x1) (k0_pay945 x0 x1) (k0_pay947 x0 x1) (k0_pay460 (k0_pay884 x0 x1) (k0_pay885 x0 x1) (k0_pay889 x0 x1) (k0_pay890 x0 x1) (k0_pay938 x0 x1) (Scalar.ofBits .f32 0x00000000#32)) (k0_pay948 x0 x1)) (k0_pay950 x0 x1)) (k0_pay952 x0 x1)) (k0_pay954 x0 x1))) (k0_pay957 x0 x1) (k0_pay958 x0 x1)) (k0_pay606 (k0_pay884 x0 x1) (k0_pay885 x0 x1) (k0_pay889 x0 x1) (k0_pay941 x0 x1) (k0_pay942 x0 x1) (k0_pay943 x0 x1) (k0_pay944 x0 x1) (k0_pay945 x0 x1) (k0_pay956 x0 x1) (k0_pay957 x0 x1) (k0_pay958 x0 x1)) (k0_pay959 x0 x1)) (k0_pay961 x0 x1) (k0_pay962 x0 x1)) (k0_pay653 (k0_pay886 x0 x1)) (k0_pay655 (k0_pay884 x0 x1) (k0_pay885 x0 x1) (k0_pay886 x0 x1) (k0_pay889 x0 x1) (k0_pay942 x0 x1) (k0_pay943 x0 x1) (k0_pay960 x0 x1) (k0_pay961 x0 x1) (k0_pay962 x0 x1)) (k0_pay968 x0 x1)) (k0_pay680 (k0_pay886 x0 x1)) (k0_pay970 x0 x1) (Scalar.ofBits .f32 0x40800000#32)) (k0_pay703 (k0_pay886 x0 x1)) (k0_pay971 x0 x1) (k0_pay972 x0 x1)) (k0_pay729 (k0_pay886 x0 x1)) (k0_pay974 x0 x1)) (k0_pay752 (k0_pay886 x0 x1)) (k0_pay976 x0 x1) (k0_pay977 x0 x1)) (k0_pay778 (k0_pay886 x0 x1)) (k0_pay979 x0 x1)) (k0_pay801 (k0_pay886 x0 x1)) (k0_pay981 x0 x1)) (k0_pay983 x0 x1)⟩ : Trip F S4x64x63) =
    (list_h x0 x1).foldl step (start S4x64x63) :=
  ((h_87 x0 x1 _ _).trans (fold_cut 4 ((h_83 x0 x1 _ _).trans (fold_cut 6 ((h_77 x0 x1 _ _).trans (fold_cut 5 ((h_72 x0 x1 _ _).trans (fold_cut 6 ((h_66 x0 x1 _ _).trans (fold_cut 5 ((h_61 x0 x1 _ _).trans (fold_cut 11 ((h_50 x0 x1 _ _).trans (fold_cut 9 ((h_41 x0 x1 _ _).trans (fold_cut 11 ((h_30 x0 x1 _ _).trans (fold_cut 5 ((h_25 x0 x1 _ _).trans (fold_cut 6 ((h_19 x0 x1 _ _).trans (fold_cut 5 ((h_14 x0 x1 _ _).trans (fold_cut 6 ((h_8 x0 x1 _ _).trans (fold_cut 5 ((h_3 x0 x1 ).trans (fold_cut 3 rfl))))))))))))))))))))))))))))

end Cert.KernelIdeal.Search

end
-- ==== Proof.SearchValue.lean ====
/- The searches of the region, read at one observer: each is the search over the windows of the crossing points. -/
module

public import proofs.«01_k».proof.Proof.Nearest
public import proofs.«01_k».proof.Proof.Search
public import Idealize.ShloMosaic.Lib.Pipeline.ValueKit.Basic

@[expose] public section

set_option maxRecDepth 100000

noncomputable section

namespace Cert.Edges

open Idealize.ShloMosaic Idealize.ShloMosaic.TcCoe
open Cert.KernelIdeal.Gen Cert.KernelIdeal Cert.KernelIdeal.Search

/-- Three arrays at one place. -/
def at1 {s : Shape} (p : s.Idx) (T : Trip Ideal s) : Near := ⟨T.d p, T.r p, T.c p⟩

/-- An update of arrays is an update at every place. -/
theorem at_step {s : Shape} (p : s.Idx) (t e : Trip Ideal s) : at1 p (step t e) = (at1 p t).step (at1 p e) := by
  have key : ∀ x y : EReal, Scalar.select (BitVec.ofBool (decide (e.d p < t.d p))) x y = if e.d p < t.d p then x else y := by
    intro x y
    by_cases h : e.d p < t.d p <;> simp [Scalar.select, h]
  show (⟨Scalar.select (BitVec.ofBool (decide (e.d p < t.d p))) (e.d p) (t.d p),
    Scalar.select (BitVec.ofBool (decide (e.d p < t.d p))) (e.r p) (t.r p),
    Scalar.select (BitVec.ofBool (decide (e.d p < t.d p))) (e.c p) (t.c p)⟩ : Near) = if e.d p < t.d p then at1 p e else at1 p t
  simp only [key]
  split_ifs <;> rfl

/-- A search over arrays is a search at every place. -/
theorem at_fold {s : Shape} (p : s.Idx) (L : List (Trip Ideal s)) (t : Trip Ideal s) :
    at1 p (L.foldl step t) = (L.map (at1 p)).foldl Near.step (at1 p t) := by
  induction L generalizing t with
  | nil => rfl
  | cons e L ih => rw [List.foldl_cons, ih, List.map_cons, List.foldl_cons, at_step]

/-- The word `wd k` is `k - 3`. -/
theorem wd_word (k : ℕ) (hk : k ≤ 7) : Ideal.ofBits .f32 (Search.wd k) = off k := by
  interval_cases k <;> simp [Search.wd, off, Ideal.ofBits, Ideal.ieee, -EReal.coe_mul, -EReal.coe_sub, -EReal.coe_neg, -EReal.coe_pow] <;> norm_num

/-- The word `sq k` is the square of `k - 3`. -/
theorem sq_word (k : ℕ) (hk : k ≤ 6) (x : ℕ) :
    Ideal.ofBits .f32 (Search.sq k) = (nat x - (nat x + off k)) * (nat x - (nat x + off k)) := by
  rw [nat_off, nat, ← EReal.coe_sub, ← EReal.coe_mul,
    show ((x : ℝ) - (x + (k - 3))) * ((x : ℝ) - (x + (k - 3))) = ((k : ℝ) - 3) ^ 2 by ring]
  interval_cases k <;> simp [Search.sq, Ideal.ofBits, Ideal.ieee, -EReal.coe_mul, -EReal.coe_sub, -EReal.coe_neg, -EReal.coe_pow] <;> norm_num

/-- The windows on vertical edges, seen from a vertical one. -/
theorem offsetsVV : offsets 1 1 0 0 =
    [(0, 3), (1, 1), (1, 2), (1, 3), (1, 4), (1, 5), (2, 1), (2, 2), (2, 3), (2, 4), (2, 5), (3, 0),
     (3, 1), (3, 2), (3, 3), (3, 4), (3, 5), (3, 6), (4, 0), (4, 1), (4, 2), (4, 3), (4, 4), (4, 5),
     (4, 6), (5, 0), (5, 1), (5, 2), (5, 3), (5, 4), (5, 5), (5, 6), (6, 1), (6, 2), (6, 3), (6, 4),
     (6, 5), (7, 1), (7, 2), (7, 3), (7, 4), (7, 5), (8, 3)] := by
  decide +kernel

/-- The windows on horizontal edges, seen from a vertical one. -/
theorem offsetsVH : offsets 1 0 0 1 =
    [(0, 3), (0, 4), (1, 1), (1, 2), (1, 3), (1, 4), (1, 5), (1, 6), (2, 1), (2, 2), (2, 3), (2, 4),
     (2, 5), (2, 6), (3, 0), (3, 1), (3, 2), (3, 3), (3, 4), (3, 5), (3, 6), (3, 7), (4, 0), (4, 1),
     (4, 2), (4, 3), (4, 4), (4, 5), (4, 6), (4, 7), (5, 1), (5, 2), (5, 3), (5, 4), (5, 5), (5, 6),
     (6, 1), (6, 2), (6, 3), (6, 4), (6, 5), (6, 6), (7, 3), (7, 4)] := by
  decide +kernel

/-- The windows on vertical edges, seen from a horizontal one. -/
theorem offsetsHV : offsets 0 1 1 0 =
    [(0, 3), (0, 4), (1, 1), (1, 2), (1, 3), (1, 4), (1, 5), (1, 6), (2, 1), (2, 2), (2, 3), (2, 4),
     (2, 5), (2, 6), (3, 0), (3, 1), (3, 2), (3, 3), (3, 4), (3, 5), (3, 6), (3, 7), (4, 0), (4, 1),
     (4, 2), (4, 3), (4, 4), (4, 5), (4, 6), (4, 7), (5, 1), (5, 2), (5, 3), (5, 4), (5, 5), (5, 6),
     (6, 1), (6, 2), (6, 3), (6, 4), (6, 5), (6, 6), (7, 3), (7, 4)] := by
  decide +kernel

/-- The windows on horizontal edges, seen from a horizontal one. -/
theorem offsetsHH : offsets 0 0 1 1 =
    [(0, 3), (0, 4), (0, 5), (1, 1), (1, 2), (1, 3), (1, 4), (1, 5), (1, 6), (1, 7), (2, 1), (2, 2),
     (2, 3), (2, 4), (2, 5), (2, 6), (2, 7), (3, 0), (3, 1), (3, 2), (3, 3), (3, 4), (3, 5), (3, 6),
     (3, 7), (3, 8), (4, 1), (4, 2), (4, 3), (4, 4), (4, 5), (4, 6), (4, 7), (5, 1), (5, 2), (5, 3),
     (5, 4), (5, 5), (5, 6), (5, 7), (6, 3), (6, 4), (6, 5)] := by
  decide +kernel

section
variable (G : Grid) (q : Fin 4) (a b : ℕ)

/-- A vertical window seen from a vertical edge. -/
theorem vv_at (pr iJ : FVec Ideal S4x63x64 .f32) (GV : FVec Ideal S4x71x71 .f32) (h : S4x71x71.Slices ![0, a, b] S4x63x64)
    (i : Fin 63) (j : Fin 64) (hV : ∀ u v, GV (ix3 q u v) = gv G q u v) (hJ : iJ (ix3 q i j) = nat j) (hb : b ≤ 6) :
    at1 (ix3 q i j) (vv pr GV iJ a b h) = cand G q (pr (ix3 q i j)) (nat j) i j (false, a, b) := by
  unfold at1 vv
  pointwise [hV, hJ]
  rw [sq_word b hb j, wd_word b (by omega)]
  rfl

/-- A horizontal window seen from a vertical edge. -/
theorem vh_at (pr iI iJ : FVec Ideal S4x63x64 .f32) (GH : FVec Ideal S4x71x71 .f32) (h : S4x71x71.Slices ![0, a, b] S4x63x64)
    (i : Fin 63) (j : Fin 64) (hH : ∀ u v, GH (ix3 q u v) = gh G q u v) (hI : iI (ix3 q i j) = nat i)
    (hJ : iJ (ix3 q i j) = nat j) (ha : a ≤ 7) :
    at1 (ix3 q i j) (vh pr GH iI iJ a b h) = cand G q (pr (ix3 q i j)) (nat j) i j (true, a, b) := by
  unfold at1 vh
  pointwise [hH, hI, hJ]
  rw [wd_word a ha]
  rfl

/-- A vertical window seen from a horizontal edge. -/
theorem hv_at (pc iI iJ : FVec Ideal S4x64x63 .f32) (GV : FVec Ideal S4x71x71 .f32) (h : S4x71x71.Slices ![0, a, b] S4x64x63)
    (i : Fin 64) (j : Fin 63) (hV : ∀ u v, GV (ix3 q u v) = gv G q u v) (hI : iI (ix3 q i j) = nat i)
    (hJ : iJ (ix3 q i j) = nat j) (hb : b ≤ 7) :
    at1 (ix3 q i j) (hv pc GV iI iJ a b h) = cand G q (nat i) (pc (ix3 q i j)) i j (false, a, b) := by
  unfold at1 hv
  pointwise [hV, hI, hJ]
  rw [wd_word b hb]
  rfl

/-- A horizontal window seen from a horizontal edge. -/
theorem hh_at (pc iI : FVec Ideal S4x64x63 .f32) (GH : FVec Ideal S4x71x71 .f32) (h : S4x71x71.Slices ![0, a, b] S4x64x63)
    (i : Fin 64) (j : Fin 63) (hH : ∀ u v, GH (ix3 q u v) = gh G q u v) (hI : iI (ix3 q i j) = nat i) (ha : a ≤ 6) :
    at1 (ix3 q i j) (hh pc GH iI a b h) = cand G q (nat i) (pc (ix3 q i j)) i j (true, a, b) := by
  unfold at1 hh
  pointwise [hH, hI]
  rw [sq_word a ha i, wd_word a (by omega)]
  rfl

end

section
variable (x0 x1 : Vec Ideal S4x64x64 .f32) (q : Fin 4)

/-- The row numbers over the vertical edges. -/
theorem pay887 (i : Fin 63) (j : Fin 64) : Run.k0_pay887 x0 x1 (ix3 q i j) = nat i := by
  rw [Run.k0_pay887]
  pointwise [k0_pay22]
  exact sitofp_nat _ (by omega)

/-- The column numbers over the vertical edges. -/
theorem pay888 (i : Fin 63) (j : Fin 64) : Run.k0_pay888 x0 x1 (ix3 q i j) = nat j := by
  rw [Run.k0_pay888]
  pointwise [k0_pay23]
  exact sitofp_nat _ (by omega)

/-- The row numbers over the horizontal edges. -/
theorem pay889 (i : Fin 64) (j : Fin 63) : Run.k0_pay889 x0 x1 (ix3 q i j) = nat i := by
  rw [Run.k0_pay889]
  pointwise [k0_pay24]
  exact sitofp_nat _ (by omega)

/-- The column numbers over the horizontal edges. -/
theorem pay890 (i : Fin 64) (j : Fin 63) : Run.k0_pay890 x0 x1 (ix3 q i j) = nat j := by
  rw [Run.k0_pay890]
  pointwise [k0_pay25]
  exact sitofp_nat _ (by omega)

/-- The search from a vertical edge, in the region. -/
theorem observe_v (i : Fin 63) (j : Fin 64) :
    at1 (ix3 q i j) ((list_v x0 x1).foldl step (start S4x63x64)) =
      (keys 1 0).foldl (fun t k => t.step (cand (gridOf x1) q (vr (gridOf x0) q i j) (nat j) i j k)) begin0 := by
  rw [at_fold, ← List.foldl_map (f := cand (gridOf x1) q (vr (gridOf x0) q i j) (nat j) i j)]
  have e : (list_v x0 x1).map (at1 (ix3 q i j)) =
      (keys 1 0).map (cand (gridOf x1) q (vr (gridOf x0) q i j) (nat j) i j) := by
    rw [keys, offsetsVV, offsetsVH, ← pay883 x0 x1]
    simp only [listVV, listVH, List.map_append, List.map_cons, List.map_nil]
    simp only [Nat.reduceLeDiff, vv_at (gridOf x1) q _ _ _ _ _ _ i j (pay885 x0 x1 q) (pay888 x0 x1 q i j),
      vh_at (gridOf x1) q _ _ _ _ _ _ _ i j (pay886 x0 x1 q) (pay887 x0 x1 q i j) (pay888 x0 x1 q i j)]
  rw [e]
  congr 1
  show (⟨_, Ideal.ofBits .f32 0x00000000#32, Ideal.ofBits .f32 0x00000000#32⟩ : Near) = _
  rw [show Ideal.ofBits .f32 0x00000000#32 = 0 by simp [Ideal.ofBits, Ideal.ieee]]
  rfl

/-- The search from a horizontal edge, in the region. -/
theorem observe_h (i : Fin 64) (j : Fin 63) :
    at1 (ix3 q i j) ((list_h x0 x1).foldl step (start S4x64x63)) =
      (keys 0 1).foldl (fun t k => t.step (cand (gridOf x1) q (nat i) (hc (gridOf x0) q i j) i j k)) begin0 := by
  rw [at_fold, ← List.foldl_map (f := cand (gridOf x1) q (nat i) (hc (gridOf x0) q i j) i j)]
  have e : (list_h x0 x1).map (at1 (ix3 q i j)) =
      (keys 0 1).map (cand (gridOf x1) q (nat i) (hc (gridOf x0) q i j) i j) := by
    rw [keys, offsetsHV, offsetsHH, ← pay884 x0 x1]
    simp only [listHV, listHH, List.map_append, List.map_cons, List.map_nil]
    simp only [Nat.reduceLeDiff, hv_at (gridOf x1) q _ _ _ _ _ _ _ i j (pay885 x0 x1 q) (pay889 x0 x1 q i j) (pay890 x0 x1 q i j),
      hh_at (gridOf x1) q _ _ _ _ _ _ i j (pay886 x0 x1 q) (pay889 x0 x1 q i j)]
  rw [e]
  congr 1
  show (⟨_, Ideal.ofBits .f32 0x00000000#32, Ideal.ofBits .f32 0x00000000#32⟩ : Near) = _
  rw [show Ideal.ofBits .f32 0x00000000#32 = 0 by simp [Ideal.ofBits, Ideal.ieee]]
  rfl

/-- A store of a whole array leaves that array. -/
theorem canon_v (p : Vec Ideal S4x63x64 .f32) : View.canon [(⟨Run.r0_1, p⟩ : View.Piece (Elt Ideal) S4x63x64 .f32)] = p :=
  View.canon_cons_unit_lit _ p [] (by decide)

/-- A store of a whole array leaves that array. -/
theorem canon_h (p : Vec Ideal S4x64x63 .f32) : View.canon [(⟨Run.r0_2, p⟩ : View.Piece (Elt Ideal) S4x64x63 .f32)] = p :=
  View.canon_cons_unit_lit _ p [] (by decide)

/-- What the region stores for the vertical edges is what its search leaves. -/
theorem trip_v : (⟨Run.out0_2 x0 x1, Run.out0_3 x0 x1, Run.out0_4 x0 x1⟩ : Trip Ideal S4x63x64) =
    (list_v x0 x1).foldl step (start S4x63x64) := by
  rw [← search_v]
  unfold Run.out0_2 Run.out0_3 Run.out0_4
  rw [canon_v, canon_v, canon_v]

/-- What the region stores for a vertical edge is what its search finds. -/
theorem out_v (i : Fin 63) (j : Fin 64) :
    (⟨Run.out0_2 x0 x1 (ix3 q i j), Run.out0_3 x0 x1 (ix3 q i j), Run.out0_4 x0 x1 (ix3 q i j)⟩ : Near) =
      (keys 1 0).foldl (fun t k => t.step (cand (gridOf x1) q (vr (gridOf x0) q i j) (nat j) i j k)) begin0 := by
  rw [← observe_v, ← trip_v, at1]

/-- What the region stores for the horizontal edges is what its search leaves. -/
theorem trip_h : (⟨Run.out0_5 x0 x1, Run.out0_6 x0 x1, Run.out0_7 x0 x1⟩ : Trip Ideal S4x64x63) =
    (list_h x0 x1).foldl step (start S4x64x63) := by
  rw [← search_h]
  unfold Run.out0_5 Run.out0_6 Run.out0_7
  rw [canon_h, canon_h, canon_h]

/-- What the region stores for a horizontal edge is what its search finds. -/
theorem out_h (i : Fin 64) (j : Fin 63) :
    (⟨Run.out0_5 x0 x1 (ix3 q i j), Run.out0_6 x0 x1 (ix3 q i j), Run.out0_7 x0 x1 (ix3 q i j)⟩ : Near) =
      (keys 0 1).foldl (fun t k => t.step (cand (gridOf x1) q (nat i) (hc (gridOf x0) q i j) i j k)) begin0 := by
  rw [← observe_h, ← trip_h, at1]

end

end Cert.Edges

end
-- ==== Proof.Corners.lean ====
/- The four grid values around a point's cell, of the two gradients and of the values themselves: as the kernel's region selects
   them from shifted arrays. -/
module

public import proofs.«01_k».proof.Proof.Cells
public import proofs.«01_k».proof.Proof.SearchValue

@[expose] public section

set_option maxRecDepth 100000

noncomputable section

namespace Cert.Edges

open Idealize.ShloMosaic Idealize.ShloMosaic.TcCoe

/-- The gradient along the rows: central differences, one-sided at the two ends. -/
def gradR (A : Grid) : Grid := fun b y x =>
  if h : y.val < 1 then A b ⟨1 + y.val, by omega⟩ x - A b y x
  else if h : y.val - 1 < 62 then
    Ideal.div (A b ⟨2 + (y.val - 1), by omega⟩ x - A b ⟨y.val - 1, by omega⟩ x) (Ideal.ofBits .f32 0x40000000#32)
  else A b ⟨63 + (y.val - 1 - 62), by omega⟩ x - A b ⟨62 + (y.val - 1 - 62), by omega⟩ x

/-- The gradient along the columns. -/
def gradC (A : Grid) : Grid := fun b y x =>
  if h : x.val < 1 then A b y ⟨1 + x.val, by omega⟩ - A b y x
  else if h : x.val - 1 < 62 then
    Ideal.div (A b y ⟨2 + (x.val - 1), by omega⟩ - A b y ⟨x.val - 1, by omega⟩) (Ideal.ofBits .f32 0x40000000#32)
  else A b y ⟨63 + (x.val - 1 - 62), by omega⟩ - A b y ⟨62 + (x.val - 1 - 62), by omega⟩

/-- A grid at a row and a column, each kept on the grid. -/
def near (X : Grid) (b : Fin 4) (r c : ℕ) : EReal := X b ⟨min 63 r, by omega⟩ ⟨min 63 c, by omega⟩

/-- Two places of a grid with the same coordinates carry the same value. -/
theorem near_eq (X : Grid) (b : Fin 4) (y x : Fin 64) (r c : ℕ) (hy : y.val = min 63 r) (hx : x.val = min 63 c) :
    X b y x = near X b r c := by
  have e1 : y = ⟨min 63 r, by omega⟩ := Fin.ext hy
  have e2 : x = ⟨min 63 c, by omega⟩ := Fin.ext hx
  unfold near
  rw [← e1, ← e2]

section Kernel
open Cert.KernelIdeal.Gen Cert.KernelIdeal
variable (x0 x1 : Vec Ideal S4x64x64 .f32)

/-- The region's row differences. -/
theorem pay986 (b : Fin 4) (y x : Fin 64) : Run.k0_pay986 x0 x1 (ix3 b y x) = gradR (gridOf x0) b y x := by
  rw [Run.k0_pay986, Run.k0_pay984, Run.k0_pay985, ld0]
  pointwise [k0_pay847, k0_pay845, k0_pay846]
  rfl
/-- The region's column differences. -/
theorem pay987 (b : Fin 4) (y x : Fin 64) : Run.k0_pay987 x0 x1 (ix3 b y x) = gradC (gridOf x0) b y x := by
  rw [Run.k0_pay987, ld0]
  pointwise [k0_pay848]
  rfl

/-- The region's flags of the vertical edges whose crossing is the far end. -/
theorem pay988 (b : Fin 4) (i : Fin 63) (j : Fin 64) :
    Run.k0_pay988 x0 x1 (ix3 b i j) = BitVec.ofBool (decide (vr (gridOf x0) b i j = nat (i.val + 1))) := by
  rw [Run.k0_pay988]
  pointwise [k0_pay849, pay883, pay887]
  rw [nat_succ]
/-- The region's flags of the horizontal edges whose crossing is the far end. -/
theorem pay989 (b : Fin 4) (i : Fin 64) (j : Fin 63) :
    Run.k0_pay989 x0 x1 (ix3 b i j) = BitVec.ofBool (decide (hc (gridOf x0) b i j = nat (j.val + 1))) := by
  rw [Run.k0_pay989]
  pointwise [k0_pay850, pay884, pay890]
  rw [nat_succ]

/-- A whole-array write of the vertical corner stack leaves what is written. -/
theorem canon_8 (p : Vec Ideal S4x12x63x64 .f32) : View.canon [(⟨Run.r0_3, p⟩ : View.Piece (Elt Ideal) S4x12x63x64 .f32)] = p :=
  View.canon_cons_unit_lit _ p [] (by decide)
/-- A whole-array write of the horizontal corner stack leaves what is written. -/
theorem canon_9 (p : Vec Ideal S4x12x64x63 .f32) : View.canon [(⟨Run.r0_4, p⟩ : View.Piece (Elt Ideal) S4x12x64x63 .f32)] = p :=
  View.canon_cons_unit_lit _ p [] (by decide)

set_option maxHeartbeats 4000000 in
/-- The twelve planes the region stores for the vertical edges: at each of the four corners of a crossing's cell, the two gradients
    and the value. -/
theorem out8 (b : Fin 4) (i : Fin 63) (j : Fin 64) :
    Run.out0_8 x0 x1 (ix4 b (0 : Fin 12) i j) = near (gradR (gridOf x0)) b (rv (gridOf x0) b i j + 0) (j.val + 0) ∧
    Run.out0_8 x0 x1 (ix4 b (1 : Fin 12) i j) = near (gradC (gridOf x0)) b (rv (gridOf x0) b i j + 0) (j.val + 0) ∧
    Run.out0_8 x0 x1 (ix4 b (2 : Fin 12) i j) = near (gridOf x0) b (rv (gridOf x0) b i j + 0) (j.val + 0) ∧
    Run.out0_8 x0 x1 (ix4 b (3 : Fin 12) i j) = near (gradR (gridOf x0)) b (rv (gridOf x0) b i j + 0) (j.val + 1) ∧
    Run.out0_8 x0 x1 (ix4 b (4 : Fin 12) i j) = near (gradC (gridOf x0)) b (rv (gridOf x0) b i j + 0) (j.val + 1) ∧
    Run.out0_8 x0 x1 (ix4 b (5 : Fin 12) i j) = near (gridOf x0) b (rv (gridOf x0) b i j + 0) (j.val + 1) ∧
    Run.out0_8 x0 x1 (ix4 b (6 : Fin 12) i j) = near (gradR (gridOf x0)) b (rv (gridOf x0) b i j + 1) (j.val + 0) ∧
    Run.out0_8 x0 x1 (ix4 b (7 : Fin 12) i j) = near (gradC (gridOf x0)) b (rv (gridOf x0) b i j + 1) (j.val + 0) ∧
    Run.out0_8 x0 x1 (ix4 b (8 : Fin 12) i j) = near (gridOf x0) b (rv (gridOf x0) b i j + 1) (j.val + 0) ∧
    Run.out0_8 x0 x1 (ix4 b (9 : Fin 12) i j) = near (gradR (gridOf x0)) b (rv (gridOf x0) b i j + 1) (j.val + 1) ∧
    Run.out0_8 x0 x1 (ix4 b (10 : Fin 12) i j) = near (gradC (gridOf x0)) b (rv (gridOf x0) b i j + 1) (j.val + 1) ∧
    Run.out0_8 x0 x1 (ix4 b (11 : Fin 12) i j) = near (gridOf x0) b (rv (gridOf x0) b i j + 1) (j.val + 1) := by
  have h6 : k0_pay847 x0 (Run.k0_pay984 x0 x1) (Run.k0_pay985 x0 x1) = Run.k0_pay986 x0 x1 := by rw [Run.k0_pay986, ld0]
  have h8 : k0_pay849 (Run.k0_pay883 x0 x1) (Run.k0_pay887 x0 x1) = Run.k0_pay988 x0 x1 := rfl
  unfold Run.out0_8
  rw [canon_8, ld0]
  refine ⟨?_, ?_, ?_, ?_, ?_, ?_, ?_, ?_, ?_, ?_, ?_, ?_⟩ <;>
    (pointwise [k0_pay877, k0_pay852, k0_pay853, k0_pay854, k0_pay855, k0_pay851, k0_pay863, k0_pay864, k0_pay865, k0_pay866, k0_pay867,
      k0_pay873, k0_pay874, k0_pay875, k0_pay876, h6, h8, pay988, pay986, pay987]
     unfold rv
     split_ifs <;> first
      | refine near_eq (gradR (gridOf x0)) _ _ _ _ _ ?_ ?_ <;> (try simp only) <;> omega
      | refine near_eq (gradC (gridOf x0)) _ _ _ _ _ ?_ ?_ <;> (try simp only) <;> omega
      | refine near_eq (gridOf x0) _ _ _ _ _ ?_ ?_ <;> (try simp only) <;> omega)

set_option maxHeartbeats 4000000 in
/-- The twelve planes the region stores for the horizontal edges. -/
theorem out9 (b : Fin 4) (i : Fin 64) (j : Fin 63) :
    Run.out0_9 x0 x1 (ix4 b (0 : Fin 12) i j) = near (gradR (gridOf x0)) b (i.val + 0) (ch (gridOf x0) b i j + 0) ∧
    Run.out0_9 x0 x1 (ix4 b (1 : Fin 12) i j) = near (gradC (gridOf x0)) b (i.val + 0) (ch (gridOf x0) b i j + 0) ∧
    Run.out0_9 x0 x1 (ix4 b (2 : Fin 12) i j) = near (gridOf x0) b (i.val + 0) (ch (gridOf x0) b i j + 0) ∧
    Run.out0_9 x0 x1 (ix4 b (3 : Fin 12) i j) = near (gradR (gridOf x0)) b (i.val + 0) (ch (gridOf x0) b i j + 1) ∧
    Run.out0_9 x0 x1 (ix4 b (4 : Fin 12) i j) = near (gradC (gridOf x0)) b (i.val + 0) (ch (gridOf x0) b i j + 1) ∧
    Run.out0_9 x0 x1 (ix4 b (5 : Fin 12) i j) = near (gridOf x0) b (i.val + 0) (ch (gridOf x0) b i j + 1) ∧
    Run.out0_9 x0 x1 (ix4 b (6 : Fin 12) i j) = near (gradR (gridOf x0)) b (i.val + 1) (ch (gridOf x0) b i j + 0) ∧
    Run.out0_9 x0 x1 (ix4 b (7 : Fin 12) i j) = near (gradC (gridOf x0)) b (i.val + 1) (ch (gridOf x0) b i j + 0) ∧
    Run.out0_9 x0 x1 (ix4 b (8 : Fin 12) i j) = near (gridOf x0) b (i.val + 1) (ch (gridOf x0) b i j + 0) ∧
    Run.out0_9 x0 x1 (ix4 b (9 : Fin 12) i j) = near (gradR (gridOf x0)) b (i.val + 1) (ch (gridOf x0) b i j + 1) ∧
    Run.out0_9 x0 x1 (ix4 b (10 : Fin 12) i j) = near (gradC (gridOf x0)) b (i.val + 1) (ch (gridOf x0) b i j + 1) ∧
    Run.out0_9 x0 x1 (ix4 b (11 : Fin 12) i j) = near (gridOf x0) b (i.val + 1) (ch (gridOf x0) b i j + 1) := by
  have h6 : k0_pay847 x0 (Run.k0_pay984 x0 x1) (Run.k0_pay985 x0 x1) = Run.k0_pay986 x0 x1 := by rw [Run.k0_pay986, ld0]
  have h7 : Run.k0_pay990 x0 x1 = k0_pay856 x0 (Run.k0_pay984 x0 x1) (Run.k0_pay985 x0 x1) := by rw [Run.k0_pay990, ld0]
  unfold Run.out0_9
  rw [canon_9, ld0]
  refine ⟨?_, ?_, ?_, ?_, ?_, ?_, ?_, ?_, ?_, ?_, ?_, ?_⟩ <;>
    (pointwise [k0_pay878, k0_pay856, k0_pay857, k0_pay858, k0_pay859, k0_pay860, k0_pay861, k0_pay862, k0_pay868, k0_pay869, k0_pay870, k0_pay871, k0_pay872,
      h6, h7, pay989, pay986, pay987]
     unfold ch
     split_ifs <;> first
      | refine near_eq (gradR (gridOf x0)) _ _ _ _ _ ?_ ?_ <;> (try simp only) <;> omega
      | refine near_eq (gradC (gridOf x0)) _ _ _ _ _ ?_ ?_ <;> (try simp only) <;> omega
      | refine near_eq (gridOf x0) _ _ _ _ _ ?_ ?_ <;> (try simp only) <;> omega)

end Kernel

end Cert.Edges

end
-- ==== Proof.RefCorners.lean ====
/- The reference's gathered corner values: the two gradients and the values at the four corners of a point's cell. -/
module

public import proofs.«01_k».proof.Proof.Corners

@[expose] public section

set_option maxRecDepth 100000

noncomputable section

namespace Cert.Edges

open Idealize.ShloMosaic Idealize.ShloMosaic.TcCoe
open Cert.ReferenceIdeal.Gen Cert.ReferenceIdeal.Value Cert.ReferenceIdeal

variable (V : Valuation τ sig (Elt Ideal))

/-- The reference's normals are the two gradients. -/
theorem ref_normal (b : Fin 4) (y x : Fin 64) :
    (res_main_v206 V (ix4 b y x (0 : Fin 2)) : EReal) = gradR (predOf V) b y x ∧
    (res_main_v206 V (ix4 b y x (1 : Fin 2)) : EReal) = gradC (predOf V) b y x := by
  constructor
  · pointwise [res_main_v206]
    rfl
  · pointwise [res_main_v206]
    rfl

/-- The index pairs a row array and a column array are made into. -/
abbrev pairs (R C : IVec S4x8064 32) : IVec S4x8064x2 32 :=
  concatenate S4x8064x2 2 [⟨S4x8064x1, (broadcastInDim S4x8064x1 ![0, 1] bcast_S4x8064_S4x8064x1_0_1 (select (cmpi .slt R (broadcastInDim S4x8064 ![] bcast_S_S4x8064 (constantI S_ 32 0#32))) (addi R (broadcastInDim S4x8064 ![] bcast_S_S4x8064 (constantI S_ 32 64#32))) R))⟩, ⟨S4x8064x1, (broadcastInDim S4x8064x1 ![0, 1] bcast_S4x8064_S4x8064x1_0_1 (select (cmpi .slt C (broadcastInDim S4x8064 ![] bcast_S_S4x8064 (constantI S_ 32 0#32))) (addi C (broadcastInDim S4x8064 ![] bcast_S_S4x8064 (constantI S_ 32 64#32))) C))⟩] concatenates_S4x8064x1_S4x8064x1_S4x8064x2_d2

/-- The pair at a point whose row and column words are small. -/
theorem pairs_eq (R C : IVec S4x8064 32) (b : Fin 4) (n : Fin 8064) (p q : ℕ) (hp : p < 64) (hq : q < 64)
    (hR : R (ix2 b n) = BitVec.ofNat 32 p) (hC : C (ix2 b n) = BitVec.ofNat 32 q) :
    pairs R C (ix3 b n (0 : Fin 2)) = BitVec.ofNat 32 p ∧ pairs R C (ix3 b n (1 : Fin 2)) = BitVec.ofNat 32 q := by
  constructor
  · pointwise [pairs, hR]
    exact wrap _ (by omega) _
  · pointwise [pairs, hC]
    exact wrap _ (by omega) _

/-- The normals gathered at the index pairs. -/
abbrev gatherN (R C : IVec S4x8064 32) : FVec Ideal S4x8064x2 .f32 := Host.gather gather_S4x64x64x2_S4x8064x2_S4x8064x2_2_12_0_0_12_2_1112 (res_main_v206 V) (pairs R C)
/-- The values gathered at the index pairs. -/
abbrev gatherV (R C : IVec S4x8064 32) : FVec Ideal S4x8064 .f32 := Host.gather gather_S4x64x64_S4x8064x2_S4x8064_n_12_0_0_12_2_111 (V (Proc.devRef .tc main_arg0)) (pairs R C)

/-- The gathered normals at a corner. -/
theorem corner_normal (R C : IVec S4x8064 32) (b : Fin 4) (n : Fin 8064) (r c : ℕ)
    (hR : R (ix2 b n) = BitVec.ofNat 32 (min 63 r)) (hC : C (ix2 b n) = BitVec.ofNat 32 (min 63 c)) :
    (gatherN V R C (ix3 b n (0 : Fin 2)) : EReal) =
      near (gradR (predOf V)) b r c ∧
    (gatherN V R C (ix3 b n (1 : Fin 2)) : EReal) =
      near (gradC (predOf V)) b r c := by
  obtain ⟨h0, h1⟩ := pairs_eq R C b n _ _ (by omega) (by omega) hR hC
  constructor
  · unfold gatherN
    rw [gather_normal _ _ b n 0 ⟨min 63 r, by omega⟩ ⟨min 63 c, by omega⟩ h0 h1]
    exact (ref_normal V b _ _).1
  · unfold gatherN
    rw [gather_normal _ _ b n 1 ⟨min 63 r, by omega⟩ ⟨min 63 c, by omega⟩ h0 h1]
    exact (ref_normal V b _ _).2

/-- The gathered values at a corner. -/
theorem corner_value (R C : IVec S4x8064 32) (b : Fin 4) (n : Fin 8064) (r c : ℕ)
    (hR : R (ix2 b n) = BitVec.ofNat 32 (min 63 r)) (hC : C (ix2 b n) = BitVec.ofNat 32 (min 63 c)) :
    (gatherV V R C (ix2 b n) : EReal) =
      near (predOf V) b r c := by
  obtain ⟨h0, h1⟩ := pairs_eq R C b n _ _ (by omega) (by omega) hR hC
  exact gather_value _ _ b n ⟨min 63 r, by omega⟩ ⟨min 63 c, by omega⟩ h0 h1

/-- The words of the four clipped coordinates of a cell. -/
theorem ref_words (b : Fin 4) (n : Fin 8064) :
    res_main_v215 V (ix2 b n) = BitVec.ofNat 32 (min 63 (cr (predOf V) b n + 0)) ∧
    res_main_v216 V (ix2 b n) = BitVec.ofNat 32 (min 63 (cc (predOf V) b n + 0)) ∧
    res_main_v219 V (ix2 b n) = BitVec.ofNat 32 (min 63 (cr (predOf V) b n + 1)) ∧
    res_main_v222 V (ix2 b n) = BitVec.ofNat 32 (min 63 (cc (predOf V) b n + 1)) := by
  have h1 := cr_le (predOf V) b n
  have h2 := cc_le (predOf V) b n
  refine ⟨?_, ?_, ref_219 V b n, ref_222 V b n⟩
  · rw [ref_215, min_eq_right (by omega), Nat.add_zero]
  · rw [ref_216, min_eq_right (by omega), Nat.add_zero]

end Cert.Edges

end
-- ==== Proof.Region.lean ====
/- The state after the kernel's host operations: it is a fixed point of each of them, and it holds the region's outputs. -/
module

public import proofs.«01_k».proof.Proof.Launch
public import Idealize.ShloMosaic.Lib.Pipeline.ValueKit.Basic

@[expose] public section

set_option maxRecDepth 100000

noncomputable section

namespace Cert.KernelIdeal.Run

open Idealize.ShloMosaic Idealize.ShloMosaic.TcCoe
open Cert.KernelIdeal.Gen

variable {F : FTy → Type} [FloatOps F]
variable (m : (ℓ : Loc nD τ sig) → Buf (Elt F) ℓ) (c : Dev nD)

/-- The state the region leaves. -/
def mid : Valuation τ sig (Elt F) :=
  Pipeline.withArrays spec0 c (V0 m c) fun w => (dats m 0 c).arrAt w cfg0.N

/-- The state at the end. -/
def fin : Valuation τ sig (Elt F) := StableHlo.after Tail.lines.flatten (mid m c)

/-- The first argument's one block is the argument. -/
theorem iblk_0 (t : Fin cfg0.N) : iblk m c 0 t = m ((c : Thread nD τ).loc main_arg0) := by
  obtain rfl := fin_N0 t
  have hz : (fun a => win0_0.index t0_0 a * main_arg0.ty.shape.size a) = fun _ => 0 := funext fun a => by fin_cases a <;> decide
  exact Memref.read_access_unit_zero (Elt F) main_arg0 hz (fun a => by rw [congrFun hz a]; simp) _

/-- The second argument's one block is the argument. -/
theorem iblk_1 (t : Fin cfg0.N) : iblk m c 1 t = m ((c : Thread nD τ).loc main_arg1) := by
  obtain rfl := fin_N0 t
  have hz : (fun a => win0_1.index t0_0 a * main_arg1.ty.shape.size a) = fun _ => 0 := funext fun a => by fin_cases a <;> decide
  exact Memref.read_access_unit_zero (Elt F) main_arg1 hz (fun a => by rw [congrFun hz a]; simp) _

/-- The array of a window holds `G` at the end, if its one block is written with `G` and covers it. -/
theorem arr_of (w : Fin cfg0.W) (G : Buf (Elt F) ((cfg0.win w).arr.view.loc (c.tc : Thread nD τ)))
    (hG : (dats m 0 c).flushed w t0_0 = ((cfg0.win w).blk t0_0).view.read (Elt F) G)
    (hc : ∀ i : ((cfg0.win w).arr.view.loc (c.tc : Thread nD τ)).2.ty.Idx, i ∈ ((cfg0.win w).blk t0_0).view.set)
    (hf : (cfg0.win w).flush t0_0 = true) : (dats m 0 c).arrAt w cfg0.N = G :=
  (dats m 0 c).arrAt_eq_of_cover w G (fun t _ => by obtain rfl := fin_N0 t; exact hG) fun i => ⟨t0_0, hf, hc i⟩

/-- Output 0 of the region. -/
theorem arr_2 : (dats m 0 c).arrAt 2 cfg0.N = out0_2 (m ((c : Thread nD τ).loc main_arg0)) (m ((c : Thread nD τ).loc main_arg1)) := by
  have hz : (fun a => win0_2.index t0_0 a * main_v0_0.ty.shape.size a) = fun _ => 0 := funext fun a => by fin_cases a <;> decide
  refine arr_of m c 2 _ ?_ (fun i => ?_) (flush0_2 t0_0)
  · show (cfg0.win 2).cut (grid0.coords t0_0) ((dats m 0 c).after 2 t0_0) = _
    rw [after0_2, iblk_0, iblk_1]
    exact (Memref.read_access_unit_zero (Elt F) main_v0_0 hz (fun a => by rw [congrFun hz a]; simp) _).symm
  · show i ∈ ((View.whole main_v0_0).slice (win0_2.rect t0_0)).set
    rw [View.set_slice_whole]
    exact View.mem_set_unit_zero hz _ i

/-- Output 1 of the region. -/
theorem arr_3 : (dats m 0 c).arrAt 3 cfg0.N = out0_3 (m ((c : Thread nD τ).loc main_arg0)) (m ((c : Thread nD τ).loc main_arg1)) := by
  have hz : (fun a => win0_3.index t0_0 a * main_v0_1.ty.shape.size a) = fun _ => 0 := funext fun a => by fin_cases a <;> decide
  refine arr_of m c 3 _ ?_ (fun i => ?_) (flush0_3 t0_0)
  · show (cfg0.win 3).cut (grid0.coords t0_0) ((dats m 0 c).after 3 t0_0) = _
    rw [after0_3, iblk_0, iblk_1]
    exact (Memref.read_access_unit_zero (Elt F) main_v0_1 hz (fun a => by rw [congrFun hz a]; simp) _).symm
  · show i ∈ ((View.whole main_v0_1).slice (win0_3.rect t0_0)).set
    rw [View.set_slice_whole]
    exact View.mem_set_unit_zero hz _ i

/-- Output 2 of the region. -/
theorem arr_4 : (dats m 0 c).arrAt 4 cfg0.N = out0_4 (m ((c : Thread nD τ).loc main_arg0)) (m ((c : Thread nD τ).loc main_arg1)) := by
  have hz : (fun a => win0_4.index t0_0 a * main_v0_2.ty.shape.size a) = fun _ => 0 := funext fun a => by fin_cases a <;> decide
  refine arr_of m c 4 _ ?_ (fun i => ?_) (flush0_4 t0_0)
  · show (cfg0.win 4).cut (grid0.coords t0_0) ((dats m 0 c).after 4 t0_0) = _
    rw [after0_4, iblk_0, iblk_1]
    exact (Memref.read_access_unit_zero (Elt F) main_v0_2 hz (fun a => by rw [congrFun hz a]; simp) _).symm
  · show i ∈ ((View.whole main_v0_2).slice (win0_4.rect t0_0)).set
    rw [View.set_slice_whole]
    exact View.mem_set_unit_zero hz _ i

/-- Output 3 of the region. -/
theorem arr_5 : (dats m 0 c).arrAt 5 cfg0.N = out0_5 (m ((c : Thread nD τ).loc main_arg0)) (m ((c : Thread nD τ).loc main_arg1)) := by
  have hz : (fun a => win0_5.index t0_0 a * main_v0_3.ty.shape.size a) = fun _ => 0 := funext fun a => by fin_cases a <;> decide
  refine arr_of m c 5 _ ?_ (fun i => ?_) (flush0_5 t0_0)
  · show (cfg0.win 5).cut (grid0.coords t0_0) ((dats m 0 c).after 5 t0_0) = _
    rw [after0_5, iblk_0, iblk_1]
    exact (Memref.read_access_unit_zero (Elt F) main_v0_3 hz (fun a => by rw [congrFun hz a]; simp) _).symm
  · show i ∈ ((View.whole main_v0_3).slice (win0_5.rect t0_0)).set
    rw [View.set_slice_whole]
    exact View.mem_set_unit_zero hz _ i

/-- Output 4 of the region. -/
theorem arr_6 : (dats m 0 c).arrAt 6 cfg0.N = out0_6 (m ((c : Thread nD τ).loc main_arg0)) (m ((c : Thread nD τ).loc main_arg1)) := by
  have hz : (fun a => win0_6.index t0_0 a * main_v0_4.ty.shape.size a) = fun _ => 0 := funext fun a => by fin_cases a <;> decide
  refine arr_of m c 6 _ ?_ (fun i => ?_) (flush0_6 t0_0)
  · show (cfg0.win 6).cut (grid0.coords t0_0) ((dats m 0 c).after 6 t0_0) = _
    rw [after0_6, iblk_0, iblk_1]
    exact (Memref.read_access_unit_zero (Elt F) main_v0_4 hz (fun a => by rw [congrFun hz a]; simp) _).symm
  · show i ∈ ((View.whole main_v0_4).slice (win0_6.rect t0_0)).set
    rw [View.set_slice_whole]
    exact View.mem_set_unit_zero hz _ i

/-- Output 5 of the region. -/
theorem arr_7 : (dats m 0 c).arrAt 7 cfg0.N = out0_7 (m ((c : Thread nD τ).loc main_arg0)) (m ((c : Thread nD τ).loc main_arg1)) := by
  have hz : (fun a => win0_7.index t0_0 a * main_v0_5.ty.shape.size a) = fun _ => 0 := funext fun a => by fin_cases a <;> decide
  refine arr_of m c 7 _ ?_ (fun i => ?_) (flush0_7 t0_0)
  · show (cfg0.win 7).cut (grid0.coords t0_0) ((dats m 0 c).after 7 t0_0) = _
    rw [after0_7, iblk_0, iblk_1]
    exact (Memref.read_access_unit_zero (Elt F) main_v0_5 hz (fun a => by rw [congrFun hz a]; simp) _).symm
  · show i ∈ ((View.whole main_v0_5).slice (win0_7.rect t0_0)).set
    rw [View.set_slice_whole]
    exact View.mem_set_unit_zero hz _ i

/-- Output 6 of the region. -/
theorem arr_8 : (dats m 0 c).arrAt 8 cfg0.N = out0_8 (m ((c : Thread nD τ).loc main_arg0)) (m ((c : Thread nD τ).loc main_arg1)) := by
  have hz : (fun a => win0_8.index t0_0 a * main_v0_6.ty.shape.size a) = fun _ => 0 := funext fun a => by fin_cases a <;> decide
  refine arr_of m c 8 _ ?_ (fun i => ?_) (flush0_8 t0_0)
  · show (cfg0.win 8).cut (grid0.coords t0_0) ((dats m 0 c).after 8 t0_0) = _
    rw [after0_8, iblk_0, iblk_1]
    exact (Memref.read_access_unit_zero (Elt F) main_v0_6 hz (fun a => by rw [congrFun hz a]; simp) _).symm
  · show i ∈ ((View.whole main_v0_6).slice (win0_8.rect t0_0)).set
    rw [View.set_slice_whole]
    exact View.mem_set_unit_zero hz _ i

/-- Output 7 of the region. -/
theorem arr_9 : (dats m 0 c).arrAt 9 cfg0.N = out0_9 (m ((c : Thread nD τ).loc main_arg0)) (m ((c : Thread nD τ).loc main_arg1)) := by
  have hz : (fun a => win0_9.index t0_0 a * main_v0_7.ty.shape.size a) = fun _ => 0 := funext fun a => by fin_cases a <;> decide
  refine arr_of m c 9 _ ?_ (fun i => ?_) (flush0_9 t0_0)
  · show (cfg0.win 9).cut (grid0.coords t0_0) ((dats m 0 c).after 9 t0_0) = _
    rw [after0_9, iblk_0, iblk_1]
    exact (Memref.read_access_unit_zero (Elt F) main_v0_7 hz (fun a => by rw [congrFun hz a]; simp) _).symm
  · show i ∈ ((View.whole main_v0_7).slice (win0_9.rect t0_0)).set
    rw [View.set_slice_whole]
    exact View.mem_set_unit_zero hz _ i

/-- The numbering of the buffers separates the region's from the later ones. -/
theorem fin_below (b : Ref sig .tc) (hb : Order.rank (Proc.devRef (τ := τ) .tc b) < 10) :
    fin m c (Proc.devRef .tc b) = mid m c (Proc.devRef .tc b) :=
  Tail.ordered.after_below _ hb

/-- At the end every host operation is settled. -/
theorem fin_fixed : ∀ ops ∈ Tail.lines (F := F), ops.Forall fun op => op.result (fin m c) = fin m c := fun ops hops =>
  List.forall_iff_forall_mem.mpr fun op hop => Tail.ordered.fixed _ op (List.mem_flatten.mpr ⟨ops, hops, hop⟩)

/-- The arguments at the end. -/
theorem fin_arg0 : fin m c (Proc.devRef .tc main_arg0) = m ((c : Thread nD τ).loc main_arg0) :=
  (fin_below m c main_arg0 (by decide)).trans <| (Pipeline.withArrays_arr spec0 launch0.win.arr_inj c _ _ 0).trans
    (((dats m 0 c).arrAt_in 0 rfl _).trans (A_eq m c 0))
/-- The second argument at the end. -/
theorem fin_arg1 : fin m c (Proc.devRef .tc main_arg1) = m ((c : Thread nD τ).loc main_arg1) :=
  (fin_below m c main_arg1 (by decide)).trans <| (Pipeline.withArrays_arr spec0 launch0.win.arr_inj c _ _ 1).trans
    (((dats m 0 c).arrAt_in 1 rfl _).trans (A_eq m c 1))

/-- Output 0 of the region at the end. -/
theorem fin_out2 : fin m c (Proc.devRef .tc main_v0_0) =
    out0_2 (m ((c : Thread nD τ).loc main_arg0)) (m ((c : Thread nD τ).loc main_arg1)) :=
  (fin_below m c main_v0_0 (by decide)).trans <| (Pipeline.withArrays_arr spec0 launch0.win.arr_inj c _ _ 2).trans (arr_2 m c)

/-- Output 1 of the region at the end. -/
theorem fin_out3 : fin m c (Proc.devRef .tc main_v0_1) =
    out0_3 (m ((c : Thread nD τ).loc main_arg0)) (m ((c : Thread nD τ).loc main_arg1)) :=
  (fin_below m c main_v0_1 (by decide)).trans <| (Pipeline.withArrays_arr spec0 launch0.win.arr_inj c _ _ 3).trans (arr_3 m c)

/-- Output 2 of the region at the end. -/
theorem fin_out4 : fin m c (Proc.devRef .tc main_v0_2) =
    out0_4 (m ((c : Thread nD τ).loc main_arg0)) (m ((c : Thread nD τ).loc main_arg1)) :=
  (fin_below m c main_v0_2 (by decide)).trans <| (Pipeline.withArrays_arr spec0 launch0.win.arr_inj c _ _ 4).trans (arr_4 m c)

/-- Output 3 of the region at the end. -/
theorem fin_out5 : fin m c (Proc.devRef .tc main_v0_3) =
    out0_5 (m ((c : Thread nD τ).loc main_arg0)) (m ((c : Thread nD τ).loc main_arg1)) :=
  (fin_below m c main_v0_3 (by decide)).trans <| (Pipeline.withArrays_arr spec0 launch0.win.arr_inj c _ _ 5).trans (arr_5 m c)

/-- Output 4 of the region at the end. -/
theorem fin_out6 : fin m c (Proc.devRef .tc main_v0_4) =
    out0_6 (m ((c : Thread nD τ).loc main_arg0)) (m ((c : Thread nD τ).loc main_arg1)) :=
  (fin_below m c main_v0_4 (by decide)).trans <| (Pipeline.withArrays_arr spec0 launch0.win.arr_inj c _ _ 6).trans (arr_6 m c)

/-- Output 5 of the region at the end. -/
theorem fin_out7 : fin m c (Proc.devRef .tc main_v0_5) =
    out0_7 (m ((c : Thread nD τ).loc main_arg0)) (m ((c : Thread nD τ).loc main_arg1)) :=
  (fin_below m c main_v0_5 (by decide)).trans <| (Pipeline.withArrays_arr spec0 launch0.win.arr_inj c _ _ 7).trans (arr_7 m c)

/-- Output 6 of the region at the end. -/
theorem fin_out8 : fin m c (Proc.devRef .tc main_v0_6) =
    out0_8 (m ((c : Thread nD τ).loc main_arg0)) (m ((c : Thread nD τ).loc main_arg1)) :=
  (fin_below m c main_v0_6 (by decide)).trans <| (Pipeline.withArrays_arr spec0 launch0.win.arr_inj c _ _ 8).trans (arr_8 m c)

/-- Output 7 of the region at the end. -/
theorem fin_out9 : fin m c (Proc.devRef .tc main_v0_7) =
    out0_9 (m ((c : Thread nD τ).loc main_arg0)) (m ((c : Thread nD τ).loc main_arg1)) :=
  (fin_below m c main_v0_7 (by decide)).trans <| (Pipeline.withArrays_arr spec0 launch0.win.arr_inj c _ _ 9).trans (arr_9 m c)

/-- The run ends in that state. -/
theorem run_fin (ρ : Dev nD → PrngReg) : θ_run defs (onTc (τ := τ) (main (F := F))) ⟨m, fun _ => 0, ρ⟩ (fun r => ∀ c : Dev nD,
    r.2.mem ((c.tc : Thread nD τ).loc main_v481) = fin m c (Proc.devRef .tc main_v481)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v481 (by decide),
      ((h c).1 0).trans (((dats m 0 c).arrAt_in 0 rfl _).trans (A_eq m c 0)),
      ((h c).1 1).trans (((dats m 0 c).arrAt_in 1 rfl _).trans (A_eq m c 1))⟩) (run_main m ρ)

end Cert.KernelIdeal.Run

end
-- ==== Proof.TailPoints.lean ====
/- The kernel's own predicted points and the corner values of their cells, read off the equations of its host operations. -/
module

public import proofs.«01_k».proof.Proof.Corners
public import proofs.«01_k».proof.Proof.Region

@[expose] public section

set_option maxRecDepth 100000

noncomputable section

namespace Cert.Edges

open Idealize.ShloMosaic Idealize.ShloMosaic.TcCoe
open Cert.KernelIdeal.Gen Cert.KernelIdeal

/-- A state that no host operation of the kernel changes. -/
def Fixed (W : Valuation τ sig (Elt Ideal)) : Prop := ∀ ops ∈ Tail.lines (F := Ideal), ops.Forall fun op => op.result W = W

variable (W : Valuation τ sig (Elt Ideal)) (h : Fixed W)

set_option maxHeartbeats 4000000 in
include h in
/-- The kernel's predicted points: their rows, their columns, their flags. -/
theorem ker_points (b : Fin 4) (n : Fin 8064) :
    W (Proc.devRef .tc main_v97) (ix3 b n (0 : Fin 2)) = row (gridOf (W (Proc.devRef .tc main_arg0))) b n ∧
    W (Proc.devRef .tc main_v97) (ix3 b n (1 : Fin 2)) = col (gridOf (W (Proc.devRef .tc main_arg0))) b n ∧
    W (Proc.devRef .tc main_v100) (ix2 b n) = msk (gridOf (W (Proc.devRef .tc main_arg0))) b n := by
  have e := h hostOps1 (by simp [Tail.lines])
  simp only [hostOps1, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, e_v13, e_v14, e_v15, e_v16, e_cst, e_v17, e_v18, e_v19, e_cst_0, e_v20, e_v21, e_v22, e_v23, e_v24, e_v25, e_v26,
    e_cst_1, e_v27, e_v28, e_v29, e_v30, e_v31, e_v32, e_v33, e_cst_2, e_v34, e_v35, e_v36, e_cst_3, e_v37, e_v38, e_v39, e_v40, e_v41⟩ := e
  have e := h hostOps1_1 (by simp [Tail.lines])
  simp only [hostOps1_1, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call1_v0, e_v42⟩ := e
  have e := h hostOps1_2 (by simp [Tail.lines])
  simp only [hostOps1_2, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call2_v0, e_v43⟩ := e
  have e := h hostOps1_3 (by simp [Tail.lines])
  simp only [hostOps1_3, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_v44, e_v45, e_v46, e_v47, e_v48, e_v49, e_cst_4, e_v50, e_v51, e_v52, e_cst_5, e_v53, e_v54, e_v55, e_v56, e_v57, e_v58, e_v59, e_cst_6, e_v60,
    e_v61, e_v62, e_v63, e_v64, e_v65, e_v66, e_cst_7, e_v67, e_v68, e_v69, e_cst_8, e_v70, e_v71, e_v72, e_v73, e_v74⟩ := e
  have e := h hostOps1_4 (by simp [Tail.lines])
  simp only [hostOps1_4, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call3_v0, e_v75⟩ := e
  have e := h hostOps1_5 (by simp [Tail.lines])
  simp only [hostOps1_5, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call4_v0, e_v76⟩ := e
  have e := h hostOps1_6 (by simp [Tail.lines])
  simp only [hostOps1_6, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_v77, e_v78, e_v79, e_v80, e_v81, e_v82, e_v83, e_v84, e_v85, e_v86, e_v87, e_v88, e_v89, e_v90, e_v91, e_v92, e_v93, e_v94, e_v95, e_v96, e_v97,
    e_v98, e_v99, e_v100, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _, _, _, _, _, _, _, _, _, _, _, _, _, _, _, _, _, _, _, _, _⟩ := e
  unfold row col msk
  by_cases hn : n.val < 4032
  · simp only [hn, dif_pos]
    refine ⟨?_, ?_, ?_⟩ <;>
      pointwise [e_v100, e_v99, e_v78, e_v62, e_v61, e_v60, e_cst_6, e_v59, e_v47, e_v46, e_v58, e_v57, e_v55, e_v54, e_v53, e_cst_5, e_v52, e_v51, e_v50, e_cst_4,
        e_v56, e_v77, e_v98, e_v45, e_v29, e_v28, e_v27, e_cst_1, e_v26, e_v14, e_v13, e_v25, e_v24, e_v22, e_v21, e_v20, e_cst_0, e_v19, e_v18, e_v17,
        e_cst, e_v23, e_v44, e_v97, e_v96, e_v95, e_v92, e_v76, e_v75, e_v74, e_v69, e_v68, e_v67, e_cst_7, e_v66, e_v65, e_v64, e_v63, e_v73, e_v72, e_v49,
        e_v48, e_call3_v0, e_v71, e_v70, e_cst_8, e_call4_v0, e_v94, e_v93, e_v91, e_v81, e_v80, e_v79, e_v90, e_v89, e_v87, e_v86, e_v84, e_v83, e_v82,
        e_v88, e_v85, e_v43, e_v42, e_v41, e_v36, e_v35, e_v34, e_cst_2, e_v33, e_v32, e_v31, e_v30, e_v40, e_v39, e_v16, e_v15, e_call1_v0, e_v38, e_v37,
        e_cst_3, e_call2_v0]
    · rw [dif_pos hn]
      exact pos_select _ _ _
    · rw [dif_pos hn]
      exact sitofp_nat _ (by omega)
    · rw [dif_pos hn]
      exact crossed_bits _ _
  · simp only [hn, dif_neg, not_false_eq_true]
    refine ⟨?_, ?_, ?_⟩ <;>
      pointwise [e_v100, e_v99, e_v78, e_v62, e_v61, e_v60, e_cst_6, e_v59, e_v47, e_v46, e_v58, e_v57, e_v55, e_v54, e_v53, e_cst_5, e_v52, e_v51, e_v50, e_cst_4,
        e_v56, e_v77, e_v98, e_v45, e_v29, e_v28, e_v27, e_cst_1, e_v26, e_v14, e_v13, e_v25, e_v24, e_v22, e_v21, e_v20, e_cst_0, e_v19, e_v18, e_v17,
        e_cst, e_v23, e_v44, e_v97, e_v96, e_v95, e_v92, e_v76, e_v75, e_v74, e_v69, e_v68, e_v67, e_cst_7, e_v66, e_v65, e_v64, e_v63, e_v73, e_v72, e_v49,
        e_v48, e_call3_v0, e_v71, e_v70, e_cst_8, e_call4_v0, e_v94, e_v93, e_v91, e_v81, e_v80, e_v79, e_v90, e_v89, e_v87, e_v86, e_v84, e_v83, e_v82,
        e_v88, e_v85, e_v43, e_v42, e_v41, e_v36, e_v35, e_v34, e_cst_2, e_v33, e_v32, e_v31, e_v30, e_v40, e_v39, e_v16, e_v15, e_call1_v0, e_v38, e_v37,
        e_cst_3, e_call2_v0]
    · rw [dif_neg hn]
      exact sitofp_nat _ (by omega)
    · rw [dif_neg hn]
      exact pos_select _ _ _
    · rw [dif_neg hn]
      exact crossed_bits _ _

end Cert.Edges

end
-- ==== Proof.TailCorners.lean ====
/- The corner values and the found points of the kernel, read off the equations of its host operations. -/
module

public import proofs.«01_k».proof.Proof.TailPoints

@[expose] public section

set_option maxRecDepth 100000

noncomputable section

namespace Cert.Edges

open Idealize.ShloMosaic Idealize.ShloMosaic.TcCoe
open Cert.KernelIdeal.Gen Cert.KernelIdeal

variable (W : Valuation τ sig (Elt Ideal)) (h : Fixed W)

/-- One plane of the vertical and of the horizontal edges, laid end to end. -/
theorem slab (A8 : Vec Ideal S4x12x63x64 .f32) (A9 : Vec Ideal S4x12x64x63 .f32) (k : Fin 12)
    (s8 : S4x12x63x64.Slices ![0, k.val, 0, 0] S4x1x63x64) (s9 : S4x12x64x63.Slices ![0, k.val, 0, 0] S4x1x64x63) (b : Fin 4) (n : Fin 8064) :
    (concatenate S4x8064 1 [⟨S4x4032, shapeCast S4x4032 (shapeCast S4x63x64 (extractStridedSlice S4x1x63x64 ![0, k.val, 0, 0] A8 s8)
        shapeCasts_S4x1x63x64_S4x63x64) shapeCasts_S4x63x64_S4x4032⟩,
      ⟨S4x4032, shapeCast S4x4032 (shapeCast S4x64x63 (extractStridedSlice S4x1x64x63 ![0, k.val, 0, 0] A9 s9)
        shapeCasts_S4x1x64x63_S4x64x63) shapeCasts_S4x64x63_S4x4032⟩] concatenates_S4x4032_S4x4032_S4x8064_d1 : Vec Ideal S4x8064 .f32) (ix2 b n)
      = if hn : n.val < 4032 then A8 (ix4 b k ⟨n.val / 64, by omega⟩ ⟨n.val % 64, by omega⟩)
        else A9 (ix4 b k ⟨(n.val - 4032) / 63, by omega⟩ ⟨(n.val - 4032) % 63, by omega⟩) := by
  pointwise

/-- A plane of the two stacks of corner values, at a point. -/
def plane (k : Fin 12) (b : Fin 4) (n : Fin 8064) : EReal :=
  if hn : n.val < 4032 then W (Proc.devRef .tc main_v0_6) (ix4 b k ⟨n.val / 64, by omega⟩ ⟨n.val % 64, by omega⟩)
  else W (Proc.devRef .tc main_v0_7) (ix4 b k ⟨(n.val - 4032) / 63, by omega⟩ ⟨(n.val - 4032) % 63, by omega⟩)

set_option maxHeartbeats 4000000 in
include h in
/-- The unpacked corner arrays are the planes of the two stacks. -/
theorem ker_planes (b : Fin 4) (n : Fin 8064) :
    (W (Proc.devRef .tc main_v150) (ix3 b n (0 : Fin 2)) : EReal) = plane W 0 b n ∧
    (W (Proc.devRef .tc main_v150) (ix3 b n (1 : Fin 2)) : EReal) = plane W 1 b n ∧
    (W (Proc.devRef .tc main_v147) (ix2 b n) : EReal) = plane W 2 b n ∧
    (W (Proc.devRef .tc main_v174) (ix3 b n (0 : Fin 2)) : EReal) = plane W 3 b n ∧
    (W (Proc.devRef .tc main_v174) (ix3 b n (1 : Fin 2)) : EReal) = plane W 4 b n ∧
    (W (Proc.devRef .tc main_v171) (ix2 b n) : EReal) = plane W 5 b n ∧
    (W (Proc.devRef .tc main_v198) (ix3 b n (0 : Fin 2)) : EReal) = plane W 6 b n ∧
    (W (Proc.devRef .tc main_v198) (ix3 b n (1 : Fin 2)) : EReal) = plane W 7 b n ∧
    (W (Proc.devRef .tc main_v195) (ix2 b n) : EReal) = plane W 8 b n ∧
    (W (Proc.devRef .tc main_v222) (ix3 b n (0 : Fin 2)) : EReal) = plane W 9 b n ∧
    (W (Proc.devRef .tc main_v222) (ix3 b n (1 : Fin 2)) : EReal) = plane W 10 b n ∧
    (W (Proc.devRef .tc main_v219) (ix2 b n) : EReal) = plane W 11 b n := by
  have e := h hostOps1_6 (by simp [Tail.lines])
  simp only [hostOps1_6, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, _, _, _, _, _, _, _, _, _, _, _, _, _, _, _, _, _, _, _, _, _, _, _, _, _, _, _, _, _, _, _, _, _, _,
    _, _, e_v127, e_v128, e_v129, e_v130, e_v131, e_v132, e_v133, e_v134, e_v135, e_v136, e_v137, e_v138, e_v139, e_v140, e_v141, e_v142, e_v143, e_v144,
    e_v145, e_v146, e_v147, e_v148, e_v149, e_v150, e_v151, e_v152, e_v153, e_v154, e_v155, e_v156, e_v157, e_v158, e_v159, e_v160, e_v161, e_v162,
    e_v163, e_v164, e_v165, e_v166, e_v167, e_v168, e_v169, e_v170, e_v171, e_v172, e_v173, e_v174, e_v175, e_v176, e_v177, e_v178, e_v179, e_v180,
    e_v181, e_v182, e_v183, e_v184, e_v185, e_v186, e_v187, e_v188, e_v189, e_v190, e_v191, e_v192, e_v193, e_v194, e_v195, e_v196, e_v197, e_v198,
    e_v199, e_v200, e_v201, e_v202, e_v203, e_v204, e_v205, e_v206, e_v207, e_v208, e_v209, e_v210, e_v211, e_v212, e_v213, e_v214, e_v215, e_v216,
    e_v217, e_v218, e_v219, e_v220, e_v221, e_v222, _, _, _, _, _, _, _, _, _, _⟩ := e
  have a0 : (W (Proc.devRef .tc main_v133) (ix2 b n) : EReal) = plane W 0 b n := by
    rw [e_v133, e_v129, e_v128, e_v127, e_v132, e_v131, e_v130]
    exact slab _ _ 0 _ _ b n
  have a1 : (W (Proc.devRef .tc main_v140) (ix2 b n) : EReal) = plane W 1 b n := by
    rw [e_v140, e_v136, e_v135, e_v134, e_v139, e_v138, e_v137]
    exact slab _ _ 1 _ _ b n
  have a2 : (W (Proc.devRef .tc main_v147) (ix2 b n) : EReal) = plane W 2 b n := by
    rw [e_v147, e_v143, e_v142, e_v141, e_v146, e_v145, e_v144]
    exact slab _ _ 2 _ _ b n
  have a3 : (W (Proc.devRef .tc main_v157) (ix2 b n) : EReal) = plane W 3 b n := by
    rw [e_v157, e_v153, e_v152, e_v151, e_v156, e_v155, e_v154]
    exact slab _ _ 3 _ _ b n
  have a4 : (W (Proc.devRef .tc main_v164) (ix2 b n) : EReal) = plane W 4 b n := by
    rw [e_v164, e_v160, e_v159, e_v158, e_v163, e_v162, e_v161]
    exact slab _ _ 4 _ _ b n
  have a5 : (W (Proc.devRef .tc main_v171) (ix2 b n) : EReal) = plane W 5 b n := by
    rw [e_v171, e_v167, e_v166, e_v165, e_v170, e_v169, e_v168]
    exact slab _ _ 5 _ _ b n
  have a6 : (W (Proc.devRef .tc main_v181) (ix2 b n) : EReal) = plane W 6 b n := by
    rw [e_v181, e_v177, e_v176, e_v175, e_v180, e_v179, e_v178]
    exact slab _ _ 6 _ _ b n
  have a7 : (W (Proc.devRef .tc main_v188) (ix2 b n) : EReal) = plane W 7 b n := by
    rw [e_v188, e_v184, e_v183, e_v182, e_v187, e_v186, e_v185]
    exact slab _ _ 7 _ _ b n
  have a8 : (W (Proc.devRef .tc main_v195) (ix2 b n) : EReal) = plane W 8 b n := by
    rw [e_v195, e_v191, e_v190, e_v189, e_v194, e_v193, e_v192]
    exact slab _ _ 8 _ _ b n
  have a9 : (W (Proc.devRef .tc main_v205) (ix2 b n) : EReal) = plane W 9 b n := by
    rw [e_v205, e_v201, e_v200, e_v199, e_v204, e_v203, e_v202]
    exact slab _ _ 9 _ _ b n
  have a10 : (W (Proc.devRef .tc main_v212) (ix2 b n) : EReal) = plane W 10 b n := by
    rw [e_v212, e_v208, e_v207, e_v206, e_v211, e_v210, e_v209]
    exact slab _ _ 10 _ _ b n
  have a11 : (W (Proc.devRef .tc main_v219) (ix2 b n) : EReal) = plane W 11 b n := by
    rw [e_v219, e_v215, e_v214, e_v213, e_v218, e_v217, e_v216]
    exact slab _ _ 11 _ _ b n
  refine ⟨?_, ?_, a2, ?_, ?_, a5, ?_, ?_, a8, ?_, ?_, a11⟩
  · pointwise [e_v150, e_v149, e_v148, a0]
  · pointwise [e_v150, e_v149, e_v148, a1]
  · pointwise [e_v174, e_v173, e_v172, a3]
  · pointwise [e_v174, e_v173, e_v172, a4]
  · pointwise [e_v198, e_v197, e_v196, a6]
  · pointwise [e_v198, e_v197, e_v196, a7]
  · pointwise [e_v222, e_v221, e_v220, a9]
  · pointwise [e_v222, e_v221, e_v220, a10]

/-- The planes hold the values at the four corners of a point's cell. -/
theorem plane_eq (x0 x1 : Vec Ideal S4x64x64 .f32) (h8 : W (Proc.devRef .tc main_v0_6) = Run.out0_8 x0 x1)
    (h9 : W (Proc.devRef .tc main_v0_7) = Run.out0_9 x0 x1) (b : Fin 4) (n : Fin 8064) :
    plane W 0 b n = near (gradR (gridOf x0)) b (cr (gridOf x0) b n + 0) (cc (gridOf x0) b n + 0) ∧
    plane W 1 b n = near (gradC (gridOf x0)) b (cr (gridOf x0) b n + 0) (cc (gridOf x0) b n + 0) ∧
    plane W 2 b n = near (gridOf x0) b (cr (gridOf x0) b n + 0) (cc (gridOf x0) b n + 0) ∧
    plane W 3 b n = near (gradR (gridOf x0)) b (cr (gridOf x0) b n + 0) (cc (gridOf x0) b n + 1) ∧
    plane W 4 b n = near (gradC (gridOf x0)) b (cr (gridOf x0) b n + 0) (cc (gridOf x0) b n + 1) ∧
    plane W 5 b n = near (gridOf x0) b (cr (gridOf x0) b n + 0) (cc (gridOf x0) b n + 1) ∧
    plane W 6 b n = near (gradR (gridOf x0)) b (cr (gridOf x0) b n + 1) (cc (gridOf x0) b n + 0) ∧
    plane W 7 b n = near (gradC (gridOf x0)) b (cr (gridOf x0) b n + 1) (cc (gridOf x0) b n + 0) ∧
    plane W 8 b n = near (gridOf x0) b (cr (gridOf x0) b n + 1) (cc (gridOf x0) b n + 0) ∧
    plane W 9 b n = near (gradR (gridOf x0)) b (cr (gridOf x0) b n + 1) (cc (gridOf x0) b n + 1) ∧
    plane W 10 b n = near (gradC (gridOf x0)) b (cr (gridOf x0) b n + 1) (cc (gridOf x0) b n + 1) ∧
    plane W 11 b n = near (gridOf x0) b (cr (gridOf x0) b n + 1) (cc (gridOf x0) b n + 1) := by
  simp only [plane, h8, h9]
  by_cases hn : n.val < 4032
  · simp only [cr, cc, hn, dif_pos]
    exact out8 x0 x1 b ⟨n.val / 64, by omega⟩ ⟨n.val % 64, by omega⟩
  · simp only [cr, cc, hn, dif_neg, not_false_eq_true]
    exact out9 x0 x1 b ⟨(n.val - 4032) / 63, by omega⟩ ⟨(n.val - 4032) % 63, by omega⟩

set_option maxHeartbeats 4000000 in
include h in
/-- The least distances and the points found, by the edge they are searched from. -/
theorem ker_found (b : Fin 4) (n : Fin 8064) :
    (W (Proc.devRef .tc main_v3) (ix2 b n) : EReal) = (if hn : n.val < 4032 then W (Proc.devRef .tc main_v0_0) (ix3 b ⟨n.val / 64, by omega⟩ ⟨n.val % 64, by omega⟩)
      else W (Proc.devRef .tc main_v0_3) (ix3 b ⟨(n.val - 4032) / 63, by omega⟩ ⟨(n.val - 4032) % 63, by omega⟩) : EReal) ∧
    (W (Proc.devRef .tc main_v12) (ix3 b n (0 : Fin 2)) : EReal) = (if hn : n.val < 4032 then W (Proc.devRef .tc main_v0_1) (ix3 b ⟨n.val / 64, by omega⟩ ⟨n.val % 64, by omega⟩)
      else W (Proc.devRef .tc main_v0_4) (ix3 b ⟨(n.val - 4032) / 63, by omega⟩ ⟨(n.val - 4032) % 63, by omega⟩) : EReal) ∧
    (W (Proc.devRef .tc main_v12) (ix3 b n (1 : Fin 2)) : EReal) = (if hn : n.val < 4032 then W (Proc.devRef .tc main_v0_2) (ix3 b ⟨n.val / 64, by omega⟩ ⟨n.val % 64, by omega⟩)
      else W (Proc.devRef .tc main_v0_5) (ix3 b ⟨(n.val - 4032) / 63, by omega⟩ ⟨(n.val - 4032) % 63, by omega⟩) : EReal) := by
  have e := h hostOps1 (by simp [Tail.lines])
  simp only [hostOps1, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_v1, e_v2, e_v3, e_v4, e_v5, e_v6, e_v7, e_v8, e_v9, e_v10, e_v11, e_v12, _, _, _, _, _, _, _, _, _, _, _, _, _, _, _, _, _, _, _, _, _, _, _, _, _,
    _, _, _, _, _, _, _, _, _⟩ := e
  refine ⟨?_, ?_, ?_⟩ <;>
    (pointwise [e_v12, e_v11, e_v9, e_v8, e_v7, e_v10, e_v6, e_v5, e_v4, e_v3, e_v2, e_v1])

end Cert.Edges

end
-- ==== Proof.Meet.lean ====
/- What a final state of the kernel and an initial state of the reference have in common, and that the points agree. -/
module

public import proofs.«01_k».proof.Proof.TailPoints

@[expose] public section

set_option maxRecDepth 100000

noncomputable section

namespace Cert.Edges

open Idealize.ShloMosaic Idealize.ShloMosaic.TcCoe
open Cert.KernelIdeal.Gen Cert.KernelIdeal

/-- A state of the kernel whose region and host operations have run, and a state of the reference with the same arguments. -/
structure Meet (W : Valuation τ sig (Elt Ideal)) (V : Valuation Cert.ReferenceIdeal.τ Cert.ReferenceIdeal.sig (Elt Ideal))
    (x0 x1 : FVec Ideal S4x64x64 .f32) : Prop where
  fixed : Fixed W
  ref0 : V (Proc.devRef .tc Cert.ReferenceIdeal.main_arg0) = x0
  ref1 : V (Proc.devRef .tc Cert.ReferenceIdeal.main_arg1) = x1
  arg0 : W (Proc.devRef .tc main_arg0) = x0
  arg1 : W (Proc.devRef .tc main_arg1) = x1
  out2 : W (Proc.devRef .tc main_v0_0) = Run.out0_2 x0 x1
  out3 : W (Proc.devRef .tc main_v0_1) = Run.out0_3 x0 x1
  out4 : W (Proc.devRef .tc main_v0_2) = Run.out0_4 x0 x1
  out5 : W (Proc.devRef .tc main_v0_3) = Run.out0_5 x0 x1
  out6 : W (Proc.devRef .tc main_v0_4) = Run.out0_6 x0 x1
  out7 : W (Proc.devRef .tc main_v0_5) = Run.out0_7 x0 x1
  out8 : W (Proc.devRef .tc main_v0_6) = Run.out0_8 x0 x1
  out9 : W (Proc.devRef .tc main_v0_7) = Run.out0_9 x0 x1

variable {W : Valuation τ sig (Elt Ideal)} {V : Valuation Cert.ReferenceIdeal.τ Cert.ReferenceIdeal.sig (Elt Ideal)}
  {x0 x1 : FVec Ideal S4x64x64 .f32} (M : Meet W V x0 x1)
include M

/-- The reference's predicted grid. -/
theorem Meet.pred : predOf V = gridOf x0 := by
  unfold predOf
  rw [M.ref0]
/-- The reference's ground truth grid. -/
theorem Meet.gt : gtOf V = gridOf x1 := by
  unfold gtOf
  rw [M.ref1]

/-- The kernel's predicted points. -/
theorem Meet.point (b : Fin 4) (n : Fin 8064) :
    W (Proc.devRef .tc main_v97) (ix3 b n (0 : Fin 2)) = row (gridOf x0) b n ∧
    W (Proc.devRef .tc main_v97) (ix3 b n (1 : Fin 2)) = col (gridOf x0) b n ∧
    W (Proc.devRef .tc main_v100) (ix2 b n) = msk (gridOf x0) b n := by
  have := ker_points W M.fixed b n
  rwa [M.arg0] at this

/-- The kernel's predicted points are the reference's. -/
theorem Meet.points : (W (Proc.devRef .tc main_v97) : FVec Ideal S4x8064x2 .f32) = Cert.ReferenceIdeal.Value.res_main_v178 V := by
  funext idx
  obtain ⟨b, n, k, rfl⟩ : ∃ (b : Fin 4) (n : Fin 8064) (k : Fin 2), idx = ix3 b n k := ⟨idx 0, idx 1, idx 2, eq_ix3 idx⟩
  obtain ⟨h0, h1, -⟩ := M.point b n
  rw [← M.pred] at h0 h1
  fin_cases k
  · exact h0.trans (pred_row V b n).symm
  · exact h1.trans (pred_col V b n).symm

/-- The kernel's flags of the predicted points are the reference's. -/
theorem Meet.flags : (W (Proc.devRef .tc main_v100) : IVec S4x8064 1) = Cert.ReferenceIdeal.Value.res_main_v179 V := by
  funext idx
  obtain ⟨b, n, rfl⟩ : ∃ (b : Fin 4) (n : Fin 8064), idx = ix2 b n := ⟨idx 0, idx 1, eq_ix2 idx⟩
  obtain ⟨-, -, h2⟩ := M.point b n
  rw [← M.pred] at h2
  exact h2.trans (pred_msk V b n).symm

end Cert.Edges

end
-- ==== Proof.Sampled.lean ====
/- The normals and the values sampled at the points: the kernel's are the reference's. -/
module

public import proofs.«01_k».proof.Proof.RefCorners
public import proofs.«01_k».proof.Proof.TailCorners
public import proofs.«01_k».proof.Proof.Meet

@[expose] public section

set_option maxRecDepth 100000

noncomputable section

namespace Cert.Edges

open Idealize.ShloMosaic Idealize.ShloMosaic.TcCoe

section
open Cert.KernelIdeal.Gen Cert.KernelIdeal

variable {W : Valuation τ sig (Elt Ideal)} {V : Valuation Cert.ReferenceIdeal.τ Cert.ReferenceIdeal.sig (Elt Ideal)}
  {x0 x1 : FVec Ideal S4x64x64 .f32} (M : Meet W V x0 x1)
include M

open Cert.ReferenceIdeal.Value in
/-- The corner arrays of the kernel are the reference's gathers. -/
theorem Meet.corners (R0 C0 R1 C1 : IVec S4x8064 32)
    (hw : ∀ b n, R0 (ix2 b n) = BitVec.ofNat 32 (min 63 (cr (predOf V) b n + 0)) ∧ C0 (ix2 b n) = BitVec.ofNat 32 (min 63 (cc (predOf V) b n + 0)) ∧
      R1 (ix2 b n) = BitVec.ofNat 32 (min 63 (cr (predOf V) b n + 1)) ∧ C1 (ix2 b n) = BitVec.ofNat 32 (min 63 (cc (predOf V) b n + 1))) :
    (W (Proc.devRef .tc main_v150) : FVec Ideal S4x8064x2 .f32) = gatherN V R0 C0 ∧
    (W (Proc.devRef .tc main_v174) : FVec Ideal S4x8064x2 .f32) = gatherN V R0 C1 ∧
    (W (Proc.devRef .tc main_v198) : FVec Ideal S4x8064x2 .f32) = gatherN V R1 C0 ∧
    (W (Proc.devRef .tc main_v222) : FVec Ideal S4x8064x2 .f32) = gatherN V R1 C1 ∧
    (W (Proc.devRef .tc main_v147) : FVec Ideal S4x8064 .f32) = gatherV V R0 C0 ∧
    (W (Proc.devRef .tc main_v171) : FVec Ideal S4x8064 .f32) = gatherV V R0 C1 ∧
    (W (Proc.devRef .tc main_v195) : FVec Ideal S4x8064 .f32) = gatherV V R1 C0 ∧
    (W (Proc.devRef .tc main_v219) : FVec Ideal S4x8064 .f32) = gatherV V R1 C1 := by
  have hN (X : FVec Ideal S4x8064x2 .f32) (R C : IVec S4x8064 32) (d e : ℕ)
      (h : ∀ b n, (X (ix3 b n (0 : Fin 2)) : EReal) = near (gradR (predOf V)) b (cr (predOf V) b n + d) (cc (predOf V) b n + e) ∧
        (X (ix3 b n (1 : Fin 2)) : EReal) = near (gradC (predOf V)) b (cr (predOf V) b n + d) (cc (predOf V) b n + e))
      (hR : ∀ b n, R (ix2 b n) = BitVec.ofNat 32 (min 63 (cr (predOf V) b n + d)))
      (hC : ∀ b n, C (ix2 b n) = BitVec.ofNat 32 (min 63 (cc (predOf V) b n + e))) :
      X = gatherN V R C := by
    funext idx
    obtain ⟨b, n, k, rfl⟩ : ∃ (b : Fin 4) (n : Fin 8064) (k : Fin 2), idx = ix3 b n k := ⟨idx 0, idx 1, idx 2, eq_ix3 idx⟩
    obtain ⟨g0, g1⟩ := corner_normal V R C b n _ _ (hR b n) (hC b n)
    fin_cases k
    · exact (h b n).1.trans g0.symm
    · exact (h b n).2.trans g1.symm
  have hV (X : FVec Ideal S4x8064 .f32) (R C : IVec S4x8064 32) (d e : ℕ)
      (h : ∀ b n, (X (ix2 b n) : EReal) = near (predOf V) b (cr (predOf V) b n + d) (cc (predOf V) b n + e))
      (hR : ∀ b n, R (ix2 b n) = BitVec.ofNat 32 (min 63 (cr (predOf V) b n + d)))
      (hC : ∀ b n, C (ix2 b n) = BitVec.ofNat 32 (min 63 (cc (predOf V) b n + e))) :
      X = gatherV V R C := by
    funext idx
    obtain ⟨b, n, rfl⟩ : ∃ (b : Fin 4) (n : Fin 8064), idx = ix2 b n := ⟨idx 0, idx 1, eq_ix2 idx⟩
    exact (h b n).trans (corner_value V R C b n _ _ (hR b n) (hC b n)).symm
  have hp := fun b n => plane_eq W _ _ M.out8 M.out9 b n
  simp only [← M.pred] at hp
  have hk := fun b n => ker_planes W M.fixed b n
  refine ⟨hN _ _ _ 0 0 (fun b n => ?_) (fun b n => ?_) (fun b n => ?_), hN _ _ _ 0 1 (fun b n => ?_) (fun b n => ?_) (fun b n => ?_), hN _ _ _ 1 0 (fun b n => ?_) (fun b n => ?_) (fun b n => ?_), hN _ _ _ 1 1 (fun b n => ?_) (fun b n => ?_) (fun b n => ?_), hV _ _ _ 0 0 (fun b n => ?_) (fun b n => ?_) (fun b n => ?_), hV _ _ _ 0 1 (fun b n => ?_) (fun b n => ?_) (fun b n => ?_), hV _ _ _ 1 0 (fun b n => ?_) (fun b n => ?_) (fun b n => ?_), hV _ _ _ 1 1 (fun b n => ?_) (fun b n => ?_) (fun b n => ?_)⟩ <;>
    obtain ⟨w0, w1, w2, w3⟩ := hw b n <;> (try first | exact w0 | exact w1 | exact w2 | exact w3) <;>
    obtain ⟨p0, p1, p2, p3, p4, p5, p6, p7, p8, p9, p10, p11⟩ := hp b n <;>
    obtain ⟨k0, k1, k2, k3, k4, k5, k6, k7, k8, k9, k10, k11⟩ := hk b n
  · exact ⟨k0.trans p0, k1.trans p1⟩
  · exact ⟨k3.trans p3, k4.trans p4⟩
  · exact ⟨k6.trans p6, k7.trans p7⟩
  · exact ⟨k9.trans p9, k10.trans p10⟩
  · exact k2.trans p2
  · exact k5.trans p5
  · exact k8.trans p8
  · exact k11.trans p11

end

end Cert.Edges

end
-- ==== Proof.Normals.lean ====
/- The normals of the kernel before scaling are the reference's. -/
module

public import proofs.«01_k».proof.Proof.Sampled

@[expose] public section

set_option maxRecDepth 100000

noncomputable section

namespace Cert.Edges

open Idealize.ShloMosaic Idealize.ShloMosaic.TcCoe
open Cert.KernelIdeal.Gen Cert.KernelIdeal

variable {W : Valuation τ sig (Elt Ideal)} {V : Valuation Cert.ReferenceIdeal.τ Cert.ReferenceIdeal.sig (Elt Ideal)}
  {x0 x1 : FVec Ideal S4x64x64 .f32} (M : Meet W V x0 x1)
include M

open Cert.ReferenceIdeal.Value in
set_option maxHeartbeats 4000000 in
/-- The row fractions of the points. -/
theorem Meet.fracR : (W (Proc.devRef .tc main_v235) : FVec Ideal S4x8064x1 .f32) = res_main_v225 V := by
  have h := M.fixed
  have e := h hostOps1_6 (by simp [Tail.lines])
  simp only [hostOps1_6, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _, _, _, _, _, _, _, _, _, _, _, _, _, _, _, _, _, _, _, _, _, _, _, _, _, _, _,
    e_v223, e_v224, _, _, e_v227, e_v228, _, _, e_c_10, e_c_11⟩ := e
  have e := h hostOps1_7 (by simp [Tail.lines])
  simp only [hostOps1_7, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call5_v0, e_call5_v1, e_call5_v2, e_call5_v3, e_call5_v4, e_v231⟩ := e
  have e := h hostOps1_10 (by simp [Tail.lines])
  simp only [hostOps1_10, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_v233, e_v234, e_v235, _, _, _, _, _, _, _, _, _, _, _, _, _, _, _, _, _, _, _, _, _, _, _, _, _, _, _, _, _, _, _, _, _, _⟩ := e
  simp only [e_v235, e_v234, e_v233, e_v231, e_call5_v2, e_v228, e_v227, e_v224, e_v223, e_call5_v1, e_call5_v0, e_c_10, e_call5_v4, e_call5_v3, e_c_11, M.points]
  rfl

open Cert.ReferenceIdeal.Value in
set_option maxHeartbeats 4000000 in
/-- The column fractions of the points. -/
theorem Meet.fracC : (W (Proc.devRef .tc main_v238) : FVec Ideal S4x8064x1 .f32) = res_main_v228 V := by
  have h := M.fixed
  have e := h hostOps1_6 (by simp [Tail.lines])
  simp only [hostOps1_6, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _, _, _, _, _, _, _, _, _, _, _, _, _, _, _, _, _, _, _, _, _, _, _, _, _, _, _, _, _,
    e_v225, e_v226, _, _, e_v229, e_v230, _, _⟩ := e
  have e := h hostOps1_8 (by simp [Tail.lines])
  simp only [hostOps1_8, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_c_12, e_c_13⟩ := e
  have e := h hostOps1_9 (by simp [Tail.lines])
  simp only [hostOps1_9, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call6_v0, e_call6_v1, e_call6_v2, e_call6_v3, e_call6_v4, e_v232⟩ := e
  have e := h hostOps1_10 (by simp [Tail.lines])
  simp only [hostOps1_10, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, e_v236, e_v237, e_v238, _, _, _, _, _, _, _, _, _, _, _, _, _, _, _, _, _, _, _, _, _, _, _, _, _, _, _, _, _, _, _⟩ := e
  simp only [e_v238, e_v237, e_v236, e_v232, e_call6_v2, e_v230, e_v229, e_v226, e_v225, e_call6_v1, e_call6_v0, e_c_12, e_call6_v4, e_call6_v3, e_c_13, M.points]
  rfl

open Cert.ReferenceIdeal.Value in
set_option maxHeartbeats 4000000 in
/-- The sampled normals, before they are scaled to unit length. -/
theorem Meet.normals : (W (Proc.devRef .tc main_v265) : FVec Ideal S4x8064x2 .f32) = res_main_v311 V := by
  have h := M.fixed
  have e := h hostOps1_10 (by simp [Tail.lines])
  simp only [hostOps1_10, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, e_cst_14, e_v239, e_v240, e_v241, e_v242, e_cst_15, e_v243, e_v244, e_v245, e_v246, e_cst_16, e_v247, e_v248, e_v249, e_v250,
    e_v251, e_v252, e_v253, e_v254, e_v255, e_cst_17, e_v256, e_v257, e_v258, e_v259, e_v260, e_v261, e_v262, e_v263, e_v264, e_v265⟩ := e
  obtain ⟨h0, h1, h2, h3, -⟩ := M.corners _ _ _ _ (ref_words V)
  simp only [e_v265, e_v264, e_v263, e_v262, e_v261, e_v260, e_v259, e_v258, e_v257, e_v256, e_cst_17, e_v255, e_v254, e_v253, e_v252, e_v251, e_v250, e_v249,
    e_v248, e_v247, e_cst_16, e_v246, e_v245, e_v244, e_v243, e_cst_15, e_v242, e_v241, e_v240, e_v239, e_cst_14, M.fracR, M.fracC, h0, h1, h2, h3]
  rfl

end Cert.Edges

end
-- ==== Proof.Updates.lean ====
/- The four arrays of updates of the reference's scatters, and their index arrays. -/
module

public import proofs.«01_k».proof.Proof.RefCorners

@[expose] public section

set_option maxRecDepth 100000

noncomputable section

namespace Cert.Edges

open Idealize.ShloMosaic Idealize.ShloMosaic.TcCoe
open Cert.ReferenceIdeal.Gen Cert.ReferenceIdeal.Value Cert.ReferenceIdeal

/-- Whether a row and a column lie on the grid. -/
abbrev inside (R C : IVec S4x8064 32) : IVec S4x8064 1 :=
  andi (andi (andi (cmpi .sge R (broadcastInDim S4x8064 ![] bcast_S_S4x8064 (constantI S_ 32 0#32))) (cmpi .slt R (broadcastInDim S4x8064 ![] bcast_S_S4x8064 (constantI S_ 32 64#32)))) (cmpi .sge C (broadcastInDim S4x8064 ![] bcast_S_S4x8064 (constantI S_ 32 0#32)))) (cmpi .slt C (broadcastInDim S4x8064 ![] bcast_S_S4x8064 (constantI S_ 32 64#32)))

/-- The array of ones. -/
abbrev ones : FVec Ideal S4x8064 .f32 := broadcastInDim S4x8064 ![] bcast_S_S4x8064 (constant S_ .f32 0x3F800000#32)

/-- The updates of one corner: a point's value times the corner's weight where the point is kept and the corner is on the grid. -/
def update (K : IVec S4x8064 1) (R C : IVec S4x8064 32) (X w : FVec Ideal S4x8064 .f32) : FVec Ideal S4x8064 .f32 :=
  select (andi K (inside R C)) (mulf X w) (broadcastInDim S4x8064 ![1] bcast_S8064_S4x8064_1 (broadcastInDim S8064 ![] bcast_S_S8064 (id (constant S_ .f32 0x00000000#32))))

/-- An update of weight zero is zero. -/
theorem update_zero (K : IVec S4x8064 1) (R C : IVec S4x8064 32) (X w : FVec Ideal S4x8064 .f32) (b : Fin 4) (n : Fin 8064)
    (hw : w (ix2 b n) = (0 : EReal)) : update K R C X w (ix2 b n) = (0 : EReal) := by
  have h : update K R C X w (ix2 b n) = Scalar.select (IntOp.andi (K (ix2 b n)) (inside R C (ix2 b n))) ((X (ix2 b n) : EReal) * w (ix2 b n)) (Ideal.ofBits .f32 0x00000000#32) := rfl
  rw [h, hw, Ideal.ofBits_zero_f32, mul_zero]
  unfold Scalar.select
  split <;> rfl

/-- Updates agree when the flags do and the values do where the flag is set. -/
theorem update_congr (K K' : IVec S4x8064 1) (R C : IVec S4x8064 32) (X X' w : FVec Ideal S4x8064 .f32)
    (hK : ∀ b n, K (ix2 b n) = K' (ix2 b n)) (hX : ∀ b n, K' (ix2 b n) = 1#1 → X (ix2 b n) = X' (ix2 b n)) :
    update K R C X w = update K' R C X' w := by
  funext idx
  obtain ⟨b, n, rfl⟩ : ∃ (b : Fin 4) (n : Fin 8064), idx = ix2 b n := ⟨idx 0, idx 1, eq_ix2 idx⟩
  have h (K : IVec S4x8064 1) (X : FVec Ideal S4x8064 .f32) : update K R C X w (ix2 b n) =
      Scalar.select (IntOp.andi (K (ix2 b n)) (inside R C (ix2 b n))) ((X (ix2 b n) : EReal) * w (ix2 b n)) (Ideal.ofBits .f32 0x00000000#32) := rfl
  rw [h, h, hK]
  by_cases k : K' (ix2 b n) = 1#1
  · rw [hX b n k]
  · have k0 : K' (ix2 b n) = 0#1 := by
      revert k
      generalize K' (ix2 b n) = z
      revert z
      decide
    rw [k0]
    generalize inside R C (ix2 b n) = y
    have : IntOp.andi 0#1 y = 0#1 := by revert y; decide
    rw [this]
    rfl

variable (V : Valuation τ sig (Elt Ideal))

/-- The true points the reference chooses. -/
abbrev chosen : FVec Ideal S4x8064x2 .f32 :=
  Host.gather gather_S4x8064x2_S4x8064x1_S4x8064x2_2_1_0_0_1_2_112 (res_main_v88 V) (broadcastInDim S4x8064x1 ![0, 1] bcast_S4x8064_S4x8064x1_0_1 (select (cmpi .slt (res_main_v334 V) (broadcastInDim S4x8064 ![] bcast_S_S4x8064 (constantI S_ 32 0#32))) (addi (res_main_v334 V) (broadcastInDim S4x8064 ![] bcast_S_S4x8064 (constantI S_ 32 8064#32))) (res_main_v334 V)))

/-- The four weights. -/
abbrev weight00 : FVec Ideal S4x8064 .f32 := mulf (subf ones (res_main_v363 V)) (subf ones (res_main_v365 V))
/-- The weight of the upper right corner. -/
abbrev weight01 : FVec Ideal S4x8064 .f32 := mulf (subf ones (res_main_v363 V)) (res_main_v365 V)
/-- The weight of the lower left corner. -/
abbrev weight10 : FVec Ideal S4x8064 .f32 := mulf (res_main_v363 V) (subf ones (res_main_v365 V))
/-- The weight of the lower right corner. -/
abbrev weight11 : FVec Ideal S4x8064 .f32 := mulf (res_main_v363 V) (res_main_v365 V)

/-- The four arrays of updates. -/
abbrev upd00 : FVec Ideal S4x8064 .f32 := update (res_main_v337 V) (res_main_v355 V) (res_main_v357 V) (res_main_v349 V) (weight00 V)
/-- The updates of the upper right corner. -/
abbrev upd01 : FVec Ideal S4x8064 .f32 := update (res_main_v337 V) (res_main_v355 V) (res_main_v361 V) (res_main_v349 V) (weight01 V)
/-- The updates of the lower left corner. -/
abbrev upd10 : FVec Ideal S4x8064 .f32 := update (res_main_v337 V) (res_main_v359 V) (res_main_v357 V) (res_main_v349 V) (weight10 V)
/-- The updates of the lower right corner. -/
abbrev upd11 : FVec Ideal S4x8064 .f32 := update (res_main_v337 V) (res_main_v359 V) (res_main_v361 V) (res_main_v349 V) (weight11 V)

/-- A product is zero where its first factor is. -/
theorem mulf_zero_left (x w : FVec Ideal S4x8064 .f32) (i : S4x8064.Idx) (h : x i = (0 : EReal)) : mulf x w i = (0 : EReal) := by
  show (x i : EReal) * w i = 0
  rw [h, zero_mul]

/-- A product is zero where its second factor is. -/
theorem mulf_zero_right (x w : FVec Ideal S4x8064 .f32) (i : S4x8064.Idx) (h : w i = (0 : EReal)) : mulf x w i = (0 : EReal) := by
  show (x i : EReal) * w i = 0
  rw [h, mul_zero]

/-- A small number less its own word is zero. -/
theorem frac_zero (x : FVec Ideal S4x8064 .f32) (y : IVec S4x8064 32) (i : S4x8064.Idx) (k : ℕ) (hk : k < 64)
    (hx : x i = nat k) (hy : y i = BitVec.ofNat 32 k) : subf x (sitofp .f32 y) i = (0 : EReal) := by
  show (x i : EReal) - (((y i).toInt : ℝ) : EReal) = 0
  rw [hx, hy, toInt_small k (by omega), nat, ← EReal.coe_sub]
  simp

/-- A corner of a point where the row fraction is zero takes nothing below. -/
theorem upd_row (b : Fin 4) (n : Fin 8064) (h : row (predOf V) b n = nat (cr (predOf V) b n)) :
    upd10 V (ix2 b n) = (0 : EReal) ∧ upd11 V (ix2 b n) = (0 : EReal) := by
  have hz := frac_zero (res_main_v351 V) (res_main_v355 V) (ix2 b n) _ (cr_le _ _ _) ((ref_r V b n).trans h) (ref_cr V b n)
  exact ⟨update_zero _ _ _ _ _ b n (mulf_zero_left _ _ _ hz), update_zero _ _ _ _ _ b n (mulf_zero_left _ _ _ hz)⟩

/-- A corner of a point where the column fraction is zero takes nothing on the right. -/
theorem upd_col (b : Fin 4) (n : Fin 8064) (h : col (predOf V) b n = nat (cc (predOf V) b n)) :
    upd01 V (ix2 b n) = (0 : EReal) ∧ upd11 V (ix2 b n) = (0 : EReal) := by
  have hz := frac_zero (res_main_v353 V) (res_main_v357 V) (ix2 b n) _ (cc_le _ _ _) ((ref_c V b n).trans h) (ref_cc V b n)
  exact ⟨update_zero _ _ _ _ _ b n (mulf_zero_right _ _ _ hz), update_zero _ _ _ _ _ b n (mulf_zero_right _ _ _ hz)⟩

/-- The words of the four corners' positions in a flattened image. -/
theorem ref_lin (b : Fin 4) (n : Fin 8064) :
    res_main_v396 V (ix2 b n) = BitVec.ofNat 32 (min 63 (cr (predOf V) b n + 0) * 64 + min 63 (cc (predOf V) b n + 0)) ∧
    res_main_v415 V (ix2 b n) = BitVec.ofNat 32 (min 63 (cr (predOf V) b n + 0) * 64 + min 63 (cc (predOf V) b n + 1)) ∧
    res_main_v434 V (ix2 b n) = BitVec.ofNat 32 (min 63 (cr (predOf V) b n + 1) * 64 + min 63 (cc (predOf V) b n + 0)) ∧
    res_main_v453 V (ix2 b n) = BitVec.ofNat 32 (min 63 (cr (predOf V) b n + 1) * 64 + min 63 (cc (predOf V) b n + 1)) := by
  obtain ⟨h0, h1, h2, h3⟩ := ref_words V b n
  have hl (R C : IVec S4x8064 32) (r c : ℕ) (hR : R (ix2 b n) = BitVec.ofNat 32 r) (hC : C (ix2 b n) = BitVec.ofNat 32 c) :
      addi (muli R (broadcastInDim S4x8064 ![] bcast_S_S4x8064 (constantI S_ 32 64#32))) C (ix2 b n) = BitVec.ofNat 32 (r * 64 + c) := by
    show R (ix2 b n) * BitVec.ofNat 32 64 + C (ix2 b n) = _
    rw [hR, hC, ← BitVec.ofNat_mul, ← BitVec.ofNat_add]
  exact ⟨hl _ _ _ _ h0 h1, hl _ _ _ _ h0 h3, hl _ _ _ _ h2 h1, hl _ _ _ _ h2 h3⟩

end Cert.Edges

end
-- ==== Proof.Kept.lean ====
/- Which points are kept and the true points found for them: the kernel's search and the reference's minimum agree. -/
module

public import proofs.«01_k».proof.Proof.TailCorners
public import proofs.«01_k».proof.Proof.SearchValue
public import proofs.«01_k».proof.Proof.RefNearest
public import proofs.«01_k».proof.Proof.Meet

@[expose] public section

set_option maxRecDepth 100000

noncomputable section

namespace Cert.Edges

open Idealize.ShloMosaic Idealize.ShloMosaic.TcCoe
open Cert.KernelIdeal.Gen Cert.KernelIdeal

/-- A distance is within three. -/
abbrev Within (x : EReal) : Prop := x ≤ ((3 : ℝ) : EReal)

/-- Whether a distance is within three, as both programs compare it. -/
def near3 (x : EReal) : BitVec 1 := Ideal.cmp .ole x (Ideal.ofBits .f32 0x40400000#32)

/-- The comparison's bit says whether the distance is within three. -/
theorem near3_eq (x : EReal) : near3 x = BitVec.ofBool (decide (Within x)) := by
  unfold near3
  rw [word_three, Ideal.cmp_ole]

/-- A flag and a comparison with a constant, at an index. -/
theorem keep_at (w : BitVec 32) (Z : IVec S4x8064 1) (X : FVec Ideal S4x8064 .f32) (h : S_.BroadcastsInDim S4x8064 (![] : Fin 0 → Fin S4x8064.rank)) (idx : S4x8064.Idx) :
    andi Z (cmpf .ole X (broadcastInDim S4x8064 ![] h (constant S_ .f32 w))) idx =
      IntOp.andi (Z idx) (Ideal.cmp .ole (X idx) (Ideal.ofBits .f32 w)) := rfl

/-- The flag of a kept point is set only when its distance is within three. -/
theorem near3_of (z : BitVec 1) (x : EReal) (h : IntOp.andi z (near3 x) = 1#1) : Within x := by
  rw [near3_eq] at h
  by_contra hc
  rw [decide_eq_false hc] at h
  revert z
  decide

/-- The bit depends only on being within three. -/
theorem near3_congr (x y : EReal) (h : Within x ↔ Within y) : near3 x = near3 y := by
  rw [near3_eq, near3_eq, decide_eq_decide.mpr h]

/-- What a search from a vertical edge leaves: within three exactly when the first nearest true point is, and then that point. -/
theorem found_v (A G : Grid) (b : Fin 4) (i : Fin 63) (j : Fin 64) (d r c : EReal)
    (o : (⟨d, r, c⟩ : Near) = (keys 1 0).foldl (fun t k => t.step (cand G b (vr A b i j) (nat j) i j k)) begin0) (m : Fin 8064)
    (hm : First (fun n => dist (vr A b i j) (nat j) (rowFar G b n) (colFar G b n)) m) :
    (Within d ↔ Within (dist (vr A b i j) (nat j) (rowFar G b m) (colFar G b m))) ∧
    (Within (dist (vr A b i j) (nat j) (rowFar G b m) (colFar G b m)) → r = row G b m ∧ c = col G b m) := by
  obtain ⟨t, ht, h0, h1⟩ := vr_spec A b i j
  rw [ht] at hm o ⊢
  have s := search_eq G b ((i.val : ℝ) + t) (j.val : ℝ) i.val j.val (by omega) (by omega) 1 0 (by norm_num) (by norm_num)
    (by linarith) (by push_cast; linarith) le_rfl (by push_cast; linarith) m hm
  rw [show ((j.val : ℝ) : EReal) = nat j from rfl, ← o] at s
  exact s

/-- What a search from a horizontal edge leaves: within three exactly when the first nearest true point is, and then that point. -/
theorem found_h (A G : Grid) (b : Fin 4) (i : Fin 64) (j : Fin 63) (d r c : EReal)
    (o : (⟨d, r, c⟩ : Near) = (keys 0 1).foldl (fun t k => t.step (cand G b (nat i) (hc A b i j) i j k)) begin0) (m : Fin 8064)
    (hm : First (fun n => dist (nat i) (hc A b i j) (rowFar G b n) (colFar G b n)) m) :
    (Within d ↔ Within (dist (nat i) (hc A b i j) (rowFar G b m) (colFar G b m))) ∧
    (Within (dist (nat i) (hc A b i j) (rowFar G b m) (colFar G b m)) → r = row G b m ∧ c = col G b m) := by
  obtain ⟨t, ht, h0, h1⟩ := hc_spec A b i j
  rw [ht] at hm o ⊢
  have s := search_eq G b (i.val : ℝ) ((j.val : ℝ) + t) i.val j.val (by omega) (by omega) 0 1 (by norm_num) (by norm_num)
    le_rfl (by push_cast; linarith) (by linarith) (by push_cast; linarith) m hm
  rw [show ((i.val : ℝ) : EReal) = nat i from rfl, ← o] at s
  exact s

variable {W : Valuation τ sig (Elt Ideal)} {V : Valuation Cert.ReferenceIdeal.τ Cert.ReferenceIdeal.sig (Elt Ideal)}
  {x0 x1 : FVec Ideal S4x64x64 .f32} (M : Meet W V x0 x1)
include M

/-- What the kernel has found for a point, against the reference's first nearest true point. -/
theorem Meet.found (b : Fin 4) (n m : Fin 8064) (hm : First (dists V b n) m) :
    (Within (W (Proc.devRef .tc main_v3) (ix2 b n)) ↔ Within (dists V b n m)) ∧
    (Within (dists V b n m) → ((W (Proc.devRef .tc main_v12) : FVec Ideal S4x8064x2 .f32) (ix3 b n (0 : Fin 2)) : EReal) = row (gtOf V) b m ∧
      ((W (Proc.devRef .tc main_v12) : FVec Ideal S4x8064x2 .f32) (ix3 b n (1 : Fin 2)) : EReal) = col (gtOf V) b m) := by
  obtain ⟨f0, f1, f2⟩ := ker_found W M.fixed b n
  have hd (n' : Fin 8064) : dists V b n n' =
      dist (row (gridOf x0) b n) (col (gridOf x0) b n) (rowFar (gridOf x1) b n') (colFar (gridOf x1) b n') := by
    unfold dists
    rw [M.pred, M.gt]
  rw [M.gt]
  by_cases hn : n.val < 4032
  · rw [dif_pos hn] at f0 f1 f2
    rw [f0, f1, f2, M.out2, M.out3, M.out4]
    have hr : row (gridOf x0) b n = vr (gridOf x0) b ⟨n.val / 64, by omega⟩ ⟨n.val % 64, by omega⟩ := dif_pos hn
    have hc : col (gridOf x0) b n = nat (n.val % 64) := dif_pos hn
    have hd' := fun n' => (hd n').trans (by rw [hr, hc])
    rw [hd' m]
    exact found_v (gridOf x0) (gridOf x1) b ⟨n.val / 64, by omega⟩ ⟨n.val % 64, by omega⟩ _ _ _ (out_v x0 x1 b _ _) m ((funext hd' : dists V b n = _) ▸ hm)
  · rw [dif_neg hn] at f0 f1 f2
    rw [f0, f1, f2, M.out5, M.out6, M.out7]
    have hr : row (gridOf x0) b n = nat ((n.val - 4032) / 63) := dif_neg hn
    have hc : col (gridOf x0) b n = hc (gridOf x0) b ⟨(n.val - 4032) / 63, by omega⟩ ⟨(n.val - 4032) % 63, by omega⟩ := dif_neg hn
    have hd' := fun n' => (hd n').trans (by rw [hr, hc])
    rw [hd' m]
    exact found_h (gridOf x0) (gridOf x1) b ⟨(n.val - 4032) / 63, by omega⟩ ⟨(n.val - 4032) % 63, by omega⟩ _ _ _ (out_h x0 x1 b _ _) m ((funext hd' : dists V b n = _) ▸ hm)

/-- The kernel's flags of the kept points. -/
theorem Meet.keep_bits (b : Fin 4) (n : Fin 8064) (z : BitVec 1) (x : EReal)
    (hz : W (Proc.devRef .tc main_v100) (ix2 b n) = z) (hx : W (Proc.devRef .tc main_v3) (ix2 b n) = x) :
    W (Proc.devRef .tc main_v273) (ix2 b n) = IntOp.andi z (near3 x) := by
  have h := M.fixed
  have e := h hostOps1_12 (by simp [Tail.lines])
  simp only [hostOps1_12, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, e_cst_19, e_v271, e_v272, e_v273, _, _, _, _, _, _, _, _, _, _, _, _, _, _, _, _, _, _, _, _, _, _, _, _, _, _, _, _, _, _, _, _, _,
    _, _, _, _, _, _, _, _, _, _, _, _, _, _, _, _, _, _, _, _, _, _, _, _, _, _⟩ := e
  subst hz hx
  rw [e_v273, e_v272, e_v271, e_cst_19]
  exact keep_at 0x40400000#32 _ _ _ (ix2 b n)

omit M in
open Cert.ReferenceIdeal.Value in
/-- The reference's flags of the kept points. -/
theorem ref_keep (b : Fin 4) (n : Fin 8064) (z : BitVec 1) (x : EReal)
    (hz : res_main_v179 V (ix2 b n) = z) (hx : res_main_v327 V (ix2 b n) = x) :
    res_main_v337 V (ix2 b n) = IntOp.andi z (near3 x) := by
  subst hz hx
  unfold res_main_v337
  exact keep_at 0x40400000#32 _ _ _ (ix2 b n)

open Cert.ReferenceIdeal.Value in
/-- The kernel keeps the points the reference keeps. -/
theorem Meet.keep (b : Fin 4) (n : Fin 8064) : (W (Proc.devRef .tc main_v273) : IVec S4x8064 1) (ix2 b n) = (res_main_v337 V : IVec S4x8064 1) (ix2 b n) := by
  obtain ⟨m, hm⟩ := exists_first (dists V b n)
  exact (M.keep_bits b n _ _ (congrFun M.flags (ix2 b n)) rfl).trans
    ((congrArg (IntOp.andi _) (near3_congr _ _ (M.found b n m hm).1)).trans (ref_keep b n _ _ rfl (ref_min V b n m hm)).symm)

omit M in
open Cert.ReferenceIdeal.Value in
/-- A point the reference keeps has a true point within three. -/
theorem keep_near (b : Fin 4) (n m : Fin 8064) (hm : First (dists V b n) m)
    (hk : res_main_v337 V (ix2 b n) = 1#1) : Within (dists V b n m) :=
  near3_of _ _ ((ref_keep b n _ _ rfl (ref_min V b n m hm)).symm.trans hk)

end Cert.Edges

end
-- ==== Proof.Values.lean ====
/- The values of the kept points: the kernel's are the reference's. -/
module

public import proofs.«01_k».proof.Proof.Normals
public import proofs.«01_k».proof.Proof.Updates
public import proofs.«01_k».proof.Proof.Kept

@[expose] public section

set_option maxRecDepth 100000

noncomputable section

namespace Cert.Edges

open Idealize.ShloMosaic Idealize.ShloMosaic.TcCoe
open Cert.KernelIdeal.Gen Cert.KernelIdeal

/-- The value of a point: the inner product of a displacement and a unit vector, times one. -/
abbrev product (D N : FVec Ideal S4x8064x2 .f32) : FVec Ideal S4x8064 .f32 :=
  mulf (Host.reduceAdd (mulf D N) (constant S_ .f32 0x00000000#32) reducesTo_S4x8064x2_S4x8064_d2 h_S_) (broadcastInDim S4x8064 ![] bcast_S_S4x8064 (constant S_ .f32 0x3F800000#32))

/-- The unit vectors along an array of vectors. -/
abbrev unit (N : FVec Ideal S4x8064x2 .f32) : FVec Ideal S4x8064x2 .f32 :=
  Host.divf N (broadcastInDim S4x8064x2 ![0, 1, 2] bcast_S4x8064x1_S4x8064x2_0_1_2 (addf (Host.sqrt (broadcastInDim S4x8064x1 ![0, 1] bcast_S4x8064_S4x8064x1_0_1 (Host.reduceAdd (mulf N N) (constant S_ .f32 0x00000000#32) reducesTo_S4x8064x2_S4x8064_d2 h_S_))) (broadcastInDim S4x8064x1 ![] bcast_S_S4x8064x1 (constant S_ .f32 0x322BCC77#32))))

/-- A difference at an index depends on what it is of there. -/
theorem subf_congr (X X' Y : FVec Ideal S4x8064x2 .f32) (i : S4x8064x2.Idx) (h : X i = X' i) : subf X Y i = subf X' Y i := by
  show (X i : EReal) - Y i = (X' i : EReal) - Y i
  rw [h]

/-- The last axis is reduced. -/
private theorem reduces2 : S4x8064x2.Reduces [2] S4x8064 := by decide

/-- The index with the reduced coordinate put back. -/
private theorem lift2 (h : S4x8064x2.Reduces [2] S4x8064) (b : Fin 4) (n : Fin 8064) (k : Fin 2) : h.lift (ix2 b n) k = ix3 b n k := by
  funext a
  apply Fin.ext
  fin_cases a <;> rfl

/-- The sum over the last axis depends on the two coordinates of the point only. -/
theorem sum_congr (X Y : FVec Ideal S4x8064x2 .f32) (z : FVec Ideal S_ .f32) (b : Fin 4) (n : Fin 8064) (h : ∀ k : Fin 2, X (ix3 b n k) = Y (ix3 b n k)) :
    Host.reduceAdd X z reducesTo_S4x8064x2_S4x8064_d2 h_S_ (ix2 b n) = Host.reduceAdd Y z reducesTo_S4x8064x2_S4x8064_d2 h_S_ (ix2 b n) := by
  show Ideal.hostReduceAdd reducesTo_S4x8064x2_S4x8064_d2 X _ (ix2 b n) = Ideal.hostReduceAdd reducesTo_S4x8064x2_S4x8064_d2 Y _ (ix2 b n)
  rw [Ideal.hostReduceAdd_single _ reduces2, Ideal.hostReduceAdd_single _ reduces2]
  refine congrArg _ (Finset.sum_congr rfl fun k _ => ?_)
  exact (congrArg X (lift2 reduces2 b n k)).trans ((h k).trans (congrArg Y (lift2 reduces2 b n k)).symm)

/-- The value of a point depends on its two displacements only. -/
theorem product_congr (D D' N : FVec Ideal S4x8064x2 .f32) (b : Fin 4) (n : Fin 8064) (h : ∀ k : Fin 2, D (ix3 b n k) = D' (ix3 b n k)) :
    product D N (ix2 b n) = product D' N (ix2 b n) := by
  show (Host.reduceAdd (mulf D N) (constant S_ .f32 0x00000000#32) reducesTo_S4x8064x2_S4x8064_d2 h_S_ (ix2 b n) : EReal) * _ =
    (Host.reduceAdd (mulf D' N) (constant S_ .f32 0x00000000#32) reducesTo_S4x8064x2_S4x8064_d2 h_S_ (ix2 b n) : EReal) * _
  rw [sum_congr (mulf D N) (mulf D' N) _ b n fun k => ?_]
  show (D (ix3 b n k) : EReal) * _ = (D' (ix3 b n k) : EReal) * _
  rw [h k]

variable {W : Valuation τ sig (Elt Ideal)} {V : Valuation Cert.ReferenceIdeal.τ Cert.ReferenceIdeal.sig (Elt Ideal)}
  {x0 x1 : FVec Ideal S4x64x64 .f32} (M : Meet W V x0 x1)
include M

open Cert.ReferenceIdeal.Value in
/-- The kernel's value of a point, from its displacement and the sampled normals. -/
theorem Meet.product : (W (Proc.devRef .tc main_v278) : FVec Ideal S4x8064 .f32) =
    product (subf (W (Proc.devRef .tc main_v12)) (res_main_v178 V)) (unit (res_main_v311 V)) := by
  have h := M.fixed
  have e := h hostOps1_11 (by simp [Tail.lines])
  simp only [hostOps1_11, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call7_v0, e_call7_cst, e_call7_v1, e_call7_v2, e_v266⟩ := e
  have e := h hostOps1_12 (by simp [Tail.lines])
  simp only [hostOps1_12, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_cst_18, e_v267, e_v268, e_v269, e_v270, _, _, _, _, e_v274, e_v275, e_cst_20, e_v276, e_cst_21, e_v277, e_v278, _, _, _, _, _, _, _, _, _, _, _, _,
    _, _, _, _, _, _, _, _, _, _, _, _, _, _, _, _, _, _, _, _, _, _, _, _, _, _, _, _, _, _, _, _, _, _, _, _, _, _, _, _⟩ := e
  simp only [e_v278, e_v277, e_cst_21, e_v276, e_cst_20, e_v275, e_v270, e_v269, e_v268, e_v267, e_cst_18, e_v266, e_call7_v2, e_call7_v1, e_call7_cst,
    e_call7_v0, e_v274, M.points, M.normals]

omit M in
open Cert.ReferenceIdeal.Value in
/-- The reference's value of a point. -/
theorem ref_product : (res_main_v349 V : FVec Ideal S4x8064 .f32) = product (subf (chosen V) (res_main_v178 V)) (unit (res_main_v311 V)) := rfl

open Cert.ReferenceIdeal.Value in
/-- The value of a kept point. -/
theorem Meet.value (b : Fin 4) (n : Fin 8064) (hk : res_main_v337 V (ix2 b n) = 1#1) :
    (W (Proc.devRef .tc main_v278) : FVec Ideal S4x8064 .f32) (ix2 b n) = (res_main_v349 V : FVec Ideal S4x8064 .f32) (ix2 b n) := by
  obtain ⟨m, hm⟩ := exists_first (dists V b n)
  obtain ⟨s0, s1⟩ := (M.found b n m hm).2 (keep_near b n m hm hk)
  rw [M.product, ref_product]
  refine product_congr _ _ _ b n fun k => subf_congr _ _ _ _ ?_
  refine Eq.trans ?_ (ref_sel V b n m k hm).symm
  fin_cases k
  · exact s0.trans (gt_row V b m).symm
  · exact s1.trans (gt_col V b m).symm

end Cert.Edges

end
-- ==== Proof.Vals.lean ====
/- The updates of the kernel are the reference's. -/
module

public import proofs.«01_k».proof.Proof.Values

@[expose] public section

set_option maxRecDepth 100000

noncomputable section

namespace Cert.Edges

open Idealize.ShloMosaic Idealize.ShloMosaic.TcCoe
open Cert.KernelIdeal.Gen Cert.KernelIdeal

variable {W : Valuation τ sig (Elt Ideal)} {V : Valuation Cert.ReferenceIdeal.τ Cert.ReferenceIdeal.sig (Elt Ideal)}
  {x0 x1 : FVec Ideal S4x64x64 .f32} (M : Meet W V x0 x1)
include M

open Cert.ReferenceIdeal.Value in
set_option maxHeartbeats 4000000 in
/-- The updates of a corner. -/
theorem Meet.upd00 : (W (Proc.devRef .tc main_v320) : FVec Ideal S4x8064 .f32) = upd00 V := by
  have h := M.fixed
  have e := h hostOps1_12 (by simp [Tail.lines])
  simp only [hostOps1_12, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, e_v279, e_v280, e_v281, e_v282, e_v283, e_v284, e_v285, e_v286, _, _, _, _, _, _, e_v291, e_v292,
    e_v293, e_v294, e_cst_24, e_v295, e_v296, e_cst_25, e_v297, e_v298, e_v299, _, _, _, _, _, _, _, _, _, e_c_28, e_v307, e_v308, e_c_29, e_v309,
    e_v310, e_v311, e_c_30, e_v312, e_v313, e_v314, e_c_31, e_v315, e_v316, e_v317, e_v318, e_v319, e_cst_32⟩ := e
  have e := h hostOps1_13 (by simp [Tail.lines])
  simp only [hostOps1_13, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call8_v0, e_call8_v1, e_call8_v2, e_v320⟩ := e
  refine Eq.trans ?_ (update_congr (W (Proc.devRef .tc main_v273)) _ (res_main_v355 V) (res_main_v357 V) (W (Proc.devRef .tc main_v278)) _ (weight00 V) M.keep M.value)
  simp only [e_v320, e_call8_v2, e_call8_v1, e_call8_v0, e_cst_32, e_v319, e_v299, e_v298, e_v294, e_v293, e_v286, e_v285, e_v282, e_v281, e_v297, e_cst_25,
    e_v296, e_v292, e_v291, e_v284, e_v283, e_v280, e_v279, e_v295, e_cst_24, e_v318, e_v317, e_v316, e_v315, e_c_31, e_v314, e_v313, e_v312, e_c_30,
    e_v311, e_v310, e_v309, e_c_29, e_v308, e_v307, e_c_28, M.points]
  rfl

open Cert.ReferenceIdeal.Value in
set_option maxHeartbeats 4000000 in
/-- The updates of a corner. -/
theorem Meet.upd01 : (W (Proc.devRef .tc main_v334) : FVec Ideal S4x8064 .f32) = upd01 V := by
  have h := M.fixed
  have e := h hostOps1_12 (by simp [Tail.lines])
  simp only [hostOps1_12, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, e_v279, e_v280, e_v281, e_v282, e_v283, e_v284, e_v285, e_v286, _, _, _, e_c_23, e_v289, e_v290,
    e_v291, e_v292, e_v293, e_v294, _, _, _, _, _, _, _, e_cst_26, e_v300, e_v301, e_v302, _, _, _, _, _, _, _, _, _, _, _, _, _, _, _, _, _, _, _, _, _,
    _, _⟩ := e
  have e := h hostOps1_14 (by simp [Tail.lines])
  simp only [hostOps1_14, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_c_33, e_v321, e_v322, e_c_34, e_v323, e_v324, e_v325, e_c_35, e_v326, e_v327, e_v328, e_c_36, e_v329, e_v330, e_v331, e_v332, e_v333, e_cst_37⟩ := e
  have e := h hostOps1_15 (by simp [Tail.lines])
  simp only [hostOps1_15, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call9_v0, e_call9_v1, e_call9_v2, e_v334⟩ := e
  refine Eq.trans ?_ (update_congr (W (Proc.devRef .tc main_v273)) _ (res_main_v355 V) (res_main_v361 V) (W (Proc.devRef .tc main_v278)) _ (weight01 V) M.keep M.value)
  simp only [e_v334, e_call9_v2, e_call9_v1, e_call9_v0, e_cst_37, e_v333, e_v302, e_v294, e_v293, e_v286, e_v285, e_v282, e_v281, e_v301, e_v292, e_v291, e_v284,
    e_v283, e_v280, e_v279, e_v300, e_cst_26, e_v332, e_v331, e_v330, e_v329, e_c_36, e_v290, e_v289, e_c_23, e_v328, e_v327, e_v326, e_c_35, e_v325,
    e_v324, e_v323, e_c_34, e_v322, e_v321, e_c_33, M.points]
  rfl

open Cert.ReferenceIdeal.Value in
set_option maxHeartbeats 4000000 in
/-- The updates of a corner. -/
theorem Meet.upd10 : (W (Proc.devRef .tc main_v348) : FVec Ideal S4x8064 .f32) = upd10 V := by
  have h := M.fixed
  have e := h hostOps1_12 (by simp [Tail.lines])
  simp only [hostOps1_12, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, e_v279, e_v280, e_v281, e_v282, e_v283, e_v284, e_v285, e_v286, e_c_22, e_v287, e_v288, _, _, _,
    e_v291, e_v292, e_v293, e_v294, _, _, _, _, _, _, _, _, _, _, _, e_cst_27, e_v303, e_v304, e_v305, _, _, _, _, _, _, _, _, _, _, _, _, _, _, _, _, _,
    _, _⟩ := e
  have e := h hostOps1_16 (by simp [Tail.lines])
  simp only [hostOps1_16, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_c_38, e_v335, e_v336, e_c_39, e_v337, e_v338, e_v339, e_c_40, e_v340, e_v341, e_v342, e_c_41, e_v343, e_v344, e_v345, e_v346, e_v347, e_cst_42⟩ := e
  have e := h hostOps1_17 (by simp [Tail.lines])
  simp only [hostOps1_17, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call10_v0, e_call10_v1, e_call10_v2, e_v348⟩ := e
  refine Eq.trans ?_ (update_congr (W (Proc.devRef .tc main_v273)) _ (res_main_v359 V) (res_main_v357 V) (W (Proc.devRef .tc main_v278)) _ (weight10 V) M.keep M.value)
  simp only [e_v348, e_call10_v2, e_call10_v1, e_call10_v0, e_cst_42, e_v347, e_v305, e_v304, e_v294, e_v293, e_v286, e_v285, e_v282, e_v281, e_v303, e_cst_27,
    e_v292, e_v291, e_v284, e_v283, e_v280, e_v279, e_v346, e_v345, e_v344, e_v343, e_c_41, e_v342, e_v341, e_v340, e_c_40, e_v339, e_v338, e_v337,
    e_c_39, e_v288, e_v287, e_c_22, e_v336, e_v335, e_c_38, M.points]
  rfl

end Cert.Edges

end
-- ==== Proof.Samples.lean ====
/- The sampled values of the kernel are the reference's. -/
module

public import proofs.«01_k».proof.Proof.Sampled

@[expose] public section

set_option maxRecDepth 100000

noncomputable section

namespace Cert.Edges

open Idealize.ShloMosaic Idealize.ShloMosaic.TcCoe
open Cert.KernelIdeal.Gen Cert.KernelIdeal

variable {W : Valuation τ sig (Elt Ideal)} {V : Valuation Cert.ReferenceIdeal.τ Cert.ReferenceIdeal.sig (Elt Ideal)}
  {x0 x1 : FVec Ideal S4x64x64 .f32} (M : Meet W V x0 x1)
include M

open Cert.ReferenceIdeal.Value in
/-- The row fractions of the points. -/
theorem Meet.partR : (W (Proc.devRef .tc main_v400) : FVec Ideal S4x8064x1 .f32) = res_main_v464 V := by
  have h := M.fixed
  have e := h hostOps1_44 (by simp [Tail.lines])
  simp only [hostOps1_44, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, e_v390, e_v391, _, _, e_v394, e_v395, _, _, e_v398, e_v399, e_v400, _, _, _, _, _, _, _, _, _, _, _, _, _, _, _, _, _, _, _, _, _, _,
    _, _, _, _, _, _, _, _, _, _⟩ := e
  simp only [e_v400, e_v399, e_v398, e_v395, e_v394, e_v391, e_v390, M.points]
  rfl

open Cert.ReferenceIdeal.Value in
/-- The column fractions of the points. -/
theorem Meet.partC : (W (Proc.devRef .tc main_v403) : FVec Ideal S4x8064x1 .f32) = res_main_v467 V := by
  have h := M.fixed
  have e := h hostOps1_44 (by simp [Tail.lines])
  simp only [hostOps1_44, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, e_v392, e_v393, _, _, e_v396, e_v397, _, _, _, e_v401, e_v402, e_v403, _, _, _, _, _, _, _, _, _, _, _, _, _, _, _, _, _, _, _,
    _, _, _, _, _, _, _, _, _, _⟩ := e
  simp only [e_v403, e_v402, e_v401, e_v397, e_v396, e_v393, e_v392, M.points]
  rfl

open Cert.ReferenceIdeal.Value in
set_option maxHeartbeats 4000000 in
/-- The sampled values at the predicted points, zero at the absent ones. -/
theorem Meet.sampled : (W (Proc.devRef .tc main_v428) : FVec Ideal S4x8064 .f32) = res_main_v556 V := by
  have h := M.fixed
  have e := h hostOps1_44 (by simp [Tail.lines])
  simp only [hostOps1_44, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, _, _, _, e_v404, e_v405, e_v406, e_v407, e_cst_60, e_v408, e_v409, e_v410, e_cst_61, e_v411, e_v412,
    e_v413, e_cst_62, e_v414, e_v415, e_v416, e_v417, e_v418, e_v419, e_cst_63, e_v420, e_v421, e_v422, e_v423, e_v424, e_v425, e_v426, e_v427, e_cst_64⟩ := e
  have e := h hostOps1_45 (by simp [Tail.lines])
  simp only [hostOps1_45, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call24_v0, e_call24_v1, e_call24_v2, e_v428⟩ := e
  obtain ⟨-, -, -, -, h0, h1, h2, h3⟩ := M.corners (res_main_v468 V) (res_main_v472 V) (res_main_v471 V) (res_main_v475 V) (ref_words V)
  simp only [e_v428, e_call24_v2, e_call24_v1, e_call24_v0, e_cst_64, e_v427, e_v426, e_v425, e_v424, e_v407, e_v423, e_v422, e_v421, e_v420, e_cst_63, e_v419,
    e_v406, e_v418, e_v417, e_v416, e_v415, e_v414, e_cst_62, e_v405, e_v413, e_v412, e_v411, e_cst_61, e_v410, e_v409, e_v408, e_cst_60, e_v404, M.flags, M.partR, M.partC, h0, h1, h2, h3]
  rfl

end Cert.Edges

end
-- ==== Proof.Spread.lean ====
/- The sum of the updates that land at a position: at most six points' updates are not zero there. -/
module

public import proofs.«01_k».proof.Proof.Cells

@[expose] public section

noncomputable section

namespace Cert.Edges

open Idealize.ShloMosaic

/-- A sum over all the points, split into the vertical and the horizontal edges. -/
theorem sum_points (f : Fin 8064 → EReal) : ∑ n, f n = (∑ i, ∑ j, f (vp i j)) + ∑ i, ∑ j, f (hp i j) := by
  have h : ∑ n : Fin (63 * 64 + 64 * 63), f n = (∑ i, ∑ j, f (vp i j)) + ∑ i, ∑ j, f (hp i j) := by
    rw [Fin.sum_univ_add, ← finProdFinEquiv.sum_comp, ← (finProdFinEquiv (m := 64) (n := 63)).sum_comp, Fintype.sum_prod_type, Fintype.sum_prod_type]
    refine congrArg₂ _ (Finset.sum_congr rfl fun i _ => Finset.sum_congr rfl fun j _ => congrArg f (Fin.ext ?_))
      (Finset.sum_congr rfl fun i _ => Finset.sum_congr rfl fun j _ => congrArg f (Fin.ext ?_))
    · simp [finProdFinEquiv, vp]
      omega
    · simp [finProdFinEquiv, hp]
      omega
  exact h

/-- What the edge before a position leaves there when its crossing is its far end. -/
def back (r : Fin 63 → ℕ) (u : Fin 63 → EReal) (y : Fin 64) : EReal :=
  if h : 1 ≤ y.val then (if r ⟨y.val - 1, by omega⟩ = (y.val - 1) + 1 then u ⟨y.val - 1, by omega⟩ else 0) else 0
/-- What the edge after a position leaves there. -/
def stay (r : Fin 63 → ℕ) (u : Fin 63 → EReal) (y : Fin 64) : EReal :=
  if h : y.val < 63 then (if r ⟨y.val, h⟩ = y.val + 1 then 0 else u ⟨y.val, h⟩) else 0
/-- What the edge before a position leaves there when its crossing is not its far end. -/
def ahead (r : Fin 63 → ℕ) (u : Fin 63 → EReal) (y : Fin 64) : EReal :=
  if h : 1 ≤ y.val then (if r ⟨y.val - 1, by omega⟩ = (y.val - 1) + 1 then 0 else u ⟨y.val - 1, by omega⟩) else 0

/-- The one edge whose number is the position's. -/
private theorem pick (f : Fin 63 → EReal) (y : Fin 64) : (∑ k, if k.val = y.val then f k else 0) = if h : y.val < 63 then f ⟨y.val, h⟩ else 0 := by
  split_ifs with h
  · rw [Finset.sum_eq_single ⟨y.val, h⟩ (fun k _ hk => if_neg fun e => hk (Fin.ext e)) (fun h => absurd (Finset.mem_univ _) h), if_pos rfl]
  · exact Finset.sum_eq_zero fun k _ => if_neg (by omega)

/-- The one edge whose number is the one before the position's. -/
private theorem pick' (f : Fin 63 → EReal) (y : Fin 64) : (∑ k, if k.val + 1 = y.val then f k else 0) = if h : 1 ≤ y.val then f ⟨y.val - 1, by omega⟩ else 0 := by
  split_ifs with h
  · rw [Finset.sum_eq_single ⟨y.val - 1, by omega⟩ (fun k _ hk => if_neg fun e => hk (Fin.ext (by simp only; omega))) (fun h => absurd (Finset.mem_univ _) h), if_pos (by simp only; omega)]
  · exact Finset.sum_eq_zero fun k _ => if_neg (by omega)

/-- The edges along a line whose cell is at a position. -/
theorem line_near (r : Fin 63 → ℕ) (hr : ∀ k, r k = k.val ∨ r k = k.val + 1) (u : Fin 63 → EReal) (y : Fin 64) :
    (∑ k, if min 63 (r k + 0) = y.val then u k else 0) = back r u y + stay r u y := by
  have e : ∀ k : Fin 63, (if min 63 (r k + 0) = y.val then u k else 0) =
      (if k.val + 1 = y.val then (if r k = k.val + 1 then u k else 0) else 0) + (if k.val = y.val then (if r k = k.val + 1 then 0 else u k) else 0) := by
    intro k
    rcases hr k with h | h <;> rw [h]
    · rw [show min 63 (k.val + 0) = k.val by omega]
      simp
    · rw [show min 63 (k.val + 1 + 0) = k.val + 1 by omega]
      simp
  rw [Finset.sum_congr rfl fun k _ => e k, Finset.sum_add_distrib, pick', pick]
  rfl

/-- The edges along a line whose cell's next is at a position, the ones whose crossing is the far end having nothing. -/
theorem line_next (r : Fin 63 → ℕ) (hr : ∀ k, r k = k.val ∨ r k = k.val + 1) (u : Fin 63 → EReal) (y : Fin 64) (hu : ∀ k, r k = k.val + 1 → u k = 0) :
    (∑ k, if min 63 (r k + 1) = y.val then u k else 0) = ahead r u y := by
  have e : ∀ k : Fin 63, (if min 63 (r k + 1) = y.val then u k else 0) = (if k.val + 1 = y.val then (if r k = k.val + 1 then 0 else u k) else 0) := by
    intro k
    rcases hr k with h | h
    · rw [h, show min 63 (k.val + 1) = k.val + 1 by omega]
      simp
    · simp [hu k h, h]
  rw [Finset.sum_congr rfl fun k _ => e k, pick']
  rfl

variable (A : Grid) (b : Fin 4)

/-- The cell's row of a vertical edge's point. -/
theorem cr_vp (i : Fin 63) (j : Fin 64) : cr A b (vp i j) = rv A b i j := by
  have h1 : (i.val * 64 + j.val) / 64 = i.val := by omega
  have h2 : (i.val * 64 + j.val) % 64 = j.val := by omega
  have h3 : i.val * 64 + j.val < 4032 := by omega
  simp only [cr, vp, h1, h2, h3, dif_pos, Fin.eta]
/-- The cell's column of a vertical edge's point. -/
theorem cc_vp (i : Fin 63) (j : Fin 64) : cc A b (vp i j) = j.val := by
  have h2 : (i.val * 64 + j.val) % 64 = j.val := by omega
  have h3 : i.val * 64 + j.val < 4032 := by omega
  simp only [cc, vp, h2, h3, dif_pos]
/-- The cell's row of a horizontal edge's point. -/
theorem cr_hp (i : Fin 64) (j : Fin 63) : cr A b (hp i j) = i.val := by
  have h1 : (4032 + (i.val * 63 + j.val) - 4032) / 63 = i.val := by omega
  have h3 : ¬ 4032 + (i.val * 63 + j.val) < 4032 := by omega
  exact (dif_neg h3).trans h1
/-- The cell's column of a horizontal edge's point. -/
theorem cc_hp (i : Fin 64) (j : Fin 63) : cc A b (hp i j) = ch A b i j := by
  have h1 : (4032 + (i.val * 63 + j.val) - 4032) / 63 = i.val := by omega
  have h2 : (4032 + (i.val * 63 + j.val) - 4032) % 63 = j.val := by omega
  have h3 : ¬ 4032 + (i.val * 63 + j.val) < 4032 := by omega
  refine (dif_neg h3).trans ?_
  exact congrArg₂ (ch A b) (Fin.ext h1) (Fin.ext h2)

/-- A vertical edge's point lies in the edge's own row of cells or in the next. -/
theorem rv_cases (i : Fin 63) (j : Fin 64) : rv A b i j = i.val ∨ rv A b i j = i.val + 1 := by
  unfold rv
  split <;> simp
/-- A horizontal edge's point lies in the edge's own column of cells or in the next. -/
theorem ch_cases (i : Fin 64) (j : Fin 63) : ch A b i j = j.val ∨ ch A b i j = j.val + 1 := by
  unfold ch
  split <;> simp

/-- The updates of the vertical edges that land at a position, along its column. -/
theorem sum_v (d e : ℕ) (he : e = 0) (u : Fin 8064 → EReal) (y x : Fin 64) :
    (∑ i, ∑ j, if min 63 (cr A b (vp i j) + d) * 64 + min 63 (cc A b (vp i j) + e) = y.val * 64 + x.val then u (vp i j) else 0) =
      ∑ i, if min 63 (rv A b i x + d) = y.val then u (vp i x) else 0 := by
  subst he
  refine Finset.sum_congr rfl fun i _ => ?_
  rw [Finset.sum_eq_single x]
  · rw [cr_vp, cc_vp]
    refine if_congr ?_ rfl rfl
    omega
  · intro j _ hj
    rw [cr_vp, cc_vp]
    refine if_neg fun h => hj (Fin.ext ?_)
    omega
  · intro h
    exact absurd (Finset.mem_univ _) h

/-- The updates of the horizontal edges that land at a position, along its row. -/
theorem sum_h (d e : ℕ) (hd : d = 0) (u : Fin 8064 → EReal) (y x : Fin 64) :
    (∑ i, ∑ j, if min 63 (cr A b (hp i j) + d) * 64 + min 63 (cc A b (hp i j) + e) = y.val * 64 + x.val then u (hp i j) else 0) =
      ∑ j, if min 63 (ch A b y j + e) = x.val then u (hp y j) else 0 := by
  subst hd
  rw [Finset.sum_eq_single y]
  · refine Finset.sum_congr rfl fun j _ => ?_
    rw [cr_hp, cc_hp]
    refine if_congr ?_ rfl rfl
    omega
  · intro i _ hi
    refine Finset.sum_eq_zero fun j _ => ?_
    rw [cr_hp, cc_hp]
    refine if_neg fun h => hi (Fin.ext ?_)
    omega
  · intro h
    exact absurd (Finset.mem_univ _) h

/-- The updates of one corner that land at a position. -/
def landed (d e : ℕ) (u : Fin 8064 → EReal) (y x : Fin 64) : EReal :=
  ∑ n, if min 63 (cr A b n + d) * 64 + min 63 (cc A b n + e) = y.val * 64 + x.val then u n else 0

/-- The four corners' updates at a position are those of six edges. -/
theorem landed_eq (u00 u01 u10 u11 : Fin 8064 → EReal)
    (hv : ∀ i j, u01 (vp i j) = 0 ∧ u11 (vp i j) = 0) (hh : ∀ i j, u10 (hp i j) = 0 ∧ u11 (hp i j) = 0)
    (hv' : ∀ i j, rv A b i j = i.val + 1 → u10 (vp i j) = 0) (hh' : ∀ i j, ch A b i j = j.val + 1 → u01 (hp i j) = 0) (y x : Fin 64) :
    landed A b 0 0 u00 y x + landed A b 0 1 u01 y x + landed A b 1 0 u10 y x + landed A b 1 1 u11 y x =
      back (fun i => rv A b i x) (fun i => u00 (vp i x)) y + stay (fun i => rv A b i x) (fun i => u00 (vp i x)) y +
      back (fun j => ch A b y j) (fun j => u00 (hp y j)) x + stay (fun j => ch A b y j) (fun j => u00 (hp y j)) x +
      ahead (fun j => ch A b y j) (fun j => u01 (hp y j)) x + ahead (fun i => rv A b i x) (fun i => u10 (vp i x)) y := by
  have z {α β : Type} [Fintype α] [Fintype β] (p : α → β → Prop) [∀ i j, Decidable (p i j)] (f : α → β → EReal) (h : ∀ i j, f i j = 0) :
      (∑ i, ∑ j, if p i j then f i j else 0) = 0 :=
    Finset.sum_eq_zero fun i _ => Finset.sum_eq_zero fun j _ => by rw [h, ite_self]
  have h00 : landed A b 0 0 u00 y x = (back (fun i => rv A b i x) (fun i => u00 (vp i x)) y + stay (fun i => rv A b i x) (fun i => u00 (vp i x)) y) +
      (back (fun j => ch A b y j) (fun j => u00 (hp y j)) x + stay (fun j => ch A b y j) (fun j => u00 (hp y j)) x) := by
    unfold landed
    rw [sum_points, sum_v A b 0 0 rfl, sum_h A b 0 0 rfl, line_near (fun i => rv A b i x) (fun i => rv_cases A b i x),
      line_near (fun j => ch A b y j) (fun j => ch_cases A b y j)]
  have h01 : landed A b 0 1 u01 y x = ahead (fun j => ch A b y j) (fun j => u01 (hp y j)) x := by
    unfold landed
    rw [sum_points, z _ _ fun i j => (hv i j).1, zero_add, sum_h A b 0 1 rfl,
      line_next (fun j => ch A b y j) (fun j => ch_cases A b y j) _ _ fun j h => hh' y j h]
  have h10 : landed A b 1 0 u10 y x = ahead (fun i => rv A b i x) (fun i => u10 (vp i x)) y := by
    unfold landed
    rw [sum_points, z (fun i j => _) (fun i j => u10 (hp i j)) fun i j => (hh i j).1, add_zero, sum_v A b 1 0 rfl,
      line_next (fun i => rv A b i x) (fun i => rv_cases A b i x) _ _ fun i h => hv' i x h]
  have h11 : landed A b 1 1 u11 y x = 0 := by
    unfold landed
    rw [sum_points, z _ _ fun i j => (hv i j).2, z _ _ fun i j => (hh i j).2, zero_add]
  rw [h00, h01, h10, h11, add_zero]
  simp only [add_assoc]

end Cert.Edges

end
-- ==== Proof.Pads.lean ====
/- The gradient image of the kernel at a position: what six edges leave there. -/
module

public import proofs.«01_k».proof.Proof.Meet
public import proofs.«01_k».proof.Proof.Spread
public import Idealize.ShloMosaic.Lib.KernelVsHost

@[expose] public section

set_option maxRecDepth 100000

noncomputable section

namespace Cert.Edges

open Idealize.ShloMosaic Idealize.ShloMosaic.TcCoe
open Cert.KernelIdeal.Gen Cert.KernelIdeal

/-- The vertical edges' part of an array over the points, where a flag is set. -/
def partV (c : IVec S4x63x64 1) (u : FVec Ideal S4x8064 .f32) : FVec Ideal S4x63x64 .f32 :=
  select c (shapeCast S4x63x64 (extractStridedSlice S4x4032 ![0, 0] u slices_S4x8064_S4x4032_0_0) shapeCasts_S4x4032_S4x63x64)
    (broadcastInDim S4x63x64 ![1, 2] bcast_S63x64_S4x63x64_1_2 (broadcastInDim S63x64 ![] bcast_S_S63x64 (constant S_ .f32 0x00000000#32)))
/-- The horizontal edges' part of an array over the points, where a flag is set. -/
def partH (c : IVec S4x64x63 1) (u : FVec Ideal S4x8064 .f32) : FVec Ideal S4x64x63 .f32 :=
  select c (shapeCast S4x64x63 (extractStridedSlice S4x4032 ![0, 4032] u slices_S4x8064_S4x4032_0_4032) shapeCasts_S4x4032_S4x64x63)
    (broadcastInDim S4x64x63 ![1, 2] bcast_S64x63_S4x64x63_1_2 (broadcastInDim S64x63 ![] bcast_S_S64x63 (constant S_ .f32 0x00000000#32)))

/-- A row of zeros put before the rows. -/
def lowV (X : FVec Ideal S4x63x64 .f32) : FVec Ideal S4x64x64 .f32 :=
  pad S4x64x64 ![0, 1, 0] ![0, 0, 0] ![0, 0, 0] X (sitofp .f32 (constantI S_ 32 0#32)) pads_S4x63x64_S4x64x64_000_100_000 h_S_
/-- A row of zeros put after the rows. -/
def highV (X : FVec Ideal S4x63x64 .f32) : FVec Ideal S4x64x64 .f32 :=
  pad S4x64x64 ![0, 0, 0] ![0, 1, 0] ![0, 0, 0] X (sitofp .f32 (constantI S_ 32 0#32)) pads_S4x63x64_S4x64x64_000_010_000 h_S_
/-- A column of zeros put before the columns. -/
def lowH (X : FVec Ideal S4x64x63 .f32) : FVec Ideal S4x64x64 .f32 :=
  pad S4x64x64 ![0, 0, 1] ![0, 0, 0] ![0, 0, 0] X (sitofp .f32 (constantI S_ 32 0#32)) pads_S4x64x63_S4x64x64_000_000_100 h_S_
/-- A column of zeros put after the columns. -/
def highH (X : FVec Ideal S4x64x63 .f32) : FVec Ideal S4x64x64 .f32 :=
  pad S4x64x64 ![0, 0, 0] ![0, 0, 1] ![0, 0, 0] X (sitofp .f32 (constantI S_ 32 0#32)) pads_S4x64x63_S4x64x64_000_000_010 h_S_

/-- The vertical edges' part at an edge. -/
theorem partV_at (c : IVec S4x63x64 1) (u : FVec Ideal S4x8064 .f32) (b : Fin 4) (i : Fin 63) (j : Fin 64) :
    (partV c u (ix3 b i j) : EReal) = if c (ix3 b i j) = 1#1 then u (ix2 b (vp i j)) else 0 := by
  have z : (Ideal.ofBits .f32 0x00000000#32 : EReal) = 0 := Ideal.ofBits_zero_f32
  refine Eq.trans (b := Scalar.select (c (ix3 b i j)) (u (ix2 b (vp i j)) : EReal) (Ideal.ofBits .f32 0x00000000#32 : EReal)) ?_ ?_
  · pointwise [partV, vp]
  · rw [z]
    rfl
/-- The horizontal edges' part at an edge. -/
theorem partH_at (c : IVec S4x64x63 1) (u : FVec Ideal S4x8064 .f32) (b : Fin 4) (i : Fin 64) (j : Fin 63) :
    (partH c u (ix3 b i j) : EReal) = if c (ix3 b i j) = 1#1 then u (ix2 b (hp i j)) else 0 := by
  have z : (Ideal.ofBits .f32 0x00000000#32 : EReal) = 0 := Ideal.ofBits_zero_f32
  refine Eq.trans (b := Scalar.select (c (ix3 b i j)) (u (ix2 b (hp i j)) : EReal) (Ideal.ofBits .f32 0x00000000#32 : EReal)) ?_ ?_
  · pointwise [partH, hp]
  · rw [z]
    rfl

/-- What the padding holds is zero. -/
theorem filler : ((sitofp .f32 (constantI S_ 32 0#32) : FVec Ideal S_ .f32) (Shape.Idx.first h_S_) : EReal) = 0 := by
  show (((0#32 : BitVec 32).toInt : ℝ) : EReal) = 0
  simp

/-- After a row of zeros is put before the rows. -/
theorem lowV_at (X : FVec Ideal S4x63x64 .f32) (b : Fin 4) (y x : Fin 64) :
    (lowV X (ix3 b y x) : EReal) = if h : 1 ≤ y.val then X (ix3 b ⟨y.val - 1, by omega⟩ x) else 0 := by
  split_ifs with h
  · refine pad_apply_of_inside _ _ _ _ _ _ _ _ (ix3 b (⟨y.val - 1, by omega⟩ : Fin 63) x) fun a => ?_
    fin_cases a <;> simp [ix3]
    all_goals omega
  · refine (pad_apply_of_not_inside _ _ _ _ _ _ _ _ (1 : Fin 3) fun k => h k.1).trans filler
/-- After a row of zeros is put after the rows. -/
theorem highV_at (X : FVec Ideal S4x63x64 .f32) (b : Fin 4) (y x : Fin 64) :
    (highV X (ix3 b y x) : EReal) = if h : y.val < 63 then X (ix3 b ⟨y.val, h⟩ x) else 0 := by
  split_ifs with h
  · refine pad_apply_of_inside _ _ _ _ _ _ _ _ (ix3 b (⟨y.val, h⟩ : Fin 63) x) fun a => ?_
    fin_cases a <;> simp [ix3]
  · refine (pad_apply_of_not_inside _ _ _ _ _ _ _ _ (1 : Fin 3) fun k => h (by simpa [ix3] using k.2.2)).trans filler
/-- After a column of zeros is put before the columns. -/
theorem lowH_at (X : FVec Ideal S4x64x63 .f32) (b : Fin 4) (y x : Fin 64) :
    (lowH X (ix3 b y x) : EReal) = if h : 1 ≤ x.val then X (ix3 b y ⟨x.val - 1, by omega⟩) else 0 := by
  split_ifs with h
  · refine pad_apply_of_inside _ _ _ _ _ _ _ _ (ix3 b y (⟨x.val - 1, by omega⟩ : Fin 63)) fun a => ?_
    fin_cases a <;> simp [ix3]
    all_goals omega
  · refine (pad_apply_of_not_inside _ _ _ _ _ _ _ _ (2 : Fin 3) fun k => h k.1).trans filler
/-- After a column of zeros is put after the columns. -/
theorem highH_at (X : FVec Ideal S4x64x63 .f32) (b : Fin 4) (y x : Fin 64) :
    (highH X (ix3 b y x) : EReal) = if h : x.val < 63 then X (ix3 b y ⟨x.val, h⟩) else 0 := by
  split_ifs with h
  · refine pad_apply_of_inside _ _ _ _ _ _ _ _ (ix3 b y (⟨x.val, h⟩ : Fin 63)) fun a => ?_
    fin_cases a <;> simp [ix3]
  · refine (pad_apply_of_not_inside _ _ _ _ _ _ _ _ (2 : Fin 3) fun k => h (by simpa [ix3] using k.2.2)).trans filler

/-- Whether the crossing of a vertical edge lies in the cell below its own, from the cells' rows. -/
def farV (L : IVec S4x8064 32) : IVec S4x63x64 1 :=
  cmpi .eq (shapeCast S4x63x64 (extractStridedSlice S4x4032 ![0, 0] L slices_S4x8064_S4x4032_0_0) shapeCasts_S4x4032_S4x63x64)
    (broadcastInDim S4x63x64 ![0, 1, 2] bcast_S1x63x1_S4x63x64_0_1_2 (broadcastInDim S1x63x1 ![1, 2] bcast_S63x1_S1x63x1_1_2
      (addi (broadcastInDim S63x1 ![0] bcast_S63_S63x1_0 (iotaInDim S63 32 0)) (broadcastInDim S63x1 ![] bcast_S_S63x1 (constantI S_ 32 1#32)))))
/-- Whether the crossing of a horizontal edge lies in the cell after its own, from the cells' columns. -/
def farH (L : IVec S4x8064 32) : IVec S4x64x63 1 :=
  cmpi .eq (shapeCast S4x64x63 (extractStridedSlice S4x4032 ![0, 4032] L slices_S4x8064_S4x4032_0_4032) shapeCasts_S4x4032_S4x64x63)
    (broadcastInDim S4x64x63 ![0, 1, 2] bcast_S1x1x63_S4x64x63_0_1_2 (broadcastInDim S1x1x63 ![1, 2] bcast_S1x63_S1x1x63_1_2
      (addi (broadcastInDim S1x63 ![1] bcast_S63_S1x63_1 (iotaInDim S63 32 0)) (broadcastInDim S1x63 ![] bcast_S_S1x63 (constantI S_ 32 1#32)))))

/-- The vertical flag at an edge. -/
theorem farV_at (L : IVec S4x8064 32) (b : Fin 4) (i : Fin 63) (j : Fin 64) :
    farV L (ix3 b i j) = BitVec.ofBool (L (ix2 b (vp i j)) == BitVec.ofNat 32 i.val + 1#32) := by
  refine Eq.trans (b := IntOp.cmpi .eq (L (ix2 b (vp i j))) (IntOp.addi (BitVec.ofNat 32 i.val) 1#32)) ?_ rfl
  pointwise [farV, vp]
/-- The horizontal flag at an edge. -/
theorem farH_at (L : IVec S4x8064 32) (b : Fin 4) (i : Fin 64) (j : Fin 63) :
    farH L (ix3 b i j) = BitVec.ofBool (L (ix2 b (hp i j)) == BitVec.ofNat 32 j.val + 1#32) := by
  refine Eq.trans (b := IntOp.cmpi .eq (L (ix2 b (hp i j))) (IntOp.addi (BitVec.ofNat 32 j.val) 1#32)) ?_ rfl
  pointwise [farH, hp]

/-- The comparison of words is the comparison of numbers. -/
theorem far_iff (r k : ℕ) (hr : r < 64) (hk : k < 63) :
    (BitVec.ofBool (BitVec.ofNat 32 r == BitVec.ofNat 32 k + 1#32) = 1#1 ↔ r = k + 1) := by
  have e : (BitVec.ofNat 32 k + 1#32 : BitVec 32) = BitVec.ofNat 32 (k + 1) := by
    rw [BitVec.ofNat_add]
  have q : (BitVec.ofNat 32 r = BitVec.ofNat 32 (k + 1)) ↔ r = k + 1 := by
    constructor
    · intro h
      have := congrArg BitVec.toNat h
      rw [BitVec.toNat_ofNat, BitVec.toNat_ofNat, Nat.mod_eq_of_lt (by omega), Nat.mod_eq_of_lt (by omega)] at this
      exact this
    · intro h
      rw [h]
  rw [e, ← q]
  by_cases h : BitVec.ofNat 32 r = BitVec.ofNat 32 (k + 1)
  · simp [h]
  · rw [beq_eq_false_iff_ne.mpr h]
    simp [h]

/-- The six parts of the gradient image. -/
def pieces (cv : IVec S4x63x64 1) (ch : IVec S4x64x63 1) (u00 u01 u10 : FVec Ideal S4x8064 .f32) : FVec Ideal S4x64x64 .f32 :=
  addf (addf (addf (addf (addf (lowV (partV cv u00)) (highV (partV (noti cv) u00))) (lowH (partH ch u00))) (highH (partH (noti ch) u00)))
    (lowH (partH (noti ch) u01))) (lowV (partV (noti cv) u10))

/-- The opposite flag. -/
theorem noti_at {s : Shape} (c : IVec s 1) (i : s.Idx) (p : Prop) (h : c i = 1#1 ↔ p) : noti c i = 1#1 ↔ ¬ p := by
  rw [← h]
  show ~~~(c i) = 1#1 ↔ _
  generalize c i = x
  revert x
  decide

/-- The pieces at a position. -/
theorem pieces_at (cv : IVec S4x63x64 1) (ch' : IVec S4x64x63 1) (u00 u01 u10 : FVec Ideal S4x8064 .f32) (A : Grid) (b : Fin 4)
    (hv : ∀ i j, cv (ix3 b i j) = 1#1 ↔ rv A b i j = i.val + 1) (hh : ∀ i j, ch' (ix3 b i j) = 1#1 ↔ ch A b i j = j.val + 1) (y x : Fin 64) :
    (pieces cv ch' u00 u01 u10 (ix3 b y x) : EReal) =
      back (fun i => rv A b i x) (fun i => u00 (ix2 b (vp i x))) y + stay (fun i => rv A b i x) (fun i => u00 (ix2 b (vp i x))) y +
      back (fun j => ch A b y j) (fun j => u00 (ix2 b (hp y j))) x + stay (fun j => ch A b y j) (fun j => u00 (ix2 b (hp y j))) x +
      ahead (fun j => ch A b y j) (fun j => u01 (ix2 b (hp y j))) x + ahead (fun i => rv A b i x) (fun i => u10 (ix2 b (vp i x))) y := by
  have nv := fun i j => noti_at cv (ix3 b i j) _ (hv i j)
  have nh := fun i j => noti_at ch' (ix3 b i j) _ (hh i j)
  have e1 : (lowV (partV cv u00) (ix3 b y x) : EReal) = back (fun i => rv A b i x) (fun i => u00 (ix2 b (vp i x))) y := by
    simp only [lowV_at, partV_at, hv, back]
  have e2 : (highV (partV (noti cv) u00) (ix3 b y x) : EReal) = stay (fun i => rv A b i x) (fun i => u00 (ix2 b (vp i x))) y := by
    simp only [highV_at, partV_at, nv, stay, ite_not]
  have e3 : (lowH (partH ch' u00) (ix3 b y x) : EReal) = back (fun j => ch A b y j) (fun j => u00 (ix2 b (hp y j))) x := by
    simp only [lowH_at, partH_at, hh, back]
  have e4 : (highH (partH (noti ch') u00) (ix3 b y x) : EReal) = stay (fun j => ch A b y j) (fun j => u00 (ix2 b (hp y j))) x := by
    simp only [highH_at, partH_at, nh, stay, ite_not]
  have e5 : (lowH (partH (noti ch') u01) (ix3 b y x) : EReal) = ahead (fun j => ch A b y j) (fun j => u01 (ix2 b (hp y j))) x := by
    simp only [lowH_at, partH_at, nh, ahead, ite_not]
  have e6 : (lowV (partV (noti cv) u10) (ix3 b y x) : EReal) = ahead (fun i => rv A b i x) (fun i => u10 (ix2 b (vp i x))) y := by
    simp only [lowV_at, partV_at, nv, ahead, ite_not]
  rw [← e1, ← e2, ← e3, ← e4, ← e5, ← e6]
  rfl

variable {W : Valuation τ sig (Elt Ideal)} {V : Valuation Cert.ReferenceIdeal.τ Cert.ReferenceIdeal.sig (Elt Ideal)}
  {x0 x1 : FVec Ideal S4x64x64 .f32} (M : Meet W V x0 x1)
include M

/-- The kernel's flags of the crossings that lie in the next cell. -/
theorem Meet.far : (W (Proc.devRef .tc main_v117) : IVec S4x63x64 1) = farV (W (Proc.devRef .tc main_v104)) ∧
    (W (Proc.devRef .tc main_v126) : IVec S4x64x63 1) = farH (W (Proc.devRef .tc main_v108)) := by
  have h := M.fixed
  have e := h hostOps1_6 (by simp [Tail.lines])
  simp only [hostOps1_6, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, _, _, _, _, _, _, _, _, _, _, _, _, _, _, _, _, e_v109, e_v110, e_v111, e_v112, e_c, e_v113, e_v114,
    e_v115, e_v116, e_v117, e_v118, e_v119, e_v120, e_v121, e_c_9, e_v122, e_v123, e_v124, e_v125, e_v126, _, _, _, _, _, _, _, _, _, _, _, _, _, _, _,
    _, _, _, _, _, _, _, _, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _, _, _, _, _, _, _, _, _, _, _, _, _, _, _, _, _, _, _, _⟩ := e
  constructor
  · simp only [e_v117, e_v116, e_v115, e_v114, e_v113, e_c, e_v112, e_v111, e_v110, e_v109]
    rfl
  · simp only [e_v126, e_v125, e_v124, e_v123, e_v122, e_c_9, e_v121, e_v120, e_v119, e_v118]
    rfl

/-- The cells of the kernel's points. -/
theorem Meet.cells (b : Fin 4) (n : Fin 8064) :
    W (Proc.devRef .tc main_v104) (ix2 b n) = BitVec.ofNat 32 (cr (gridOf x0) b n) ∧
    W (Proc.devRef .tc main_v108) (ix2 b n) = BitVec.ofNat 32 (cc (gridOf x0) b n) := by
  have h := M.fixed
  obtain ⟨p0, p1, -⟩ := M.point b n
  have e := h hostOps1_6 (by simp [Tail.lines])
  simp only [hostOps1_6, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, _, _, _, _, _, _, _, _, e_v101, e_v102, e_v103, e_v104, e_v105, e_v106, e_v107, e_v108, _, _, _, _,
    _, _, _, _, _, _, _, _, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _, _, _, _, _, _, _, _, _, _, _, _, _, _, _, _, _, _, _, _, _, _, _, _, _, _, _, _, _,
    _, _, _, _, _, _, _, _, _, _, _, _, _, _, _, _, _, _, _, _, _, _⟩ := e
  rw [← row_down, ← col_down, ← p0, ← p1]
  constructor
  · pointwise [e_v104, e_v103, e_v102, e_v101]
  · pointwise [e_v108, e_v107, e_v106, e_v105]

/-- The kernel's gradient image is the sum of the six pieces. -/
theorem Meet.image : (W (Proc.devRef .tc main_v389) : FVec Ideal S4x64x64 .f32) =
    pieces (W (Proc.devRef .tc main_v117)) (W (Proc.devRef .tc main_v126)) (W (Proc.devRef .tc main_v320)) (W (Proc.devRef .tc main_v334))
      (W (Proc.devRef .tc main_v348)) := by
  have h := M.fixed
  have e := h hostOps1_20 (by simp [Tail.lines])
  simp only [hostOps1_20, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_v363, e_v364, e_v365, e_v366, e_v367, e_v368, e_v369, e_v370, e_v371, e_v372, e_cst_48⟩ := e
  have e := h hostOps1_21 (by simp [Tail.lines])
  simp only [hostOps1_21, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call12_v0, e_call12_v1, e_call12_v2, e_v373⟩ := e
  have e := h hostOps1_22 (by simp [Tail.lines])
  simp only [hostOps1_22, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_c_49 := e
  have e := h hostOps1_23 (by simp [Tail.lines])
  simp only [hostOps1_23, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call13_v0, e_v374⟩ := e
  have e := h hostOps1_24 (by simp [Tail.lines])
  simp only [hostOps1_24, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_cst_50 := e
  have e := h hostOps1_25 (by simp [Tail.lines])
  simp only [hostOps1_25, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call14_v0, e_call14_v1, e_call14_v2, e_v375⟩ := e
  have e := h hostOps1_26 (by simp [Tail.lines])
  simp only [hostOps1_26, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_c_51 := e
  have e := h hostOps1_27 (by simp [Tail.lines])
  simp only [hostOps1_27, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call15_v0, e_v376⟩ := e
  have e := h hostOps1_28 (by simp [Tail.lines])
  simp only [hostOps1_28, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_cst_52 := e
  have e := h hostOps1_29 (by simp [Tail.lines])
  simp only [hostOps1_29, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call16_v0, e_call16_v1, e_call16_v2, e_v377⟩ := e
  have e := h hostOps1_30 (by simp [Tail.lines])
  simp only [hostOps1_30, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_c_53 := e
  have e := h hostOps1_31 (by simp [Tail.lines])
  simp only [hostOps1_31, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call17_v0, e_v378⟩ := e
  have e := h hostOps1_32 (by simp [Tail.lines])
  simp only [hostOps1_32, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_cst_54 := e
  have e := h hostOps1_33 (by simp [Tail.lines])
  simp only [hostOps1_33, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call18_v0, e_call18_v1, e_call18_v2, e_v379⟩ := e
  have e := h hostOps1_34 (by simp [Tail.lines])
  simp only [hostOps1_34, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_c_55 := e
  have e := h hostOps1_35 (by simp [Tail.lines])
  simp only [hostOps1_35, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call19_v0, e_v380⟩ := e
  have e := h hostOps1_36 (by simp [Tail.lines])
  simp only [hostOps1_36, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_cst_56 := e
  have e := h hostOps1_37 (by simp [Tail.lines])
  simp only [hostOps1_37, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call20_v0, e_call20_v1, e_call20_v2, e_v381⟩ := e
  have e := h hostOps1_38 (by simp [Tail.lines])
  simp only [hostOps1_38, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_c_57 := e
  have e := h hostOps1_39 (by simp [Tail.lines])
  simp only [hostOps1_39, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call21_v0, e_v382⟩ := e
  have e := h hostOps1_40 (by simp [Tail.lines])
  simp only [hostOps1_40, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_cst_58 := e
  have e := h hostOps1_41 (by simp [Tail.lines])
  simp only [hostOps1_41, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call22_v0, e_call22_v1, e_call22_v2, e_v383⟩ := e
  have e := h hostOps1_42 (by simp [Tail.lines])
  simp only [hostOps1_42, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  have e_c_59 := e
  have e := h hostOps1_43 (by simp [Tail.lines])
  simp only [hostOps1_43, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_call23_v0, e_v384⟩ := e
  have e := h hostOps1_44 (by simp [Tail.lines])
  simp only [hostOps1_44, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_v385, e_v386, e_v387, e_v388, e_v389, _, _, _, _, _, _, _, _, _, _, _, _, _, _, _, _, _, _, _, _, _, _, _, _, _, _, _, _, _, _, _, _, _, _, _, _,
    _, _, _, _, _, _, _⟩ := e
  simp only [e_v389, e_v384, e_call23_v0, e_c_59, e_v383, e_call22_v2, e_call22_v1, e_call22_v0, e_cst_58, e_v368, e_v367, e_v363, e_v388, e_v382, e_call21_v0,
    e_c_57, e_v381, e_call20_v2, e_call20_v1, e_call20_v0, e_cst_56, e_v372, e_v371, e_v364, e_v387, e_v380, e_call19_v0, e_c_55, e_v379, e_call18_v2,
    e_call18_v1, e_call18_v0, e_cst_54, e_v370, e_v369, e_v386, e_v378, e_call17_v0, e_c_53, e_v377, e_call16_v2, e_call16_v1, e_call16_v0, e_cst_52,
    e_v385, e_v376, e_call15_v0, e_c_51, e_v375, e_call14_v2, e_call14_v1, e_call14_v0, e_cst_50, e_v366, e_v365, e_v374, e_call13_v0, e_c_49, e_v373,
    e_call12_v2, e_call12_v1, e_call12_v0, e_cst_48]
  rfl

end Cert.Edges

end
-- ==== Proof.Scatter.lean ====
/- The reference's scatters: each adds, at a position of an image, the updates of the points that land there. -/
module

public import proofs.«01_k».proof.Proof.Updates
public import Idealize.ShloMosaic.Lib.Routing.OpsPair

@[expose] public section

set_option maxRecDepth 100000

noncomputable section

namespace Cert.Edges

open Idealize.ShloMosaic Idealize.ShloMosaic.TcCoe
open Cert.ReferenceIdeal.Gen Cert.ReferenceIdeal.Value Cert.ReferenceIdeal

variable (V : Valuation τ sig (Elt Ideal))

/-- The index pairs of a scatter: the image and the position in the flattened image. -/
abbrev places (L : IVec S4x8064 32) : IVec S4x8064x2 32 :=
  concatenate S4x8064x2 2 [⟨S4x8064x1, (broadcastInDim S4x8064x1 ![0, 1] bcast_S4x8064_S4x8064x1_0_1 (broadcastInDim S4x8064 ![0, 1] bcast_S4x1_S4x8064_0_1 (select (cmpi .slt (res_main_v558 V) (broadcastInDim S4x1 ![] bcast_S_S4x1 (constantI S_ 32 0#32))) (addi (res_main_v558 V) (broadcastInDim S4x1 ![] bcast_S_S4x1 (constantI S_ 32 4#32))) (res_main_v558 V))))⟩, ⟨S4x8064x1, (broadcastInDim S4x8064x1 ![0, 1] bcast_S4x8064_S4x8064x1_0_1 (select (cmpi .slt L (broadcastInDim S4x8064 ![] bcast_S_S4x8064 (constantI S_ 32 0#32))) (addi L (broadcastInDim S4x8064 ![] bcast_S_S4x8064 (constantI S_ 32 4096#32))) L))⟩] concatenates_S4x8064x1_S4x8064x1_S4x8064x2_d2

/-- The pair at a point. -/
theorem places_eq (L : IVec S4x8064 32) (b : Fin 4) (n : Fin 8064) (p : ℕ) (hp : p < 4096) (hL : L (ix2 b n) = BitVec.ofNat 32 p) :
    places V L (ix3 b n (0 : Fin 2)) = BitVec.ofNat 32 b ∧ places V L (ix3 b n (1 : Fin 2)) = BitVec.ofNat 32 p := by
  constructor
  · pointwise [places, res_main_v558]
    exact wrap _ (by omega) _
  · pointwise [places, hL]
    exact wrap _ (by omega) _

/-- Which position a point's update lands at. -/
theorem lands (L : IVec S4x8064 32) (b b' : Fin 4) (n : Fin 8064) (t : Fin 4096) (p : ℕ) (hp : p < 4096) (hL : L (ix2 b' n) = BitVec.ofNat 32 p) :
    scatter_S4x4096_S4x8064x2_S4x8064_n_01_01_2.resultIdx? (ix2 b' n) (places V L) = some (ix2 b t) ↔ b' = b ∧ p = t := by
  obtain ⟨h0, h1⟩ := places_eq V L b' n p hp hL
  refine (Routing.scatter_lands2 (R := 4) (C := 4096) (A := 4) (B := 8064) scatter_S4x4096_S4x8064x2_S4x8064_n_01_01_2 rfl rfl rfl (places V L) b' n b t).trans ?_
  show (places V L (ix3 b' n (0 : Fin 2))).toInt = b.val ∧ (places V L (ix3 b' n (1 : Fin 2))).toInt = t.val ↔ _
  rw [h0, h1, toInt_small _ (by omega), toInt_small _ (by omega), Fin.ext_iff]
  omega

/-- A scatter at a position. -/
theorem scatter_at (x : FVec Ideal S4x4096 .f32) (L : IVec S4x8064 32) (u : FVec Ideal S4x8064 .f32) (l : Fin 4 → Fin 8064 → ℕ)
    (hl : ∀ b n, l b n < 4096) (hL : ∀ b n, L (ix2 b n) = BitVec.ofNat 32 (l b n)) (b : Fin 4) (t : Fin 4096) :
    Host.scatterAdd scatter_S4x4096_S4x8064x2_S4x8064_n_01_01_2 x (places V L) u (ix2 b t) =
      (x (ix2 b t) : EReal) + ∑ n : Fin 8064, if l b n = t then (u (ix2 b n) : EReal) else 0 := by
  show Ideal.hostScatterAdd scatter_S4x4096_S4x8064x2_S4x8064_n_01_01_2 x (places V L) u (ix2 b t) = _
  unfold Ideal.hostScatterAdd
  rw [Finset.sum_filter, sum_idx2]
  refine congrArg _ ?_
  rw [Finset.sum_eq_single b]
  · refine Finset.sum_congr rfl fun n _ => ?_
    refine if_congr ?_ rfl rfl
    rw [lands V L b b n t _ (hl b n) (hL b n)]
    simp
  · intro b' _ hb
    refine Finset.sum_eq_zero fun n _ => if_neg ?_
    rw [lands V L b b' n t _ (hl b' n) (hL b' n)]
    exact fun h => hb h.1
  · intro h
    exact absurd (Finset.mem_univ _) h

end Cert.Edges

end
-- ==== Proof.Grads.lean ====
/- The reference's gradient image at a position, and its result as a sum over images. -/
module

public import proofs.«01_k».proof.Proof.Scatter
public import proofs.«01_k».proof.Proof.Spread

@[expose] public section

set_option maxRecDepth 100000

noncomputable section

namespace Cert.Edges

open Idealize.ShloMosaic Idealize.ShloMosaic.TcCoe
open Cert.ReferenceIdeal.Gen Cert.ReferenceIdeal.Value Cert.ReferenceIdeal

/-- The result from the two arrays summed over. -/
def loss (P : FVec Ideal S4 .f32) (Q : FVec Ideal S4 .f32) : FVec Ideal S_ .f32 :=
  addf (mulf (constant S_ .f32 0x3F800000#32) (Host.divf (Host.reduceAdd P (constant S_ .f32 0x00000000#32) reducesTo_S4_S_d0 h_S_) (constant S_ .f32 0x40800000#32)))
    (mulf (constant S_ .f32 0x3F800000#32) (Host.divf (Host.reduceAdd Q (constant S_ .f32 0x00000000#32) reducesTo_S4_S_d0 h_S_) (constant S_ .f32 0x40800000#32)))

/-- The sum over each image. -/
def images (P : FVec Ideal S4x64x64 .f32) : FVec Ideal S4 .f32 := Host.reduceAdd P (constant S_ .f32 0x00000000#32) reducesTo_S4x64x64_S4_d1_2 h_S_
/-- The sum over each image's points. -/
def lists (Q : FVec Ideal S4x8064 .f32) : FVec Ideal S4 .f32 := Host.reduceAdd Q (constant S_ .f32 0x00000000#32) reducesTo_S4x8064_S4_d1 h_S_

/-- The sum over an image, written out. -/
theorem images_at (P : FVec Ideal S4x64x64 .f32) (k : Fin 4) :
    (images P (ix1 k) : EReal) = Ideal.ofBits .f32 0x00000000#32 + ∑ y : Fin 64, ∑ x : Fin 64, (P (ix3 k y x) : EReal) := by
  pointwise [images]
/-- The sum over an image's points, written out. -/
theorem lists_at (Q : FVec Ideal S4x8064 .f32) (k : Fin 4) :
    (lists Q (ix1 k) : EReal) = Ideal.ofBits .f32 0x00000000#32 + ∑ n : Fin 8064, (Q (ix2 k n) : EReal) := by
  pointwise [lists]

/-- The zeros the first scatter starts from. -/
def zeros : FVec Ideal S4x4096 .f32 := broadcastInDim S4x4096 ![] bcast_S_S4x4096 (constant S_ .f32 0x00000000#32)
/-- The zeros are zero. -/
theorem zeros_at (b : Fin 4) (t : Fin 4096) : (zeros (ix2 b t) : EReal) = 0 := by
  refine Eq.trans (b := (Ideal.ofBits .f32 0x00000000#32 : EReal)) ?_ Ideal.ofBits_zero_f32
  pointwise [zeros]

/-- The four scatters, one after another. -/
def spread (u00 u01 u10 u11 : FVec Ideal S4x8064 .f32) (V : Valuation τ sig (Elt Ideal)) : FVec Ideal S4x4096 .f32 :=
  Host.scatterAdd scatter_S4x4096_S4x8064x2_S4x8064_n_01_01_2
    (Host.scatterAdd scatter_S4x4096_S4x8064x2_S4x8064_n_01_01_2
      (Host.scatterAdd scatter_S4x4096_S4x8064x2_S4x8064_n_01_01_2
        (Host.scatterAdd scatter_S4x4096_S4x8064x2_S4x8064_n_01_01_2 zeros (places V (res_main_v396 V)) u00)
        (places V (res_main_v415 V)) u01)
      (places V (res_main_v434 V)) u10)
    (places V (res_main_v453 V)) u11

variable (V : Valuation τ sig (Elt Ideal))

/-- The scatters at a position. -/
theorem spread_at (u00 u01 u10 u11 : FVec Ideal S4x8064 .f32) (b : Fin 4) (y x : Fin 64) :
    (spread u00 u01 u10 u11 V (ix2 b (⟨y.val * 64 + x.val, by omega⟩ : Fin 4096)) : EReal) =
      landed (predOf V) b 0 0 (fun n => u00 (ix2 b n)) y x + landed (predOf V) b 0 1 (fun n => u01 (ix2 b n)) y x +
      landed (predOf V) b 1 0 (fun n => u10 (ix2 b n)) y x + landed (predOf V) b 1 1 (fun n => u11 (ix2 b n)) y x := by
  have hl (d e : ℕ) : ∀ (b : Fin 4) (n : Fin 8064), min 63 (cr (predOf V) b n + d) * 64 + min 63 (cc (predOf V) b n + e) < 4096 := fun b n => by omega
  unfold spread
  rw [scatter_at V _ _ _ _ (hl 1 1) fun b n => (ref_lin V b n).2.2.2, scatter_at V _ _ _ _ (hl 1 0) fun b n => (ref_lin V b n).2.2.1,
    scatter_at V _ _ _ _ (hl 0 1) fun b n => (ref_lin V b n).2.1, scatter_at V _ _ _ _ (hl 0 0) fun b n => (ref_lin V b n).1, zeros_at, zero_add]
  rfl

/-- The reference's gradient image. -/
def gradImage : FVec Ideal S4x64x64 .f32 := shapeCast S4x64x64 (spread (upd00 V) (upd01 V) (upd10 V) (upd11 V) V) shapeCasts_S4x4096_S4x64x64

/-- A flattened image folded back, at a position. -/
theorem fold_at (X : FVec Ideal S4x4096 .f32) (b : Fin 4) (y x : Fin 64) :
    (shapeCast S4x64x64 X shapeCasts_S4x4096_S4x64x64 (ix3 b y x) : EReal) = X (ix2 b (⟨y.val * 64 + x.val, by omega⟩ : Fin 4096)) := by
  pointwise

/-- A vertical edge's points lie on a column. -/
theorem vert (A : Grid) (b : Fin 4) (i : Fin 63) (j : Fin 64) : col A b (vp i j) = nat (cc A b (vp i j)) := by
  rw [cc_vp, col_vp]
/-- A horizontal edge's points lie on a row. -/
theorem horiz (A : Grid) (b : Fin 4) (i : Fin 64) (j : Fin 63) : row A b (hp i j) = nat (cr A b (hp i j)) := by
  rw [cr_hp, row_hp]
/-- A vertical edge's crossing in the next cell lies on that cell's row. -/
theorem vert_far (A : Grid) (b : Fin 4) (i : Fin 63) (j : Fin 64) (h : rv A b i j = i.val + 1) : row A b (vp i j) = nat (cr A b (vp i j)) := by
  rw [cr_vp, row_vp, h]
  unfold rv at h
  split at h
  · assumption
  · omega
/-- A horizontal edge's crossing in the next cell lies on that cell's column. -/
theorem horiz_far (A : Grid) (b : Fin 4) (i : Fin 64) (j : Fin 63) (h : ch A b i j = j.val + 1) : col A b (hp i j) = nat (cc A b (hp i j)) := by
  rw [cc_hp, col_hp, h]
  unfold ch at h
  split at h
  · assumption
  · omega

/-- The reference's gradient image at a position: what six edges leave there. -/
theorem image_at (b : Fin 4) (y x : Fin 64) : (gradImage V (ix3 b y x) : EReal) =
    back (fun i => rv (predOf V) b i x) (fun i => upd00 V (ix2 b (vp i x))) y + stay (fun i => rv (predOf V) b i x) (fun i => upd00 V (ix2 b (vp i x))) y +
    back (fun j => ch (predOf V) b y j) (fun j => upd00 V (ix2 b (hp y j))) x + stay (fun j => ch (predOf V) b y j) (fun j => upd00 V (ix2 b (hp y j))) x +
    ahead (fun j => ch (predOf V) b y j) (fun j => upd01 V (ix2 b (hp y j))) x + ahead (fun i => rv (predOf V) b i x) (fun i => upd10 V (ix2 b (vp i x))) y := by
  unfold gradImage
  rw [fold_at, spread_at]
  exact landed_eq (predOf V) b (fun n => upd00 V (ix2 b n)) (fun n => upd01 V (ix2 b n)) (fun n => upd10 V (ix2 b n)) (fun n => upd11 V (ix2 b n))
    (fun i j => upd_col V b _ (vert _ b i j)) (fun i j => upd_row V b _ (horiz _ b i j))
    (fun i j h => (upd_row V b _ (vert_far _ b i j h)).1) (fun i j h => (upd_col V b _ (horiz_far _ b i j h)).1) y x

/-- The result of the reference. -/
theorem ref_result : (val14 V (Proc.devRef .tc main_v630) : FVec Ideal S_ .f32) =
    loss (images (mulf (V (Proc.devRef .tc main_arg0)) (gradImage V))) (lists (res_main_v556 V)) := by
  refine (val14_main_v630 V).trans ?_
  rfl

end Cert.Edges

end
-- ==== Proof.Final.lean ====
/- The kernel's result is the reference's. -/
module

public import proofs.«01_k».proof.Proof.Vals
public import proofs.«01_k».proof.Proof.Samples
public import proofs.«01_k».proof.Proof.Pads
public import proofs.«01_k».proof.Proof.Grads

@[expose] public section

set_option maxRecDepth 100000

noncomputable section

namespace Cert.Edges

open Idealize.ShloMosaic Idealize.ShloMosaic.TcCoe
open Cert.KernelIdeal.Gen Cert.KernelIdeal

/-- One image's sum of the products of two arrays. -/
def imageSum (k : Fin 4) (hs : S4x64x64.Slices ![k.val, 0, 0] S1x64x64) (a g : FVec Ideal S4x64x64 .f32) : FVec Ideal S_ .f32 :=
  Host.reduceAdd (mulf (shapeCast S64x64 (extractStridedSlice S1x64x64 ![k.val, 0, 0] a hs) shapeCasts_S1x64x64_S64x64)
    (shapeCast S64x64 (extractStridedSlice S1x64x64 ![k.val, 0, 0] g hs) shapeCasts_S1x64x64_S64x64))
    (constant S_ .f32 0x00000000#32) reducesTo_S64x64_S_d0_1 h_S_
/-- The sum over one image's points. -/
def listSum (k : Fin 4) (hs : S4x8064.Slices ![k.val, 0] S1x8064) (q : FVec Ideal S4x8064 .f32) : FVec Ideal S_ .f32 :=
  Host.reduceAdd (shapeCast S8064 (extractStridedSlice S1x8064 ![k.val, 0] q hs) shapeCasts_S1x8064_S8064)
    (constant S_ .f32 0x00000000#32) reducesTo_S8064_S_d0 h_S_

/-- One image's sum, written out. -/
theorem imageSum_at (k : Fin 4) (hs : S4x64x64.Slices ![k.val, 0, 0] S1x64x64) (a g : FVec Ideal S4x64x64 .f32) :
    (imageSum k hs a g ix0 : EReal) = Ideal.ofBits .f32 0x00000000#32 + ∑ y : Fin 64, ∑ x : Fin 64, (mulf a g (ix3 k y x) : EReal) := by
  pointwise [imageSum]
/-- One image's points' sum, written out. -/
theorem listSum_at (k : Fin 4) (hs : S4x8064.Slices ![k.val, 0] S1x8064) (q : FVec Ideal S4x8064 .f32) :
    (listSum k hs q ix0 : EReal) = Ideal.ofBits .f32 0x00000000#32 + ∑ n : Fin 8064, (q (ix2 k n) : EReal) := by
  pointwise [listSum]

/-- Four one-element arrays, one after another. -/
def join (a0 a1 a2 a3 : FVec Ideal S1 .f32) : FVec Ideal S4 .f32 :=
  concatenate S4 0 [⟨S1, a0⟩, ⟨S1, a1⟩, ⟨S1, a2⟩, ⟨S1, a3⟩] concatenates_S1_S1_S1_S1_S4_d0

/-- Four numbers as an array. -/
def four (r0 r1 r2 r3 : FVec Ideal S_ .f32) : FVec Ideal S4 .f32 :=
  join (broadcastInDim S1 ![] bcast_S_S1 r0) (broadcastInDim S1 ![] bcast_S_S1 r1) (broadcastInDim S1 ![] bcast_S_S1 r2) (broadcastInDim S1 ![] bcast_S_S1 r3)

/-- The four numbers read back. -/
theorem four_at (r0 r1 r2 r3 : FVec Ideal S_ .f32) :
    (four r0 r1 r2 r3 (ix1 (0 : Fin 4)) : EReal) = r0 ix0 ∧ (four r0 r1 r2 r3 (ix1 (1 : Fin 4)) : EReal) = r1 ix0 ∧
    (four r0 r1 r2 r3 (ix1 (2 : Fin 4)) : EReal) = r2 ix0 ∧ (four r0 r1 r2 r3 (ix1 (3 : Fin 4)) : EReal) = r3 ix0 := by
  refine ⟨?_, ?_, ?_, ?_⟩ <;> pointwise [four, join]

/-- An array over the images is known by its four numbers. -/
theorem four_eq (r0 r1 r2 r3 : FVec Ideal S_ .f32) (f : FVec Ideal S4 .f32) (h0 : (r0 ix0 : EReal) = f (ix1 (0 : Fin 4))) (h1 : (r1 ix0 : EReal) = f (ix1 (1 : Fin 4)))
    (h2 : (r2 ix0 : EReal) = f (ix1 (2 : Fin 4))) (h3 : (r3 ix0 : EReal) = f (ix1 (3 : Fin 4))) : four r0 r1 r2 r3 = f := by
  obtain ⟨e0, e1, e2, e3⟩ := four_at r0 r1 r2 r3
  funext idx
  obtain ⟨k, rfl⟩ : ∃ (k : Fin 4), idx = ix1 k := ⟨idx 0, eq_ix1 idx⟩
  fin_cases k
  · exact e0.trans h0
  · exact e1.trans h1
  · exact e2.trans h2
  · exact e3.trans h3

variable {W : Valuation τ sig (Elt Ideal)} {V : Valuation Cert.ReferenceIdeal.τ Cert.ReferenceIdeal.sig (Elt Ideal)}
  {x0 x1 : FVec Ideal S4x64x64 .f32} (M : Meet W V x0 x1)
include M

/-- The kernel's gradient image is the reference's. -/
theorem Meet.grad : (W (Proc.devRef .tc main_v389) : FVec Ideal S4x64x64 .f32) = gradImage V := by
  funext idx
  obtain ⟨b, y, x, rfl⟩ : ∃ (b : Fin 4) (y x : Fin 64), idx = ix3 b y x := ⟨idx 0, idx 1, idx 2, eq_ix3 idx⟩
  obtain ⟨f0, f1⟩ := M.far
  rw [M.image, M.upd00, M.upd01, M.upd10, f0, f1]
  refine (pieces_at _ _ (Cert.Edges.upd00 V) (Cert.Edges.upd01 V) (Cert.Edges.upd10 V) (predOf V) b (fun i j => ?_) (fun i j => ?_) y x).trans (image_at V b y x).symm
  · rw [farV_at, (M.cells b (vp i j)).1, cr_vp, M.pred]
    exact far_iff _ _ (rv_le _ _ _ _) i.isLt
  · rw [farH_at, (M.cells b (hp i j)).2, cc_hp, M.pred]
    exact far_iff _ _ (ch_le _ _ _ _) j.isLt

/-- The kernel's sums over the images. -/
theorem Meet.sums : (W (Proc.devRef .tc main_v469) : FVec Ideal S4 .f32) = images (mulf (W (Proc.devRef .tc main_arg0)) (W (Proc.devRef .tc main_v389))) ∧
    (W (Proc.devRef .tc main_v476) : FVec Ideal S4 .f32) = lists (W (Proc.devRef .tc main_v428)) := by
  have h := M.fixed
  have e := h hostOps1_46 (by simp [Tail.lines])
  simp only [hostOps1_46, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨e_v429, e_v430, e_v431, e_v432, e_v433, e_cst_65, e_v434, e_v435, e_v436, e_cst_66, e_v437, e_v438, e_v439, e_v440, e_v441, e_v442, e_cst_67, e_v443,
    e_v444, e_v445, e_cst_68, e_v446, e_v447, e_v448, e_v449, e_v450, e_v451, e_cst_69, e_v452, e_v453, e_v454, e_cst_70, e_v455, e_v456, e_v457, e_v458,
    e_v459, e_v460, e_cst_71, e_v461, e_v462, e_v463, e_cst_72, e_v464, e_v465, e_v466, e_v467, e_v468, e_v469, _, _, _, _, e_v472, e_v473, e_v474,
    e_v475, e_v476, _, _, _, _, _, _, _, _, _⟩ := e
  constructor
  · refine Eq.trans ?_ (four_eq (imageSum 0 slices_S4x64x64_S1x64x64_0_0_0 _ _) (imageSum 1 slices_S4x64x64_S1x64x64_1_0_0 _ _)
      (imageSum 2 slices_S4x64x64_S1x64x64_2_0_0 _ _) (imageSum 3 slices_S4x64x64_S1x64x64_3_0_0 _ _) _
      ((imageSum_at 0 _ _ _).trans (images_at _ _).symm) ((imageSum_at 1 _ _ _).trans (images_at _ _).symm)
      ((imageSum_at 2 _ _ _).trans (images_at _ _).symm) ((imageSum_at 3 _ _ _).trans (images_at _ _).symm))
    have k : (W (Proc.devRef .tc main_v469) : FVec Ideal S4 .f32) = join (W (Proc.devRef .tc main_v465)) (W (Proc.devRef .tc main_v466)) (W (Proc.devRef .tc main_v467)) (W (Proc.devRef .tc main_v468)) := e_v469
    rw [k]
    simp only [e_v468, e_v461, e_cst_71, e_v460, e_v459, e_v458, e_v457, e_v456, e_v467, e_v452, e_cst_69, e_v451, e_v450, e_v449, e_v448, e_v447, e_v466, e_v443,
    e_cst_67, e_v442, e_v441, e_v440, e_v439, e_v438, e_v465, e_v434, e_cst_65, e_v433, e_v432, e_v431, e_v430, e_v429]
    rfl
  · refine Eq.trans ?_ (four_eq (listSum 0 slices_S4x8064_S1x8064_0_0 _) (listSum 1 slices_S4x8064_S1x8064_1_0 _)
      (listSum 2 slices_S4x8064_S1x8064_2_0 _) (listSum 3 slices_S4x8064_S1x8064_3_0 _) _
      ((listSum_at 0 _ _).trans (lists_at _ _).symm) ((listSum_at 1 _ _).trans (lists_at _ _).symm)
      ((listSum_at 2 _ _).trans (lists_at _ _).symm) ((listSum_at 3 _ _).trans (lists_at _ _).symm))
    have k : (W (Proc.devRef .tc main_v476) : FVec Ideal S4 .f32) = join (W (Proc.devRef .tc main_v472)) (W (Proc.devRef .tc main_v473)) (W (Proc.devRef .tc main_v474)) (W (Proc.devRef .tc main_v475)) := e_v476
    rw [k]
    simp only [e_v475, e_v464, e_cst_72, e_v463, e_v462, e_v474, e_v455, e_cst_70, e_v454, e_v453, e_v473, e_v446, e_cst_68, e_v445, e_v444, e_v472, e_v437,
    e_cst_66, e_v436, e_v435]
    rfl

/-- The kernel's result is the reference's. -/
theorem Meet.result : (W (Proc.devRef .tc main_v481) : FVec Ideal S_ .f32) =
    Cert.ReferenceIdeal.Value.val14 V (Proc.devRef .tc Cert.ReferenceIdeal.main_v630) := by
  rw [ref_result, ← M.sampled, ← M.grad, M.ref0, ← M.arg0]
  obtain ⟨s0, s1⟩ := M.sums
  refine Eq.trans ?_ (congrArg₂ loss s0 s1)
  have h := M.fixed
  have e := h hostOps1_46 (by simp [Tail.lines])
  simp only [hostOps1_46, StableHlo.TRef.nullary, StableHlo.TRef.unary, StableHlo.TRef.binary, StableHlo.TRef.ternary, StableHlo.TRef.toBuf, StableHlo.TRef.ofBuf, List.Forall,
    Order.fix_nullary, Order.fix_unary, Order.fix_reshape, Order.fix_binary, Order.fix_ternary, Order.fix_nary, eqRec_eq_cast, cast_eq] at e
  obtain ⟨_, _, _, _, _, _, _, _, _, _, _, _, _, _, _, _, _, _, _, _, _, _, _, _, _, _, _, _, _, _, _, _, _, _, _, _, _, _, _, _, _, _, _, _, _, _, _, _, _,
    e_cst_73, e_v470, e_cst_74, e_v471, _, _, _, _, _, e_cst_75, e_v477, e_cst_76, e_v478, e_cst_77, e_v479, e_cst_78, e_v480, e_v481⟩ := e
  simp only [e_v481, e_v480, e_v478, e_cst_76, e_v477, e_cst_75, e_cst_78, e_v479, e_v471, e_cst_74, e_v470, e_cst_73, e_cst_77]
  rfl

end Cert.Edges

end
-- ==== Proof.lean ====
/- The claims of this problem, put together: both readings of the kernel and the reference run and leave their arguments
   alone, the kernel's text is kept, and over the extended reals the kernel's result is the reference's. -/
module

public import proofs.«01_k».proof.Defs
public import proofs.«01_k».proof.Proof.Launch
public import proofs.«01_k».proof.Proof.LaunchBits
public import proofs.«01_k».proof.Proof.Final
public import proofs.«01_k».proof.Proof.Gen.ReferenceIdeal
public import proofs.«01_k».proof.Proof.Gen.ReferenceIdeal.Run
public import Idealize.ShloMosaic.Lib.Claim

@[expose] public section

open Idealize.ShloMosaic Idealize.SL Idealize.SL.BI Idealize.SL.ProofMode

namespace Cert.Proof

/-- The reference runs, leaves its arguments unchanged and every semaphore at zero. -/
theorem reference_frame : quiescent_ReferenceIdeal (hReferenceIdeal := Cert.ReferenceIdeal.Gen.facts) :=
  fun m ρ _ => (θ_run _ _ _).mono (fun r h => ⟨fun c => (h c).2, sem_eq_zero_of_no_sems rfl r.2⟩)
    (Cert.ReferenceIdeal.Value.run m ρ)

/-- On each device, the kernel's final contents and the reference's initial ones stand as the value proof asks. -/
theorem meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.Edges.Meet (Cert.KernelIdeal.Run.fin m c) (StableHlo.launchContents m' c) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) where
  fixed := Cert.KernelIdeal.Run.fin_fixed m c
  ref0 := h0
  ref1 := h1
  arg0 := Cert.KernelIdeal.Run.fin_arg0 m c
  arg1 := Cert.KernelIdeal.Run.fin_arg1 m c
  out2 := Cert.KernelIdeal.Run.fin_out2 m c
  out3 := Cert.KernelIdeal.Run.fin_out3 m c
  out4 := Cert.KernelIdeal.Run.fin_out4 m c
  out5 := Cert.KernelIdeal.Run.fin_out5 m c
  out6 := Cert.KernelIdeal.Run.fin_out6 m c
  out7 := Cert.KernelIdeal.Run.fin_out7 m c
  out8 := Cert.KernelIdeal.Run.fin_out8 m c
  out9 := Cert.KernelIdeal.Run.fin_out9 m c

/-- Over the extended reals the kernel and the reference end with equal results. -/
theorem same : algebraic_KernelIdeal_ReferenceIdeal (hKernelIdeal := Cert.KernelIdeal.Gen.facts) (hReferenceIdeal := Cert.ReferenceIdeal.Gen.facts) :=
  fun m g m' g' _ hm => ⟨fun c => Cert.KernelIdeal.Run.fin m c (Proc.devRef .tc Cert.KernelIdeal.main_v481),
    Cert.KernelIdeal.Run.run_fin m g,
    (θ_run _ _ _).mono (fun r h c => ⟨(h c).1.trans ((Cert.ReferenceIdeal.Value.val14_main_v630 (StableHlo.launchContents m' c)).symm.trans
      (meet m m' c (hm c).1 (hm c).2).result.symm), (h c).2⟩) (Cert.ReferenceIdeal.Value.run m' g')⟩

/-- Everything claimed. -/
theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ, reference_frame, trivial, same⟩

end Cert.Proof
